-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 [hPre_tables_in_range : Cert.Pre_tables_in_range.Facts] (m : (ℓ : Loc Cert.Kernel3.nD Cert.Kernel3.τ Cert.Kernel3.sig) → Buf (Elt Bits) ℓ) : Prop :=
  ∀ c : Dev Cert.Kernel3.nD,
    (Cert.Pre_tables_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_tables_in_range : Cert.Pre_tables_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables_in_range [hPre_tables_in_range : Cert.Pre_tables_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] [hPre_tables_in_range : Cert.Pre_tables_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_tables_in_range : Cert.Pre_tables_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_tables_in_range [hReference3Ideal : Cert.Reference3Ideal.Facts] [hPre_tables_in_range : Cert.Pre_tables_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "exp2_max" .f32 0x42FC0000#32 ⊤
  ∧ IdealRules.named_const.Statement Cert.KernelIdeal.κ "log2e" .f32 0x3FB8AA3B#32 (((Real.log 2)⁻¹ : ℝ) : EReal)
  ∧ IdealRules.named_const.Statement Cert.KernelIdeal.κ "dead" .f32 0x43160000#32 ⊤

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] [hPre_tables_in_range : Cert.Pre_tables_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)) (v7 : (c : Dev Cert.Kernel4Ideal.nD) → Buf (Elt Ideal) ((c.tc : Thread Cert.Kernel4Ideal.nD Cert.Kernel4Ideal.τ).loc Cert.Kernel4Ideal.main_v0_7)) (v8 : (c : Dev Cert.Kernel4Ideal.nD) → Buf (Elt Ideal) ((c.tc : Thread Cert.Kernel4Ideal.nD Cert.Kernel4Ideal.τ).loc Cert.Kernel4Ideal.main_v0_8)) (v9 : (c : Dev Cert.Kernel4Ideal.nD) → Buf (Elt Ideal) ((c.tc : Thread Cert.Kernel4Ideal.nD Cert.Kernel4Ideal.τ).loc Cert.Kernel4Ideal.main_v0_9)) (v10 : (c : Dev Cert.Kernel4Ideal.nD) → Buf (Elt Ideal) ((c.tc : Thread Cert.Kernel4Ideal.nD Cert.Kernel4Ideal.τ).loc Cert.Kernel4Ideal.main_v0_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_v0_7) = v7 c
          ∧ r.2.mem ((c.tc : Thread Cert.Kernel4Ideal.nD Cert.Kernel4Ideal.τ).loc Cert.Kernel4Ideal.main_v0_8) = v8 c
          ∧ r.2.mem ((c.tc : Thread Cert.Kernel4Ideal.nD Cert.Kernel4Ideal.τ).loc Cert.Kernel4Ideal.main_v0_9) = v9 c
          ∧ r.2.mem ((c.tc : Thread Cert.Kernel4Ideal.nD Cert.Kernel4Ideal.τ).loc Cert.Kernel4Ideal.main_v0_10) = v10 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_v67) = v1 c
          ∧ r.2.mem ((c.tc : Thread Cert.Reference4Ideal.nD Cert.Reference4Ideal.τ).loc Cert.Reference4Ideal.main_v70) = v2 c
          ∧ r.2.mem ((c.tc : Thread Cert.Reference4Ideal.nD Cert.Reference4Ideal.τ).loc Cert.Reference4Ideal.main_v72) = v3 c
          ∧ r.2.mem ((c.tc : Thread Cert.Reference4Ideal.nD Cert.Reference4Ideal.τ).loc Cert.Reference4Ideal.main_v75) = v4 c
          ∧ r.2.mem ((c.tc : Thread Cert.Reference4Ideal.nD Cert.Reference4Ideal.τ).loc Cert.Reference4Ideal.main_v89) = v5 c
          ∧ r.2.mem ((c.tc : Thread Cert.Reference4Ideal.nD Cert.Reference4Ideal.τ).loc Cert.Reference4Ideal.main_v59) = v6 c
          ∧ r.2.mem ((c.tc : Thread Cert.Reference4Ideal.nD Cert.Reference4Ideal.τ).loc Cert.Reference4Ideal.main_v90) = v7 c
          ∧ r.2.mem ((c.tc : Thread Cert.Reference4Ideal.nD Cert.Reference4Ideal.τ).loc Cert.Reference4Ideal.main_v91) = v8 c
          ∧ r.2.mem ((c.tc : Thread Cert.Reference4Ideal.nD Cert.Reference4Ideal.τ).loc Cert.Reference4Ideal.main_v98) = v9 c
          ∧ r.2.mem ((c.tc : Thread Cert.Reference4Ideal.nD Cert.Reference4Ideal.τ).loc Cert.Reference4Ideal.main_v105) = v10 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)) (v7 : (c : Dev Cert.Kernel5Ideal.nD) → Buf (Elt Ideal) ((c.tc : Thread Cert.Kernel5Ideal.nD Cert.Kernel5Ideal.τ).loc Cert.Kernel5Ideal.main_v0_7)) (v8 : (c : Dev Cert.Kernel5Ideal.nD) → Buf (Elt Ideal) ((c.tc : Thread Cert.Kernel5Ideal.nD Cert.Kernel5Ideal.τ).loc Cert.Kernel5Ideal.main_v0_8)) (v9 : (c : Dev Cert.Kernel5Ideal.nD) → Buf (Elt Ideal) ((c.tc : Thread Cert.Kernel5Ideal.nD Cert.Kernel5Ideal.τ).loc Cert.Kernel5Ideal.main_v0_9)) (v10 : (c : Dev Cert.Kernel5Ideal.nD) → Buf (Elt Ideal) ((c.tc : Thread Cert.Kernel5Ideal.nD Cert.Kernel5Ideal.τ).loc Cert.Kernel5Ideal.main_v0_10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_v0_7) = v7 c
          ∧ r.2.mem ((c.tc : Thread Cert.Kernel5Ideal.nD Cert.Kernel5Ideal.τ).loc Cert.Kernel5Ideal.main_v0_8) = v8 c
          ∧ r.2.mem ((c.tc : Thread Cert.Kernel5Ideal.nD Cert.Kernel5Ideal.τ).loc Cert.Kernel5Ideal.main_v0_9) = v9 c
          ∧ r.2.mem ((c.tc : Thread Cert.Kernel5Ideal.nD Cert.Kernel5Ideal.τ).loc Cert.Kernel5Ideal.main_v0_10) = v10 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v64) = v0 c
          ∧ r.2.mem ((c.tc : Thread Cert.Reference5Ideal.nD Cert.Reference5Ideal.τ).loc Cert.Reference5Ideal.main_v67) = v1 c
          ∧ r.2.mem ((c.tc : Thread Cert.Reference5Ideal.nD Cert.Reference5Ideal.τ).loc Cert.Reference5Ideal.main_v70) = v2 c
          ∧ r.2.mem ((c.tc : Thread Cert.Reference5Ideal.nD Cert.Reference5Ideal.τ).loc Cert.Reference5Ideal.main_v72) = v3 c
          ∧ r.2.mem ((c.tc : Thread Cert.Reference5Ideal.nD Cert.Reference5Ideal.τ).loc Cert.Reference5Ideal.main_v75) = v4 c
          ∧ r.2.mem ((c.tc : Thread Cert.Reference5Ideal.nD Cert.Reference5Ideal.τ).loc Cert.Reference5Ideal.main_v89) = v5 c
          ∧ r.2.mem ((c.tc : Thread Cert.Reference5Ideal.nD Cert.Reference5Ideal.τ).loc Cert.Reference5Ideal.main_v59) = v6 c
          ∧ r.2.mem ((c.tc : Thread Cert.Reference5Ideal.nD Cert.Reference5Ideal.τ).loc Cert.Reference5Ideal.main_v90) = v7 c
          ∧ r.2.mem ((c.tc : Thread Cert.Reference5Ideal.nD Cert.Reference5Ideal.τ).loc Cert.Reference5Ideal.main_v91) = v8 c
          ∧ r.2.mem ((c.tc : Thread Cert.Reference5Ideal.nD Cert.Reference5Ideal.τ).loc Cert.Reference5Ideal.main_v98) = v9 c
          ∧ r.2.mem ((c.tc : Thread Cert.Reference5Ideal.nD Cert.Reference5Ideal.τ).loc Cert.Reference5Ideal.main_v105) = v10 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts) (hPre_tables_in_range : Cert.Pre_tables_in_range.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ quiescent_Kernel3 (hKernel3 := hKernel3) (hPre_tables_in_range := hPre_tables_in_range)
    ∧ quiescent_Kernel3Ideal (hKernel3Ideal := hKernel3Ideal) (hPre_tables_in_range := hPre_tables_in_range)
    ∧ quiescent_Reference3Ideal (hReference3Ideal := hReference3Ideal)
    ∧ quiescent_Reference3Ideal_pre_tables_in_range (hReference3Ideal := hReference3Ideal) (hPre_tables_in_range := hPre_tables_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal (hKernel3Ideal := hKernel3Ideal) (hReference3Ideal := hReference3Ideal) (hPre_tables_in_range := hPre_tables_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_qk.lean ====
abbrev S8x4x2048x128 : Shape := ⟨4, ![8, 4, 2048, 128]⟩
abbrev S_ : Shape := ⟨0, ![]⟩

class Facts : Prop where
  bitsLt_bf16_f32 : FTy.bits .bf16 < FTy.bits .f32
  bcast_S_S8x4x2048x128 : S_.BroadcastsInDim S8x4x2048x128 (![] : Fin 0 → Fin S8x4x2048x128.rank)
  reducesTo_S8x4x2048x128_S_d0_1_2_3 : S8x4x2048x128.ReducesTo [0, 1, 2, 3] S_
  h_S_ : 0 < S_.numel

variable [Facts]

def fn {F : FTy → Type} [FloatOps F] (main_arg0 : FVec F S8x4x2048x128 .bf16) (main_arg1 : FVec F S8x4x2048x128 .bf16) (main_arg2 : FVec F S8x4x2048x128 .bf16) : IVec S_ 1 :=
  let main_v0 : FVec F S8x4x2048x128 .f32 := (extf .f32 · bitsLt_bf16_f32) main_arg0
  let main_v1 : FVec F S8x4x2048x128 .f32 := Host.absf main_v0
  let main_cst : FVec F S_ .f32 := constant S_ .f32 0x7F800000#32
  let main_v2 : FVec F S8x4x2048x128 .f32 := broadcastInDim S8x4x2048x128 ![] bcast_S_S8x4x2048x128 main_cst
  let main_v3 : IVec S8x4x2048x128 1 := cmpf .olt main_v1 main_v2
  let main_c : IVec S_ 1 := constantI S_ 1 1#1
  let main_v4 : IVec S_ 1 := (fun x v => Host.reduce IntOp.andi x v reducesTo_S8x4x2048x128_S_d0_1_2_3 h_S_) main_v3 main_c
  let main_v5 : FVec F S8x4x2048x128 .f32 := (extf .f32 · bitsLt_bf16_f32) main_arg1
  let main_v6 : FVec F S8x4x2048x128 .f32 := Host.absf main_v5
  let main_cst_0 : FVec F S_ .f32 := constant S_ .f32 0x7F800000#32
  let main_v7 : FVec F S8x4x2048x128 .f32 := broadcastInDim S8x4x2048x128 ![] bcast_S_S8x4x2048x128 main_cst_0
  let main_v8 : IVec S8x4x2048x128 1 := cmpf .olt main_v6 main_v7
  let main_c_1 : IVec S_ 1 := constantI S_ 1 1#1
  let main_v9 : IVec S_ 1 := (fun x v => Host.reduce IntOp.andi x v reducesTo_S8x4x2048x128_S_d0_1_2_3 h_S_) main_v8 main_c_1
  let main_v10 : IVec S_ 1 := andi main_v4 main_v9
  main_v10
-- ==== Pre_tables_in_range.lean ====
abbrev S22528x1152 : Shape := ⟨2, ![22528, 1152]⟩
abbrev S88 : Shape := ⟨1, ![88]⟩
abbrev S2x16x1024x512 : Shape := ⟨4, ![2, 16, 1024, 512]⟩
abbrev S2x16x512x1024 : Shape := ⟨4, ![2, 16, 512, 1024]⟩
abbrev S_ : Shape := ⟨0, ![]⟩

class Facts : Prop where
  bcast_S_S88 : S_.BroadcastsInDim S88 (![] : Fin 0 → Fin S88.rank)
  reducesTo_S88_S_d0 : S88.ReducesTo [0] S_
  h_S_ : 0 < S_.numel

variable [Facts]

def fn_part1 {F : FTy → Type} [FloatOps F] (main_arg3 : IVec S88 32) (main_v12 : IVec S_ 1) (main_v14 : IVec S_ 1) (main_v15 : IVec S88 32) : IVec S_ 1 :=
  let main_v16 : IVec S88 1 := cmpi .eq main_arg3 main_v15
  let main_c_7 : IVec S_ 32 := constantI S_ 32 1#32
  let main_v17 : IVec S88 32 := broadcastInDim S88 ![] bcast_S_S88 main_c_7
  let main_v18 : IVec S88 1 := cmpi .eq main_arg3 main_v17
  let main_v19 : IVec S88 1 := ori main_v16 main_v18
  let main_c_8 : IVec S_ 1 := constantI S_ 1 1#1
  let main_v20 : IVec S_ 1 := (fun x v => Host.reduce IntOp.andi x v reducesTo_S88_S_d0 h_S_) main_v19 main_c_8
  let main_v21 : IVec S_ 1 := andi main_v14 main_v20
  let main_v22 : IVec S_ 1 := andi main_v12 main_v21
  main_v22

def fn {F : FTy → Type} [FloatOps F] (main_arg0 : FVec F S22528x1152 .f32) (main_arg1 : IVec S88 32) (main_arg2 : IVec S88 32) (main_arg3 : IVec S88 32) (main_arg4 : FVec F S2x16x1024x512 .bf16) (main_arg5 : FVec F S2x16x1024x512 .bf16) (main_arg6 : FVec F S2x16x512x1024 .bf16) : IVec S_ 1 :=
  let main_c : IVec S_ 32 := constantI S_ 32 0#32
  let main_v0 : IVec S88 32 := broadcastInDim S88 ![] bcast_S_S88 main_c
  let main_v1 : IVec S88 1 := cmpi .sge main_arg1 main_v0
  let main_c_0 : IVec S_ 32 := constantI S_ 32 16#32
  let main_v2 : IVec S88 32 := broadcastInDim S88 ![] bcast_S_S88 main_c_0
  let main_v3 : IVec S88 1 := cmpi .slt main_arg1 main_v2
  let main_v4 : IVec S88 1 := andi main_v1 main_v3
  let main_c_1 : IVec S_ 1 := constantI S_ 1 1#1
  let main_v5 : IVec S_ 1 := (fun x v => Host.reduce IntOp.andi x v reducesTo_S88_S_d0 h_S_) main_v4 main_c_1
  let main_c_2 : IVec S_ 32 := constantI S_ 32 0#32
  let main_v6 : IVec S88 32 := broadcastInDim S88 ![] bcast_S_S88 main_c_2
  let main_v7 : IVec S88 1 := cmpi .sge main_arg2 main_v6
  let main_c_3 : IVec S_ 32 := constantI S_ 32 16#32
  let main_v8 : IVec S88 32 := broadcastInDim S88 ![] bcast_S_S88 main_c_3
  let main_v9 : IVec S88 1 := cmpi .slt main_arg2 main_v8
  let main_v10 : IVec S88 1 := andi main_v7 main_v9
  let main_c_4 : IVec S_ 1 := constantI S_ 1 1#1
  let main_v11 : IVec S_ 1 := (fun x v => Host.reduce IntOp.andi x v reducesTo_S88_S_d0 h_S_) main_v10 main_c_4
  let main_v12 : IVec S_ 1 := andi main_v5 main_v11
  let main_v13 : IVec S88 1 := cmpi .ne main_arg1 main_arg2
  let main_c_5 : IVec S_ 1 := constantI S_ 1 1#1
  let main_v14 : IVec S_ 1 := (fun x v => Host.reduce IntOp.andi x v reducesTo_S88_S_d0 h_S_) main_v13 main_c_5
  let main_c_6 : IVec S_ 32 := constantI S_ 32 0#32
  let main_v15 : IVec S88 32 := broadcastInDim S88 ![] bcast_S_S88 main_c_6
  fn_part1 (F := F) main_arg3 main_v12 main_v14 main_v15
-- ==== Kernel.lean ====
abbrev S8x4x2048x128 : Shape := ⟨4, ![8, 4, 2048, 128]⟩
abbrev S8x2048x512 : Shape := ⟨3, ![8, 2048, 512]⟩
abbrev S1x4x256x128 : Shape := ⟨4, ![1, 4, 256, 128]⟩
abbrev S1x4x2048x128 : Shape := ⟨4, ![1, 4, 2048, 128]⟩
abbrev S1x256x512 : Shape := ⟨3, ![1, 256, 512]⟩
abbrev S8x256x128 : Shape := ⟨3, ![8, 256, 128]⟩
abbrev S8x256x1 : Shape := ⟨3, ![8, 256, 1]⟩
abbrev S8x256x256 : Shape := ⟨3, ![8, 256, 256]⟩
abbrev S256x256 : Shape := ⟨2, ![256, 256]⟩
abbrev S256x128 : Shape := ⟨2, ![256, 128]⟩
abbrev S1x1x256x128 : Shape := ⟨4, ![1, 1, 256, 128]⟩
abbrev S1x256x128 : Shape := ⟨3, ![1, 256, 128]⟩
abbrev S1x256x256 : Shape := ⟨3, ![1, 256, 256]⟩
abbrev S256x1 : Shape := ⟨2, ![256, 1]⟩
abbrev S1x256x1 : Shape := ⟨3, ![1, 256, 1]⟩
abbrev S1x8x256x1 : Shape := ⟨4, ![1, 8, 256, 1]⟩
abbrev S1 : Shape := ⟨1, ![1]⟩
abbrev S1x1x1x1 : Shape := ⟨4, ![1, 1, 1, 1]⟩

abbrev nBuf : Space → Nat
  | .hbm => 4
  | .vmem => 13
  | .smem => 0
  | _ => 0

abbrev bufTy : (tb : Table) → Fin (tcTables nBuf tb) → BufTy
  | .hbm, ⟨0, _⟩ => ⟨S8x4x2048x128, .bf16⟩
  | .hbm, ⟨1, _⟩ => ⟨S8x4x2048x128, .bf16⟩
  | .hbm, ⟨2, _⟩ => ⟨S8x4x2048x128, .bf16⟩
  | .hbm, ⟨3, _⟩ => ⟨S8x2048x512, .bf16⟩
  | .local _ .vmem, ⟨0, _⟩ => ⟨S1x4x256x128, .bf16⟩
  | .local _ .vmem, ⟨1, _⟩ => ⟨S1x4x256x128, .bf16⟩
  | .local _ .vmem, ⟨2, _⟩ => ⟨S1x4x2048x128, .bf16⟩
  | .local _ .vmem, ⟨3, _⟩ => ⟨S1x4x2048x128, .bf16⟩
  | .local _ .vmem, ⟨4, _⟩ => ⟨S1x4x2048x128, .bf16⟩
  | .local _ .vmem, ⟨5, _⟩ => ⟨S1x4x2048x128, .bf16⟩
  | .local _ .vmem, ⟨6, _⟩ => ⟨S1x256x512, .bf16⟩
  | .local _ .vmem, ⟨7, _⟩ => ⟨S1x256x512, .bf16⟩
  | .local _ .vmem, ⟨8, _⟩ => ⟨S8x256x128, .f32⟩
  | .local _ .vmem, ⟨9, _⟩ => ⟨S8x256x1, .f32⟩
  | .local _ .vmem, ⟨10, _⟩ => ⟨S8x256x256, .bf16⟩
  | .local _ .vmem, ⟨11, _⟩ => ⟨S8x256x256, .f32⟩
  | .local _ .vmem, ⟨12, _⟩ => ⟨S8x256x128, .bf16⟩
  | _, _ => ⟨S8x4x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c256_i32_76 : BitVec 32 := 256#32
  let v123 : BitVec 32 := Scalar.muli v17 c256_i32_76
  v123
def k0_off1 (i : grid0.Coords) : Fin 4 → Nat :=
  let c0_80 : Index := 0#32
  let c0_81 : Index := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c256_i32_76 : BitVec 32 := 256#32
  let v123 : BitVec 32 := Scalar.muli v17 c256_i32_76
  let v124 : BitVec 32 := v123
  let v127 : Index := Scalar.indexCast v124
  let c0_82 : Index := 0#32
  ![0, 0, v127.toNat, 0]
def k0_off2 (i : grid0.Coords) : Fin 4 → Nat :=
  let c0_114 : Index := 0#32
  let c1_115 : Index := 1#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c256_i32_76 : BitVec 32 := 256#32
  let v123 : BitVec 32 := Scalar.muli v17 c256_i32_76
  let v124 : BitVec 32 := v123
  let v177 : Index := Scalar.indexCast v124
  let c0_116 : Index := 0#32
  ![0, 1, v177.toNat, 0]
def k0_off3 (i : grid0.Coords) : Fin 4 → Nat :=
  let c0_148 : Index := 0#32
  let c2_149 : Index := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c256_i32_76 : BitVec 32 := 256#32
  let v123 : BitVec 32 := Scalar.muli v17 c256_i32_76
  let v124 : BitVec 32 := v123
  let v227 : Index := Scalar.indexCast v124
  let c0_150 : Index := 0#32
  ![0, 2, v227.toNat, 0]
def k0_off4 (i : grid0.Coords) : Fin 4 → Nat :=
  let c0_182 : Index := 0#32
  let c3_183 : Index := 3#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c256_i32_76 : BitVec 32 := 256#32
  let v123 : BitVec 32 := Scalar.muli v17 c256_i32_76
  let v124 : BitVec 32 := v123
  let v277 : Index := Scalar.indexCast v124
  let c0_184 : Index := 0#32
  ![0, 3, v277.toNat, 0]
def k0_mult2 (i : grid0.Coords) (arg11 : BitVec 32) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_404 : BitVec 32 := 1#32
  let v576 : BitVec 32 := Scalar.subi v17 c1_i32_404
  let v577 : BitVec 32 := Scalar.subi v576 arg11
  let c256_i32_405 : BitVec 32 := 256#32
  let v578 : BitVec 32 := Scalar.muli v577 c256_i32_405
  v578

def k0_off5 (i : grid0.Coords) (arg11 : BitVec 32) : Fin 4 → Nat :=
  let c0_409 : Index := 0#32
  let c0_410 : Index := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_404 : BitVec 32 := 1#32
  let v576 : BitVec 32 := Scalar.subi v17 c1_i32_404
  let v577 : BitVec 32 := Scalar.subi v576 arg11
  let c256_i32_405 : BitVec 32 := 256#32
  let v578 : BitVec 32 := Scalar.muli v577 c256_i32_405
  let v579 : BitVec 32 := v578
  let v582 : Index := Scalar.indexCast v579
  let c0_411 : Index := 0#32
  ![0, 0, v582.toNat, 0]
def k0_off6 (i : grid0.Coords) (arg11 : BitVec 32) : Fin 4 → Nat :=
  let c0_441 : Index := 0#32
  let c1_442 : Index := 1#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_404 : BitVec 32 := 1#32
  let v576 : BitVec 32 := Scalar.subi v17 c1_i32_404
  let v577 : BitVec 32 := Scalar.subi v576 arg11
  let c256_i32_405 : BitVec 32 := 256#32
  let v578 : BitVec 32 := Scalar.muli v577 c256_i32_405
  let v579 : BitVec 32 := v578
  let v628 : Index := Scalar.indexCast v579
  let c0_443 : Index := 0#32
  ![0, 1, v628.toNat, 0]
def k0_off7 (i : grid0.Coords) (arg11 : BitVec 32) : Fin 4 → Nat :=
  let c0_473 : Index := 0#32
  let c2_474 : Index := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_404 : BitVec 32 := 1#32
  let v576 : BitVec 32 := Scalar.subi v17 c1_i32_404
  let v577 : BitVec 32 := Scalar.subi v576 arg11
  let c256_i32_405 : BitVec 32 := 256#32
  let v578 : BitVec 32 := Scalar.muli v577 c256_i32_405
  let v579 : BitVec 32 := v578
  let v674 : Index := Scalar.indexCast v579
  let c0_475 : Index := 0#32
  ![0, 2, v674.toNat, 0]
def k0_off8 (i : grid0.Coords) (arg11 : BitVec 32) : Fin 4 → Nat :=
  let c0_505 : Index := 0#32
  let c3_506 : Index := 3#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_404 : BitVec 32 := 1#32
  let v576 : BitVec 32 := Scalar.subi v17 c1_i32_404
  let v577 : BitVec 32 := Scalar.subi v576 arg11
  let c256_i32_405 : BitVec 32 := 256#32
  let v578 : BitVec 32 := Scalar.muli v577 c256_i32_405
  let v579 : BitVec 32 := v578
  let v720 : Index := Scalar.indexCast v579
  let c0_507 : Index := 0#32
  ![0, 3, v720.toNat, 0]

def k0_chk1 (i : grid0.Coords) (arg11 : BitVec 32) : Prop :=
  (256 ∣ (k0_mult2 i arg11).toNat) ∧
  (∀ a, (k0_off5 i arg11) a + S1x1x256x128.size a ≤ S1x4x2048x128.size a) ∧
  (∀ a, (k0_off6 i arg11) a + S1x1x256x128.size a ≤ S1x4x2048x128.size a) ∧
  (∀ a, (k0_off7 i arg11) a + S1x1x256x128.size a ≤ S1x4x2048x128.size a) ∧
  (∀ a, (k0_off8 i arg11) a + S1x1x256x128.size a ≤ S1x4x2048x128.size a)
theorem k0_mult2_dvd : ∀ (i : grid0.Coords) (arg11 : BitVec 32) (k0_hw1 : k0_chk1 i arg11), 256 ∣ (k0_mult2 i arg11).toNat := fun i arg11 k0_hw1 => k0_hw1.1
theorem k0_off5_inb : ∀ (i : grid0.Coords) (arg11 : BitVec 32) (k0_hw1 : k0_chk1 i arg11), ∀ a, (k0_off5 i arg11) a + S1x1x256x128.size a ≤ S1x4x2048x128.size a := fun i arg11 k0_hw1 => k0_hw1.2.1
theorem k0_off6_inb : ∀ (i : grid0.Coords) (arg11 : BitVec 32) (k0_hw1 : k0_chk1 i arg11), ∀ a, (k0_off6 i arg11) a + S1x1x256x128.size a ≤ S1x4x2048x128.size a := fun i arg11 k0_hw1 => k0_hw1.2.2.1
theorem k0_off7_inb : ∀ (i : grid0.Coords) (arg11 : BitVec 32) (k0_hw1 : k0_chk1 i arg11), ∀ a, (k0_off7 i arg11) a + S1x1x256x128.size a ≤ S1x4x2048x128.size a := fun i arg11 k0_hw1 => k0_hw1.2.2.2.1
theorem k0_off8_inb : ∀ (i : grid0.Coords) (arg11 : BitVec 32) (k0_hw1 : k0_chk1 i arg11), ∀ a, (k0_off8 i arg11) a + S1x1x256x128.size a ≤ S1x4x2048x128.size a := fun i arg11 k0_hw1 => k0_hw1.2.2.2.2

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "dead" => some ⊤
  | "exp2_max" => some ⊤
  | "log2e" => some (((Real.log 2)⁻¹ : ℝ) : EReal)
  | _ => none
-- ==== ReferenceIdeal.lean ====
abbrev S8x4x2048x128 : Shape := ⟨4, ![8, 4, 2048, 128]⟩
abbrev S8x4x2048x2x64 : Shape := ⟨5, ![8, 4, 2048, 2, 64]⟩
abbrev S8x2048x4x2x64 : Shape := ⟨5, ![8, 2048, 4, 2, 64]⟩
abbrev S8x2048x8x64 : Shape := ⟨4, ![8, 2048, 8, 64]⟩
abbrev S8x8x2048x2048 : Shape := ⟨4, ![8, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x8x2048x1 : Shape := ⟨4, ![8, 8, 2048, 1]⟩
abbrev S8x8x64x2048 : Shape := ⟨4, ![8, 8, 64, 2048]⟩
abbrev S8x2048x512 : Shape := ⟨3, ![8, 2048, 512]⟩

abbrev nBuf : Space → Nat
  | .hbm => 82
  | .vmem => 0
  | .smem => 0
  | _ => 0

abbrev bufTy : (tb : Table) → Fin (tcTables nBuf tb) → BufTy
  | .hbm, ⟨0, _⟩ => ⟨S8x4x2048x128, .bf16⟩
  | .hbm, ⟨1, _⟩ => ⟨S8x4x2048x128, .bf16⟩
  | .hbm, ⟨2, _⟩ => ⟨S8x4x2048x128, .bf16⟩
  | .hbm, ⟨3, _⟩ => ⟨S8x4x2048x128, .f32⟩
  | .hbm, ⟨4, _⟩ => ⟨S8x4x2048x2x64, .f32⟩
  | .hbm, ⟨5, _⟩ => ⟨S8x2048x4x2x64, .f32⟩
  | .hbm, ⟨6, _⟩ => ⟨S8x2048x8x64, .f32⟩
  | .hbm, ⟨7, _⟩ => ⟨S8x4x2048x128, .f32⟩
  | .hbm, ⟨8, _⟩ => ⟨S8x4x2048x2x64, .f32⟩
  | .hbm, ⟨9, _⟩ => ⟨S8x2048x4x2x64, .f32⟩
  | .hbm, ⟨10, _⟩ => ⟨S8x2048x8x64, .f32⟩
  | .hbm, ⟨11, _⟩ => ⟨S8x4x2048x128, .f32⟩
  | .hbm, ⟨12, _⟩ => ⟨S8x4x2048x2x64, .f32⟩
  | .hbm, ⟨13, _⟩ => ⟨S8x2048x4x2x64, .f32⟩
  | .hbm, ⟨14, _⟩ => ⟨S8x2048x8x64, .f32⟩
  | .hbm, ⟨15, _⟩ => ⟨S8x8x2048x2048, .f32⟩
  | .hbm, ⟨16, _⟩ => ⟨S_, .f32⟩
  | .hbm, ⟨17, _⟩ => ⟨S_, .f32⟩
  | .hbm, ⟨18, _⟩ => ⟨S8x8x2048x2048, .f32⟩
  | .hbm, ⟨19, _⟩ => ⟨S8x8x2048x2048, .f32⟩
  | .hbm, ⟨20, _⟩ => ⟨S2048, .i32⟩
  | .hbm, ⟨21, _⟩ => ⟨S2048x1, .i32⟩
  | .hbm, ⟨22, _⟩ => ⟨S2048, .i32⟩
  | .hbm, ⟨23, _⟩ => ⟨S1x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S8x8x2048x2048, .f32⟩
  | .hbm, ⟨28, _⟩ => ⟨S8x8x2048x2048, .f32⟩
  | .hbm, ⟨29, _⟩ => ⟨S_, .f32⟩
  | .hbm, ⟨30, _⟩ => ⟨S8x8x2048x2048, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S8x8x2048x2048, .i1⟩
  | .hbm, ⟨35, _⟩ => ⟨S8x8x2048x2048, .f32⟩
  | .hbm, ⟨36, _⟩ => ⟨S8x8x2048x2048, .f32⟩
  | .hbm, ⟨37, _⟩ => ⟨S8x8x2048x2048, .f32⟩
  | .hbm, ⟨38, _⟩ => ⟨S8x8x2048x2048, .f32⟩
  | .hbm, ⟨39, _⟩ => ⟨S8x8x2048x2048, .f32⟩
  | .hbm, ⟨40, _⟩ => ⟨S8x8x2048x2048, .f32⟩
  | .hbm, ⟨41, _⟩ => ⟨S8x8x2048x2048, .f32⟩
  | .hbm, ⟨42, _⟩ => ⟨S8x8x2048x2048, .f32⟩
  | .hbm, ⟨43, _⟩ => ⟨S8x8x2048x2048, .f32⟩
  | .hbm, ⟨44, _⟩ => ⟨S_, .f32⟩
  | .hbm, ⟨45, _⟩ => ⟨S_, .f32⟩
  | .hbm, ⟨46, _⟩ => ⟨S8x8x2048x2048, .i1⟩
  | .hbm, ⟨47, _⟩ => ⟨S8x8x2048x2048, .f32⟩
  | .hbm, ⟨48, _⟩ => ⟨S8x8x2048x2048, .f32⟩
  | .hbm, ⟨49, _⟩ => ⟨S_, .f32⟩
  | .hbm, ⟨50, _⟩ => ⟨S_, .f32⟩
  | .hbm, ⟨51, _⟩ => ⟨S8x8x2048x2048, .f32⟩
  | .hbm, ⟨52, _⟩ => ⟨S8x8x2048x2048, .f32⟩
  | .hbm, ⟨53, _⟩ => ⟨S_, .f32⟩
  | .hbm, ⟨54, _⟩ => ⟨S8x8x2048x2048, .f32⟩
  | .hbm, ⟨55, _⟩ => ⟨S8x8x2048x2048, .f32⟩
  | .hbm, ⟨56, _⟩ => ⟨S8x8x2048x2048, .f32⟩
  | .hbm, ⟨57, _⟩ => ⟨S8x8x2048x2048, .f32⟩
  | .hbm, ⟨58, _⟩ => ⟨S8x8x2048x2048, .i1⟩
  | .hbm, ⟨59, _⟩ => ⟨S8x8x2048x2048, .f32⟩
  | .hbm, ⟨60, _⟩ => ⟨S8x8x2048x2048, .f32⟩
  | .hbm, ⟨61, _⟩ => ⟨S8x8x2048x2048, .f32⟩
  | .hbm, ⟨62, _⟩ => ⟨S8x8x2048x2048, .f32⟩
  | .hbm, ⟨63, _⟩ => ⟨S8x8x2048x2048, .f32⟩
  | .hbm, ⟨64, _⟩ => ⟨S8x8x2048x2048, .f32⟩
  | .hbm, ⟨65, _⟩ => ⟨S8x8x2048x2048, .f32⟩
  | .hbm, ⟨66, _⟩ => ⟨S8x8x2048x2048, .f32⟩
  | .hbm, ⟨67, _⟩ => ⟨S8x8x2048x2048, .f32⟩
  | .hbm, ⟨68, _⟩ => ⟨S8x8x2048x1, .f32⟩
  | .hbm, ⟨69, _⟩ => ⟨S8x8x2048x2048, .f32⟩
  | .hbm, ⟨70, _⟩ => ⟨S8x8x2048x2048, .f32⟩
  | .hbm, ⟨71, _⟩ => ⟨S8x8x2048x2048, .f32⟩
  | .hbm, ⟨72, _⟩ => ⟨S8x8x2048x2048, .f32⟩
  | .hbm, ⟨73, _⟩ => ⟨S_, .f32⟩
  | .hbm, ⟨74, _⟩ => ⟨S_, .f32⟩
  | .hbm, ⟨75, _⟩ => ⟨S8x8x2048x2048, .i1⟩
  | .hbm, ⟨76, _⟩ => ⟨S8x8x2048x2048, .f32⟩
  | .hbm, ⟨77, _⟩ => ⟨S8x8x2048x2048, .f32⟩
  | .hbm, ⟨78, _⟩ => ⟨S8x8x64x2048, .f32⟩
  | .hbm, ⟨79, _⟩ => ⟨S8x2048x8x64, .f32⟩
  | .hbm, ⟨80, _⟩ => ⟨S8x2048x512, .f32⟩
  | .hbm, ⟨81, _⟩ => ⟨S8x2048x512, .bf16⟩
  | _, _ => ⟨S8x4x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v24 : Ref sig .tc := ⟨.hbm, 43, rfl⟩
abbrev main_cst_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_call2_call0_cst : Ref sig .tc := ⟨.hbm, 49, rfl⟩
abbrev main_call2_call0_v0 : Ref sig .tc := ⟨.hbm, 50, rfl⟩
abbrev main_v26 : Ref sig .tc := ⟨.hbm, 51, rfl⟩
abbrev main_call3_v0 : Ref sig .tc := ⟨.hbm, 52, rfl⟩
abbrev main_call3_call0_cst : Ref sig .tc := ⟨.hbm, 53, rfl⟩
abbrev main_call3_call0_v0 : Ref sig .tc := ⟨.hbm, 54, rfl⟩
abbrev main_call3_call0_v1 : Ref sig .tc := ⟨.hbm, 55, rfl⟩
abbrev main_call3_call0_v2 : Ref sig .tc := ⟨.hbm, 56, rfl⟩
abbrev main_call3_call0_v3 : Ref sig .tc := ⟨.hbm, 57, rfl⟩
abbrev main_call3_call0_v4 : Ref sig .tc := ⟨.hbm, 58, rfl⟩
abbrev main_call3_call0_v5 : Ref sig .tc := ⟨.hbm, 59, rfl⟩
abbrev main_call3_call0_v6 : Ref sig .tc := ⟨.hbm, 60, rfl⟩
abbrev main_call3_call0_v7 : Ref sig .tc := ⟨.hbm, 61, rfl⟩
abbrev main_call3_call0_v8 : Ref sig .tc := ⟨.hbm, 62, rfl⟩
abbrev main_call3_call0_v9 : Ref sig .tc := ⟨.hbm, 63, rfl⟩
abbrev main_call3_call0_v10 : Ref sig .tc := ⟨.hbm, 64, rfl⟩
abbrev main_call3_call0_v11 : Ref sig .tc := ⟨.hbm, 65, rfl⟩
abbrev main_call3_v1 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_1 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩

abbrev nD : Nat := 1
abbrev τ : Topo := Topo.v7x

variable {F : FTy → Type} [FloatOps F]
-- ==== Kernel2.lean ====
abbrev S22528x1152 : Shape := ⟨2, ![22528, 1152]⟩
abbrev S88 : Shape := ⟨1, ![88]⟩
abbrev S2x16x1024x512 : Shape := ⟨4, ![2, 16, 1024, 512]⟩
abbrev S2x16x512x1024 : Shape := ⟨4, ![2, 16, 512, 1024]⟩
abbrev S22528x1024 : Shape := ⟨2, ![22528, 1024]⟩
abbrev S512x1152 : Shape := ⟨2, ![512, 1152]⟩
abbrev S1x1x1024x512 : Shape := ⟨4, ![1, 1, 1024, 512]⟩
abbrev S1 : Shape := ⟨1, ![1]⟩
abbrev S1x1x512x1024 : Shape := ⟨4, ![1, 1, 512, 1024]⟩
abbrev S512x1024 : Shape := ⟨2, ![512, 1024]⟩
abbrev S256x1024 : Shape := ⟨2, ![256, 1024]⟩
abbrev S256x1 : Shape := ⟨2, ![256, 1]⟩
abbrev S1024x512 : Shape := ⟨2, ![1024, 512]⟩
abbrev S256x512 : Shape := ⟨2, ![256, 512]⟩

abbrev nBuf : Space → Nat
  | .hbm => 5
  | .vmem => 28
  | .smem => 3
  | _ => 0

abbrev bufTy : (tb : Table) → Fin (tcTables nBuf tb) → BufTy
  | .hbm, ⟨0, _⟩ => ⟨S22528x1152, .f32⟩
  | .hbm, ⟨1, _⟩ => ⟨S2x16x1024x512, .bf16⟩
  | .hbm, ⟨2, _⟩ => ⟨S2x16x1024x512, .bf16⟩
  | .hbm, ⟨3, _⟩ => ⟨S2x16x512x1024, .bf16⟩
  | .hbm, ⟨4, _⟩ => ⟨S22528x1024, .f32⟩
  | .local _ .vmem, ⟨0, _⟩ => ⟨S512x1152, .f32⟩
  | .local _ .vmem, ⟨1, _⟩ => ⟨S512x1152, .f32⟩
  | .local _ .vmem, ⟨2, _⟩ => ⟨S1x1x1024x512, .bf16⟩
  | .local _ .vmem, ⟨3, _⟩ => ⟨S1x1x1024x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1x1x1024x512, .bf16⟩
  | .local _ .vmem, ⟨7, _⟩ => ⟨S1x1x1024x512, .bf16⟩
  | .local _ .vmem, ⟨8, _⟩ => ⟨S1x1x1024x512, .bf16⟩
  | .local _ .vmem, ⟨9, _⟩ => ⟨S1x1x1024x512, .bf16⟩
  | .local _ .vmem, ⟨10, _⟩ => ⟨S1x1x512x1024, .bf16⟩
  | .local _ .vmem, ⟨11, _⟩ => ⟨S1x1x512x1024, .bf16⟩
  | .local _ .vmem, ⟨12, _⟩ => ⟨S1x1x512x1024, .bf16⟩
  | .local _ .vmem, ⟨13, _⟩ => ⟨S1x1x512x1024, .bf16⟩
  | .local _ .vmem, ⟨14, _⟩ => ⟨S1x1x1024x512, .bf16⟩
  | .local _ .vmem, ⟨15, _⟩ => ⟨S1x1x1024x512, .bf16⟩
  | .local _ .vmem, ⟨16, _⟩ => ⟨S1x1x1024x512, .bf16⟩
  | .local _ .vmem, ⟨17, _⟩ => ⟨S1x1x1024x512, .bf16⟩
  | .local _ .vmem, ⟨18, _⟩ => ⟨S1x1x1024x512, .bf16⟩
  | .local _ .vmem, ⟨19, _⟩ => ⟨S1x1x1024x512, .bf16⟩
  | .local _ .vmem, ⟨20, _⟩ => ⟨S1x1x1024x512, .bf16⟩
  | .local _ .vmem, ⟨21, _⟩ => ⟨S1x1x1024x512, .bf16⟩
  | .local _ .vmem, ⟨22, _⟩ => ⟨S1x1x512x1024, .bf16⟩
  | .local _ .vmem, ⟨23, _⟩ => ⟨S1x1x512x1024, .bf16⟩
  | .local _ .vmem, ⟨24, _⟩ => ⟨S1x1x512x1024, .bf16⟩
  | .local _ .vmem, ⟨25, _⟩ => ⟨S1x1x512x1024, .bf16⟩
  | .local _ .vmem, ⟨26, _⟩ => ⟨S512x1024, .f32⟩
  | .local _ .vmem, ⟨27, _⟩ => ⟨S512x1024, .f32⟩
  | .local _ .smem, ⟨0, _⟩ => ⟨S88, .i32⟩
  | .local _ .smem, ⟨1, _⟩ => ⟨S88, .i32⟩
  | .local _ .smem, ⟨2, _⟩ => ⟨S88, .i32⟩
  | _, _ => ⟨S22528x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![44], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![v2.toNat]
def k0_off2 (i : grid0.Coords) : Fin 1 → Nat :=
  let arg0 : BitVec 32 := BitVec.ofNat 32 (i 0).val
  let c2_i32_1 : BitVec 32 := 2#32
  let v7 : BitVec 32 := Scalar.muli arg0 c2_i32_1
  let c0_i32_2 : BitVec 32 := 0#32
  let v8 : BitVec 32 := Scalar.addi v7 c0_i32_2
  let v9 : Index := Scalar.indexCast v8
  ![v9.toNat]
def k0_off3 (i : grid0.Coords) : Fin 1 → Nat :=
  let arg0 : BitVec 32 := BitVec.ofNat 32 (i 0).val
  let c2_i32_5 : BitVec 32 := 2#32
  let v14 : BitVec 32 := Scalar.muli arg0 c2_i32_5
  let c1_i32_6 : BitVec 32 := 1#32
  let v15 : BitVec 32 := Scalar.addi v14 c1_i32_6
  let v16 : Index := Scalar.indexCast v15
  ![v16.toNat]
def k0_off4 (i : grid0.Coords) : Fin 1 → Nat :=
  let arg0 : BitVec 32 := BitVec.ofNat 32 (i 0).val
  let c2_i32_9 : BitVec 32 := 2#32
  let v21 : BitVec 32 := Scalar.muli arg0 c2_i32_9
  let c1_i32_10 : BitVec 32 := 1#32
  let v22 : BitVec 32 := Scalar.addi v21 c1_i32_10
  let v23 : Index := Scalar.indexCast v22
  ![v23.toNat]
def k0_cond1 (v3 : BitVec 32) : BitVec 1 :=
  let c1_i32 : BitVec 32 := 1#32
  let v4 : BitVec 1 := Scalar.cmpi .eq v3 c1_i32
  let v5 : BitVec 32 := Scalar.extui v4
  let c0_i32_0 : BitVec 32 := 0#32
  let v6 : BitVec 1 := Scalar.cmpi .ne v5 c0_i32_0
  v6

def k0_cond2 (v10 : BitVec 32) : BitVec 1 :=
  let c0_i32_3 : BitVec 32 := 0#32
  let v11 : BitVec 1 := Scalar.cmpi .eq v10 c0_i32_3
  let v12 : BitVec 32 := Scalar.extui v11
  let c0_i32_4 : BitVec 32 := 0#32
  let v13 : BitVec 1 := Scalar.cmpi .ne v12 c0_i32_4
  v13

def k0_cond3 (v17 : BitVec 32) : BitVec 1 :=
  let c1_i32_7 : BitVec 32 := 1#32
  let v18 : BitVec 1 := Scalar.cmpi .eq v17 c1_i32_7
  let v19 : BitVec 32 := Scalar.extui v18
  let c0_i32_8 : BitVec 32 := 0#32
  let v20 : BitVec 1 := Scalar.cmpi .ne v19 c0_i32_8
  v20

def k0_cond4 (v24 : BitVec 32) : BitVec 1 :=
  let c0_i32_11 : BitVec 32 := 0#32
  let v25 : BitVec 1 := Scalar.cmpi .eq v24 c0_i32_11
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S88) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_2 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 1 (Rect.unit (s := S88) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_3 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S88) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_4 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 1 (Rect.unit (s := S88) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_5 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S88) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_6 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 1 (Rect.unit (s := S88) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_7 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S88) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_8 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 1 (Rect.unit (s := S88) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_9 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S88) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_10 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 1 (Rect.unit (s := S88) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_11 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S88) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_12 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 1 (Rect.unit (s := S88) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S22528x1152 : Shape := ⟨2, ![22528, 1152]⟩
abbrev S88 : Shape := ⟨1, ![88]⟩
abbrev S2x16x1024x512 : Shape := ⟨4, ![2, 16, 1024, 512]⟩
abbrev S2x16x512x1024 : Shape := ⟨4, ![2, 16, 512, 1024]⟩
abbrev S1x16x1024x512 : Shape := ⟨4, ![1, 16, 1024, 512]⟩
abbrev S16x1024x512 : Shape := ⟨3, ![16, 1024, 512]⟩
abbrev S1x16x512x1024 : Shape := ⟨4, ![1, 16, 512, 1024]⟩
abbrev S16x512x1024 : Shape := ⟨3, ![16, 512, 1024]⟩
abbrev S22528x1024 : Shape := ⟨2, ![22528, 1024]⟩
abbrev S22528x16x512 : Shape := ⟨3, ![22528, 16, 512]⟩
abbrev S_ : Shape := ⟨0, ![]⟩
abbrev S88x256 : Shape := ⟨2, ![88, 256]⟩
abbrev S22528 : Shape := ⟨1, ![22528]⟩
abbrev S22528x1 : Shape := ⟨2, ![22528, 1]⟩
abbrev S16 : Shape := ⟨1, ![16]⟩
abbrev S1x16 : Shape := ⟨2, ![1, 16]⟩
abbrev S22528x16 : Shape := ⟨2, ![22528, 16]⟩
abbrev S22528x16x1 : Shape := ⟨3, ![22528, 16, 1]⟩

abbrev nBuf : Space → Nat
  | .hbm => 71
  | .vmem => 0
  | .smem => 0
  | _ => 0

abbrev bufTy : (tb : Table) → Fin (tcTables nBuf tb) → BufTy
  | .hbm, ⟨0, _⟩ => ⟨S22528x1152, .f32⟩
  | .hbm, ⟨1, _⟩ => ⟨S88, .i32⟩
  | .hbm, ⟨2, _⟩ => ⟨S88, .i32⟩
  | .hbm, ⟨3, _⟩ => ⟨S88, .i32⟩
  | .hbm, ⟨4, _⟩ => ⟨S2x16x1024x512, .bf16⟩
  | .hbm, ⟨5, _⟩ => ⟨S2x16x1024x512, .bf16⟩
  | .hbm, ⟨6, _⟩ => ⟨S2x16x512x1024, .bf16⟩
  | .hbm, ⟨7, _⟩ => ⟨S1x16x1024x512, .bf16⟩
  | .hbm, ⟨8, _⟩ => ⟨S16x1024x512, .bf16⟩
  | .hbm, ⟨9, _⟩ => ⟨S1x16x1024x512, .bf16⟩
  | .hbm, ⟨10, _⟩ => ⟨S16x1024x512, .bf16⟩
  | .hbm, ⟨11, _⟩ => ⟨S1x16x512x1024, .bf16⟩
  | .hbm, ⟨12, _⟩ => ⟨S16x512x1024, .bf16⟩
  | .hbm, ⟨13, _⟩ => ⟨S22528x1024, .f32⟩
  | .hbm, ⟨14, _⟩ => ⟨S16x1024x512, .f32⟩
  | .hbm, ⟨15, _⟩ => ⟨S22528x16x512, .f32⟩
  | .hbm, ⟨16, _⟩ => ⟨S22528x16x512, .f32⟩
  | .hbm, ⟨17, _⟩ => ⟨S22528x16x512, .f32⟩
  | .hbm, ⟨18, _⟩ => ⟨S_, .f32⟩
  | .hbm, ⟨19, _⟩ => ⟨S22528x16x512, .f32⟩
  | .hbm, ⟨20, _⟩ => ⟨S22528x16x512, .f32⟩
  | .hbm, ⟨21, _⟩ => ⟨S_, .f32⟩
  | .hbm, ⟨22, _⟩ => ⟨S22528x16x512, .f32⟩
  | .hbm, ⟨23, _⟩ => ⟨S22528x16x512, .f32⟩
  | .hbm, ⟨24, _⟩ => ⟨S22528x16x512, .f32⟩
  | .hbm, ⟨25, _⟩ => ⟨S16x1024x512, .f32⟩
  | .hbm, ⟨26, _⟩ => ⟨S22528x16x512, .f32⟩
  | .hbm, ⟨27, _⟩ => ⟨S22528x16x512, .f32⟩
  | .hbm, ⟨28, _⟩ => ⟨S88x256, .i32⟩
  | .hbm, ⟨29, _⟩ => ⟨S22528, .i32⟩
  | .hbm, ⟨30, _⟩ => ⟨S22528x1, .i32⟩
  | .hbm, ⟨31, _⟩ => ⟨S88x256, .i32⟩
  | .hbm, ⟨32, _⟩ => ⟨S22528, .i32⟩
  | .hbm, ⟨33, _⟩ => ⟨S22528x1, .i32⟩
  | .hbm, ⟨34, _⟩ => ⟨S88x256, .i32⟩
  | .hbm, ⟨35, _⟩ => ⟨S22528, .i32⟩
  | .hbm, ⟨36, _⟩ => ⟨S22528x1, .i32⟩
  | .hbm, ⟨37, _⟩ => ⟨S16, .i32⟩
  | .hbm, ⟨38, _⟩ => ⟨S1x16, .i32⟩
  | .hbm, ⟨39, _⟩ => ⟨S22528x16, .i32⟩
  | .hbm, ⟨40, _⟩ => ⟨S22528x16, .i32⟩
  | .hbm, ⟨41, _⟩ => ⟨S22528x16, .i1⟩
  | .hbm, ⟨42, _⟩ => ⟨S22528x16, .i32⟩
  | .hbm, ⟨43, _⟩ => ⟨S22528x16, .i32⟩
  | .hbm, ⟨44, _⟩ => ⟨S22528x16, .i1⟩
  | .hbm, ⟨45, _⟩ => ⟨S22528x1, .f32⟩
  | .hbm, ⟨46, _⟩ => ⟨S_, .f32⟩
  | .hbm, ⟨47, _⟩ => ⟨S_, .f32⟩
  | .hbm, ⟨48, _⟩ => ⟨S22528x16, .f32⟩
  | .hbm, ⟨49, _⟩ => ⟨S22528x16, .f32⟩
  | .hbm, ⟨50, _⟩ => ⟨S22528x16, .f32⟩
  | .hbm, ⟨51, _⟩ => ⟨S22528x1, .f32⟩
  | .hbm, ⟨52, _⟩ => ⟨S_, .f32⟩
  | .hbm, ⟨53, _⟩ => ⟨S_, .f32⟩
  | .hbm, ⟨54, _⟩ => ⟨S22528x16, .f32⟩
  | .hbm, ⟨55, _⟩ => ⟨S22528x16, .f32⟩
  | .hbm, ⟨56, _⟩ => ⟨S22528x16, .f32⟩
  | .hbm, ⟨57, _⟩ => ⟨S22528x16, .f32⟩
  | .hbm, ⟨58, _⟩ => ⟨S22528x16x1, .f32⟩
  | .hbm, ⟨59, _⟩ => ⟨S22528x16x512, .f32⟩
  | .hbm, ⟨60, _⟩ => ⟨S22528x16x512, .f32⟩
  | .hbm, ⟨61, _⟩ => ⟨S16x512x1024, .f32⟩
  | .hbm, ⟨62, _⟩ => ⟨S22528x1024, .f32⟩
  | .hbm, ⟨63, _⟩ => ⟨S_, .i32⟩
  | .hbm, ⟨64, _⟩ => ⟨S22528x1, .i32⟩
  | .hbm, ⟨65, _⟩ => ⟨S22528x1, .i1⟩
  | .hbm, ⟨66, _⟩ => ⟨S_, .f32⟩
  | .hbm, ⟨67, _⟩ => ⟨S_, .f32⟩
  | .hbm, ⟨68, _⟩ => ⟨S22528x1024, .i1⟩
  | .hbm, ⟨69, _⟩ => ⟨S22528x1024, .f32⟩
  | .hbm, ⟨70, _⟩ => ⟨S22528x1024, .f32⟩
  | _, _ => ⟨S22528x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v31 : Ref sig .tc := ⟨.hbm, 50, rfl⟩
abbrev main_v32 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c : Ref sig .tc := ⟨.hbm, 63, rfl⟩
abbrev main_v40 : Ref sig .tc := ⟨.hbm, 64, rfl⟩
abbrev main_v41 : Ref sig .tc := ⟨.hbm, 65, rfl⟩
abbrev main_cst_1 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v42 : Ref sig .tc := ⟨.hbm, 70, rfl⟩

abbrev nD : Nat := 1
abbrev τ : Topo := Topo.v7x

variable {F : FTy → Type} [FloatOps F]
-- ==== Kernel3.lean ====
abbrev S22528x1152 : Shape := ⟨2, ![22528, 1152]⟩
abbrev S88 : Shape := ⟨1, ![88]⟩
abbrev S2x16x1024x512 : Shape := ⟨4, ![2, 16, 1024, 512]⟩
abbrev S2x16x512x1024 : Shape := ⟨4, ![2, 16, 512, 1024]⟩
abbrev S22528x1024 : Shape := ⟨2, ![22528, 1024]⟩
abbrev S512x1152 : Shape := ⟨2, ![512, 1152]⟩
abbrev S1x1x1024x512 : Shape := ⟨4, ![1, 1, 1024, 512]⟩
abbrev S1 : Shape := ⟨1, ![1]⟩
abbrev S1x1x512x1024 : Shape := ⟨4, ![1, 1, 512, 1024]⟩
abbrev S512x1024 : Shape := ⟨2, ![512, 1024]⟩
abbrev S256x1024 : Shape := ⟨2, ![256, 1024]⟩
abbrev S256x1 : Shape := ⟨2, ![256, 1]⟩
abbrev S1024x512 : Shape := ⟨2, ![1024, 512]⟩
abbrev S256x512 : Shape := ⟨2, ![256, 512]⟩

abbrev nBuf : Space → Nat
  | .hbm => 5
  | .vmem => 28
  | .smem => 3
  | _ => 0

abbrev bufTy : (tb : Table) → Fin (tcTables nBuf tb) → BufTy
  | .hbm, ⟨0, _⟩ => ⟨S22528x1152, .f32⟩
  | .hbm, ⟨1, _⟩ => ⟨S2x16x1024x512, .bf16⟩
  | .hbm, ⟨2, _⟩ => ⟨S2x16x1024x512, .bf16⟩
  | .hbm, ⟨3, _⟩ => ⟨S2x16x512x1024, .bf16⟩
  | .hbm, ⟨4, _⟩ => ⟨S22528x1024, .f32⟩
  | .local _ .vmem, ⟨0, _⟩ => ⟨S512x1152, .f32⟩
  | .local _ .vmem, ⟨1, _⟩ => ⟨S512x1152, .f32⟩
  | .local _ .vmem, ⟨2, _⟩ => ⟨S1x1x1024x512, .bf16⟩
  | .local _ .vmem, ⟨3, _⟩ => ⟨S1x1x1024x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1x1x1024x512, .bf16⟩
  | .local _ .vmem, ⟨7, _⟩ => ⟨S1x1x1024x512, .bf16⟩
  | .local _ .vmem, ⟨8, _⟩ => ⟨S1x1x1024x512, .bf16⟩
  | .local _ .vmem, ⟨9, _⟩ => ⟨S1x1x1024x512, .bf16⟩
  | .local _ .vmem, ⟨10, _⟩ => ⟨S1x1x512x1024, .bf16⟩
  | .local _ .vmem, ⟨11, _⟩ => ⟨S1x1x512x1024, .bf16⟩
  | .local _ .vmem, ⟨12, _⟩ => ⟨S1x1x512x1024, .bf16⟩
  | .local _ .vmem, ⟨13, _⟩ => ⟨S1x1x512x1024, .bf16⟩
  | .local _ .vmem, ⟨14, _⟩ => ⟨S1x1x1024x512, .bf16⟩
  | .local _ .vmem, ⟨15, _⟩ => ⟨S1x1x1024x512, .bf16⟩
  | .local _ .vmem, ⟨16, _⟩ => ⟨S1x1x1024x512, .bf16⟩
  | .local _ .vmem, ⟨17, _⟩ => ⟨S1x1x1024x512, .bf16⟩
  | .local _ .vmem, ⟨18, _⟩ => ⟨S1x1x1024x512, .bf16⟩
  | .local _ .vmem, ⟨19, _⟩ => ⟨S1x1x1024x512, .bf16⟩
  | .local _ .vmem, ⟨20, _⟩ => ⟨S1x1x1024x512, .bf16⟩
  | .local _ .vmem, ⟨21, _⟩ => ⟨S1x1x1024x512, .bf16⟩
  | .local _ .vmem, ⟨22, _⟩ => ⟨S1x1x512x1024, .bf16⟩
  | .local _ .vmem, ⟨23, _⟩ => ⟨S1x1x512x1024, .bf16⟩
  | .local _ .vmem, ⟨24, _⟩ => ⟨S1x1x512x1024, .bf16⟩
  | .local _ .vmem, ⟨25, _⟩ => ⟨S1x1x512x1024, .bf16⟩
  | .local _ .vmem, ⟨26, _⟩ => ⟨S512x1024, .f32⟩
  | .local _ .vmem, ⟨27, _⟩ => ⟨S512x1024, .f32⟩
  | .local _ .smem, ⟨0, _⟩ => ⟨S88, .i32⟩
  | .local _ .smem, ⟨1, _⟩ => ⟨S88, .i32⟩
  | .local _ .smem, ⟨2, _⟩ => ⟨S88, .i32⟩
  | _, _ => ⟨S22528x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![44], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![v2.toNat]
def k0_off2 (i : grid0.Coords) : Fin 1 → Nat :=
  let arg0 : BitVec 32 := BitVec.ofNat 32 (i 0).val
  let c2_i32_1 : BitVec 32 := 2#32
  let v7 : BitVec 32 := Scalar.muli arg0 c2_i32_1
  let c0_i32_2 : BitVec 32 := 0#32
  let v8 : BitVec 32 := Scalar.addi v7 c0_i32_2
  let v9 : Index := Scalar.indexCast v8
  ![v9.toNat]
def k0_off3 (i : grid0.Coords) : Fin 1 → Nat :=
  let arg0 : BitVec 32 := BitVec.ofNat 32 (i 0).val
  let c2_i32_5 : BitVec 32 := 2#32
  let v14 : BitVec 32 := Scalar.muli arg0 c2_i32_5
  let c1_i32_6 : BitVec 32 := 1#32
  let v15 : BitVec 32 := Scalar.addi v14 c1_i32_6
  let v16 : Index := Scalar.indexCast v15
  ![v16.toNat]
def k0_off4 (i : grid0.Coords) : Fin 1 → Nat :=
  let arg0 : BitVec 32 := BitVec.ofNat 32 (i 0).val
  let c2_i32_9 : BitVec 32 := 2#32
  let v21 : BitVec 32 := Scalar.muli arg0 c2_i32_9
  let c1_i32_10 : BitVec 32 := 1#32
  let v22 : BitVec 32 := Scalar.addi v21 c1_i32_10
  let v23 : Index := Scalar.indexCast v22
  ![v23.toNat]
def k0_cond1 (v3 : BitVec 32) : BitVec 1 :=
  let c1_i32 : BitVec 32 := 1#32
  let v4 : BitVec 1 := Scalar.cmpi .eq v3 c1_i32
  let v5 : BitVec 32 := Scalar.extui v4
  let c0_i32_0 : BitVec 32 := 0#32
  let v6 : BitVec 1 := Scalar.cmpi .ne v5 c0_i32_0
  v6

def k0_cond2 (v10 : BitVec 32) : BitVec 1 :=
  let c0_i32_3 : BitVec 32 := 0#32
  let v11 : BitVec 1 := Scalar.cmpi .eq v10 c0_i32_3
  let v12 : BitVec 32 := Scalar.extui v11
  let c0_i32_4 : BitVec 32 := 0#32
  let v13 : BitVec 1 := Scalar.cmpi .ne v12 c0_i32_4
  v13

def k0_cond3 (v17 : BitVec 32) : BitVec 1 :=
  let c1_i32_7 : BitVec 32 := 1#32
  let v18 : BitVec 1 := Scalar.cmpi .eq v17 c1_i32_7
  let v19 : BitVec 32 := Scalar.extui v18
  let c0_i32_8 : BitVec 32 := 0#32
  let v20 : BitVec 1 := Scalar.cmpi .ne v19 c0_i32_8
  v20

def k0_cond4 (v24 : BitVec 32) : BitVec 1 :=
  let c0_i32_11 : BitVec 32 := 0#32
  let v25 : BitVec 1 := Scalar.cmpi .eq v24 c0_i32_11
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S88) ![v2.toNat] S1.size (k0_off1_inb i 0)) numel1_S1
  let c1_i32 : BitVec 32 := 1#32
  let c0_i32_0 : BitVec 32 := 0#32
  let c0_i32_1 : BitVec 32 := 0#32
  let c0_i32_2 : BitVec 32 := 0#32
  ![c1_i32.toNat, v3.toNat, c0_i32_0.toNat, c0_i32_1.toNat]

def cc0_transform_2 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 1 (Rect.unit (s := S88) ![v2.toNat] S1.size (k0_off1_inb i 0)) numel1_S1
  let c1_i32 : BitVec 32 := 1#32
  let c0_i32_0 : BitVec 32 := 0#32
  let c0_i32_1 : BitVec 32 := 0#32
  let c0_i32_2 : BitVec 32 := 0#32
  ![c1_i32.toNat, v3.toNat, c0_i32_0.toNat, c0_i32_1.toNat]

def cc0_transform_3 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S88) ![v2.toNat] S1.size (k0_off1_inb i 0)) numel1_S1
  let c1_i32 : BitVec 32 := 1#32
  let c0_i32_0 : BitVec 32 := 0#32
  let c0_i32_1 : BitVec 32 := 0#32
  let c0_i32_2 : BitVec 32 := 0#32
  ![c1_i32.toNat, v3.toNat, c0_i32_0.toNat, c0_i32_1.toNat]

def cc0_transform_4 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 1 (Rect.unit (s := S88) ![v2.toNat] S1.size (k0_off1_inb i 0)) numel1_S1
  let c1_i32 : BitVec 32 := 1#32
  let c0_i32_0 : BitVec 32 := 0#32
  let c0_i32_1 : BitVec 32 := 0#32
  let c0_i32_2 : BitVec 32 := 0#32
  ![c1_i32.toNat, v3.toNat, c0_i32_0.toNat, c0_i32_1.toNat]

def cc0_transform_5 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S88) ![v2.toNat] S1.size (k0_off1_inb i 0)) numel1_S1
  let c1_i32 : BitVec 32 := 1#32
  let c0_i32_0 : BitVec 32 := 0#32
  let c0_i32_1 : BitVec 32 := 0#32
  let c0_i32_2 : BitVec 32 := 0#32
  ![c1_i32.toNat, v3.toNat, c0_i32_0.toNat, c0_i32_1.toNat]

def cc0_transform_6 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 1 (Rect.unit (s := S88) ![v2.toNat] S1.size (k0_off1_inb i 0)) numel1_S1
  let c1_i32 : BitVec 32 := 1#32
  let c0_i32_0 : BitVec 32 := 0#32
  let c0_i32_1 : BitVec 32 := 0#32
  let c0_i32_2 : BitVec 32 := 0#32
  ![c1_i32.toNat, v3.toNat, c0_i32_0.toNat, c0_i32_1.toNat]

def cc0_transform_7 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S88) ![v2.toNat] S1.size (k0_off1_inb i 1)) numel1_S1
  let c1_i32_0 : BitVec 32 := 1#32
  let c0_i32 : BitVec 32 := 0#32
  let c0_i32_1 : BitVec 32 := 0#32
  let c0_i32_2 : BitVec 32 := 0#32
  ![c1_i32_0.toNat, v3.toNat, c0_i32.toNat, c0_i32_1.toNat]

def cc0_transform_8 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 1 (Rect.unit (s := S88) ![v2.toNat] S1.size (k0_off1_inb i 1)) numel1_S1
  let c1_i32_0 : BitVec 32 := 1#32
  let c0_i32 : BitVec 32 := 0#32
  let c0_i32_1 : BitVec 32 := 0#32
  let c0_i32_2 : BitVec 32 := 0#32
  ![c1_i32_0.toNat, v3.toNat, c0_i32.toNat, c0_i32_1.toNat]

def cc0_transform_9 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S88) ![v2.toNat] S1.size (k0_off1_inb i 1)) numel1_S1
  let c1_i32_0 : BitVec 32 := 1#32
  let c0_i32 : BitVec 32 := 0#32
  let c0_i32_1 : BitVec 32 := 0#32
  let c0_i32_2 : BitVec 32 := 0#32
  ![c1_i32_0.toNat, v3.toNat, c0_i32.toNat, c0_i32_1.toNat]

def cc0_transform_10 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 1 (Rect.unit (s := S88) ![v2.toNat] S1.size (k0_off1_inb i 1)) numel1_S1
  let c1_i32_0 : BitVec 32 := 1#32
  let c0_i32 : BitVec 32 := 0#32
  let c0_i32_1 : BitVec 32 := 0#32
  let c0_i32_2 : BitVec 32 := 0#32
  ![c1_i32_0.toNat, v3.toNat, c0_i32.toNat, c0_i32_1.toNat]

def cc0_transform_11 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S88) ![v2.toNat] S1.size (k0_off1_inb i 1)) numel1_S1
  let c1_i32_0 : BitVec 32 := 1#32
  let c0_i32 : BitVec 32 := 0#32
  let c0_i32_1 : BitVec 32 := 0#32
  let c0_i32_2 : BitVec 32 := 0#32
  ![c1_i32_0.toNat, v3.toNat, c0_i32.toNat, c0_i32_1.toNat]

def cc0_transform_12 (k0_off1_inb : ∀ i : grid0.Coords, ∀ (r : Fin 2), ∀ a, (k0_off1 i (BitVec.ofNat 32 r.val)) a + S1.size a ≤ S88.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 1 (Rect.unit (s := S88) ![v2.toNat] S1.size (k0_off1_inb i 1)) numel1_S1
  let c1_i32_0 : BitVec 32 := 1#32
  let c0_i32 : BitVec 32 := 0#32
  let c0_i32_1 : BitVec 32 := 0#32
  let c0_i32_2 : BitVec 32 := 0#32
  ![c1_i32_0.toNat, v3.toNat, c0_i32.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S22528x1152 : Shape := ⟨2, ![22528, 1152]⟩
abbrev S88 : Shape := ⟨1, ![88]⟩
abbrev S2x16x1024x512 : Shape := ⟨4, ![2, 16, 1024, 512]⟩
abbrev S2x16x512x1024 : Shape := ⟨4, ![2, 16, 512, 1024]⟩
abbrev S1x16x1024x512 : Shape := ⟨4, ![1, 16, 1024, 512]⟩
abbrev S16x1024x512 : Shape := ⟨3, ![16, 1024, 512]⟩
abbrev S1x16x512x1024 : Shape := ⟨4, ![1, 16, 512, 1024]⟩
abbrev S16x512x1024 : Shape := ⟨3, ![16, 512, 1024]⟩
abbrev S22528x1024 : Shape := ⟨2, ![22528, 1024]⟩
abbrev S22528x16x512 : Shape := ⟨3, ![22528, 16, 512]⟩
abbrev S_ : Shape := ⟨0, ![]⟩
abbrev S88x256 : Shape := ⟨2, ![88, 256]⟩
abbrev S22528 : Shape := ⟨1, ![22528]⟩
abbrev S22528x1 : Shape := ⟨2, ![22528, 1]⟩
abbrev S16 : Shape := ⟨1, ![16]⟩
abbrev S1x16 : Shape := ⟨2, ![1, 16]⟩
abbrev S22528x16 : Shape := ⟨2, ![22528, 16]⟩
abbrev S22528x16x1 : Shape := ⟨3, ![22528, 16, 1]⟩

abbrev nBuf : Space → Nat
  | .hbm => 71
  | .vmem => 0
  | .smem => 0
  | _ => 0

abbrev bufTy : (tb : Table) → Fin (tcTables nBuf tb) → BufTy
  | .hbm, ⟨0, _⟩ => ⟨S22528x1152, .f32⟩
  | .hbm, ⟨1, _⟩ => ⟨S88, .i32⟩
  | .hbm, ⟨2, _⟩ => ⟨S88, .i32⟩
  | .hbm, ⟨3, _⟩ => ⟨S88, .i32⟩
  | .hbm, ⟨4, _⟩ => ⟨S2x16x1024x512, .bf16⟩
  | .hbm, ⟨5, _⟩ => ⟨S2x16x1024x512, .bf16⟩
  | .hbm, ⟨6, _⟩ => ⟨S2x16x512x1024, .bf16⟩
  | .hbm, ⟨7, _⟩ => ⟨S1x16x1024x512, .bf16⟩
  | .hbm, ⟨8, _⟩ => ⟨S16x1024x512, .bf16⟩
  | .hbm, ⟨9, _⟩ => ⟨S1x16x1024x512, .bf16⟩
  | .hbm, ⟨10, _⟩ => ⟨S16x1024x512, .bf16⟩
  | .hbm, ⟨11, _⟩ => ⟨S1x16x512x1024, .bf16⟩
  | .hbm, ⟨12, _⟩ => ⟨S16x512x1024, .bf16⟩
  | .hbm, ⟨13, _⟩ => ⟨S22528x1024, .f32⟩
  | .hbm, ⟨14, _⟩ => ⟨S16x1024x512, .f32⟩
  | .hbm, ⟨15, _⟩ => ⟨S22528x16x512, .f32⟩
  | .hbm, ⟨16, _⟩ => ⟨S22528x16x512, .f32⟩
  | .hbm, ⟨17, _⟩ => ⟨S22528x16x512, .f32⟩
  | .hbm, ⟨18, _⟩ => ⟨S_, .f32⟩
  | .hbm, ⟨19, _⟩ => ⟨S22528x16x512, .f32⟩
  | .hbm, ⟨20, _⟩ => ⟨S22528x16x512, .f32⟩
  | .hbm, ⟨21, _⟩ => ⟨S_, .f32⟩
  | .hbm, ⟨22, _⟩ => ⟨S22528x16x512, .f32⟩
  | .hbm, ⟨23, _⟩ => ⟨S22528x16x512, .f32⟩
  | .hbm, ⟨24, _⟩ => ⟨S22528x16x512, .f32⟩
  | .hbm, ⟨25, _⟩ => ⟨S16x1024x512, .f32⟩
  | .hbm, ⟨26, _⟩ => ⟨S22528x16x512, .f32⟩
  | .hbm, ⟨27, _⟩ => ⟨S22528x16x512, .f32⟩
  | .hbm, ⟨28, _⟩ => ⟨S88x256, .i32⟩
  | .hbm, ⟨29, _⟩ => ⟨S22528, .i32⟩
  | .hbm, ⟨30, _⟩ => ⟨S22528x1, .i32⟩
  | .hbm, ⟨31, _⟩ => ⟨S88x256, .i32⟩
  | .hbm, ⟨32, _⟩ => ⟨S22528, .i32⟩
  | .hbm, ⟨33, _⟩ => ⟨S22528x1, .i32⟩
  | .hbm, ⟨34, _⟩ => ⟨S88x256, .i32⟩
  | .hbm, ⟨35, _⟩ => ⟨S22528, .i32⟩
  | .hbm, ⟨36, _⟩ => ⟨S22528x1, .i32⟩
  | .hbm, ⟨37, _⟩ => ⟨S16, .i32⟩
  | .hbm, ⟨38, _⟩ => ⟨S1x16, .i32⟩
  | .hbm, ⟨39, _⟩ => ⟨S22528x16, .i32⟩
  | .hbm, ⟨40, _⟩ => ⟨S22528x16, .i32⟩
  | .hbm, ⟨41, _⟩ => ⟨S22528x16, .i1⟩
  | .hbm, ⟨42, _⟩ => ⟨S22528x16, .i32⟩
  | .hbm, ⟨43, _⟩ => ⟨S22528x16, .i32⟩
  | .hbm, ⟨44, _⟩ => ⟨S22528x16, .i1⟩
  | .hbm, ⟨45, _⟩ => ⟨S22528x1, .f32⟩
  | .hbm, ⟨46, _⟩ => ⟨S_, .f32⟩
  | .hbm, ⟨47, _⟩ => ⟨S_, .f32⟩
  | .hbm, ⟨48, _⟩ => ⟨S22528x16, .f32⟩
  | .hbm, ⟨49, _⟩ => ⟨S22528x16, .f32⟩
  | .hbm, ⟨50, _⟩ => ⟨S22528x16, .f32⟩
  | .hbm, ⟨51, _⟩ => ⟨S22528x1, .f32⟩
  | .hbm, ⟨52, _⟩ => ⟨S_, .f32⟩
  | .hbm, ⟨53, _⟩ => ⟨S_, .f32⟩
  | .hbm, ⟨54, _⟩ => ⟨S22528x16, .f32⟩
  | .hbm, ⟨55, _⟩ => ⟨S22528x16, .f32⟩
  | .hbm, ⟨56, _⟩ => ⟨S22528x16, .f32⟩
  | .hbm, ⟨57, _⟩ => ⟨S22528x16, .f32⟩
  | .hbm, ⟨58, _⟩ => ⟨S22528x16x1, .f32⟩
  | .hbm, ⟨59, _⟩ => ⟨S22528x16x512, .f32⟩
  | .hbm, ⟨60, _⟩ => ⟨S22528x16x512, .f32⟩
  | .hbm, ⟨61, _⟩ => ⟨S16x512x1024, .f32⟩
  | .hbm, ⟨62, _⟩ => ⟨S22528x1024, .f32⟩
  | .hbm, ⟨63, _⟩ => ⟨S_, .i32⟩
  | .hbm, ⟨64, _⟩ => ⟨S22528x1, .i32⟩
  | .hbm, ⟨65, _⟩ => ⟨S22528x1, .i1⟩
  | .hbm, ⟨66, _⟩ => ⟨S_, .f32⟩
  | .hbm, ⟨67, _⟩ => ⟨S_, .f32⟩
  | .hbm, ⟨68, _⟩ => ⟨S22528x1024, .i1⟩
  | .hbm, ⟨69, _⟩ => ⟨S22528x1024, .f32⟩
  | .hbm, ⟨70, _⟩ => ⟨S22528x1024, .f32⟩
  | _, _ => ⟨S22528x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v31 : Ref sig .tc := ⟨.hbm, 50, rfl⟩
abbrev main_v32 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c : Ref sig .tc := ⟨.hbm, 63, rfl⟩
abbrev main_v40 : Ref sig .tc := ⟨.hbm, 64, rfl⟩
abbrev main_v41 : Ref sig .tc := ⟨.hbm, 65, rfl⟩
abbrev main_cst_1 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v42 : Ref sig .tc := ⟨.hbm, 70, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x6x1024 : Shape := ⟨3, ![8, 6, 1024]⟩
abbrev S1x1024 : Shape := ⟨2, ![1, 1024]⟩
abbrev S2x1024x4864 : Shape := ⟨3, ![2, 1024, 4864]⟩
abbrev S64x1 : Shape := ⟨2, ![64, 1]⟩
abbrev S1x64 : Shape := ⟨2, ![1, 64]⟩
abbrev S8x4x2048x128 : Shape := ⟨4, ![8, 4, 2048, 128]⟩
abbrev S8x8x64x2048 : Shape := ⟨4, ![8, 8, 64, 2048]⟩
abbrev S8x2048x64 : Shape := ⟨3, ![8, 2048, 64]⟩
abbrev S8x16x128x128 : Shape := ⟨4, ![8, 16, 128, 128]⟩
abbrev S8x8x2048 : Shape := ⟨3, ![8, 8, 2048]⟩
abbrev S1x512x1024 : Shape := ⟨3, ![1, 512, 1024]⟩
abbrev S1x6x1024 : Shape := ⟨3, ![1, 6, 1024]⟩
abbrev S1x1024x4864 : Shape := ⟨3, ![1, 1024, 4864]⟩
abbrev S1x4x512x128 : Shape := ⟨4, ![1, 4, 512, 128]⟩
abbrev S1x8x64x512 : Shape := ⟨4, ![1, 8, 64, 512]⟩
abbrev S1x512x64 : Shape := ⟨3, ![1, 512, 64]⟩
abbrev S1x4x128x128 : Shape := ⟨4, ![1, 4, 128, 128]⟩
abbrev S1x8x512 : Shape := ⟨3, ![1, 8, 512]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1x1024x512 : Shape := ⟨3, ![1, 1024, 512]⟩
abbrev S1024x512 : Shape := ⟨2, ![1024, 512]⟩
abbrev S512x512 : Shape := ⟨2, ![512, 512]⟩
abbrev S512x128 : Shape := ⟨2, ![512, 128]⟩
abbrev S1x1x512x128 : Shape := ⟨4, ![1, 1, 512, 128]⟩
abbrev S64x512 : Shape := ⟨2, ![64, 512]⟩
abbrev S1x512 : Shape := ⟨2, ![1, 512]⟩
abbrev S1x1x64x512 : Shape := ⟨4, ![1, 1, 64, 512]⟩
abbrev S1x1024x128 : Shape := ⟨3, ![1, 1024, 128]⟩
abbrev S1024x128 : Shape := ⟨2, ![1024, 128]⟩
abbrev S512x64 : Shape := ⟨2, ![512, 64]⟩
abbrev S128x512 : Shape := ⟨2, ![128, 512]⟩
abbrev S64x128 : Shape := ⟨2, ![64, 128]⟩
abbrev S1x1x64x128 : Shape := ⟨4, ![1, 1, 64, 128]⟩
abbrev S8x512 : Shape := ⟨2, ![8, 512]⟩
abbrev S1x1024x1024 : Shape := ⟨3, ![1, 1024, 1024]⟩
abbrev S1024x1024 : Shape := ⟨2, ![1024, 1024]⟩

abbrev nBuf : Space → Nat
  | .hbm => 17
  | .vmem => 30
  | .smem => 0
  | _ => 0

abbrev bufTy : (tb : Table) → Fin (tcTables nBuf tb) → BufTy
  | .hbm, ⟨0, _⟩ => ⟨S8x2048x1024, .f32⟩
  | .hbm, ⟨1, _⟩ => ⟨S8x6x1024, .f32⟩
  | .hbm, ⟨2, _⟩ => ⟨S1x1024, .f32⟩
  | .hbm, ⟨3, _⟩ => ⟨S2x1024x4864, .bf16⟩
  | .hbm, ⟨4, _⟩ => ⟨S64x1, .f32⟩
  | .hbm, ⟨5, _⟩ => ⟨S1x64, .f32⟩
  | .hbm, ⟨6, _⟩ => ⟨S8x4x2048x128, .bf16⟩
  | .hbm, ⟨7, _⟩ => ⟨S8x4x2048x128, .bf16⟩
  | .hbm, ⟨8, _⟩ => ⟨S8x4x2048x128, .bf16⟩
  | .hbm, ⟨9, _⟩ => ⟨S8x8x64x2048, .bf16⟩
  | .hbm, ⟨10, _⟩ => ⟨S8x8x64x2048, .bf16⟩
  | .hbm, ⟨11, _⟩ => ⟨S8x2048x64, .bf16⟩
  | .hbm, ⟨12, _⟩ => ⟨S8x16x128x128, .bf16⟩
  | .hbm, ⟨13, _⟩ => ⟨S8x2048x64, .bf16⟩
  | .hbm, ⟨14, _⟩ => ⟨S8x8x2048, .f32⟩
  | .hbm, ⟨15, _⟩ => ⟨S8x2048x1024, .bf16⟩
  | .hbm, ⟨16, _⟩ => ⟨S8x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024x4864, .bf16⟩
  | .local _ .vmem, ⟨6, _⟩ => ⟨S64x1, .f32⟩
  | .local _ .vmem, ⟨7, _⟩ => ⟨S1x64, .f32⟩
  | .local _ .vmem, ⟨8, _⟩ => ⟨S1x4x512x128, .bf16⟩
  | .local _ .vmem, ⟨9, _⟩ => ⟨S1x4x512x128, .bf16⟩
  | .local _ .vmem, ⟨10, _⟩ => ⟨S1x4x512x128, .bf16⟩
  | .local _ .vmem, ⟨11, _⟩ => ⟨S1x4x512x128, .bf16⟩
  | .local _ .vmem, ⟨12, _⟩ => ⟨S1x4x512x128, .bf16⟩
  | .local _ .vmem, ⟨13, _⟩ => ⟨S1x4x512x128, .bf16⟩
  | .local _ .vmem, ⟨14, _⟩ => ⟨S1x8x64x512, .bf16⟩
  | .local _ .vmem, ⟨15, _⟩ => ⟨S1x8x64x512, .bf16⟩
  | .local _ .vmem, ⟨16, _⟩ => ⟨S1x8x64x512, .bf16⟩
  | .local _ .vmem, ⟨17, _⟩ => ⟨S1x8x64x512, .bf16⟩
  | .local _ .vmem, ⟨18, _⟩ => ⟨S1x512x64, .bf16⟩
  | .local _ .vmem, ⟨19, _⟩ => ⟨S1x512x64, .bf16⟩
  | .local _ .vmem, ⟨20, _⟩ => ⟨S1x4x128x128, .bf16⟩
  | .local _ .vmem, ⟨21, _⟩ => ⟨S1x4x128x128, .bf16⟩
  | .local _ .vmem, ⟨22, _⟩ => ⟨S1x512x64, .bf16⟩
  | .local _ .vmem, ⟨23, _⟩ => ⟨S1x512x64, .bf16⟩
  | .local _ .vmem, ⟨24, _⟩ => ⟨S1x8x512, .f32⟩
  | .local _ .vmem, ⟨25, _⟩ => ⟨S1x8x512, .f32⟩
  | .local _ .vmem, ⟨26, _⟩ => ⟨S1x512x1024, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev main_v0_9 : Ref sig .tc := ⟨.hbm, 15, rfl⟩
abbrev main_v0_10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x4864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference4Ideal.lean ====
abbrev S8x2048x1024 : Shape := ⟨3, ![8, 2048, 1024]⟩
abbrev S8x6x1024 : Shape := ⟨3, ![8, 6, 1024]⟩
abbrev S1x1024 : Shape := ⟨2, ![1, 1024]⟩
abbrev S2x1024x4864 : Shape := ⟨3, ![2, 1024, 4864]⟩
abbrev S64x1 : Shape := ⟨2, ![64, 1]⟩
abbrev S1x64 : Shape := ⟨2, ![1, 64]⟩
abbrev S1x1024x4864 : Shape := ⟨3, ![1, 1024, 4864]⟩
abbrev S1024x4864 : Shape := ⟨2, ![1024, 4864]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x4864 : Shape := ⟨3, ![8, 2048, 4864]⟩
abbrev S8x2048x512 : Shape := ⟨3, ![8, 2048, 512]⟩
abbrev S8x2048x64 : Shape := ⟨3, ![8, 2048, 64]⟩
abbrev S8x2048x8 : Shape := ⟨3, ![8, 2048, 8]⟩
abbrev S8x2048x56 : Shape := ⟨3, ![8, 2048, 56]⟩
abbrev S8x2048x8x64 : Shape := ⟨4, ![8, 2048, 8, 64]⟩
abbrev S64 : Shape := ⟨1, ![64]⟩
abbrev S8x2048x8x1 : Shape := ⟨4, ![8, 2048, 8, 1]⟩
abbrev S1x1x1x64 : Shape := ⟨4, ![1, 1, 1, 64]⟩
abbrev S8x2048x63 : Shape := ⟨3, ![8, 2048, 63]⟩
abbrev S8x2048x128 : Shape := ⟨3, ![8, 2048, 128]⟩
abbrev S8x16x128x128 : Shape := ⟨4, ![8, 16, 128, 128]⟩
abbrev S8x2048x4x128 : Shape := ⟨4, ![8, 2048, 4, 128]⟩
abbrev S8x4x2048x128 : Shape := ⟨4, ![8, 4, 2048, 128]⟩
abbrev S8x8x64x2048 : Shape := ⟨4, ![8, 8, 64, 2048]⟩
abbrev S1x1x64 : Shape := ⟨3, ![1, 1, 64]⟩
abbrev S8x8x2048 : Shape := ⟨3, ![8, 8, 2048]⟩

abbrev nBuf : Space → Nat
  | .hbm => 130
  | .vmem => 0
  | .smem => 0
  | _ => 0

abbrev hbmTy0_0 (i : Nat) : BufTy := match i % 128 with
  | 0 => ⟨S8x2048x1024, .f32⟩
  | 1 => ⟨S8x6x1024, .f32⟩
  | 2 => ⟨S1x1024, .f32⟩
  | 3 => ⟨S2x1024x4864, .bf16⟩
  | 4 => ⟨S64x1, .f32⟩
  | 5 => ⟨S1x64, .f32⟩
  | 6 => ⟨S1x1024x4864, .bf16⟩
  | 7 => ⟨S1024x4864, .bf16⟩
  | 8 => ⟨S8x2048x1024, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .f32⟩
  | 16 => ⟨S8x2048x1, .f32⟩
  | 17 => ⟨S8x2048x1, .f32⟩
  | 18 => ⟨S8x2048x1, .f32⟩
  | 19 => ⟨S8x2048x1024, .f32⟩
  | 20 => ⟨S8x2048x1024, .f32⟩
  | 21 => ⟨S1x1x1024, .f32⟩
  | 22 => ⟨S8x2048x1024, .f32⟩
  | 23 => ⟨S8x2048x1024, .f32⟩
  | 24 => ⟨S8x1x1024, .f32⟩
  | 25 => ⟨S_, .f32⟩
  | 26 => ⟨S8x1x1024, .f32⟩
  | 27 => ⟨S8x1x1024, .f32⟩
  | 28 => ⟨S8x2048x1024, .f32⟩
  | 29 => ⟨S8x2048x1024, .f32⟩
  | 30 => ⟨S8x1x1024, .f32⟩
  | 31 => ⟨S8x2048x1024, .f32⟩
  | 32 => ⟨S8x2048x1024, .f32⟩
  | 33 => ⟨S1024x4864, .f32⟩
  | 34 => ⟨S8x2048x4864, .f32⟩
  | 35 => ⟨S8x2048x512, .f32⟩
  | 36 => ⟨S8x2048x512, .f32⟩
  | 37 => ⟨S8x2048x512, .f32⟩
  | 38 => ⟨S8x2048x512, .f32⟩
  | 39 => ⟨S8x2048x64, .f32⟩
  | 40 => ⟨S8x2048x64, .f32⟩
  | 41 => ⟨S8x2048x512, .f32⟩
  | 42 => ⟨S8x2048x64, .f32⟩
  | 43 => ⟨S8x2048x8, .f32⟩
  | 44 => ⟨S8x2048x56, .f32⟩
  | 45 => ⟨S8x2048x1024, .f32⟩
  | 46 => ⟨S8x2048x1024, .f32⟩
  | 47 => ⟨S8x2048x8x64, .f32⟩
  | 48 => ⟨S64, .f32⟩
  | 49 => ⟨S8x2048x8x64, .f32⟩
  | 50 => ⟨S_, .f32⟩
  | 51 => ⟨S8x2048x8, .f32⟩
  | 52 => ⟨S8x2048x8x1, .f32⟩
  | 53 => ⟨S_, .f32⟩
  | 54 => ⟨S8x2048x8x1, .f32⟩
  | 55 => ⟨S8x2048x8x1, .f32⟩
  | 56 => ⟨S_, .f32⟩
  | 57 => ⟨S8x2048x8x1, .f32⟩
  | 58 => ⟨S8x2048x8x1, .f32⟩
  | 59 => ⟨S8x2048x8x1, .f32⟩
  | 60 => ⟨S8x2048x8x64, .f32⟩
  | 61 => ⟨S8x2048x8x64, .f32⟩
  | 62 => ⟨S1x1x1x64, .f32⟩
  | 63 => ⟨S8x2048x8x64, .f32⟩
  | 64 => ⟨S8x2048x8x64, .f32⟩
  | 65 => ⟨S_, .f32⟩
  | 66 => ⟨S8x2048x8x64, .f32⟩
  | 67 => ⟨S8x2048x8x64, .f32⟩
  | 68 => ⟨S_, .f32⟩
  | 69 => ⟨S8x2048x1, .f32⟩
  | 70 => ⟨S_, .f32⟩
  | 71 => ⟨S8x2048x63, .f32⟩
  | 72 => ⟨S8x2048x128, .f32⟩
  | 73 => ⟨S8x16x128x128, .f32⟩
  | 74 => ⟨S8x16x128x128, .f32⟩
  | 75 => ⟨S8x16x128x128, .bf16⟩
  | 76 => ⟨S_, .f32⟩
  | 77 => ⟨S8x2048x512, .f32⟩
  | 78 => ⟨S8x2048x512, .f32⟩
  | 79 => ⟨S8x2048x4x128, .f32⟩
  | 80 => ⟨S8x4x2048x128, .f32⟩
  | 81 => ⟨S8x4x2048x128, .bf16⟩
  | 82 => ⟨S8x2048x4x128, .f32⟩
  | 83 => ⟨S8x4x2048x128, .f32⟩
  | 84 => ⟨S8x4x2048x128, .bf16⟩
  | 85 => ⟨S8x2048x4x128, .f32⟩
  | 86 => ⟨S8x4x2048x128, .f32⟩
  | 87 => ⟨S8x4x2048x128, .bf16⟩
  | 88 => ⟨S8x8x64x2048, .f32⟩
  | 89 => ⟨S8x8x64x2048, .bf16⟩
  | 90 => ⟨S8x2048x8x64, .f32⟩
  | 91 => ⟨S8x8x64x2048, .f32⟩
  | 92 => ⟨S8x8x64x2048, .bf16⟩
  | 93 => ⟨S8x2048x64, .f32⟩
  | 94 => ⟨S_, .f32⟩
  | 95 => ⟨S8x2048, .f32⟩
  | 96 => ⟨S8x2048x1, .f32⟩
  | 97 => ⟨S_, .f32⟩
  | 98 => ⟨S8x2048x1, .f32⟩
  | 99 => ⟨S8x2048x1, .f32⟩
  | 100 => ⟨S_, .f32⟩
  | 101 => ⟨S8x2048x1, .f32⟩
  | 102 => ⟨S8x2048x1, .f32⟩
  | 103 => ⟨S8x2048x1, .f32⟩
  | 104 => ⟨S8x2048x64, .f32⟩
  | 105 => ⟨S8x2048x64, .f32⟩
  | 106 => ⟨S1x1x64, .f32⟩
  | 107 => ⟨S8x2048x64, .f32⟩
  | 108 => ⟨S8x2048x64, .f32⟩
  | 109 => ⟨S8x2048x64, .bf16⟩
  | 110 => ⟨S8x2048x64, .bf16⟩
  | 111 => ⟨S8x8x2048, .f32⟩
  | 112 => ⟨S8x2048x1024, .f32⟩
  | 113 => ⟨S8x2048x1024, .f32⟩
  | 114 => ⟨S_, .f32⟩
  | 115 => ⟨S8x2048x1024, .f32⟩
  | 116 => ⟨S8x2048x1024, .f32⟩
  | 117 => ⟨S_, .f32⟩
  | 118 => ⟨S8x2048x1024, .f32⟩
  | 119 => ⟨S8x2048x1024, .f32⟩
  | 120 => ⟨S8x2048x1024, .bf16⟩
  | 121 => ⟨S8x2048x1024, .f32⟩
  | 122 => ⟨S8x2048x1024, .f32⟩
  | 123 => ⟨S_, .f32⟩
  | 124 => ⟨S8x2048x1024, .f32⟩
  | 125 => ⟨S8x2048x1024, .f32⟩
  | 126 => ⟨S_, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S8x2048x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_10 : Ref sig .tc := ⟨.hbm, 94, rfl⟩
abbrev main_v77 : Ref sig .tc := ⟨.hbm, 95, rfl⟩
abbrev main_v78 : Ref sig .tc := ⟨.hbm, 96, rfl⟩
abbrev main_cst_11 : Ref sig .tc := ⟨.hbm, 97, rfl⟩
abbrev main_v79 : Ref sig .tc := ⟨.hbm, 98, rfl⟩
abbrev main_v80 : Ref sig .tc := ⟨.hbm, 99, rfl⟩
abbrev main_cst_12 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_13 : Ref sig .tc := ⟨.hbm, 114, rfl⟩
abbrev main_v94 : Ref sig .tc := ⟨.hbm, 115, rfl⟩
abbrev main_v95 : Ref sig .tc := ⟨.hbm, 116, rfl⟩
abbrev main_cst_14 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_15 : Ref sig .tc := ⟨.hbm, 123, rfl⟩
abbrev main_v101 : Ref sig .tc := ⟨.hbm, 124, rfl⟩
abbrev main_v102 : Ref sig .tc := ⟨.hbm, 125, rfl⟩
abbrev main_cst_16 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩

abbrev nD : Nat := 1
abbrev τ : Topo := Topo.v7x

variable {F : FTy → Type} [FloatOps F]
-- ==== Kernel5.lean ====
abbrev S8x2048x1024 : Shape := ⟨3, ![8, 2048, 1024]⟩
abbrev S8x6x1024 : Shape := ⟨3, ![8, 6, 1024]⟩
abbrev S1x1024 : Shape := ⟨2, ![1, 1024]⟩
abbrev S2x1024x4864 : Shape := ⟨3, ![2, 1024, 4864]⟩
abbrev S64x1 : Shape := ⟨2, ![64, 1]⟩
abbrev S1x64 : Shape := ⟨2, ![1, 64]⟩
abbrev S8x4x2048x128 : Shape := ⟨4, ![8, 4, 2048, 128]⟩
abbrev S8x8x64x2048 : Shape := ⟨4, ![8, 8, 64, 2048]⟩
abbrev S8x2048x64 : Shape := ⟨3, ![8, 2048, 64]⟩
abbrev S8x16x128x128 : Shape := ⟨4, ![8, 16, 128, 128]⟩
abbrev S8x8x2048 : Shape := ⟨3, ![8, 8, 2048]⟩
abbrev S1x512x1024 : Shape := ⟨3, ![1, 512, 1024]⟩
abbrev S1x6x1024 : Shape := ⟨3, ![1, 6, 1024]⟩
abbrev S1x1024x4864 : Shape := ⟨3, ![1, 1024, 4864]⟩
abbrev S1x4x512x128 : Shape := ⟨4, ![1, 4, 512, 128]⟩
abbrev S1x8x64x512 : Shape := ⟨4, ![1, 8, 64, 512]⟩
abbrev S1x512x64 : Shape := ⟨3, ![1, 512, 64]⟩
abbrev S1x4x128x128 : Shape := ⟨4, ![1, 4, 128, 128]⟩
abbrev S1x8x512 : Shape := ⟨3, ![1, 8, 512]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1x1024x512 : Shape := ⟨3, ![1, 1024, 512]⟩
abbrev S1024x512 : Shape := ⟨2, ![1024, 512]⟩
abbrev S512x512 : Shape := ⟨2, ![512, 512]⟩
abbrev S512x128 : Shape := ⟨2, ![512, 128]⟩
abbrev S1x1x512x128 : Shape := ⟨4, ![1, 1, 512, 128]⟩
abbrev S64x512 : Shape := ⟨2, ![64, 512]⟩
abbrev S1x512 : Shape := ⟨2, ![1, 512]⟩
abbrev S1x1x64x512 : Shape := ⟨4, ![1, 1, 64, 512]⟩
abbrev S1x1024x128 : Shape := ⟨3, ![1, 1024, 128]⟩
abbrev S1024x128 : Shape := ⟨2, ![1024, 128]⟩
abbrev S512x64 : Shape := ⟨2, ![512, 64]⟩
abbrev S128x512 : Shape := ⟨2, ![128, 512]⟩
abbrev S64x128 : Shape := ⟨2, ![64, 128]⟩
abbrev S1x1x64x128 : Shape := ⟨4, ![1, 1, 64, 128]⟩
abbrev S8x512 : Shape := ⟨2, ![8, 512]⟩
abbrev S1x1024x1024 : Shape := ⟨3, ![1, 1024, 1024]⟩
abbrev S1024x1024 : Shape := ⟨2, ![1024, 1024]⟩

abbrev nBuf : Space → Nat
  | .hbm => 17
  | .vmem => 30
  | .smem => 0
  | _ => 0

abbrev bufTy : (tb : Table) → Fin (tcTables nBuf tb) → BufTy
  | .hbm, ⟨0, _⟩ => ⟨S8x2048x1024, .f32⟩
  | .hbm, ⟨1, _⟩ => ⟨S8x6x1024, .f32⟩
  | .hbm, ⟨2, _⟩ => ⟨S1x1024, .f32⟩
  | .hbm, ⟨3, _⟩ => ⟨S2x1024x4864, .bf16⟩
  | .hbm, ⟨4, _⟩ => ⟨S64x1, .f32⟩
  | .hbm, ⟨5, _⟩ => ⟨S1x64, .f32⟩
  | .hbm, ⟨6, _⟩ => ⟨S8x4x2048x128, .bf16⟩
  | .hbm, ⟨7, _⟩ => ⟨S8x4x2048x128, .bf16⟩
  | .hbm, ⟨8, _⟩ => ⟨S8x4x2048x128, .bf16⟩
  | .hbm, ⟨9, _⟩ => ⟨S8x8x64x2048, .bf16⟩
  | .hbm, ⟨10, _⟩ => ⟨S8x8x64x2048, .bf16⟩
  | .hbm, ⟨11, _⟩ => ⟨S8x2048x64, .bf16⟩
  | .hbm, ⟨12, _⟩ => ⟨S8x16x128x128, .bf16⟩
  | .hbm, ⟨13, _⟩ => ⟨S8x2048x64, .bf16⟩
  | .hbm, ⟨14, _⟩ => ⟨S8x8x2048, .f32⟩
  | .hbm, ⟨15, _⟩ => ⟨S8x2048x1024, .bf16⟩
  | .hbm, ⟨16, _⟩ => ⟨S8x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024x4864, .bf16⟩
  | .local _ .vmem, ⟨6, _⟩ => ⟨S64x1, .f32⟩
  | .local _ .vmem, ⟨7, _⟩ => ⟨S1x64, .f32⟩
  | .local _ .vmem, ⟨8, _⟩ => ⟨S1x4x512x128, .bf16⟩
  | .local _ .vmem, ⟨9, _⟩ => ⟨S1x4x512x128, .bf16⟩
  | .local _ .vmem, ⟨10, _⟩ => ⟨S1x4x512x128, .bf16⟩
  | .local _ .vmem, ⟨11, _⟩ => ⟨S1x4x512x128, .bf16⟩
  | .local _ .vmem, ⟨12, _⟩ => ⟨S1x4x512x128, .bf16⟩
  | .local _ .vmem, ⟨13, _⟩ => ⟨S1x4x512x128, .bf16⟩
  | .local _ .vmem, ⟨14, _⟩ => ⟨S1x8x64x512, .bf16⟩
  | .local _ .vmem, ⟨15, _⟩ => ⟨S1x8x64x512, .bf16⟩
  | .local _ .vmem, ⟨16, _⟩ => ⟨S1x8x64x512, .bf16⟩
  | .local _ .vmem, ⟨17, _⟩ => ⟨S1x8x64x512, .bf16⟩
  | .local _ .vmem, ⟨18, _⟩ => ⟨S1x512x64, .bf16⟩
  | .local _ .vmem, ⟨19, _⟩ => ⟨S1x512x64, .bf16⟩
  | .local _ .vmem, ⟨20, _⟩ => ⟨S1x4x128x128, .bf16⟩
  | .local _ .vmem, ⟨21, _⟩ => ⟨S1x4x128x128, .bf16⟩
  | .local _ .vmem, ⟨22, _⟩ => ⟨S1x512x64, .bf16⟩
  | .local _ .vmem, ⟨23, _⟩ => ⟨S1x512x64, .bf16⟩
  | .local _ .vmem, ⟨24, _⟩ => ⟨S1x8x512, .f32⟩
  | .local _ .vmem, ⟨25, _⟩ => ⟨S1x8x512, .f32⟩
  | .local _ .vmem, ⟨26, _⟩ => ⟨S1x512x1024, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev main_v0_9 : Ref sig .tc := ⟨.hbm, 15, rfl⟩
abbrev main_v0_10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x4864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference5Ideal.lean ====
abbrev S8x2048x1024 : Shape := ⟨3, ![8, 2048, 1024]⟩
abbrev S8x6x1024 : Shape := ⟨3, ![8, 6, 1024]⟩
abbrev S1x1024 : Shape := ⟨2, ![1, 1024]⟩
abbrev S2x1024x4864 : Shape := ⟨3, ![2, 1024, 4864]⟩
abbrev S64x1 : Shape := ⟨2, ![64, 1]⟩
abbrev S1x64 : Shape := ⟨2, ![1, 64]⟩
abbrev S1x1024x4864 : Shape := ⟨3, ![1, 1024, 4864]⟩
abbrev S1024x4864 : Shape := ⟨2, ![1024, 4864]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x4864 : Shape := ⟨3, ![8, 2048, 4864]⟩
abbrev S8x2048x512 : Shape := ⟨3, ![8, 2048, 512]⟩
abbrev S8x2048x64 : Shape := ⟨3, ![8, 2048, 64]⟩
abbrev S8x2048x8 : Shape := ⟨3, ![8, 2048, 8]⟩
abbrev S8x2048x56 : Shape := ⟨3, ![8, 2048, 56]⟩
abbrev S8x2048x8x64 : Shape := ⟨4, ![8, 2048, 8, 64]⟩
abbrev S64 : Shape := ⟨1, ![64]⟩
abbrev S8x2048x8x1 : Shape := ⟨4, ![8, 2048, 8, 1]⟩
abbrev S1x1x1x64 : Shape := ⟨4, ![1, 1, 1, 64]⟩
abbrev S8x2048x63 : Shape := ⟨3, ![8, 2048, 63]⟩
abbrev S8x2048x128 : Shape := ⟨3, ![8, 2048, 128]⟩
abbrev S8x16x128x128 : Shape := ⟨4, ![8, 16, 128, 128]⟩
abbrev S8x2048x4x128 : Shape := ⟨4, ![8, 2048, 4, 128]⟩
abbrev S8x4x2048x128 : Shape := ⟨4, ![8, 4, 2048, 128]⟩
abbrev S8x8x64x2048 : Shape := ⟨4, ![8, 8, 64, 2048]⟩
abbrev S1x1x64 : Shape := ⟨3, ![1, 1, 64]⟩
abbrev S8x8x2048 : Shape := ⟨3, ![8, 8, 2048]⟩

abbrev nBuf : Space → Nat
  | .hbm => 130
  | .vmem => 0
  | .smem => 0
  | _ => 0

abbrev hbmTy0_0 (i : Nat) : BufTy := match i % 128 with
  | 0 => ⟨S8x2048x1024, .f32⟩
  | 1 => ⟨S8x6x1024, .f32⟩
  | 2 => ⟨S1x1024, .f32⟩
  | 3 => ⟨S2x1024x4864, .bf16⟩
  | 4 => ⟨S64x1, .f32⟩
  | 5 => ⟨S1x64, .f32⟩
  | 6 => ⟨S1x1024x4864, .bf16⟩
  | 7 => ⟨S1024x4864, .bf16⟩
  | 8 => ⟨S8x2048x1024, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .f32⟩
  | 16 => ⟨S8x2048x1, .f32⟩
  | 17 => ⟨S8x2048x1, .f32⟩
  | 18 => ⟨S8x2048x1, .f32⟩
  | 19 => ⟨S8x2048x1024, .f32⟩
  | 20 => ⟨S8x2048x1024, .f32⟩
  | 21 => ⟨S1x1x1024, .f32⟩
  | 22 => ⟨S8x2048x1024, .f32⟩
  | 23 => ⟨S8x2048x1024, .f32⟩
  | 24 => ⟨S8x1x1024, .f32⟩
  | 25 => ⟨S_, .f32⟩
  | 26 => ⟨S8x1x1024, .f32⟩
  | 27 => ⟨S8x1x1024, .f32⟩
  | 28 => ⟨S8x2048x1024, .f32⟩
  | 29 => ⟨S8x2048x1024, .f32⟩
  | 30 => ⟨S8x1x1024, .f32⟩
  | 31 => ⟨S8x2048x1024, .f32⟩
  | 32 => ⟨S8x2048x1024, .f32⟩
  | 33 => ⟨S1024x4864, .f32⟩
  | 34 => ⟨S8x2048x4864, .f32⟩
  | 35 => ⟨S8x2048x512, .f32⟩
  | 36 => ⟨S8x2048x512, .f32⟩
  | 37 => ⟨S8x2048x512, .f32⟩
  | 38 => ⟨S8x2048x512, .f32⟩
  | 39 => ⟨S8x2048x64, .f32⟩
  | 40 => ⟨S8x2048x64, .f32⟩
  | 41 => ⟨S8x2048x512, .f32⟩
  | 42 => ⟨S8x2048x64, .f32⟩
  | 43 => ⟨S8x2048x8, .f32⟩
  | 44 => ⟨S8x2048x56, .f32⟩
  | 45 => ⟨S8x2048x1024, .f32⟩
  | 46 => ⟨S8x2048x1024, .f32⟩
  | 47 => ⟨S8x2048x8x64, .f32⟩
  | 48 => ⟨S64, .f32⟩
  | 49 => ⟨S8x2048x8x64, .f32⟩
  | 50 => ⟨S_, .f32⟩
  | 51 => ⟨S8x2048x8, .f32⟩
  | 52 => ⟨S8x2048x8x1, .f32⟩
  | 53 => ⟨S_, .f32⟩
  | 54 => ⟨S8x2048x8x1, .f32⟩
  | 55 => ⟨S8x2048x8x1, .f32⟩
  | 56 => ⟨S_, .f32⟩
  | 57 => ⟨S8x2048x8x1, .f32⟩
  | 58 => ⟨S8x2048x8x1, .f32⟩
  | 59 => ⟨S8x2048x8x1, .f32⟩
  | 60 => ⟨S8x2048x8x64, .f32⟩
  | 61 => ⟨S8x2048x8x64, .f32⟩
  | 62 => ⟨S1x1x1x64, .f32⟩
  | 63 => ⟨S8x2048x8x64, .f32⟩
  | 64 => ⟨S8x2048x8x64, .f32⟩
  | 65 => ⟨S_, .f32⟩
  | 66 => ⟨S8x2048x8x64, .f32⟩
  | 67 => ⟨S8x2048x8x64, .f32⟩
  | 68 => ⟨S_, .f32⟩
  | 69 => ⟨S8x2048x1, .f32⟩
  | 70 => ⟨S_, .f32⟩
  | 71 => ⟨S8x2048x63, .f32⟩
  | 72 => ⟨S8x2048x128, .f32⟩
  | 73 => ⟨S8x16x128x128, .f32⟩
  | 74 => ⟨S8x16x128x128, .f32⟩
  | 75 => ⟨S8x16x128x128, .bf16⟩
  | 76 => ⟨S_, .f32⟩
  | 77 => ⟨S8x2048x512, .f32⟩
  | 78 => ⟨S8x2048x512, .f32⟩
  | 79 => ⟨S8x2048x4x128, .f32⟩
  | 80 => ⟨S8x4x2048x128, .f32⟩
  | 81 => ⟨S8x4x2048x128, .bf16⟩
  | 82 => ⟨S8x2048x4x128, .f32⟩
  | 83 => ⟨S8x4x2048x128, .f32⟩
  | 84 => ⟨S8x4x2048x128, .bf16⟩
  | 85 => ⟨S8x2048x4x128, .f32⟩
  | 86 => ⟨S8x4x2048x128, .f32⟩
  | 87 => ⟨S8x4x2048x128, .bf16⟩
  | 88 => ⟨S8x8x64x2048, .f32⟩
  | 89 => ⟨S8x8x64x2048, .bf16⟩
  | 90 => ⟨S8x2048x8x64, .f32⟩
  | 91 => ⟨S8x8x64x2048, .f32⟩
  | 92 => ⟨S8x8x64x2048, .bf16⟩
  | 93 => ⟨S8x2048x64, .f32⟩
  | 94 => ⟨S_, .f32⟩
  | 95 => ⟨S8x2048, .f32⟩
  | 96 => ⟨S8x2048x1, .f32⟩
  | 97 => ⟨S_, .f32⟩
  | 98 => ⟨S8x2048x1, .f32⟩
  | 99 => ⟨S8x2048x1, .f32⟩
  | 100 => ⟨S_, .f32⟩
  | 101 => ⟨S8x2048x1, .f32⟩
  | 102 => ⟨S8x2048x1, .f32⟩
  | 103 => ⟨S8x2048x1, .f32⟩
  | 104 => ⟨S8x2048x64, .f32⟩
  | 105 => ⟨S8x2048x64, .f32⟩
  | 106 => ⟨S1x1x64, .f32⟩
  | 107 => ⟨S8x2048x64, .f32⟩
  | 108 => ⟨S8x2048x64, .f32⟩
  | 109 => ⟨S8x2048x64, .bf16⟩
  | 110 => ⟨S8x2048x64, .bf16⟩
  | 111 => ⟨S8x8x2048, .f32⟩
  | 112 => ⟨S8x2048x1024, .f32⟩
  | 113 => ⟨S8x2048x1024, .f32⟩
  | 114 => ⟨S_, .f32⟩
  | 115 => ⟨S8x2048x1024, .f32⟩
  | 116 => ⟨S8x2048x1024, .f32⟩
  | 117 => ⟨S_, .f32⟩
  | 118 => ⟨S8x2048x1024, .f32⟩
  | 119 => ⟨S8x2048x1024, .f32⟩
  | 120 => ⟨S8x2048x1024, .bf16⟩
  | 121 => ⟨S8x2048x1024, .f32⟩
  | 122 => ⟨S8x2048x1024, .f32⟩
  | 123 => ⟨S_, .f32⟩
  | 124 => ⟨S8x2048x1024, .f32⟩
  | 125 => ⟨S8x2048x1024, .f32⟩
  | 126 => ⟨S_, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S8x2048x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_10 : Ref sig .tc := ⟨.hbm, 94, rfl⟩
abbrev main_v77 : Ref sig .tc := ⟨.hbm, 95, rfl⟩
abbrev main_v78 : Ref sig .tc := ⟨.hbm, 96, rfl⟩
abbrev main_cst_11 : Ref sig .tc := ⟨.hbm, 97, rfl⟩
abbrev main_v79 : Ref sig .tc := ⟨.hbm, 98, rfl⟩
abbrev main_v80 : Ref sig .tc := ⟨.hbm, 99, rfl⟩
abbrev main_cst_12 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_13 : Ref sig .tc := ⟨.hbm, 114, rfl⟩
abbrev main_v94 : Ref sig .tc := ⟨.hbm, 115, rfl⟩
abbrev main_v95 : Ref sig .tc := ⟨.hbm, 116, rfl⟩
abbrev main_cst_14 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_15 : Ref sig .tc := ⟨.hbm, 123, rfl⟩
abbrev main_v101 : Ref sig .tc := ⟨.hbm, 124, rfl⟩
abbrev main_v102 : Ref sig .tc := ⟨.hbm, 125, rfl⟩
abbrev main_cst_16 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩

abbrev nD : Nat := 1
abbrev τ : Topo := Topo.v7x

variable {F : FTy → Type} [FloatOps F]
-- ==== Proof.KI.Trip.lean ====
/- One pass of the attention's uncounted loop. From the six buffers the loop's function holds — the masked queries,
   the keys, the values, the accumulator, the running sums and the two scratch blocks — one pass leaves the accumulator
   and the running sums at contents that depend on what they were before, hands the rest back, and calls the loop again. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Ring
public import Idealize.ShloMosaic.Lib.Pipeline.FrameBody
public import Idealize.ShloMosaic.Adequacy
public import Idealize.ShloMosaic.Init

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra: the rounds library's, for the pipeline's cells. -/
abbrev UR (nD : Nat) (τ : Topo) : Type := URounds (GSem nD τ sig) Unit

local notation "𝕄" => MT nD τ sig Unit (Elt F) ℕ (UR nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- What covering writes leave in a whole buffer is their canonical contents, whatever it held. -/
theorem whole_writes (b : Ref sig .tc) (f : b.ty.Contents (Elt F)) (L : List (View.Piece (Elt F) b.ty.shape b.ty.elt))
    (hL : ∀ y, ∃ p ∈ L, y ∈ p.1.set) : (Memref.whole b).view.writes (Elt F) f L = (View.canon L : b.ty.Contents (Elt F)) :=
  View.read_writes_eq_canon (Memref.whole b).view f L hL

/-- Loops are measured by a natural number. -/
abbrev 𝒱₀ : Variants := Variants.nat

/-- The quotient of the first key row of query block `b` by the block's height, as the program computes it. -/
def blocks (b : Fin 8) : BitVec 32 :=
  let v0 : BitVec 32 := Scalar.muli (BitVec.ofNat 32 b.val) 256#32
  let v6 : BitVec 32 := Scalar.subi (Scalar.extui (Scalar.cmpi .sgt v0 0#32)) (Scalar.extui (Scalar.cmpi .slt v0 0#32))
  let v11 : BitVec 32 := Scalar.subi (Scalar.extui (Scalar.cmpi .sgt 256#32 0#32)) (Scalar.extui (Scalar.cmpi .slt 256#32 0#32))
  let v15 : BitVec 1 := Scalar.andi (Scalar.cmpi .ne v6 v11) (Scalar.cmpi .ne (Scalar.remsi v0 256#32) 0#32)
  let v1 : BitVec 32 := Scalar.divsi v0 256#32
  Scalar.select v15 (Scalar.subi v1 1#32) v1

/-- It is the block's number. -/
theorem blocks_eq : ∀ b : Fin 8, blocks b = BitVec.ofNat 32 b.val := by decide +kernel

/-- Whether the loop makes another pass: passes are left and the running sums leave weight. -/
def goes (i : grid0.Coords) (jj : BitVec 32) (lv : BitVec 1) : BitVec 1 := Scalar.andi (Scalar.cmpi .slt jj (blocks (i 1))) lv

/-- What one pass leaves: the accumulator, the running sums (over what the buffers held) and whether weight is left,
    WITH the proof that from the six buffers a pass runs to its call of the loop at the next counter. -/
structure Trip (c : Dev nD) (i : grid0.Coords) (jj : BitVec 32) (lv : BitVec 1)
    (M3 : Memref sig .tc .vmem S1x4x2048x128 .bf16) (h3 : M3.IsWhole) (M4 : Memref sig .tc .vmem S1x4x2048x128 .bf16) (h4 : M4.IsWhole)
    (w : FVec F S256x256 .bf16)
    (f3 : Bf (F := F) c M3) (f4 : Bf (F := F) c M4)
    (f6 : Bf (F := F) c (Memref.whole cc0_scratch0)) (f7 : Bf (F := F) c (Memref.whole cc0_scratch1))
    (f10 : Bf (F := F) c (Memref.whole cc0_scratch4)) where
  /-- The accumulator afterwards, -/
  acc : Bf (F := F) c (Memref.whole cc0_scratch0)
  /-- the running sums, -/
  sums : Bf (F := F) c (Memref.whole cc0_scratch1)
  /-- and whether one of them is still below the bound. -/
  live : BitVec 1
  run :
      ∀ (f8 : Bf (F := F) c (Memref.whole cc0_scratch2)) (f9 : Bf (F := F) c (Memref.whole cc0_scratch3)) (k : Option ℕ) (E : Set ℕ)
        (Q : BitVec 32 × BitVec 1 → sProp 𝕄),
        iprop(pt c M3 f3 ∗ pt c M4 f4 ∗ pt c (Memref.whole cc0_scratch0) f6 ∗ pt c (Memref.whole cc0_scratch1) f7
          ∗ pt c (Memref.whole cc0_scratch2) f8 ∗ pt c (Memref.whole cc0_scratch3) f9 ∗ pt c (Memref.whole cc0_scratch4) f10
          ∗ (∀ (jj' : BitVec 32) (lv' : BitVec 1), ⌜jj' = Scalar.addi jj 1#32⌝ -∗ ⌜lv' = live⌝ -∗
            (iprop(pt c M3 f3 ∗ pt c M4 f4 ∗ pt c (Memref.whole cc0_scratch0) acc ∗ pt c (Memref.whole cc0_scratch1) sums
              ∗ (∃ f, pt c (Memref.whole cc0_scratch2) f) ∗ (∃ f, pt c (Memref.whole cc0_scratch3) f) ∗ pt c (Memref.whole cc0_scratch4) f10) -∗
            wp frame (wpE (defs₀ (F := F)) 𝒱₀ c k) E
              (Prog.op (.call (1 : (Λ₀ F).Label) ⟨i, Memref.whole cc0_scratch4, Memref.isWhole_whole _, M3, h3, Memref.whole cc0_scratch2, Memref.isWhole_whole _,
                Memref.whole cc0_scratch3, Memref.isWhole_whole _, w, Memref.whole cc0_scratch1, Memref.isWhole_whole _, M4, h4,
                Memref.whole cc0_scratch0, Memref.isWhole_whole _, jj', lv'⟩) Prog.ret) Q)))
        ⊢ wp frame (wpE (defs₀ (F := F)) 𝒱₀ c k) E
            (cc0_while1 i (Memref.whole cc0_scratch4) (Memref.isWhole_whole _) M3 h3 (Memref.whole cc0_scratch2) (Memref.isWhole_whole _)
              (Memref.whole cc0_scratch3) (Memref.isWhole_whole _) w (Memref.whole cc0_scratch1) (Memref.isWhole_whole _) M4 h4
              (Memref.whole cc0_scratch0) (Memref.isWhole_whole _) jj lv) Q

set_option maxHeartbeats 0 in
/-- The pass, run. -/
noncomputable def tripRun (c : Dev nD) (i : grid0.Coords) (jj : BitVec 32) (lv : BitVec 1) (hg : goes i jj lv = 1#1) (hc : k0_chk1 i jj)
    (M3 : Memref sig .tc .vmem S1x4x2048x128 .bf16) (h3 : M3.IsWhole) (M4 : Memref sig .tc .vmem S1x4x2048x128 .bf16) (h4 : M4.IsWhole)
    (w : FVec F S256x256 .bf16)
    (f3 : Bf (F := F) c M3) (f4 : Bf (F := F) c M4)
    (f6 : Bf (F := F) c (Memref.whole cc0_scratch0)) (f7 : Bf (F := F) c (Memref.whole cc0_scratch1))
    (f10 : Bf (F := F) c (Memref.whole cc0_scratch4)) :
    Trip c i jj lv M3 h3 M4 h4 w f3 f4 f6 f7 f10 := by
  refine ⟨?A, ?C, ?L, fun f8 f9 k E Q => ?run⟩
  case run =>
    iintro ⟨H3, H4, H6, H7, H8, H9, H10, Hk⟩
    have hg' : Scalar.andi (Scalar.cmpi .slt jj (blocks (i 1))) lv = 1#1 := hg
    sl_exec_parts (disch := first | exact hc | exact hg')
    iapply Hk $$ %(tripRun.sl.v1004 jj) %(tripRun.sl.v1010 c i jj hc M3 w f3 f7 f10)
    · ipureintro; rfl
    · ipureintro; exact rfl
    isplitl [H3]; · iexact H3
    isplitl [H4]; · iexact H4
    rw [whole_writes cc0_scratch0 f6 _ ?h6, whole_writes cc0_scratch1 f7 _ ?h7]
    case h6 => exact View.cover_of_tiledL _ S1x256x128.size (by sl_kernel_rfl)
    case h7 => exact View.cover_of_tiledL _ S1x256x1.size (by sl_kernel_rfl)
    isplitl [H6]; · iexact H6
    isplitl [H7]; · iexact H7
    isplitl [H8]; · iexists _; iexact H8
    isplitl [H9]; · iexists _; iexact H9
    iexact H10

end Cert.Proof.KI

end
-- ==== Proof.KI.Loop.lean ====
/- The attention's uncounted loop, whole: its label's specification and the proof that its body meets it, by induction on
   the passes left. What the loop leaves is the recursion the program's own exit test drives. -/
module

public import proofs.«01_k».proof.Proof.KI.Trip

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-- With `j` of query block `b`'s passes behind it and one more to go, the counter's key block lies inside the keys. -/
theorem chk_of_lt (i : grid0.Coords) (j : ℕ) (hj : j < (i 1).val) : k0_chk1 i (BitVec.ofNat 32 j) := by
  have h8 : (i 1).val < 8 := (i 1).isLt
  have key : ∀ (b j : Fin 8), j.val < b.val →
      (Scalar.muli (Scalar.subi (Scalar.subi (blocks b) 1#32) (BitVec.ofNat 32 j.val)) 256#32).toNat % 256 = 0 ∧
      (Scalar.indexCast (Scalar.muli (Scalar.subi (Scalar.subi (blocks b) 1#32) (BitVec.ofNat 32 j.val)) 256#32)).toNat + 256 ≤ 2048 := by
    decide +kernel
  obtain ⟨h1, h2⟩ := key (i 1) ⟨j, by omega⟩ hj
  refine ⟨Nat.dvd_of_mod_eq_zero h1, ?_, ?_, ?_, ?_⟩ <;>
  · intro a
    fin_cases a
    · show 0 + 1 ≤ 1; omega
    · first | (show 0 + 1 ≤ 4; omega) | (show 1 + 1 ≤ 4; omega) | (show 2 + 1 ≤ 4; omega) | (show 3 + 1 ≤ 4; omega)
    · exact h2
    · show 0 + 128 ≤ 128; omega

/-- With no pass left the loop's test fails. -/
theorem not_goes_end (i : grid0.Coords) (lv : BitVec 1) : ¬ goes i (BitVec.ofNat 32 (i 1).val) lv = 1#1 := by
  have key : ∀ (b : Fin 8) (lv : BitVec 1), ¬ Scalar.andi (Scalar.cmpi .slt (BitVec.ofNat 32 b.val) (blocks b)) lv = 1#1 := by decide +kernel
  exact key (i 1) lv

/-- With a pass left it is whether weight is left. -/
theorem goes_iff (i : grid0.Coords) (j : ℕ) (hj : j < (i 1).val) (lv : BitVec 1) : goes i (BitVec.ofNat 32 j) lv = lv := by
  have h8 : (i 1).val < 8 := (i 1).isLt
  have key : ∀ (b j : Fin 8) (lv : BitVec 1), j.val < b.val → Scalar.andi (Scalar.cmpi .slt (BitVec.ofNat 32 j.val) (blocks b)) lv = lv := by
    decide +kernel
  exact key (i 1) ⟨j, by omega⟩ lv hj

theorem addi_succ (j : ℕ) : Scalar.addi (BitVec.ofNat 32 j) 1#32 = BitVec.ofNat 32 (j + 1) := by
  show BitVec.ofNat 32 j + BitVec.ofNat 32 1 = _
  rw [← BitVec.ofNat_add]

section Label

variable (c : Dev nD) (i : grid0.Coords)
  (M3 : Memref sig .tc .vmem S1x4x2048x128 .bf16) (h3 : M3.IsWhole) (M4 : Memref sig .tc .vmem S1x4x2048x128 .bf16) (h4 : M4.IsWhole)
  (w : FVec F S256x256 .bf16) (f3 : Bf (F := F) c M3) (f4 : Bf (F := F) c M4) (f10 : Bf (F := F) c (Memref.whole cc0_scratch4))

/-- What at most `k` passes from the `j`-th leave in the accumulator and the running sums. -/
def loopEnd : ℕ → ℕ → Bf (F := F) c (Memref.whole cc0_scratch0) → Bf (F := F) c (Memref.whole cc0_scratch1) → BitVec 1 →
    Bf (F := F) c (Memref.whole cc0_scratch0) × Bf (F := F) c (Memref.whole cc0_scratch1)
  | 0, _, A, C, _ => (A, C)
  | k + 1, j, A, C, lv =>
      if h : goes i (BitVec.ofNat 32 j) lv = 1#1 ∧ k0_chk1 i (BitVec.ofNat 32 j) then
        loopEnd k (j + 1) (tripRun c i _ lv h.1 h.2 M3 h3 M4 h4 w f3 f4 A C f10).acc (tripRun c i _ lv h.1 h.2 M3 h3 M4 h4 w f3 f4 A C f10).sums
          (tripRun c i _ lv h.1 h.2 M3 h3 M4 h4 w f3 f4 A C f10).live
      else (A, C)

/-- The buffers the loop's function holds. -/
def held (A : Bf (F := F) c (Memref.whole cc0_scratch0)) (C : Bf (F := F) c (Memref.whole cc0_scratch1)) : sProp 𝕄 :=
  iprop(pt c M3 f3 ∗ pt c M4 f4 ∗ pt c (Memref.whole cc0_scratch0) A ∗ pt c (Memref.whole cc0_scratch1) C
    ∗ (∃ f, pt c (Memref.whole cc0_scratch2) f) ∗ (∃ f, pt c (Memref.whole cc0_scratch3) f) ∗ pt c (Memref.whole cc0_scratch4) f10)

/-- The label's specification with `k` passes to run after `j`. -/
def spec (k j : ℕ) (A : Bf (F := F) c (Memref.whole cc0_scratch0)) (C : Bf (F := F) c (Memref.whole cc0_scratch1)) (lv : BitVec 1) :
    sWPT 𝕄 (BitVec 32 × BitVec 1) := do
  sWPT.consume (held c M3 M4 f3 f4 f10 A C)
  let r ← sWPT.arbitrary
  sWPT.produce (held c M3 M4 f3 f4 f10 (loopEnd c i M3 h3 M4 h4 w f3 f4 f10 k j A C lv).1 (loopEnd c i M3 h3 M4 h4 w f3 f4 f10 k j A C lv).2)
  pure r

theorem spec_apply (k j : ℕ) (A : Bf (F := F) c (Memref.whole cc0_scratch0)) (C : Bf (F := F) c (Memref.whole cc0_scratch1)) (lv : BitVec 1)
    (K : BitVec 32 × BitVec 1 → sProp 𝕄) :
    spec c i M3 h3 M4 h4 w f3 f4 f10 k j A C lv K
      = iprop(held c M3 M4 f3 f4 f10 A C ∗ ∀ r : BitVec 32 × BitVec 1,
          (held c M3 M4 f3 f4 f10 (loopEnd c i M3 h3 M4 h4 w f3 f4 f10 k j A C lv).1 (loopEnd c i M3 h3 M4 h4 w f3 f4 f10 k j A C lv).2 -∗ K r)) := rfl

/-- The specification is met by the label's body, by induction on the passes left. -/
theorem spec_le (E : Set ℕ) :
    ∀ k j, j + k = (i 1).val → ∀ A C lv K, spec c i M3 h3 M4 h4 w f3 f4 f10 k j A C lv K
      ⊢ wp frame (wpE (defs₀ (F := F)) 𝒱₀ (c : Thread nD τ) (some k)) E
          (defs₀ (F := F) .tc 1 ⟨i, Memref.whole cc0_scratch4, Memref.isWhole_whole _, M3, h3, Memref.whole cc0_scratch2, Memref.isWhole_whole _,
                Memref.whole cc0_scratch3, Memref.isWhole_whole _, w, Memref.whole cc0_scratch1, Memref.isWhole_whole _, M4, h4,
                Memref.whole cc0_scratch0, Memref.isWhole_whole _, BitVec.ofNat 32 j, lv⟩) K := by
  intro k
  induction k with
  | zero =>
    intro j hj A C lv K
    rw [spec_apply]
    show _ ⊢ wp frame (wpE (defs₀ (F := F)) 𝒱₀ (c : Thread nD τ) (some 0)) E
      (cc0_while1 i (Memref.whole cc0_scratch4) (Memref.isWhole_whole _) M3 h3 (Memref.whole cc0_scratch2) (Memref.isWhole_whole _)
              (Memref.whole cc0_scratch3) (Memref.isWhole_whole _) w (Memref.whole cc0_scratch1) (Memref.isWhole_whole _) M4 h4
              (Memref.whole cc0_scratch0) (Memref.isWhole_whole _) (BitVec.ofNat 32 j) lv) K
    have hg : ¬ Scalar.andi (Scalar.cmpi .slt (BitVec.ofNat 32 j) (blocks (i 1))) lv = 1#1 := by
      have := not_goes_end i lv; rw [← hj, Nat.add_zero] at this; exact this
    iintro ⟨H, Hk⟩
    sl_exec_parts (disch := exact hg)
    sl_step
    iapply Hk
    simp only [loopEnd]; iexact H
  | succ k ih =>
    intro j hj A C lv K
    have hjT : j < (i 1).val := by omega
    rw [spec_apply]
    show _ ⊢ wp frame (wpE (defs₀ (F := F)) 𝒱₀ (c : Thread nD τ) (some (k + 1))) E
      (cc0_while1 i (Memref.whole cc0_scratch4) (Memref.isWhole_whole _) M3 h3 (Memref.whole cc0_scratch2) (Memref.isWhole_whole _)
              (Memref.whole cc0_scratch3) (Memref.isWhole_whole _) w (Memref.whole cc0_scratch1) (Memref.isWhole_whole _) M4 h4
              (Memref.whole cc0_scratch0) (Memref.isWhole_whole _) (BitVec.ofNat 32 j) lv) K
    by_cases hg : goes i (BitVec.ofNat 32 j) lv = 1#1
    · have hc := chk_of_lt i j hjT
      rw [show loopEnd c i M3 h3 M4 h4 w f3 f4 f10 (k + 1) j A C lv
          = loopEnd c i M3 h3 M4 h4 w f3 f4 f10 k (j + 1) (tripRun c i _ lv hg hc M3 h3 M4 h4 w f3 f4 A C f10).acc
              (tripRun c i _ lv hg hc M3 h3 M4 h4 w f3 f4 A C f10).sums (tripRun c i _ lv hg hc M3 h3 M4 h4 w f3 f4 A C f10).live from by
        rw [loopEnd, dif_pos ⟨hg, hc⟩]]
      generalize tripRun c i _ lv hg hc M3 h3 M4 h4 w f3 f4 A C f10 = T
      unfold held
      iintro ⟨⟨H3, H4, H6, H7, ⟨%f8, H8⟩, ⟨%f9, H9⟩, H10⟩, Hk⟩
      iapply (T.run f8 f9 (some (k + 1)) E K)
      isplitl [H3]; · iexact H3
      isplitl [H4]; · iexact H4
      isplitl [H6]; · iexact H6
      isplitl [H7]; · iexact H7
      isplitl [H8]; · iexact H8
      isplitl [H9]; · iexact H9
      isplitl [H10]; · iexact H10
      iintro %jj %l %hjj %hl H
      subst hjj hl
      rw [addi_succ]
      iapply (wp_call_spec 𝒱₀ (c : Thread nD τ) (some (k + 1)) E (spec c i M3 h3 M4 h4 w f3 f4 f10 k (j + 1) T.acc T.sums T.live) k
        (fun u hu => by cases hu; exact Nat.lt_succ_self k) (ih (j + 1) (by omega) T.acc T.sums T.live))
      rw [spec_apply]
      unfold held
      isplitl [H]; · iexact H
      iintro %r H
      rw [wp_ret]; imodintro
      iapply Hk
      iexact H
    · rw [show loopEnd c i M3 h3 M4 h4 w f3 f4 f10 (k + 1) j A C lv = (A, C) from by
        rw [loopEnd, dif_neg (fun h => hg h.1)]]
      have hg' : ¬ Scalar.andi (Scalar.cmpi .slt (BitVec.ofNat 32 j) (blocks (i 1))) lv = 1#1 := hg
      iintro ⟨H, Hk⟩
      sl_exec_parts (disch := exact hg')
      sl_step
      iapply Hk
      iexact H

end Label

end Cert.Proof.KI

end
-- ==== Proof.KI.Body.lean ====
/- The attention's function at one grid point: from its four windows and five scratch buffers to its return. -/
module

public import proofs.«01_k».proof.Proof.KI.Loop

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-- What the function's run from a grid point's windows leaves in the output's, WITH the proof that it runs so. -/
structure Body (c : Dev nD) (i : grid0.Coords)
    (M2 : Memref sig .tc .vmem S1x4x256x128 .bf16) (h2 : M2.IsWhole)
    (M3 : Memref sig .tc .vmem S1x4x2048x128 .bf16) (h3 : M3.IsWhole) (M4 : Memref sig .tc .vmem S1x4x2048x128 .bf16) (h4 : M4.IsWhole)
    (M5 : Memref sig .tc .vmem S1x256x512 .bf16) (h5 : M5.IsWhole)
    (x2 : Vec F S1x4x256x128 .bf16) (x3 : Vec F S1x4x2048x128 .bf16) (x4 : Vec F S1x4x2048x128 .bf16) where
  /-- The pieces stored into the output's window, the last first. -/
  out : List (View.Piece (Elt F) S1x256x512 .bf16)
  run : ∀ (Q : PUnit → sProp 𝕄),
        iprop(owns (c : Thread nD τ) M2 fullShare x2 ∗ owns (c : Thread nD τ) M3 fullShare x3 ∗ owns (c : Thread nD τ) M4 fullShare x4
          ∗ (∃ d, owns (c : Thread nD τ) M5 fullShare d)
          ∗ (∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d)
          ∗ (iprop(owns (c : Thread nD τ) M2 fullShare x2 ∗ owns (c : Thread nD τ) M3 fullShare x3 ∗ owns (c : Thread nD τ) M4 fullShare x4
              ∗ (∃ f, pt c M5 (M5.view.writes (Elt F) f out))
              ∗ (∃ d, owns (c : Thread nD τ) (Memref.whole cc0_scratch0) fullShare d) ∗ (∃ d, owns (c : Thread nD τ) (Memref.whole cc0_scratch1) fullShare d)
              ∗ (∃ d, owns (c : Thread nD τ) (Memref.whole cc0_scratch2) fullShare d) ∗ (∃ d, owns (c : Thread nD τ) (Memref.whole cc0_scratch3) fullShare d)
              ∗ (∃ d, owns (c : Thread nD τ) (Memref.whole cc0_scratch4) fullShare d)) -∗ Q ⟨⟩))
        ⊢ wp frame (wpE (defs₀ (F := F)) 𝒱₀ c none) Set.univ
            (cc0_stick_breaking i M2 h2 M3 h3 M4 h4 M5 h5 (Memref.whole cc0_scratch0) (Memref.isWhole_whole _) (Memref.whole cc0_scratch1) (Memref.isWhole_whole _)
              (Memref.whole cc0_scratch2) (Memref.isWhole_whole _) (Memref.whole cc0_scratch3) (Memref.isWhole_whole _) (Memref.whole cc0_scratch4) (Memref.isWhole_whole _)) Q

set_option maxHeartbeats 0 in
/-- The function, run: to its loop, through the loop by the label's specification, and on to its return. -/
noncomputable def bodyRun (c : Dev nD) (i : grid0.Coords)
    (M2 : Memref sig .tc .vmem S1x4x256x128 .bf16) (h2 : M2.IsWhole)
    (M3 : Memref sig .tc .vmem S1x4x2048x128 .bf16) (h3 : M3.IsWhole) (M4 : Memref sig .tc .vmem S1x4x2048x128 .bf16) (h4 : M4.IsWhole)
    (M5 : Memref sig .tc .vmem S1x256x512 .bf16) (h5 : M5.IsWhole)
    (x2 : Vec F S1x4x256x128 .bf16) (x3 : Vec F S1x4x2048x128 .bf16) (x4 : Vec F S1x4x2048x128 .bf16) :
    Body c i M2 h2 M3 h3 M4 h4 M5 h5 x2 x3 x4 := by
  refine ⟨?O, fun Q => ?run⟩
  case run =>
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩,
      ⟨%d9, %f9, -, H9⟩, ⟨%d10, %f10, -, H10⟩, Hk⟩
    obtain rfl := h2.eq_unread hf2; obtain rfl := h3.eq_unread hf3; obtain rfl := h4.eq_unread hf4
    sl_exec_parts
    rw [whole_writes cc0_scratch0 f6 _ ?h6, whole_writes cc0_scratch1 f7 _ ?h7, whole_writes cc0_scratch4 f10 _ ?h10]
    case h6 => exact View.cover_of_tiledL _ S1x256x128.size (by sl_kernel_rfl)
    case h7 => exact View.cover_of_tiledL _ S1x256x1.size (by sl_kernel_rfl)
    case h10 => exact View.cover_of_tiledL _ S1x256x128.size (by sl_kernel_rfl)
    iapply (wp_call_spec 𝒱₀ (c : Thread nD τ) none Set.univ (spec c i M3 h3 M4 h4 _ (h3.unread x3) (h4.unread x4) _ (i 1).val 0 _ _ _)
      (i 1).val (fun u hu => nomatch hu) (spec_le c i M3 h3 M4 h4 _ _ _ _ Set.univ (i 1).val 0 (Nat.zero_add _) _ _ _))
    rw [spec_apply]
    unfold held
    isplitl [H3 H4 H6 H7 H8 H9 H10]
    · isplitl [H3]; · iexact H3
      isplitl [H4]; · iexact H4
      isplitl [H6]; · iexact H6
      isplitl [H7]; · iexact H7
      isplitl [H8]; · iexists _; iexact H8
      isplitl [H9]; · iexists _; iexact H9
      iexact H10
    iintro %r ⟨H3, H4, H6, H7, ⟨%f8, H8⟩, ⟨%f9, H9⟩, H10⟩
    obtain ⟨ra, rb⟩ := r
    sl_exec_parts
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.Proof.KI

end
-- ==== Proof.KI.Frame.lean ====
/- The attention's launch: what each grid point leaves in the output's staging buffer, the pipeline's proof data over it,
   the body's obligation, and the frame — every execution ends, with the three arguments unchanged and no count pending. -/
module

public import proofs.«01_k».proof.Proof.KI.Body
public import Idealize.ShloMosaic.Lib.Claim

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR nD τ) ℕ

variable (m : (ℓ : Loc nD τ sig) → Buf (Elt F) ℓ) (ρ : Dev nD → PrngReg)

/-- Core `c`'s buffers as the region finds them: as launched, the region being all of the main program. -/
abbrev atEntry (c : Dev nD) (b : Ref sig .tc) : Buf (Elt F) ((c : Thread nD τ).loc b) := m ((c : Thread nD τ).loc b)

theorem main_is_region : Pipeline.HMain (Ix := Unit) (Name := ℕ) (U := UR nD τ) (Lvl := ℕ) (cfgs (F := F)) 0 defs₀ 𝒱₀ m (main (F := F)) (atEntry m) :=
  Pipeline.hmain_region (cfgs (F := F)) 0 defs₀ 𝒱₀ m main fun c => (main_chain c).trans rfl

/-- Window `w`'s block at point `t`, of its array as launched. -/
def blockAt (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (atEntry m c (Pipeline.arrRef spec0 w))

/-! ## The windows' staging buffers at a point, and the output's contents -/

abbrev qM (t : Fin (cfg0 (F := F)).N) : Memref sig .tc .vmem S1x4x256x128 .bf16 := win0_0.stage ((cfg0 (F := F)).slots t 0)
abbrev qW (t : Fin (cfg0 (F := F)).N) : (qM t).IsWhole := hstage0_0 (((cfg0 (F := F)).slots t 0).cast nbuf0_0)
abbrev kM (t : Fin (cfg0 (F := F)).N) : Memref sig .tc .vmem S1x4x2048x128 .bf16 := win0_1.stage ((cfg0 (F := F)).slots t 1)
abbrev kW (t : Fin (cfg0 (F := F)).N) : (kM t).IsWhole := hstage0_1 (((cfg0 (F := F)).slots t 1).cast nbuf0_1)
abbrev vM (t : Fin (cfg0 (F := F)).N) : Memref sig .tc .vmem S1x4x2048x128 .bf16 := win0_2.stage ((cfg0 (F := F)).slots t 2)
abbrev vW (t : Fin (cfg0 (F := F)).N) : (vM t).IsWhole := hstage0_2 (((cfg0 (F := F)).slots t 2).cast nbuf0_2)
abbrev oM (t : Fin (cfg0 (F := F)).N) : Memref sig .tc .vmem S1x256x512 .bf16 := win0_3.stage ((cfg0 (F := F)).slots t 3)
abbrev oW (t : Fin (cfg0 (F := F)).N) : (oM t).IsWhole := hstage0_3 (((cfg0 (F := F)).slots t 3).cast nbuf0_3)

/-- The pieces a run of the function stores cover the output's window: four column slabs. -/
theorem out_cover (c : Dev nD) (i : grid0.Coords)
    (M2 : Memref sig .tc .vmem S1x4x256x128 .bf16) (h2 : M2.IsWhole)
    (M3 : Memref sig .tc .vmem S1x4x2048x128 .bf16) (h3 : M3.IsWhole) (M4 : Memref sig .tc .vmem S1x4x2048x128 .bf16) (h4 : M4.IsWhole)
    (M5 : Memref sig .tc .vmem S1x256x512 .bf16) (h5 : M5.IsWhole)
    (x2 : Vec F S1x4x256x128 .bf16) (x3 : Vec F S1x4x2048x128 .bf16) (x4 : Vec F S1x4x2048x128 .bf16) (y : S1x256x512.Idx) :
    ∃ p ∈ (bodyRun c i M2 h2 M3 h3 M4 h4 M5 h5 x2 x3 x4).out, y ∈ p.1.set :=
  View.cover_of_tiledL (bodyRun c i M2 h2 M3 h3 M4 h4 M5 h5 x2 x3 x4).out S1x256x128.size (by sl_kernel_rfl) y

/-- What point `t` leaves in the output's staging buffer. -/
@[irreducible] def outAt (c : Dev nD) (t : Fin (cfg0 (F := F)).N) : Vec F S1x256x512 .bf16 :=
  View.canon (bodyRun c (grid0.coords t) (qM t) (qW t) (kM t) (kW t) (vM t) (vW t) (oM t) (oW t) (blockAt m c 0 t) (blockAt m c 1 t) (blockAt m c 2 t)).out

/-- The pipeline's proof data: the arrays as launched; after the body each input's buffer at its block and the output's at
    `outAt`; the scratch buffers and the generator's register at some contents between the points. -/
def dats (_ : Fin 1) (c : Dev nD) : Dat τ (Elt F) Unit ℕ (UR nD τ) ℕ (cfg0 (F := F)) c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => outAt m c t
  Φ _ := Pipeline.ΦA spec0 c
  q _ := fullShare
  owed _ := 0

theorem A_eq (c : Dev nD) (w : Fin (cfg0 (F := F)).W) : (dats m 0 c).A w = atEntry m c (Pipeline.arrRef spec0 w) := by dsimp only [dats]

theorem after_q (c : Dev nD) (t : Fin (cfg0 (F := F)).N) : (dats m 0 c).after 0 t = blockAt m c 0 t := rfl
theorem after_k (c : Dev nD) (t : Fin (cfg0 (F := F)).N) : (dats m 0 c).after 1 t = blockAt m c 1 t := rfl
theorem after_v (c : Dev nD) (t : Fin (cfg0 (F := F)).N) : (dats m 0 c).after 2 t = blockAt m c 2 t := rfl
theorem after_o (c : Dev nD) (t : Fin (cfg0 (F := F)).N) : (dats m 0 c).after 3 t = outAt m c t := rfl

theorem before_q (c : Dev nD) (t : Fin (cfg0 (F := F)).N) (d) : (dats m 0 c).before 0 t d = blockAt m c 0 t :=
  ((dats m 0 c).before_in_eq_fetched 0 rfl (fun _ => rfl) (fun _ _ _ => rfl) (fun t => by rw [after_q]; unfold Dat.blockOf blockAt; rw [A_eq]; try rfl) t d).trans
    (by unfold Dat.fetched Dat.blockOf blockAt; rw [A_eq]; try rfl)
theorem before_k (c : Dev nD) (t : Fin (cfg0 (F := F)).N) (d) : (dats m 0 c).before 1 t d = blockAt m c 1 t :=
  ((dats m 0 c).before_in_eq_fetched 1 rfl (fun _ => rfl) (fun _ _ _ => rfl) (fun t => by rw [after_k]; unfold Dat.blockOf blockAt; rw [A_eq]; try rfl) t d).trans
    (by unfold Dat.fetched Dat.blockOf blockAt; rw [A_eq]; try rfl)
theorem before_v (c : Dev nD) (t : Fin (cfg0 (F := F)).N) (d) : (dats m 0 c).before 2 t d = blockAt m c 2 t :=
  ((dats m 0 c).before_in_eq_fetched 2 rfl (fun _ => rfl) (fun _ _ _ => rfl) (fun t => by rw [after_v]; unfold Dat.blockOf blockAt; rw [A_eq]; try rfl) t d).trans
    (by unfold Dat.fetched Dat.blockOf blockAt; rw [A_eq]; try rfl)

/-- The scratch buffers and the generator's register, each at some contents. -/
theorem scratch_eq (c : Dev nD) :
    (Pipeline.ΦA spec0 c : sProp 𝕄)
      = iprop(iprop((∃ d, owns (c : Thread nD τ) (Memref.whole cc0_scratch0 : Memref sig .tc .vmem S8x256x128 .f32) fullShare d)
          ∗ (∃ d, owns (c : Thread nD τ) (Memref.whole cc0_scratch1 : Memref sig .tc .vmem S8x256x1 .f32) fullShare d)
          ∗ (∃ d, owns (c : Thread nD τ) (Memref.whole cc0_scratch2 : Memref sig .tc .vmem S8x256x256 .bf16) fullShare d)
          ∗ (∃ d, owns (c : Thread nD τ) (Memref.whole cc0_scratch3 : Memref sig .tc .vmem S8x256x256 .f32) fullShare d)
          ∗ (∃ d, owns (c : Thread nD τ) (Memref.whole cc0_scratch4 : Memref sig .tc .vmem S8x256x128 .bf16) fullShare d)) ∗ (∃ r, prngReg c r)) := by
  unfold Pipeline.ΦA; rw [scopedRest0_eq]; simp only [owns_whole]; try rfl

/-! ## The body at a point -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (qM t) fullShare ((dats m 0 c).before 0 t d))
    ∗ (∃ d, owns (c : Thread nD τ) (kM t) fullShare ((dats m 0 c).before 1 t d))
    ∗ (∃ d, owns (c : Thread nD τ) (vM t) fullShare ((dats m 0 c).before 2 t d))
    ∗ (∃ d, owns (c : Thread nD τ) (oM t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (qM t) fullShare ((dats m 0 c).after 0 t)
    ∗ owns (c : Thread nD τ) (kM t) fullShare ((dats m 0 c).after 1 t)
    ∗ owns (c : Thread nD τ) (vM t) fullShare ((dats m 0 c).after 2 t)
    ∗ owns (c : Thread nD τ) (oM t) fullShare ((dats m 0 c).after 3 t))

set_option maxHeartbeats 800000 in
theorem body_at (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_q, before_k, before_v]
  rw [show (dats m 0 c).Φ t.succ = (dats m 0 c).Φ t.castSucc from rfl,
    show (dats m 0 c).owesAt () t.succ = (dats m 0 c).owesAt () t.castSucc from rfl,
    after_q, after_k, after_v, after_o]
  rw [show (dats m 0 c).Φ t.castSucc = Pipeline.ΦA spec0 c from rfl, scratch_eq]
  unfold outAt
  iintro ⟨⟨HS, Hg⟩, Ho, ⟨%d0, H0⟩, ⟨%d1, H1⟩, ⟨%d2, H2⟩, ⟨%d3, H3⟩⟩
  icases HS with ⟨HS0, HS1, HS2, HS3, HS4⟩
  iapply ((bodyRun c (grid0.coords t) (qM t) (qW t) (kM t) (kW t) (vM t) (vW t) (oM t) (oW t) (blockAt m c 0 t) (blockAt m c 1 t) (blockAt m c 2 t)).run _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  iintro ⟨H0, H1, H2, ⟨%e3, H3⟩, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ (out_cover c _ _ _ _ _ _ _ _ _ _ _ _)

theorem body_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, body_row]
  exact triple_restated (body_at m c t) rfl .rfl fun _ => .rfl

/-! ## The run -/

-- the launch theorem's implicit arguments are found by unifying its conclusion with this one, which unfolds plain
-- definitions in a metavariable's type
set_option backward.isDefEq.respectTransparency.types false in
theorem run_counted : θ_run defs (onTc (τ := τ) (main (F := F))) (s₀ m ρ) (fun r => (Pipeline.FramePost (cfgs (F := F)) (dats m) 0 (atEntry m)) r ∧ r.2.sem = fun _ => 0) :=
  Pipeline.θ_run_frame (Q' := _) (cfgs (F := F)) (dats m) (0 : Fin 1) launch0 defs₀ 𝒱₀ m ρ main
    (hbody := fun c => (body_obligation m c).loose) (hshare := fun c => (dats m 0 c).share_full fun _ => rfl)
    (howed := fun _ _ => rfl) (V := atEntry m) (hmain := main_is_region m) (hA := A_eq m) (hΦ := fun _ _ => rfl)

/-- Every execution ends with the pipeline's arrays at what the proof data computes and every other buffer as launched. -/
theorem run_main : θ_run defs (onTc (τ := τ) (main (F := F))) (s₀ m ρ) (Pipeline.FramePost (cfgs (F := F)) (dats m) 0 (atEntry m)) :=
  (θ_run defs _ _).mono (fun _ h => h.1) (run_counted m ρ)

/-- Every execution ends, the arguments unchanged and every count at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).1 0).trans (((dats m 0 c).arrAt_in 0 rfl _).trans (A_eq m c 0)),
        ((h.1 c).1 1).trans (((dats m 0 c).arrAt_in 1 rfl _).trans (A_eq m c 1)),
        ((h.1 c).1 2).trans (((dats m 0 c).arrAt_in 2 rfl _).trans (A_eq m c 2))⟩, h.2⟩) (run_counted m ρ)

end Cert.Proof.KI

end
-- ==== Proof.Finite.lean ====
/- The precondition read back: every query and every key is a real. -/
module

public import proofs.«01_k».proof.Pre_finite_qk
public import Idealize.ShloMosaic.Lib.ReduceAll
public import Idealize.ShloMosaic.Lib.Pointwise

@[expose] public section

noncomputable section

namespace Cert.Proof.Finite

open Cert.Pre_finite_qk
open Idealize.ShloMosaic Idealize.ShloMosaic.Tactic

theorem facts : Cert.Pre_finite_qk.Facts where
  bitsLt_bf16_f32 := by decide
  bcast_S_S8x4x2048x128 := by decide
  reducesTo_S8x4x2048x128_S_d0_1_2_3 := by decide
  h_S_ := by decide

instance : Subsingleton S_.Idx := ⟨fun _ _ => funext fun a => a.elim0⟩

theorem posInf : Ideal.ofBits FTy.f32 0x7F800000#32 = ⊤ := by simp [Ideal.ofBits, Ideal.ieee]

/-- An array every entry of which passes the test is real. -/
theorem real_of_all [Facts] (x : FVec Ideal S8x4x2048x128 .bf16) (j₀ : S_.Idx)
    (h : Host.reduce IntOp.andi (cmpf .olt (Host.absf (extf .f32 x Facts.bitsLt_bf16_f32))
      (broadcastInDim S8x4x2048x128 ![] Facts.bcast_S_S8x4x2048x128 (constant (F := Ideal) S_ .f32 0x7F800000#32))) (constantI S_ 1 1#1)
      Facts.reducesTo_S8x4x2048x128_S_d0_1_2_3 Facts.h_S_ j₀ = 1#1) (j : S8x4x2048x128.Idx) : ∃ a : ℝ, (x j : EReal) = a := by
  have h1 := Host.reduce_andi_all _ _ _ _ j₀ h j
  have h2 : Ideal.cmp .olt (max (x j : EReal) (-(x j : EReal))) (Ideal.ofBits FTy.f32 0x7F800000#32) = 1#1 := h1
  rw [posInf] at h2
  have h3 : max (x j : EReal) (-(x j : EReal)) < ⊤ := by
    by_contra hn
    rw [show Ideal.cmp .olt (max (x j : EReal) (-(x j : EReal))) ⊤ = BitVec.ofBool (decide (max (x j : EReal) (-(x j : EReal)) < ⊤)) from rfl,
      decide_eq_false hn] at h2
    exact absurd h2 (by decide)
  obtain ⟨ht, hb⟩ := max_lt_iff.mp h3
  refine ⟨(x j : EReal).toReal, (EReal.coe_toReal ht.ne ?_).symm⟩
  rintro hbot
  rw [hbot] at hb
  exact absurd hb (by simp)

theorem real_of_pre [Facts] (q k v : FVec Ideal S8x4x2048x128 .bf16) (h : Cert.Pre_finite_qk.fn q k v = fun _ => 1#1) :
    (∀ j, ∃ a : ℝ, (q j : EReal) = a) ∧ ∀ j, ∃ a : ℝ, (k j : EReal) = a := by
  have h0 := congrFun h (fun a => a.elim0 : S_.Idx)
  obtain ⟨hq, hk⟩ := IntOp.andi_eq_one.mp h0
  exact ⟨real_of_all q _ hq, real_of_all k _ hk⟩

end Cert.Proof.Finite

end
-- ==== Proof.KI.Heads.lean ====
/- The five scratch buffers hold one slab per head. A buffer stored head by head is a family of eight slabs, and each of
   the program's stages is one function of the head: the masked query, the score, the softplus, what is added to the
   accumulator and to the running sum. -/
module

public import proofs.«01_k».proof.Proof.KI.Body
public import Idealize.ShloMosaic.Lib.Pipeline.ValueKit.Tiles
public import Idealize.ShloMosaic.Lib.Pointwise

@[expose] public section

set_option maxRecDepth 16384

noncomputable section

namespace Cert.Proof.KI

open Cert.KernelIdeal Cert.KernelIdeal.Gen
open Idealize.ShloMosaic
open Idealize.ShloMosaic.TcCoe Idealize.ShloMosaic.Tactic

variable {F : FTy → Type} [FloatOps F] [Named F]

/-- Eight slabs of `R` rows and `C` columns. -/
abbrev Heads (R C : ℕ) : Shape := ⟨3, ![8, R, C]⟩
/-- One of them. -/
abbrev Slab (R C : ℕ) : Shape := ⟨3, ![1, R, C]⟩

theorem head_inb (R C h : ℕ) (hh : h < 8) : ∀ a, (![h, 0, 0] : Fin 3 → ℕ) a + (Slab R C).size a ≤ (Heads R C).size a := by
  intro a
  fin_cases a
  · show h + 1 ≤ 8; omega
  · show 0 + R ≤ R; omega
  · show 0 + C ≤ C; omega

/-- Head `h`'s slab, as a rectangle of the buffer. -/
abbrev slabAt (R C : ℕ) (h : Fin 8) : Rect (Heads R C) := Rect.unit (s := Heads R C) ![h.val, 0, 0] (Slab R C).size (head_inb R C h.val h.isLt)

/-- The eight stores of a family of slabs, the last head's first. -/
def slabs {R C : ℕ} {e : EltTy} (g : Fin 8 → Vec F (Slab R C) e) : List (View.Piece (Elt F) (Heads R C) e) :=
  [⟨slabAt R C 7, g 7⟩, ⟨slabAt R C 6, g 6⟩, ⟨slabAt R C 5, g 5⟩, ⟨slabAt R C 4, g 4⟩,
   ⟨slabAt R C 3, g 3⟩, ⟨slabAt R C 2, g 2⟩, ⟨slabAt R C 1, g 1⟩, ⟨slabAt R C 0, g 0⟩]

theorem slabs_eq {R C : ℕ} {e : EltTy} (g : Fin 8 → Vec F (Slab R C) e) :
    slabs g = List.ofFn fun k : Fin 8 => (⟨Rect.unit (s := Heads R C) ![(Fin.rev k).val, 0, 0] (Slab R C).size
      (head_inb R C _ (Fin.rev k).isLt), g (Fin.rev k)⟩ : View.Piece (Elt F) (Heads R C) e) := by
  simp only [List.ofFn_succ, List.ofFn_zero]; rfl

/-- At an index the buffer holds what the index's head stored there. -/
theorem canon_slabs {R C : ℕ} {e : EltTy} (g : Fin 8 → Vec F (Slab R C) e) (h : Fin 8) (r : Fin R) (c : Fin C) :
    View.canon (slabs g) (ix3 h r c : (Heads R C).Idx) = g h (ix3 0 r c) := by
  rw [slabs_eq]
  refine View.canon_ofFn_unit_eq_of_forall (S := Heads R C) (fun k : Fin 8 => ![(Fin.rev k).val, 0, 0]) (Slab R C).size
    (fun k => head_inb R C _ (Fin.rev k).isLt) (fun k => g (Fin.rev k)) _ _ ?_ ?_
  · refine ⟨Fin.rev h, fun a => ?_⟩
    rw [Fin.rev_rev]
    fin_cases a
    · exact ⟨le_refl _, Nat.lt_succ_self _⟩
    · exact ⟨Nat.zero_le _, by show r.val < 0 + R; omega⟩
    · exact ⟨Nat.zero_le _, by show c.val < 0 + C; omega⟩
  · intro k x hx
    have h0 : (x 0).val < 1 := (x 0).isLt
    have e0 : (Fin.rev k).val + (x 0).val = h.val := (hx 0).symm
    have e1 : 0 + (x 1).val = r.val := (hx 1).symm
    have e2 : 0 + (x 2).val = c.val := (hx 2).symm
    have hk : Fin.rev k = h := by apply Fin.ext; omega
    show g (Fin.rev k) x = _
    rw [hk]
    congr 1
    rw [eq_ix3 x]
    congr 1
    · apply Fin.ext; show (x 0).val = 0; omega
    · apply Fin.ext; omega
    · apply Fin.ext; omega

theorem slab_idx {R C : ℕ} (h : Fin 8) (r : Fin R) (c : Fin C) (z : Fin 1) :
    (slabAt R C h).toLoadRect.idx (ix3 z r c) = (ix3 h r c : (Heads R C).Idx) := by
  funext a
  apply Fin.ext
  fin_cases a
  · show h.val + 1 * z.val = h.val; omega
  · show 0 + 1 * r.val = r.val; omega
  · show 0 + 1 * c.val = c.val; omega

/-- Loading a head's slab back gives what was stored. -/
theorem readCov_slabs {R C : ℕ} {e : EltTy} {κ : Kind} {sp : Space} (v : View sig κ sp (Heads R C) e) (g : Fin 8 → Vec F (Slab R C) e) (h : Fin 8) :
    v.readCov (slabs g) (slabAt R C h).toLoadRect = g h := by
  rw [View.readCov_eq_canon']
  funext y
  obtain ⟨z, r, c, rfl⟩ : ∃ z r c, y = ix3 z r c := ⟨y 0, y 1, y 2, eq_ix3 y⟩
  show View.canon (slabs g) ((slabAt R C h).toLoadRect.idx (ix3 z r c)) = _
  rw [slab_idx, canon_slabs, show z = 0 from Subsingleton.elim _ _]

/-- Head `h`'s slab of a buffer's contents. -/
def slabOf {R C : ℕ} {e : EltTy} (f : Vec F (Heads R C) e) (h : Fin 8) : Vec F (Slab R C) e := fun x => f ((slabAt R C h).toLoadRect.idx x)

theorem slabOf_apply {R C : ℕ} {e : EltTy} (f : Vec F (Heads R C) e) (h : Fin 8) (z : Fin 1) (r : Fin R) (c : Fin C) :
    slabOf f h (ix3 z r c) = f (ix3 h r c) := by
  unfold slabOf
  rw [slab_idx]

theorem slabOf_canon {R C : ℕ} {e : EltTy} (g : Fin 8 → Vec F (Slab R C) e) (h : Fin 8) :
    slabOf (View.canon (slabs g) : Vec F (Heads R C) e) h = g h := by
  funext y
  obtain ⟨z, r, c, rfl⟩ : ∃ z r c, y = ix3 z r c := ⟨y 0, y 1, y 2, eq_ix3 y⟩
  rw [slabOf_apply, canon_slabs, show z = 0 from Subsingleton.elim _ _]

/-- The pair of heads that share a 128-lane slab of the queries, keys and values. -/
def pairOf (h : Fin 8) : Fin 4 := ⟨h.val / 2, by omega⟩

/-- Pair `p`'s 256 keys (or values) from the `o`-th on. -/
def rows256 (x : Vec F S1x4x2048x128 .bf16) (o : ℕ) (ho : o + 256 ≤ 2048) (p : Fin 4) : Vec F S1x1x256x128 .bf16 :=
  fun y => x (ix4 (0 : Fin 1) p (⟨o + (y 2).val, by have : (y 2).val < 256 := (y 2).isLt; omega⟩ : Fin 2048) (y 3))

/-- They are what a load at that offset reads. -/
theorem readAt_rows (M : Memref sig .tc .vmem S1x4x2048x128 .bf16) (hM : M.IsWhole) (x : Vec F S1x4x2048x128 .bf16) (off : Fin 4 → ℕ)
    (inb : ∀ a, off a + S1x1x256x128.size a ≤ S1x4x2048x128.size a) (o : ℕ) (ho : o + 256 ≤ 2048) (p : Fin 4) (he : off = ![0, p.val, o, 0]) :
    View.readAt (Elt F) M.view (Rect.unit (s := S1x4x2048x128) off S1x1x256x128.size inb).toLoadRect (hM.unread x) = rows256 x o ho p := by
  subst he
  funext y
  rw [View.readAt_apply, hM.read_unread]
  obtain ⟨a, b, r, d, rfl⟩ : ∃ a b r d, y = ix4 a b r d := ⟨y 0, y 1, y 2, y 3, eq_ix4 y⟩
  unfold rows256
  congr 1
  funext k
  apply Fin.ext
  fin_cases k
  · show 0 + 1 * a.val = 0; omega
  · show p.val + 1 * b.val = p.val; omega
  · show o + 1 * r.val = o + r.val; omega
  · show 0 + 1 * d.val = d.val; omega

/-! ## The stages -/

/-- The masked queries of head `h`: the pair's slab with the other head's lanes zeroed. -/
def maskedQ (x : Vec F S1x1x256x128 .bf16) (h : Fin 8) : FVec F S1x256x128 .bf16 :=
  if h.val % 2 = 0 then k0_pay11 k0_pay6 x else k0_pay10 k0_pay6 x

/-- A block's softplus summed over the keys after each one. -/
def sufOf (w : FVec F S256x256 .bf16) (sp : FVec F S1x256x256 .bf16) : FVec F S256x256 .f32 :=
  matmul dot_S256x256_S256x256_S256x256_1_0_0_1_n_n none (shapeCast S256x256 sp shapeCasts_S1x256x256_S256x256 : FVec F S256x256 .bf16) w
    (constant S256x256 .f32 0x00000000#32)

/-- What a block's values add, weighted. -/
def weigh (a : FVec F S256x256 .f32) (v : Vec F S1x1x256x128 .bf16) : FVec F S256x128 .f32 :=
  matmul dot_S256x256_S256x128_S256x128_1_0_0_1_n_n none (truncf .bf16 a bitsLt_bf16_f32 : FVec F S256x256 .bf16)
    (shapeCast S256x128 v shapeCasts_S1x1x256x128_S256x128 : FVec F S256x128 .bf16) (constant S256x128 .f32 0x00000000#32)

/-- What a block adds to the running sum: its whole softplus sum. -/
def total (w : FVec F S256x256 .bf16) (sp : FVec F S1x256x256 .bf16) : FVec F S256x1 .f32 :=
  addf (extractStridedSlice S256x1 ![0, 0] (sufOf w sp) slices_S256x256_o0_0_S256x1)
    (extf .f32 (extractStridedSlice S256x1 ![0, 0] (shapeCast S256x256 sp shapeCasts_S1x256x256_S256x256 : FVec F S256x256 .bf16)
      slices_S256x256_o0_0_S256x1 : FVec F S256x1 .bf16) bitsLt_bf16_f32)

/-- The accumulator after an earlier block. -/
def accStep (w : FVec F S256x256 .bf16) (sp : FVec F S1x256x256 .bf16) (ls : FVec F S1x256x256 .f32) (v : Vec F S1x1x256x128 .bf16)
    (a : FVec F S1x256x128 .f32) (s : FVec F S1x256x1 .f32) : FVec F S1x256x128 .f32 :=
  shapeCast S1x256x128 (addf (shapeCast S256x128 a shapeCasts_S1x256x128_S256x128)
    (weigh (exp2 (subf (subf (shapeCast S256x256 ls shapeCasts_S1x256x256_S256x256) (sufOf w sp))
      (broadcastTo S256x256 (shapeCast S256x1 s shapeCasts_S1x256x1_S256x1) broadcasts_S256x1_S256x256))) v)) shapeCasts_S256x128_S1x256x128

/-- The running sum after an earlier block. -/
def sumStep (w : FVec F S256x256 .bf16) (sp : FVec F S1x256x256 .bf16) (s : FVec F S1x256x1 .f32) : FVec F S1x256x1 .f32 :=
  shapeCast S1x256x1 (addf (shapeCast S256x1 s shapeCasts_S1x256x1_S256x1) (total w sp)) shapeCasts_S256x1_S1x256x1

/-- The accumulator after the block the diagonal crosses. -/
def accFirst (m : IVec S256x256 1) (sp : FVec F S1x256x256 .bf16) (ls : FVec F S1x256x256 .f32) (v : Vec F S1x1x256x128 .bf16) : FVec F S1x256x128 .f32 :=
  shapeCast S1x256x128 (weigh (select m (exp2 (subf (shapeCast S256x256 ls shapeCasts_S1x256x256_S256x256) (sufOf k0_pay5 sp)))
    (broadcast S256x256 (Scalar.ofBits .f32 0x00000000#32))) v) shapeCasts_S256x128_S1x256x128

/-- The running sum after it. -/
def sumFirst (sp : FVec F S1x256x256 .bf16) : FVec F S1x256x1 .f32 :=
  shapeCast S1x256x1 (addf (broadcast S256x1 (Scalar.ofBits .f32 0x00000000#32)) (total k0_pay5 sp)) shapeCasts_S256x1_S1x256x1

end Cert.Proof.KI

end
-- ==== Proof.KI.Stages.lean ====
/- What the program's runs leave in the scratch buffers, in terms of the stages: eight slabs, one per head. -/
module

public import proofs.«01_k».proof.Proof.KI.Heads

@[expose] public section

set_option maxRecDepth 16384

noncomputable section

namespace Cert.Proof.KI

open Cert.KernelIdeal Cert.KernelIdeal.Gen
open Idealize.ShloMosaic
open Idealize.ShloMosaic.TcCoe Idealize.ShloMosaic.Tactic

variable {F : FTy → Type} [FloatOps F] [Named F]

/-- A load of the running sums' whole buffer reads its canonical contents. -/
theorem readCov_sums {κ : Kind} {sp : Space} (v : View sig κ sp S8x256x1 .f32) (L : List (View.Piece (Elt F) S8x256x1 .f32)) :
    v.readCov L (Rect.unit (s := S8x256x1) ![0, 0, 0] S8x256x1.size inb_S8x256x1_S8x256x1_0_0_0).toLoadRect = View.canon L := by
  rw [View.readCov_eq_canon']
  funext y
  congr 1
  funext a
  apply Fin.ext
  fin_cases a
  · show 0 + 1 * (y 0).val = (y 0).val; omega
  · show 0 + 1 * (y 1).val = (y 1).val; omega
  · show 0 + 1 * (y 2).val = (y 2).val; omega

section Pass

variable (c : Dev nD) (i : grid0.Coords) (jj : BitVec 32) (hc : k0_chk1 i jj)
  (M3 : Memref sig .tc .vmem S1x4x2048x128 .bf16) (h3 : M3.IsWhole) (M4 : Memref sig .tc .vmem S1x4x2048x128 .bf16) (h4 : M4.IsWhole)
  (w : FVec F S256x256 .bf16) (f3 : Bf (F := F) c M3) (f4 : Bf (F := F) c M4)
  (f6 : Vec F S8x256x128 .f32) (f7 : Vec F S8x256x1 .f32) (f10 : Vec F S8x256x128 .bf16)

/-- The four pairs' rows of a pass's block, as it loads them. -/
def passRows (M : Memref sig .tc .vmem S1x4x2048x128 .bf16) (f : Bf (F := F) c M) : Fin 4 → Vec F S1x1x256x128 .bf16 :=
  ![View.readAt (Elt F) M.view (Rect.unit (s := S1x4x2048x128) (k0_off5 i jj) S1x1x256x128.size hc.2.1).toLoadRect f,
    View.readAt (Elt F) M.view (Rect.unit (s := S1x4x2048x128) (k0_off6 i jj) S1x1x256x128.size hc.2.2.1).toLoadRect f,
    View.readAt (Elt F) M.view (Rect.unit (s := S1x4x2048x128) (k0_off7 i jj) S1x1x256x128.size hc.2.2.2.1).toLoadRect f,
    View.readAt (Elt F) M.view (Rect.unit (s := S1x4x2048x128) (k0_off8 i jj) S1x1x256x128.size hc.2.2.2.2).toLoadRect f]

theorem pass_sp : tripRun.sl.H8_8 c i jj hc M3 f3 f10
    = slabs fun h => k0_pay102 (slabOf f10 h) (passRows c i jj hc M3 f3 (pairOf h)) := by sl_kernel_rfl

theorem pass_ls : tripRun.sl.H9_8 c i jj hc M3 f3 f10
    = slabs fun h => k0_pay103 (slabOf f10 h) (passRows c i jj hc M3 f3 (pairOf h)) := by sl_kernel_rfl

theorem pass_acc_stored (lv : BitVec 1) (hg : goes i jj lv = 1#1) : (tripRun c i jj lv hg hc M3 h3 M4 h4 w f3 f4 f6 f7 f10).acc
      = View.canon (slabs fun h => accStep w
        ((Memref.whole cc0_scratch2).view.readCov (tripRun.sl.H8_8 c i jj hc M3 f3 f10) (slabAt 256 256 h).toLoadRect)
        ((Memref.whole cc0_scratch3).view.readCov (tripRun.sl.H9_8 c i jj hc M3 f3 f10) (slabAt 256 256 h).toLoadRect)
        (passRows c i jj hc M4 f4 (pairOf h)) (slabOf f6 h) (slabOf f7 h)) := by
  sl_kernel_rfl

/-- The accumulator after a pass. -/
theorem pass_acc (lv : BitVec 1) (hg : goes i jj lv = 1#1) : (tripRun c i jj lv hg hc M3 h3 M4 h4 w f3 f4 f6 f7 f10).acc
    = View.canon (slabs fun h => accStep w (k0_pay102 (slabOf f10 h) (passRows c i jj hc M3 f3 (pairOf h)))
        (k0_pay103 (slabOf f10 h) (passRows c i jj hc M3 f3 (pairOf h)))
        (passRows c i jj hc M4 f4 (pairOf h)) (slabOf f6 h) (slabOf f7 h)) := by
  rw [pass_acc_stored, pass_sp, pass_ls]
  simp only [readCov_slabs]

theorem pass_sums_stored (lv : BitVec 1) (hg : goes i jj lv = 1#1) : (tripRun c i jj lv hg hc M3 h3 M4 h4 w f3 f4 f6 f7 f10).sums
      = View.canon (slabs fun h => sumStep w
        ((Memref.whole cc0_scratch2).view.readCov (tripRun.sl.H8_8 c i jj hc M3 f3 f10) (slabAt 256 256 h).toLoadRect) (slabOf f7 h)) := by
  sl_kernel_rfl

/-- The running sums after a pass. -/
theorem pass_sums (lv : BitVec 1) (hg : goes i jj lv = 1#1) : (tripRun c i jj lv hg hc M3 h3 M4 h4 w f3 f4 f6 f7 f10).sums
    = View.canon (slabs fun h => sumStep w (k0_pay102 (slabOf f10 h) (passRows c i jj hc M3 f3 (pairOf h))) (slabOf f7 h)) := by
  rw [pass_sums_stored, pass_sp]
  simp only [readCov_slabs]

theorem pass_live_stored (lv : BitVec 1) (hg : goes i jj lv = 1#1) : (tripRun c i jj lv hg hc M3 h3 M4 h4 w f3 f4 f6 f7 f10).live
    = Scalar.cmpf .olt (k0_pay3 ((Memref.whole cc0_scratch1).view.readCov (tripRun.sl.H7_8 c i jj hc M3 w f3 f7 f10)
        (Rect.unit (s := S8x256x1) ![0, 0, 0] S8x256x1.size inb_S8x256x1_S8x256x1_0_0_0).toLoadRect))
        (Named.named Cert.KernelIdeal.κ "dead" 0x43160000#32) := by
  sl_kernel_rfl

/-- Whether weight is left after a pass: the least running sum against the bound. -/
theorem pass_live (lv : BitVec 1) (hg : goes i jj lv = 1#1) : (tripRun c i jj lv hg hc M3 h3 M4 h4 w f3 f4 f6 f7 f10).live
    = Scalar.cmpf .olt (k0_pay3 (tripRun c i jj lv hg hc M3 h3 M4 h4 w f3 f4 f6 f7 f10).sums)
        (Named.named Cert.KernelIdeal.κ "dead" 0x43160000#32) := by
  rw [pass_live_stored]
  exact congrArg (fun s => Scalar.cmpf .olt (k0_pay3 s) (Named.named Cert.KernelIdeal.κ "dead" 0x43160000#32)) (readCov_sums _ _)

end Pass

section Function

variable (c : Dev nD) (i : grid0.Coords)
  (M2 : Memref sig .tc .vmem S1x4x256x128 .bf16) (h2 : M2.IsWhole)
  (M3 : Memref sig .tc .vmem S1x4x2048x128 .bf16) (h3 : M3.IsWhole) (M4 : Memref sig .tc .vmem S1x4x2048x128 .bf16) (h4 : M4.IsWhole)
  (M5 : Memref sig .tc .vmem S1x256x512 .bf16) (h5 : M5.IsWhole)
  (x2 : Vec F S1x4x256x128 .bf16) (x3 : Vec F S1x4x2048x128 .bf16) (x4 : Vec F S1x4x2048x128 .bf16)

/-- The four pairs' queries, as the function loads them. -/
def queryRows : Fin 4 → Vec F S1x1x256x128 .bf16 :=
  ![View.readAt (Elt F) M2.view (Rect.unit (s := S1x4x256x128) ![0, 0, 0, 0] S1x1x256x128.size inb_S1x4x256x128_S1x1x256x128_0_0_0_0).toLoadRect (h2.unread x2),
    View.readAt (Elt F) M2.view (Rect.unit (s := S1x4x256x128) ![0, 1, 0, 0] S1x1x256x128.size inb_S1x4x256x128_S1x1x256x128_0_1_0_0).toLoadRect (h2.unread x2),
    View.readAt (Elt F) M2.view (Rect.unit (s := S1x4x256x128) ![0, 2, 0, 0] S1x1x256x128.size inb_S1x4x256x128_S1x1x256x128_0_2_0_0).toLoadRect (h2.unread x2),
    View.readAt (Elt F) M2.view (Rect.unit (s := S1x4x256x128) ![0, 3, 0, 0] S1x1x256x128.size inb_S1x4x256x128_S1x1x256x128_0_3_0_0).toLoadRect (h2.unread x2)]

/-- The four pairs' rows of the diagonal's block, as it loads them. -/
def diagRows (M : Memref sig .tc .vmem S1x4x2048x128 .bf16) (hM : M.IsWhole) (x : Vec F S1x4x2048x128 .bf16) : Fin 4 → Vec F S1x1x256x128 .bf16 :=
  ![View.readAt (Elt F) M.view (Rect.unit (s := S1x4x2048x128) (k0_off1 i) S1x1x256x128.size (k0_off1_inb i)).toLoadRect (hM.unread x),
    View.readAt (Elt F) M.view (Rect.unit (s := S1x4x2048x128) (k0_off2 i) S1x1x256x128.size (k0_off2_inb i)).toLoadRect (hM.unread x),
    View.readAt (Elt F) M.view (Rect.unit (s := S1x4x2048x128) (k0_off3 i) S1x1x256x128.size (k0_off3_inb i)).toLoadRect (hM.unread x),
    View.readAt (Elt F) M.view (Rect.unit (s := S1x4x2048x128) (k0_off4 i) S1x1x256x128.size (k0_off4_inb i)).toLoadRect (hM.unread x)]

theorem body_qm : bodyRun.sl.H10_8 c M2 h2 x2 = slabs fun h => maskedQ (queryRows M2 h2 x2 (pairOf h)) h := by sl_kernel_rfl

theorem body_sp_stored : bodyRun.sl.H8_8 c i M2 h2 M3 h3 x2 x3
    = slabs fun h => k0_pay52 (k0_pay4 i) (k0_pay49 ((Memref.whole cc0_scratch4).view.readCov (bodyRun.sl.H10_8 c M2 h2 x2) (slabAt 256 128 h).toLoadRect))
        (diagRows i M3 h3 x3 (pairOf h)) := by
  sl_kernel_rfl

theorem body_sp : bodyRun.sl.H8_8 c i M2 h2 M3 h3 x2 x3
    = slabs fun h => k0_pay52 (k0_pay4 i) (k0_pay49 (maskedQ (queryRows M2 h2 x2 (pairOf h)) h)) (diagRows i M3 h3 x3 (pairOf h)) := by
  rw [body_sp_stored, body_qm]
  congr 1
  funext h
  congr 2
  exact readCov_slabs _ _ h

theorem body_ls_stored : bodyRun.sl.H9_8 c i M2 h2 M3 h3 x2 x3
    = slabs fun h => k0_pay53 (k0_pay4 i) (k0_pay49 ((Memref.whole cc0_scratch4).view.readCov (bodyRun.sl.H10_8 c M2 h2 x2) (slabAt 256 128 h).toLoadRect))
        (diagRows i M3 h3 x3 (pairOf h)) := by
  sl_kernel_rfl

theorem body_ls : bodyRun.sl.H9_8 c i M2 h2 M3 h3 x2 x3
    = slabs fun h => k0_pay53 (k0_pay4 i) (k0_pay49 (maskedQ (queryRows M2 h2 x2 (pairOf h)) h)) (diagRows i M3 h3 x3 (pairOf h)) := by
  rw [body_ls_stored, body_qm]
  congr 1
  funext h
  congr 2
  exact readCov_slabs _ _ h

theorem body_acc_stored : bodyRun.sl.H6_8 c i M2 h2 M3 h3 M4 h4 x2 x3 x4
    = slabs fun h => accFirst (k0_pay4 i)
        ((Memref.whole cc0_scratch2).view.readCov (bodyRun.sl.H8_8 c i M2 h2 M3 h3 x2 x3) (slabAt 256 256 h).toLoadRect)
        ((Memref.whole cc0_scratch3).view.readCov (bodyRun.sl.H9_8 c i M2 h2 M3 h3 x2 x3) (slabAt 256 256 h).toLoadRect)
        (diagRows i M4 h4 x4 (pairOf h)) := by
  sl_kernel_rfl

theorem body_acc : bodyRun.sl.H6_8 c i M2 h2 M3 h3 M4 h4 x2 x3 x4
    = slabs fun h => accFirst (k0_pay4 i)
        (k0_pay52 (k0_pay4 i) (k0_pay49 (maskedQ (queryRows M2 h2 x2 (pairOf h)) h)) (diagRows i M3 h3 x3 (pairOf h)))
        (k0_pay53 (k0_pay4 i) (k0_pay49 (maskedQ (queryRows M2 h2 x2 (pairOf h)) h)) (diagRows i M3 h3 x3 (pairOf h)))
        (diagRows i M4 h4 x4 (pairOf h)) := by
  rw [body_acc_stored, body_sp, body_ls]
  simp only [readCov_slabs]

theorem body_sums_stored : bodyRun.sl.H7_8 c i M2 h2 M3 h3 x2 x3
    = slabs fun h => sumFirst
        ((Memref.whole cc0_scratch2).view.readCov (bodyRun.sl.H8_8 c i M2 h2 M3 h3 x2 x3) (slabAt 256 256 h).toLoadRect) := by
  sl_kernel_rfl

theorem body_sums : bodyRun.sl.H7_8 c i M2 h2 M3 h3 x2 x3
    = slabs fun h => sumFirst (k0_pay52 (k0_pay4 i) (k0_pay49 (maskedQ (queryRows M2 h2 x2 (pairOf h)) h)) (diagRows i M3 h3 x3 (pairOf h))) := by
  rw [body_sums_stored, body_sp]
  simp only [readCov_slabs]

theorem body_live_stored : bodyRun.sl.v538 c i M2 h2 M3 h3 x2 x3
    = Scalar.cmpf .olt (k0_pay3 ((Memref.whole cc0_scratch1).view.readCov (bodyRun.sl.H7_8 c i M2 h2 M3 h3 x2 x3)
        (Rect.unit (s := S8x256x1) ![0, 0, 0] S8x256x1.size inb_S8x256x1_S8x256x1_0_0_0).toLoadRect))
        (Named.named Cert.KernelIdeal.κ "dead" 0x43160000#32) := by
  sl_kernel_rfl

/-- Whether weight is left after the diagonal's block. -/
theorem body_live : bodyRun.sl.v538 c i M2 h2 M3 h3 x2 x3
    = Scalar.cmpf .olt (k0_pay3 (View.canon (bodyRun.sl.H7_8 c i M2 h2 M3 h3 x2 x3) : Vec F S8x256x1 .f32))
        (Named.named Cert.KernelIdeal.κ "dead" 0x43160000#32) := by
  rw [body_live_stored]
  exact congrArg (fun s => Scalar.cmpf .olt (k0_pay3 s) (Named.named Cert.KernelIdeal.κ "dead" 0x43160000#32)) (readCov_sums _ _)

/-- What the loop leaves in the accumulator. -/
def accEnd : Vec F S8x256x128 .f32 :=
  (loopEnd c i M3 h3 M4 h4 k0_pay5 (h3.unread x3) (h4.unread x4) (View.canon (bodyRun.sl.H10_8 c M2 h2 x2) : Vec F S8x256x128 .bf16) (i 1).val 0
    (View.canon (bodyRun.sl.H6_8 c i M2 h2 M3 h3 M4 h4 x2 x3 x4) : Vec F S8x256x128 .f32)
    (View.canon (bodyRun.sl.H7_8 c i M2 h2 M3 h3 x2 x3) : Vec F S8x256x1 .f32) (bodyRun.sl.v538 c i M2 h2 M3 h3 x2 x3)).1

/-- The output's four column slabs, each from a pair of heads. -/
theorem body_out : (bodyRun c i M2 h2 M3 h3 M4 h4 M5 h5 x2 x3 x4).out
    = [⟨Rect.unit (s := S1x256x512) ![0, 0, 384] S1x256x128.size inb_S1x256x512_S1x256x128_0_0_384,
          k0_pay97 k0_pay6 (slabOf (accEnd c i M2 h2 M3 h3 M4 h4 x2 x3 x4) 6) (slabOf (accEnd c i M2 h2 M3 h3 M4 h4 x2 x3 x4) 7)⟩,
       ⟨Rect.unit (s := S1x256x512) ![0, 0, 256] S1x256x128.size inb_S1x256x512_S1x256x128_0_0_256,
          k0_pay97 k0_pay6 (slabOf (accEnd c i M2 h2 M3 h3 M4 h4 x2 x3 x4) 4) (slabOf (accEnd c i M2 h2 M3 h3 M4 h4 x2 x3 x4) 5)⟩,
       ⟨Rect.unit (s := S1x256x512) ![0, 0, 128] S1x256x128.size inb_S1x256x512_S1x256x128_0_0_128,
          k0_pay97 k0_pay6 (slabOf (accEnd c i M2 h2 M3 h3 M4 h4 x2 x3 x4) 2) (slabOf (accEnd c i M2 h2 M3 h3 M4 h4 x2 x3 x4) 3)⟩,
       ⟨Rect.unit (s := S1x256x512) ![0, 0, 0] S1x256x128.size inb_S1x256x512_S1x256x128_0_0_0,
          k0_pay97 k0_pay6 (slabOf (accEnd c i M2 h2 M3 h3 M4 h4 x2 x3 x4) 0) (slabOf (accEnd c i M2 h2 M3 h3 M4 h4 x2 x3 x4) 1)⟩] := by
  sl_kernel_rfl

end Function

end Cert.Proof.KI

end
-- ==== Proof.KI.Index.lean ====
/- The stages at an index, over the extended reals. -/
module

public import proofs.«01_k».proof.Proof.KI.Stages

@[expose] public section

set_option maxRecDepth 16384

noncomputable section

namespace Cert.Proof.KI

open Cert.KernelIdeal Cert.KernelIdeal.Gen
open Idealize.ShloMosaic
open Idealize.ShloMosaic.TcCoe Idealize.ShloMosaic.Tactic

/-- The softplus of a score, to base 2, as the program writes it. -/
def soft (x : EReal) : EReal := max (Ideal.log (1 + Ideal.exp2 (min x ⊤)) * (((Real.log 2)⁻¹ : ℝ) : EReal)) x

theorem named_exp2_max : (Named.named κ "exp2_max" 0x42FC0000#32 : Ideal .f32) = ⊤ := IdealRules.named_const.ideal_named_scalar _ _ _ _ rfl
theorem named_dead : (Named.named κ "dead" 0x43160000#32 : Ideal .f32) = ⊤ := IdealRules.named_const.ideal_named_scalar _ _ _ _ rfl
theorem named_log2e : (Named.named κ "log2e" 0x3FB8AA3B#32 : Ideal .f32) = (((Real.log 2)⁻¹ : ℝ) : EReal) :=
  IdealRules.named_const.ideal_named_scalar _ _ _ _ rfl

/-- A score: one row of the queries against one of the keys. -/
def score (q : Vec Ideal S1x256x128 .bf16) (k : Vec Ideal S1x1x256x128 .bf16) (r c : Fin 256) : EReal :=
  ∑ d : Fin 128, (q (ix3 0 r d) : EReal) * k (ix4 0 0 c d)

variable (q : Vec Ideal S1x256x128 .bf16) (k : Vec Ideal S1x1x256x128 .bf16) (r c : Fin 256)

theorem pay100_apply : (k0_pay100 q k : FVec Ideal S256x256 .f32) (ix2 r c) = score q k r c := by
  unfold k0_pay100
  pointwise
  rfl

theorem pay101_apply : (k0_pay101 q k : FVec Ideal S256x256 .f32) (ix2 r c) = soft (score q k r c) := by
  unfold k0_pay101
  pointwise
  rw [pay100_apply, named_exp2_max, named_log2e]
  rfl

theorem pay102_apply : (k0_pay102 q k : FVec Ideal S1x256x256 .bf16) (ix3 0 r c) = soft (score q k r c) := by
  unfold k0_pay102
  pointwise
  rw [pay101_apply]

theorem pay103_apply : (k0_pay103 q k : FVec Ideal S1x256x256 .f32) (ix3 0 r c) = score q k r c - soft (score q k r c) := by
  unfold k0_pay103
  pointwise
  rw [pay101_apply, pay100_apply]

theorem pay50_apply : (k0_pay50 (k0_pay49 q) k : FVec Ideal S256x256 .f32) (ix2 r c) = score q k r c := by
  unfold k0_pay50 k0_pay49
  pointwise
  rfl

/-- The diagonal's mask: the keys strictly before the query. -/
theorem pay4_apply (i : grid0.Coords) : k0_pay4 i (ix2 r c) = if c.val < r.val then 1#1 else 0#1 := by
  have h : k0_pay4 i (ix2 r c) = IntOp.cmpi CmpIPredicate.slt (IntOp.subi (BitVec.ofNat 32 c.val) (BitVec.ofNat 32 r.val))
      (Scalar.subi (Scalar.muli (BitVec.ofNat 32 (i 1).val) 256#32) (Scalar.muli (blocks (i 1)) 256#32)) := by
    unfold k0_pay4
    pointwise
    rfl
  have hz : ∀ b : Fin 8, Scalar.subi (Scalar.muli (BitVec.ofNat 32 b.val) 256#32) (Scalar.muli (blocks b) 256#32) = 0#32 := by decide +kernel
  rw [h, show Scalar.subi (Scalar.muli (BitVec.ofNat 32 (i 1).val) 256#32) (Scalar.muli (blocks (i 1)) 256#32) = 0#32 from hz (i 1)]
  show BitVec.ofBool ((BitVec.ofNat 32 c.val - BitVec.ofNat 32 r.val).slt 0#32) = _
  have hr := r.isLt
  have hc := c.isLt
  have e : (BitVec.ofNat 32 c.val - BitVec.ofNat 32 r.val).slt 0#32 = decide (c.val < r.val) := by
    rw [BitVec.slt_eq_decide]
    congr 1
    apply propext
    rw [BitVec.toInt_eq_toNat_cond]
    simp only [BitVec.toNat_sub, BitVec.toNat_ofNat, BitVec.toInt_zero]
    split_ifs <;> omega
  rw [e]
  by_cases h : c.val < r.val <;> simp [h]

theorem pay51_apply (i : grid0.Coords) : (k0_pay51 (k0_pay4 i) (k0_pay49 q) k : FVec Ideal S256x256 .f32) (ix2 r c)
    = if c.val < r.val then soft (score q k r c) else 0 := by
  unfold k0_pay51
  pointwise
  rw [pay50_apply, named_exp2_max, named_log2e, pay4_apply]
  by_cases h : c.val < r.val
  · rw [if_pos h, if_pos h]; rfl
  · rw [if_neg h, if_neg h]; rfl

theorem pay52_apply (i : grid0.Coords) : (k0_pay52 (k0_pay4 i) (k0_pay49 q) k : FVec Ideal S1x256x256 .bf16) (ix3 0 r c)
    = if c.val < r.val then soft (score q k r c) else 0 := by
  unfold k0_pay52
  pointwise
  rw [pay51_apply]

theorem pay53_apply (i : grid0.Coords) : (k0_pay53 (k0_pay4 i) (k0_pay49 q) k : FVec Ideal S1x256x256 .f32) (ix3 0 r c)
    = score q k r c - if c.val < r.val then soft (score q k r c) else 0 := by
  unfold k0_pay53
  pointwise
  rw [pay51_apply, pay50_apply]

/-- The table that sums over the keys after each one. -/
theorem pay5_apply : (k0_pay5 : FVec Ideal S256x256 .bf16) (ix2 r c) = if c.val < r.val then (1 : EReal) else 0 := by
  unfold k0_pay5
  pointwise
  have hr := r.isLt
  have hc := c.isLt
  have e : IntOp.cmpi CmpIPredicate.sgt (BitVec.ofNat 32 r.val) (BitVec.ofNat 32 c.val) = BitVec.ofBool (decide (c.val < r.val)) := by
    show BitVec.ofBool ((BitVec.ofNat 32 c.val).slt (BitVec.ofNat 32 r.val)) = _
    congr 1
    rw [BitVec.slt_eq_decide]
    congr 1
    apply propext
    rw [BitVec.toInt_eq_toNat_cond, BitVec.toInt_eq_toNat_cond]
    simp only [BitVec.toNat_ofNat]
    split_ifs <;> omega
  rw [e]
  by_cases h : c.val < r.val
  · simp only [h, decide_true, if_true]
    show ((((BitVec.setWidth 32 (BitVec.ofBool true)).toInt : ℤ) : ℝ) : EReal) = 1
    rw [show (BitVec.setWidth 32 (BitVec.ofBool true)).toInt = 1 from by decide]; simp
  · simp only [h, decide_false, if_false]
    show ((((BitVec.setWidth 32 (BitVec.ofBool false)).toInt : ℤ) : ℝ) : EReal) = 0
    rw [show (BitVec.setWidth 32 (BitVec.ofBool false)).toInt = 0 from by decide]; simp

/-- Lane `d` of a pair's slab belongs to head `h`. -/
def mine (h : Fin 8) (d : Fin 128) : Prop := (d.val < 64 ↔ h.val % 2 = 0)
instance (h : Fin 8) (d : Fin 128) : Decidable (mine h d) := inferInstanceAs (Decidable (_ ↔ _))

theorem pay6_apply (d : Fin 128) : k0_pay6 (ix2 r d) = if d.val < 64 then 1#1 else 0#1 := by
  unfold k0_pay6
  pointwise
  have key : ∀ d : Fin 128, IntOp.cmpi CmpIPredicate.slt (BitVec.ofNat 32 d.val) 64#32 = if d.val < 64 then 1#1 else 0#1 := by decide +kernel
  exact key d

theorem maskedQ_apply (x : Vec Ideal S1x1x256x128 .bf16) (h : Fin 8) (d : Fin 128) :
    (maskedQ x h (ix3 0 r d) : EReal) = if mine h d then (x (ix4 0 0 r d) : EReal) else 0 := by
  unfold mine
  by_cases h1 : h.val % 2 = 0 <;> by_cases h2 : d.val < 64
  all_goals
    simp only [maskedQ, h1, h2, if_true, if_false, iff_self, true_iff, false_iff, not_true_eq_false, iff_true, iff_false, not_false_eq_true]
    first | unfold k0_pay11 | unfold k0_pay10
    pointwise
    rw [pay6_apply]
    simp only [h2, if_true, if_false]
    rfl

theorem accStep_apply (sp : FVec Ideal S1x256x256 .bf16) (ls : FVec Ideal S1x256x256 .f32) (v : Vec Ideal S1x1x256x128 .bf16)
    (a : FVec Ideal S1x256x128 .f32) (s : FVec Ideal S1x256x1 .f32) (d : Fin 128) :
    (accStep k0_pay5 sp ls v a s (ix3 0 r d) : EReal)
      = a (ix3 0 r d) + ∑ x : Fin 256, Ideal.exp2 ((ls (ix3 0 r x) - ∑ y : Fin 256, (sp (ix3 0 r y) : EReal) * (if x.val < y.val then (1 : EReal) else 0))
          - s (ix3 0 r 0)) * v (ix4 0 0 x d) := by
  unfold accStep weigh sufOf
  pointwise
  simp only [pay5_apply]
  rfl

theorem total_apply (sp : FVec Ideal S1x256x256 .bf16) :
    (total k0_pay5 sp (ix2 r 0) : EReal) = (∑ y : Fin 256, (sp (ix3 0 r y) : EReal) * (if 0 < y.val then (1 : EReal) else 0)) + sp (ix3 0 r 0) := by
  unfold total sufOf
  pointwise
  simp only [pay5_apply]
  rfl

theorem sumStep_apply (sp : FVec Ideal S1x256x256 .bf16) (s : FVec Ideal S1x256x1 .f32) :
    (sumStep k0_pay5 sp s (ix3 0 r 0) : EReal)
      = s (ix3 0 r 0) + ((∑ y : Fin 256, (sp (ix3 0 r y) : EReal) * (if 0 < y.val then (1 : EReal) else 0)) + sp (ix3 0 r 0)) := by
  unfold sumStep
  pointwise
  rw [total_apply]

theorem accFirst_apply (i : grid0.Coords) (sp : FVec Ideal S1x256x256 .bf16) (ls : FVec Ideal S1x256x256 .f32) (v : Vec Ideal S1x1x256x128 .bf16) (d : Fin 128) :
    (accFirst (k0_pay4 i) sp ls v (ix3 0 r d) : EReal)
      = ∑ x : Fin 256, (if x.val < r.val then
          Ideal.exp2 (ls (ix3 0 r x) - ∑ y : Fin 256, (sp (ix3 0 r y) : EReal) * (if x.val < y.val then (1 : EReal) else 0)) else 0) * v (ix4 0 0 x d) := by
  unfold accFirst weigh sufOf
  pointwise
  simp only [pay5_apply, pay4_apply]
  refine Finset.sum_congr rfl fun x _ => ?_
  by_cases h : x.val < r.val
  · rw [if_pos h, if_pos h]; rfl
  · rw [if_neg h, if_neg h, zero_mul]; rfl

theorem sumFirst_apply (sp : FVec Ideal S1x256x256 .bf16) :
    (sumFirst sp (ix3 0 r 0) : EReal)
      = (∑ y : Fin 256, (sp (ix3 0 r y) : EReal) * (if 0 < y.val then (1 : EReal) else 0)) + sp (ix3 0 r 0) := by
  unfold sumFirst
  pointwise
  rw [total_apply]

theorem pay97_apply (a b : Vec Ideal S1x256x128 .f32) (d : Fin 128) :
    (k0_pay97 k0_pay6 a b (ix3 0 r d) : EReal) = if d.val < 64 then (a (ix3 0 r d) : EReal) else b (ix3 0 r d) := by
  unfold k0_pay97
  pointwise
  rw [pay6_apply]
  by_cases h : d.val < 64
  · rw [if_pos h, if_pos h]; rfl
  · rw [if_neg h, if_neg h]; rfl

instance : Subsingleton S1.Idx := ⟨fun x y => funext fun a => by
  fin_cases a
  exact Fin.ext (by have h1 : (x 0).val < 1 := (x 0).isLt; have h2 : (y 0).val < 1 := (y 0).isLt; show (x 0).val = (y 0).val; omega)⟩

/-- The least running sum is at most each. -/
theorem pay3_apply (s : Vec Ideal S8x256x1 .f32) (h : Fin 8) : (k0_pay3 s : EReal) ≤ s (ix3 h r 0) := by
  unfold k0_pay3
  pointwise
  refine (Finset.fold_min_le _).mpr (Or.inr ⟨ix4 0 h r 0, ?_, le_refl _⟩)
  exact Finset.mem_filter.mpr ⟨Finset.mem_univ _, Subsingleton.elim (α := S1.Idx) _ _⟩

end Cert.Proof.KI

end
-- ==== Proof.Math.lean ====
/- The mathematics of one attention row: a head's scores of one query against the keys, in base 2. Key `s` before query
   `t` gets weight `2 ^ (z s − σ s − Σ over the later keys before t of σ)`, where `σ x = log₂ (1 + 2 ^ x)`; other keys get none. -/
module

public import Mathlib.Analysis.SpecialFunctions.Log.Basic
public import Mathlib.Analysis.SpecialFunctions.Pow.Real
public import Mathlib.Data.EReal.Operations
public import Mathlib.Algebra.BigOperators.Intervals
public import Mathlib.Data.Fintype.BigOperators

@[expose] public section

noncomputable section

namespace Cert.Proof.Row

/-- The softplus to base 2. -/
def σ (x : ℝ) : ℝ := Real.log (1 + (2 : ℝ) ^ x) / Real.log 2

theorem log_two_pos : 0 < Real.log 2 := Real.log_pos one_lt_two

theorem le_σ (x : ℝ) : x ≤ σ x := by
  unfold σ
  rw [le_div_iff₀ log_two_pos, ← Real.log_rpow two_pos]
  exact Real.log_le_log (Real.rpow_pos_of_pos two_pos x) (by linarith)

/-- The softplus of the keys before `t`, nothing of the others. -/
def S (z : ℕ → ℝ) (t s : ℕ) : ℝ := if s < t then σ (z s) else 0

/-- A key's weight. -/
def weight (z : ℕ → ℝ) (t s : ℕ) : ℝ :=
  if s < t then (2 : ℝ) ^ (z s - σ (z s) - ∑ x ∈ Finset.Ico (s + 1) 2048, S z t x) else 0

/-- The softplus sum stops at the query. -/
theorem sum_S_Ico (z : ℕ → ℝ) (t lo hi : ℕ) (hlo : lo ≤ hi) (h : t ≤ hi) (hN : hi ≤ 2048) :
    ∑ x ∈ Finset.Ico lo 2048, S z t x = ∑ x ∈ Finset.Ico lo hi, S z t x := by
  rw [← Finset.sum_Ico_consecutive _ hlo hN]
  have : ∑ x ∈ Finset.Ico hi 2048, S z t x = 0 := Finset.sum_eq_zero fun x hx => by
    rw [Finset.mem_Ico] at hx
    exact if_neg (by omega)
  rw [this, add_zero]

/-- A sum over 256 consecutive keys. -/
theorem sum_block {M : Type*} [AddCommMonoid M] (f : ℕ → M) (lo n : ℕ) :
    ∑ x : Fin n, f (lo + x.val) = ∑ s ∈ Finset.Ico lo (lo + n), f s := by
  rw [Finset.sum_Ico_eq_sum_range, Nat.add_sub_cancel_left, Finset.sum_range]

/-- Of them, the ones after the `c`-th. -/
theorem sum_block_after (f : ℕ → ℝ) (lo n c : ℕ) (hc : c < n) :
    ∑ x : Fin n, f (lo + x.val) * (if c < x.val then 1 else 0) = ∑ s ∈ Finset.Ico (lo + c + 1) (lo + n), f s := by
  have h := sum_block (fun s => if lo + c < s then f s else 0) lo n
  have e : ∀ x : Fin n, f (lo + x.val) * (if c < x.val then 1 else 0) = if lo + c < lo + x.val then f (lo + x.val) else 0 := fun x => by
    by_cases hx : c < x.val
    · rw [if_pos hx, if_pos (by omega), mul_one]
    · rw [if_neg hx, if_neg (by omega), mul_zero]
  rw [Finset.sum_congr rfl fun x _ => e x, h, ← Finset.sum_Ico_consecutive _ (show lo ≤ lo + c + 1 by omega) (show lo + c + 1 ≤ lo + n by omega)]
  have h0 : ∑ s ∈ Finset.Ico lo (lo + c + 1), (if lo + c < s then f s else 0) = 0 := Finset.sum_eq_zero fun s hs => by
    rw [Finset.mem_Ico] at hs
    exact if_neg (by omega)
  rw [h0, zero_add]
  exact Finset.sum_congr rfl fun s hs => by
    rw [Finset.mem_Ico] at hs
    exact if_pos (by omega)

theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

theorem coe_sum_block_after (f : ℕ → ℝ) (lo n c : ℕ) (hc : c < n) :
    ∑ x : Fin n, ((f (lo + x.val) : ℝ) : EReal) * (if c < x.val then (1 : EReal) else 0)
      = ((∑ s ∈ Finset.Ico (lo + c + 1) (lo + n), f s : ℝ) : EReal) := by
  rw [← sum_block_after f lo n c hc, coe_sum]
  refine Finset.sum_congr rfl fun x _ => ?_
  split_ifs <;> simp

/-- A block's softplus sum, as the program takes it: what comes after its first key, and the first. -/
theorem coe_sum_block (f : ℕ → ℝ) (lo n : ℕ) (hn : 0 < n) :
    (∑ x : Fin n, ((f (lo + x.val) : ℝ) : EReal) * (if 0 < x.val then (1 : EReal) else 0)) + ((f lo : ℝ) : EReal)
      = ((∑ s ∈ Finset.Ico lo (lo + n), f s : ℝ) : EReal) := by
  rw [coe_sum_block_after f lo n 0 hn, ← EReal.coe_add, Finset.sum_eq_sum_Ico_succ_bot (show lo < lo + n by omega), add_comm, Nat.add_zero]

end Cert.Proof.Row

end
-- ==== Proof.KI.Rows.lean ====
/- The loop over the extended reals: with finite queries and keys, what the running sums and the accumulator hold after
   each block is the softplus sum, and the weighted sum of the values, over the keys met so far. -/
module

public import proofs.«01_k».proof.Proof.KI.Index
public import proofs.«01_k».proof.Proof.Math

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Cert.Proof.Row

/-! ## The scalar functions at a real -/

theorem exp2_real (x : ℝ) : Ideal.exp2 (x : EReal) = (((2 : ℝ) ^ x : ℝ) : EReal) := Ideal.exp2_coe x

theorem soft_real (x : ℝ) : soft (x : EReal) = ((σ x : ℝ) : EReal) := by
  have hp : (0 : ℝ) < 1 + (2 : ℝ) ^ x := by have := Real.rpow_pos_of_pos two_pos x; linarith
  unfold soft
  rw [min_eq_left le_top, exp2_real, ← EReal.coe_one, ← EReal.coe_add, Ideal.log_coe, if_neg (not_le.mpr hp), ← EReal.coe_mul]
  rw [show Real.log (1 + (2 : ℝ) ^ x) * (Real.log 2)⁻¹ = σ x from (div_eq_mul_inv _ _).symm]
  exact max_eq_left (EReal.coe_le_coe_iff.mpr (le_σ x))

/-! ## The blocks a pass loads -/

theorem diagRows_eq (i : grid0.Coords) (M : Memref sig .tc .vmem S1x4x2048x128 .bf16) (hM : M.IsWhole) (x : Vec Ideal S1x4x2048x128 .bf16)
    (ho : 256 * (i 1).val + 256 ≤ 2048) (p : Fin 4) : diagRows i M hM x p = rows256 x (256 * (i 1).val) ho p := by
  fin_cases p
  · exact readAt_rows M hM x _ _ _ ho 0 (k0_off1_eq i)
  · exact readAt_rows M hM x _ _ _ ho 1 (k0_off2_eq i)
  · exact readAt_rows M hM x _ _ _ ho 2 (k0_off3_eq i)
  · exact readAt_rows M hM x _ _ _ ho 3 (k0_off4_eq i)

/-- Where the `j`-th pass's block starts. -/
theorem pass_start (i : grid0.Coords) (j : ℕ) (hj : j < (i 1).val) :
    (Scalar.indexCast (Scalar.muli (Scalar.subi (Scalar.subi (blocks (i 1)) 1#32) (BitVec.ofNat 32 j)) 256#32)).toNat = 256 * ((i 1).val - 1 - j) := by
  have h8 : (i 1).val < 8 := (i 1).isLt
  have key : ∀ (b j : Fin 8), j.val < b.val →
      (Scalar.indexCast (Scalar.muli (Scalar.subi (Scalar.subi (blocks b) 1#32) (BitVec.ofNat 32 j.val)) 256#32)).toNat = 256 * (b.val - 1 - j.val) := by
    decide +kernel
  exact key (i 1) ⟨j, by omega⟩ hj

theorem pass_off (i : grid0.Coords) (j : ℕ) (hj : j < (i 1).val) :
    k0_off5 i (BitVec.ofNat 32 j) = ![0, 0, 256 * ((i 1).val - 1 - j), 0] ∧ k0_off6 i (BitVec.ofNat 32 j) = ![0, 1, 256 * ((i 1).val - 1 - j), 0]
      ∧ k0_off7 i (BitVec.ofNat 32 j) = ![0, 2, 256 * ((i 1).val - 1 - j), 0] ∧ k0_off8 i (BitVec.ofNat 32 j) = ![0, 3, 256 * ((i 1).val - 1 - j), 0] := by
  have h := pass_start i j hj
  refine ⟨?_, ?_, ?_, ?_⟩ <;>
  · funext a
    fin_cases a
    · rfl
    · rfl
    · exact h
    · rfl

theorem passRows_eq (c : Dev nD) (i : grid0.Coords) (j : ℕ) (hj : j < (i 1).val) (hc : k0_chk1 i (BitVec.ofNat 32 j))
    (M : Memref sig .tc .vmem S1x4x2048x128 .bf16) (hM : M.IsWhole) (x : Vec Ideal S1x4x2048x128 .bf16)
    (ho : 256 * ((i 1).val - 1 - j) + 256 ≤ 2048) (p : Fin 4) :
    passRows c i (BitVec.ofNat 32 j) hc M (hM.unread x) p = rows256 x (256 * ((i 1).val - 1 - j)) ho p := by
  obtain ⟨h5, h6, h7, h8⟩ := pass_off i j hj
  fin_cases p
  · exact readAt_rows M hM x _ _ _ ho 0 h5
  · exact readAt_rows M hM x _ _ _ ho 1 h6
  · exact readAt_rows M hM x _ _ _ ho 2 h7
  · exact readAt_rows M hM x _ _ _ ho 3 h8

theorem queryRows_apply (M2 : Memref sig .tc .vmem S1x4x256x128 .bf16) (h2 : M2.IsWhole) (x2 : Vec Ideal S1x4x256x128 .bf16) (p : Fin 4)
    (r : Fin 256) (d : Fin 128) : queryRows M2 h2 x2 p (ix4 0 0 r d) = x2 (ix4 0 p r d) := by
  have key : ∀ (off : Fin 4 → ℕ) (inb : ∀ a, off a + S1x1x256x128.size a ≤ S1x4x256x128.size a), off = ![0, p.val, 0, 0] →
      View.readAt (Elt Ideal) M2.view (Rect.unit (s := S1x4x256x128) off S1x1x256x128.size inb).toLoadRect (h2.unread x2) (ix4 0 0 r d)
        = x2 (ix4 0 p r d) := by
    intro off inb he
    subst he
    rw [View.readAt_apply, h2.read_unread]
    congr 1
    funext k
    apply Fin.ext
    fin_cases k
    · rfl
    · show p.val + 1 * 0 = p.val; omega
    · show 0 + 1 * r.val = r.val; omega
    · show 0 + 1 * d.val = d.val; omega
  fin_cases p
  · exact key _ inb_S1x4x256x128_S1x1x256x128_0_0_0_0 rfl
  · exact key _ inb_S1x4x256x128_S1x1x256x128_0_1_0_0 rfl
  · exact key _ inb_S1x4x256x128_S1x1x256x128_0_2_0_0 rfl
  · exact key _ inb_S1x4x256x128_S1x1x256x128_0_3_0_0 rfl

/-! ## One row's scores and values -/

section Row

variable (x2 : Vec Ideal S1x4x256x128 .bf16) (x3 x4 : Vec Ideal S1x4x2048x128 .bf16)

/-- Head `h`'s scores of query row `r` against the keys. -/
def zrow (h : Fin 8) (r : Fin 256) (s : ℕ) : ℝ :=
  if hs : s < 2048 then
    ∑ d : Fin 128, (if mine h d then (x2 (ix4 0 (pairOf h) r d) : EReal).toReal else 0) * (x3 (ix4 0 (pairOf h) ⟨s, hs⟩ d) : EReal).toReal
  else 0

/-- The values at lane `d` of head `h`'s slab. -/
def vrow (h : Fin 8) (d : Fin 128) (s : ℕ) : EReal := if hs : s < 2048 then x4 (ix4 0 (pairOf h) ⟨s, hs⟩ d) else 0

theorem score_rows (hq : ∀ j, ∃ a : ℝ, (x2 j : EReal) = a) (hk : ∀ j, ∃ a : ℝ, (x3 j : EReal) = a)
    (M2 : Memref sig .tc .vmem S1x4x256x128 .bf16) (h2 : M2.IsWhole) (h : Fin 8) (r : Fin 256) (o : ℕ) (ho : o + 256 ≤ 2048) (c : Fin 256) :
    score (maskedQ (queryRows M2 h2 x2 (pairOf h)) h) (rows256 x3 o ho (pairOf h)) r c = ((zrow x2 x3 h r (o + c.val) : ℝ) : EReal) := by
  unfold score zrow
  rw [dif_pos (show o + c.val < 2048 by omega), coe_sum]
  refine Finset.sum_congr rfl fun d _ => ?_
  rw [maskedQ_apply, queryRows_apply]
  have e : (rows256 x3 o ho (pairOf h) (ix4 0 0 c d) : EReal) = x3 (ix4 0 (pairOf h) ⟨o + c.val, by omega⟩ d) := rfl
  obtain ⟨a, ha⟩ := hq (ix4 0 (pairOf h) r d)
  obtain ⟨b, hb⟩ := hk (ix4 0 (pairOf h) ⟨o + c.val, by omega⟩ d)
  rw [e, ha, hb, EReal.toReal_coe, EReal.toReal_coe]
  split_ifs
  · rw [EReal.coe_mul]
  · rw [zero_mul, zero_mul]; rfl

theorem rows_value (h : Fin 8) (o : ℕ) (ho : o + 256 ≤ 2048) (c : Fin 256) (d : Fin 128) :
    (rows256 x4 o ho (pairOf h) (ix4 0 0 c d) : EReal) = vrow x4 h d (o + c.val) := by
  unfold vrow
  rw [dif_pos (show o + c.val < 2048 by omega)]
  rfl

end Row

/-! ## The invariant -/

section Loop

variable (c : Dev nD) (i : grid0.Coords)
  (M2 : Memref sig .tc .vmem S1x4x256x128 .bf16) (h2 : M2.IsWhole)
  (M3 : Memref sig .tc .vmem S1x4x2048x128 .bf16) (h3 : M3.IsWhole) (M4 : Memref sig .tc .vmem S1x4x2048x128 .bf16) (h4 : M4.IsWhole)
  (x2 : Vec Ideal S1x4x256x128 .bf16) (x3 x4 : Vec Ideal S1x4x2048x128 .bf16)

/-- What the two buffers hold once the keys from the `lo`-th to the end of the diagonal's block have been met. -/
def Met (lo : ℕ) (A : Vec Ideal S8x256x128 .f32) (C : Vec Ideal S8x256x1 .f32) : Prop :=
  ∀ (h : Fin 8) (r : Fin 256),
    (C (ix3 h r 0) : EReal) = ((∑ s ∈ Finset.Ico lo (256 * (i 1).val + 256), S (zrow x2 x3 h r) (256 * (i 1).val + r.val) s : ℝ) : EReal)
    ∧ ∀ d : Fin 128, (A (ix3 h r d) : EReal)
        = ∑ s ∈ Finset.Ico lo (256 * (i 1).val + 256), ((weight (zrow x2 x3 h r) (256 * (i 1).val + r.val) s : ℝ) : EReal) * vrow x4 h d s

/-- With the running sums real, weight is left. -/
theorem live_of_met (lo : ℕ) (A : Vec Ideal S8x256x128 .f32) (C : Vec Ideal S8x256x1 .f32) (hM : Met i x2 x3 x4 lo A C) :
    Scalar.cmpf .olt (k0_pay3 C) (Named.named Cert.KernelIdeal.κ "dead" 0x43160000#32) = 1#1 := by
  rw [named_dead]
  have h1 : (k0_pay3 C : EReal) < ⊤ := lt_of_le_of_lt (pay3_apply 0 C 0) (by rw [(hM 0 0).1]; exact EReal.coe_lt_top _)
  rw [Ideal.scalar_cmpf_def]
  exact congrArg BitVec.ofBool (decide_eq_true h1)

variable (hq : ∀ j, ∃ a : ℝ, (x2 j : EReal) = a) (hk : ∀ j, ∃ a : ℝ, (x3 j : EReal) = a)

include hq hk

/-- The diagonal's block. -/
theorem met_first : Met i x2 x3 x4 (256 * (i 1).val)
    (View.canon (bodyRun.sl.H6_8 c i M2 h2 M3 h3 M4 h4 x2 x3 x4) : Vec Ideal S8x256x128 .f32)
    (View.canon (bodyRun.sl.H7_8 c i M2 h2 M3 h3 x2 x3) : Vec Ideal S8x256x1 .f32) := by
  have h8 : (i 1).val < 8 := (i 1).isLt
  have ho : 256 * (i 1).val + 256 ≤ 2048 := by omega
  intro h r
  have hsp : ∀ y : Fin 256, (k0_pay52 (k0_pay4 i) (k0_pay49 (maskedQ (queryRows M2 h2 x2 (pairOf h)) h)) (diagRows i M3 h3 x3 (pairOf h)) (ix3 0 r y) : EReal)
      = ((S (zrow x2 x3 h r) (256 * (i 1).val + r.val) (256 * (i 1).val + y.val) : ℝ) : EReal) := fun y => by
    rw [pay52_apply, diagRows_eq i M3 h3 x3 ho, score_rows x2 x3 hq hk, soft_real]
    unfold S
    by_cases hy : y.val < r.val
    · rw [if_pos hy, if_pos (by omega)]
    · rw [if_neg hy, if_neg (by omega)]; rfl
  constructor
  · rw [body_sums]
    refine (canon_slabs _ h r 0).trans ?_
    rw [sumFirst_apply]
    simp only [hsp]
    exact coe_sum_block (S (zrow x2 x3 h r) (256 * (i 1).val + r.val)) (256 * (i 1).val) 256 (by omega)
  · intro d
    rw [body_acc]
    refine (canon_slabs _ h r d).trans ?_
    rw [accFirst_apply, ← sum_block (fun s => ((weight (zrow x2 x3 h r) (256 * (i 1).val + r.val) s : ℝ) : EReal) * vrow x4 h d s) (256 * (i 1).val) 256]
    refine Finset.sum_congr rfl fun x _ => ?_
    rw [diagRows_eq i M4 h4 x4 ho, rows_value]
    congr 1
    unfold weight
    by_cases hx : x.val < r.val
    · simp only [hsp]
      rw [if_pos hx, if_pos (by omega), pay53_apply, if_pos hx,
        diagRows_eq i M3 h3 x3 ho, score_rows x2 x3 hq hk, soft_real,
        coe_sum_block_after (S (zrow x2 x3 h r) (256 * (i 1).val + r.val)) (256 * (i 1).val) 256 x.val x.isLt,
        ← EReal.coe_sub, ← EReal.coe_sub, exp2_real,
        sum_S_Ico _ _ (256 * (i 1).val + x.val + 1) (256 * (i 1).val + 256) (by omega) (by omega) (by omega)]
    · rw [if_neg hx, if_neg (by omega)]; rfl

/-- One pass. -/
theorem met_pass (j : ℕ) (hj : j < (i 1).val) (lv : BitVec 1) (hg : goes i (BitVec.ofNat 32 j) lv = 1#1) (hc : k0_chk1 i (BitVec.ofNat 32 j))
    (A : Vec Ideal S8x256x128 .f32) (C : Vec Ideal S8x256x1 .f32) (hM : Met i x2 x3 x4 (256 * ((i 1).val - j)) A C) :
    Met i x2 x3 x4 (256 * ((i 1).val - (j + 1)))
      (tripRun c i _ lv hg hc M3 h3 M4 h4 k0_pay5 (h3.unread x3) (h4.unread x4) A C (View.canon (bodyRun.sl.H10_8 c M2 h2 x2) : Vec Ideal S8x256x128 .bf16)).acc
      (tripRun c i _ lv hg hc M3 h3 M4 h4 k0_pay5 (h3.unread x3) (h4.unread x4) A C (View.canon (bodyRun.sl.H10_8 c M2 h2 x2) : Vec Ideal S8x256x128 .bf16)).sums := by
  have h8 : (i 1).val < 8 := (i 1).isLt
  have e0 : (i 1).val - (j + 1) = (i 1).val - 1 - j := by omega
  have e1 : 256 * ((i 1).val - j) = 256 * ((i 1).val - 1 - j) + 256 := by omega
  rw [e1] at hM
  rw [e0]
  generalize hlo : 256 * ((i 1).val - 1 - j) = lo at *
  have hlot : lo + 256 ≤ 256 * (i 1).val := by omega
  have ho : lo + 256 ≤ 2048 := by omega
  have hrow : ∀ (M : Memref sig .tc .vmem S1x4x2048x128 .bf16) (hM : M.IsWhole) (x : Vec Ideal S1x4x2048x128 .bf16) (p : Fin 4),
      passRows c i (BitVec.ofNat 32 j) hc M (hM.unread x) p = rows256 x lo ho p := by
    subst hlo
    exact fun M hM x p => passRows_eq c i j hj hc M hM x ho p
  intro h r
  obtain ⟨hC, hA⟩ := hM h r
  have hqm : slabOf (View.canon (bodyRun.sl.H10_8 c M2 h2 x2) : Vec Ideal S8x256x128 .bf16) h = maskedQ (queryRows M2 h2 x2 (pairOf h)) h := by
    rw [body_qm]; exact slabOf_canon _ h
  have hS : ∀ y : Fin 256, S (zrow x2 x3 h r) (256 * (i 1).val + r.val) (lo + y.val) = σ (zrow x2 x3 h r (lo + y.val)) := fun y => if_pos (by omega)
  have hsp : ∀ y : Fin 256, (k0_pay102 (maskedQ (queryRows M2 h2 x2 (pairOf h)) h) (rows256 x3 lo ho (pairOf h)) (ix3 0 r y) : EReal)
      = ((S (zrow x2 x3 h r) (256 * (i 1).val + r.val) (lo + y.val) : ℝ) : EReal) := fun y => by
    rw [pay102_apply, score_rows x2 x3 hq hk, soft_real, hS]
  constructor
  · rw [pass_sums]
    refine (canon_slabs _ h r 0).trans ?_
    rw [hqm, hrow, sumStep_apply, slabOf_apply, hC]
    simp only [hsp]
    have e := coe_sum_block (S (zrow x2 x3 h r) (256 * (i 1).val + r.val)) lo 256 (by omega)
    rw [show lo + (0 : Fin 256).val = lo from rfl, e, ← EReal.coe_add, add_comm, Finset.sum_Ico_consecutive _ (by omega) (by omega)]
  · intro d
    rw [pass_acc]
    refine (canon_slabs _ h r d).trans ?_
    rw [hqm, hrow, hrow, accStep_apply, slabOf_apply, slabOf_apply, hC, hA d]
    rw [← Finset.sum_Ico_consecutive _ (show lo ≤ lo + 256 by omega) (show lo + 256 ≤ 256 * (i 1).val + 256 by omega), add_comm]
    congr 1
    rw [← sum_block (fun s => ((weight (zrow x2 x3 h r) (256 * (i 1).val + r.val) s : ℝ) : EReal) * vrow x4 h d s) lo 256]
    refine Finset.sum_congr rfl fun x _ => ?_
    rw [rows_value]
    congr 1
    unfold weight
    simp only [hsp]
    rw [if_pos (by omega), pay103_apply, score_rows x2 x3 hq hk, soft_real,
      coe_sum_block_after (S (zrow x2 x3 h r) (256 * (i 1).val + r.val)) lo 256 x.val x.isLt,
      ← EReal.coe_sub, ← EReal.coe_sub, ← EReal.coe_sub, exp2_real,
      sum_S_Ico _ _ (lo + x.val + 1) (256 * (i 1).val + 256) (by omega) (by omega) (by omega),
      ← Finset.sum_Ico_consecutive _ (show lo + x.val + 1 ≤ lo + 256 by omega) (show lo + 256 ≤ 256 * (i 1).val + 256 by omega), sub_sub (_ - _)]

/-- The loop, whole. -/
theorem met_loop : ∀ (k j : ℕ), j + k = (i 1).val → ∀ (A : Vec Ideal S8x256x128 .f32) (C : Vec Ideal S8x256x1 .f32) (lv : BitVec 1), lv = 1#1 →
    Met i x2 x3 x4 (256 * ((i 1).val - j)) A C →
    ∃ C', Met i x2 x3 x4 0 (loopEnd c i M3 h3 M4 h4 k0_pay5 (h3.unread x3) (h4.unread x4) (View.canon (bodyRun.sl.H10_8 c M2 h2 x2) : Vec Ideal S8x256x128 .bf16)
      k j A C lv).1 C' := by
  intro k
  induction k with
  | zero =>
    intro j hj A C lv _ hM
    rw [show 256 * ((i 1).val - j) = 0 by omega] at hM
    exact ⟨C, hM⟩
  | succ k ih =>
    intro j hj A C lv hlv hM
    have hjT : j < (i 1).val := by omega
    have hg : goes i (BitVec.ofNat 32 j) lv = 1#1 := (goes_iff i j hjT lv).trans hlv
    have hc := chk_of_lt i j hjT
    have hM' := met_pass c i M2 h2 M3 h3 M4 h4 x2 x3 x4 hq hk j hjT lv hg hc A C hM
    rw [loopEnd, dif_pos ⟨hg, hc⟩]
    refine ih (j + 1) (by omega) _ _ _ ?_ hM'
    rw [pass_live]
    exact live_of_met i x2 x3 x4 _ _ _ hM'

/-- What the loop leaves: each query's weighted sum of the values. -/
theorem accEnd_apply (h : Fin 8) (r : Fin 256) (d : Fin 128) :
    (accEnd c i M2 h2 M3 h3 M4 h4 x2 x3 x4 (ix3 h r d) : EReal)
      = ∑ s ∈ Finset.Ico 0 (256 * (i 1).val + 256), ((weight (zrow x2 x3 h r) (256 * (i 1).val + r.val) s : ℝ) : EReal) * vrow x4 h d s := by
  have hM := met_first c i M2 h2 M3 h3 M4 h4 x2 x3 x4 hq hk
  obtain ⟨C', hC'⟩ := met_loop c i M2 h2 M3 h3 M4 h4 x2 x3 x4 hq hk (i 1).val 0 (Nat.zero_add _) _ _ (bodyRun.sl.v538 c i M2 h2 M3 h3 x2 x3)
    ((body_live c i M2 h2 M3 h3 x2 x3).trans (live_of_met i x2 x3 x4 _ _ _ hM)) hM
  exact (hC' h r).2 d

end Loop

end Cert.Proof.KI

end
-- ==== Proof.KI.Output.lean ====
/- The output's block over the extended reals, from the argument arrays, and with it the output array. -/
module

public import proofs.«01_k».proof.Proof.KI.Rows
public import proofs.«01_k».proof.Proof.KI.Frame
public import Idealize.ShloMosaic.Lib.Pipeline.ValueKit.Geometry

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.ShloMosaic.Pipeline (Dat Cfg Window)
open Cert.Proof.Row

/-! ## The four column slabs -/

theorem col_inb (p : ℕ) (hp : p < 4) : ∀ a, (![0, 0, 128 * p] : Fin 3 → ℕ) a + S1x256x128.size a ≤ S1x256x512.size a := by
  intro a
  fin_cases a
  · show 0 + 1 ≤ 1; omega
  · show 0 + 256 ≤ 256; omega
  · show 128 * p + 128 ≤ 512; omega

/-- The four stores of a family of column slabs, the last first. -/
def cols (g : Fin 4 → Vec Ideal S1x256x128 .bf16) : List (View.Piece (Elt Ideal) S1x256x512 .bf16) :=
  List.ofFn fun k : Fin 4 => ⟨Rect.unit (s := S1x256x512) ![0, 0, 128 * (Fin.rev k).val] S1x256x128.size (col_inb _ (Fin.rev k).isLt), g (Fin.rev k)⟩

theorem canon_cols (g : Fin 4 → Vec Ideal S1x256x128 .bf16) (r : Fin 256) (col : Fin 512) :
    View.canon (cols g) (ix3 (0 : Fin 1) r col : S1x256x512.Idx) = g ⟨col.val / 128, by omega⟩ (ix3 0 r ⟨col.val % 128, by omega⟩) := by
  have hc := col.isLt
  unfold cols
  refine View.canon_ofFn_unit_eq_of_forall (S := S1x256x512) (fun k : Fin 4 => ![0, 0, 128 * (Fin.rev k).val]) S1x256x128.size
    (fun k => col_inb _ (Fin.rev k).isLt) (fun k => g (Fin.rev k)) _ _ ?_ ?_
  · refine ⟨Fin.rev ⟨col.val / 128, by omega⟩, fun a => ?_⟩
    rw [Fin.rev_rev]
    fin_cases a
    · exact ⟨le_refl _, Nat.lt_succ_self _⟩
    · exact ⟨Nat.zero_le _, by show r.val < 0 + 256; omega⟩
    · exact ⟨by show 128 * (col.val / 128) ≤ col.val; omega, by show col.val < 128 * (col.val / 128) + 128; omega⟩
  · intro k x hx
    have h0 : (x 0).val < 1 := (x 0).isLt
    have h2 : (x 2).val < 128 := (x 2).isLt
    have e1 : 0 + (x 1).val = r.val := (hx 1).symm
    have e2 : 128 * (Fin.rev k).val + (x 2).val = col.val := (hx 2).symm
    have hk : Fin.rev k = ⟨col.val / 128, by omega⟩ := by apply Fin.ext; show (Fin.rev k).val = col.val / 128; omega
    show g (Fin.rev k) x = _
    rw [hk]
    congr 1
    rw [eq_ix3 x]
    congr 1
    · apply Fin.ext; show (x 0).val = 0; omega
    · apply Fin.ext; omega
    · apply Fin.ext; show (x 2).val = col.val % 128; omega

/-! ## One grid point -/

section Point

variable (c : Dev nD) (i : grid0.Coords)
  (M2 : Memref sig .tc .vmem S1x4x256x128 .bf16) (h2 : M2.IsWhole)
  (M3 : Memref sig .tc .vmem S1x4x2048x128 .bf16) (h3 : M3.IsWhole) (M4 : Memref sig .tc .vmem S1x4x2048x128 .bf16) (h4 : M4.IsWhole)
  (M5 : Memref sig .tc .vmem S1x256x512 .bf16) (h5 : M5.IsWhole)
  (x2 : Vec Ideal S1x4x256x128 .bf16) (x3 x4 : Vec Ideal S1x4x2048x128 .bf16)

theorem out_cols : (bodyRun c i M2 h2 M3 h3 M4 h4 M5 h5 x2 x3 x4).out = cols fun p =>
    k0_pay97 k0_pay6 (slabOf (accEnd c i M2 h2 M3 h3 M4 h4 x2 x3 x4) ⟨2 * p.val, by omega⟩)
      (slabOf (accEnd c i M2 h2 M3 h3 M4 h4 x2 x3 x4) ⟨2 * p.val + 1, by omega⟩) := by
  rw [body_out]
  unfold cols
  simp only [List.ofFn_succ, List.ofFn_zero]
  rfl

/-- A column of the output's block: the head and the lane of its slab. -/
theorem out_apply (r : Fin 256) (col : Fin 512) : (View.canon (bodyRun c i M2 h2 M3 h3 M4 h4 M5 h5 x2 x3 x4).out (ix3 (0 : Fin 1) r col : S1x256x512.Idx) : EReal)
    = accEnd c i M2 h2 M3 h3 M4 h4 x2 x3 x4 (ix3 ⟨col.val / 64, by omega⟩ r ⟨col.val % 128, by omega⟩) := by
  rw [out_cols]
  refine (canon_cols _ r col).trans ?_
  rw [pay97_apply, slabOf_apply, slabOf_apply]
  by_cases h : col.val % 128 < 64
  · rw [if_pos h]
    congr 2
    apply Fin.ext; show 2 * (col.val / 128) = col.val / 64; omega
  · rw [if_neg h]
    congr 2
    apply Fin.ext; show 2 * (col.val / 128) + 1 = col.val / 64; omega

end Point

/-! ## The blocks of the argument arrays -/

variable (m : (ℓ : Loc nD τ sig) → Buf (Elt Ideal) ℓ)

theorem index_q : ∀ t : Fin grid0.N, win0_0.index t = ![(grid0.coords t 0).val, 0, (grid0.coords t 1).val, 0] := by decide +kernel
theorem index_k : ∀ t : Fin grid0.N, win0_1.index t = ![(grid0.coords t 0).val, 0, 0, 0] := by decide +kernel
theorem index_v : ∀ t : Fin grid0.N, win0_2.index t = ![(grid0.coords t 0).val, 0, 0, 0] := by decide +kernel
theorem index_o : ∀ t : Fin grid0.N, win0_3.index t = ![(grid0.coords t 0).val, (grid0.coords t 1).val, 0] := by decide +kernel

/-- The batch entry of a grid point, and its block of queries. -/
abbrev batch (t : Fin grid0.N) : Fin 8 := grid0.coords t 0
abbrev qblock (t : Fin grid0.N) : Fin 8 := grid0.coords t 1

theorem block_q (c : Dev nD) (t : Fin grid0.N) (p : Fin 4) (r : Fin 256) (d : Fin 128) :
    blockAt m c 0 t (ix4 (0 : Fin 1) p r d) = (m ((c.tc : Thread nD τ).loc main_arg0) : Vec Ideal S8x4x2048x128 .bf16)
      (ix4 (batch t) p ⟨256 * (qblock t).val + r.val, by have := (qblock t).isLt; omega⟩ d) := by
  unfold blockAt
  blk_simp
  refine congrArg (m ((c.tc : Thread nD τ).loc main_arg0) : Vec Ideal S8x4x2048x128 .bf16) ?_
  blk_ext [index_q]
  · exact Nat.add_zero _
  · show (grid0.coords t 1).val * 256 + r.val = 256 * (grid0.coords t 1).val + r.val
    omega

theorem block_k (c : Dev nD) (t : Fin grid0.N) (p : Fin 4) (s : Fin 2048) (d : Fin 128) :
    blockAt m c 1 t (ix4 (0 : Fin 1) p s d) = (m ((c.tc : Thread nD τ).loc main_arg1) : Vec Ideal S8x4x2048x128 .bf16) (ix4 (batch t) p s d) := by
  unfold blockAt
  blk_simp
  refine congrArg (m ((c.tc : Thread nD τ).loc main_arg1) : Vec Ideal S8x4x2048x128 .bf16) ?_
  blk_ext [index_k]
  exact Nat.add_zero _

theorem block_v (c : Dev nD) (t : Fin grid0.N) (p : Fin 4) (s : Fin 2048) (d : Fin 128) :
    blockAt m c 2 t (ix4 (0 : Fin 1) p s d) = (m ((c.tc : Thread nD τ).loc main_arg2) : Vec Ideal S8x4x2048x128 .bf16) (ix4 (batch t) p s d) := by
  unfold blockAt
  blk_simp
  refine congrArg (m ((c.tc : Thread nD τ).loc main_arg2) : Vec Ideal S8x4x2048x128 .bf16) ?_
  blk_ext [index_v]
  exact Nat.add_zero _

/-- The output array, from what each grid point leaves. -/
theorem array_o (c : Dev nD) (G : Vec Ideal S8x2048x512 .bf16)
    (hG : ∀ (t : Fin grid0.N) (r : Fin 256) (col : Fin 512), (outAt m c t (ix3 (0 : Fin 1) r col) : EReal)
      = G (ix3 (batch t) ⟨256 * (qblock t).val + r.val, by have := (qblock t).isLt; omega⟩ col)) :
    (dats m 0 c).arrAt 3 (cfg0 (F := Ideal)).N = G := by
  refine (dats m 0 c).arrAt_eq_of_covers 3 G (by decide +kernel) fun t hf y => ?_
  blk_simp
  rw [after_o]
  have h0 : (y 0).val < 1 := (y 0).isLt
  have ey : y = ix3 (0 : Fin 1) (y 1) (y 2) := by
    rw [eq_ix3 y]
    congr 1
    apply Fin.ext
    show (y 0).val = 0
    omega
  rw [ey]
  refine (hG t (y 1) (y 2)).trans (congrArg G ?_)
  blk_ext [index_o]
  · exact (Nat.add_zero _).symm
  · show 256 * (grid0.coords t 1).val + (y 1).val = (grid0.coords t 1).val * 256 + (y 1).val
    omega

end Cert.Proof.KI

end
-- ==== Proof.RI.Value.lean ====
/- The reference, stage by stage, over the extended reals. -/
module

public import proofs.«01_k».proof.Proof.Gen.ReferenceIdeal.Run
public import proofs.«01_k».proof.Proof.Math
public import Idealize.ShloMosaic.Lib.Pointwise

@[expose] public section

set_option maxRecDepth 16384

noncomputable section

namespace Cert.Proof.RI

open Cert.ReferenceIdeal Cert.ReferenceIdeal.Gen
open Idealize.ShloMosaic
open Idealize.ShloMosaic.TcCoe Idealize.ShloMosaic.Tactic
open Cert.Proof.Row

abbrev In := FVec Ideal S8x4x2048x128 .bf16
abbrev Sq := FVec Ideal S8x8x2048x2048 .f32

/-- The eight heads of 64 lanes. -/
def heads (x : In) : FVec Ideal S8x2048x8x64 .f32 :=
  shapeCast _ (transpose S8x2048x4x2x64 [0, 2, 1, 3, 4] (shapeCast _ (extf .f32 x bitsLt_bf16_f32) shapeCasts_S8x4x2048x128_S8x4x2048x2x64)
    transposes_S8x4x2048x2x64_S8x2048x4x2x64_0_2_1_3_4) shapeCasts_S8x2048x4x2x64_S8x2048x8x64

def scores (q k : In) : Sq :=
  mulf (Host.dotGeneral dot_S8x2048x8x64_S8x2048x8x64_S8x8x2048x2048_3_3_1_1_02_02 none (heads q) (heads k))
    (broadcastInDim S8x8x2048x2048 ![] bcast_S_S8x8x2048x2048 (Host.log (constant S_ .f32 0x40000000#32)))

def zeros : Sq := broadcastInDim S8x8x2048x2048 ![] bcast_S_S8x8x2048x2048 (constant S_ .f32 0x00000000#32)

def zeros' : Sq := broadcastInDim S8x8x2048x2048 ![] bcast_S_S8x8x2048x2048 (id (constant S_ .f32 0x00000000#32))

/-- The logarithm of the logistic function. -/
def logistic (x : Sq) : Sq :=
  Host.negf (select (cmpf .une (subf (Host.negf x) zeros) (subf (Host.negf x) zeros)) (addf (Host.negf x) zeros)
    (addf (maximumf (Host.negf x) zeros) (Host.log1p (Host.exp (Host.negf (Host.absf (subf (Host.negf x) zeros)))))))

/-- The keys strictly before the query. -/
def before : IVec S8x8x2048x2048 1 :=
  broadcastInDim S8x8x2048x2048 ![2, 3] bcast_S2048x2048_S8x8x2048x2048_2_3 (cmpi .slt
    (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0))))

def running (x : Sq) : Sq :=
  Host.reduceWindowAdd ![1, 1, 1, 2048] ![1, 1, 1, 1] ![0, 0, 0, 2047] ![0, 0, 0, 0] x (broadcastInDim S_ ![] bcast_S_S_ (constant S_ .f32 0x00000000#32))
    reduceWindows_S8x8x2048x2048_S8x8x2048x2048_w1s1p0_0_w1s1p0_0_w1s1p0_0_w2048s1p2047_0 h_S_

def spent (z : Sq) : Sq := running (select before (logistic (Host.negf z)) zeros')

def weights (z : Sq) : Sq :=
  select before (Host.exp (addf (logistic z) (subf (broadcastInDim S8x8x2048x2048 ![0, 1, 2, 3] bcast_S8x8x2048x1_S8x8x2048x2048_0_1_2_3
    (extractStridedSlice S8x8x2048x1 ![0, 0, 0, 2047] (spent z) slices_S8x8x2048x2048_S8x8x2048x1_0_0_0_2047)) (spent z)))) zeros'

def result (v : In) (w : Sq) : FVec Ideal S8x2048x512 .bf16 :=
  truncf .bf16 (shapeCast _ (transpose S8x2048x8x64 [0, 3, 1, 2] (Host.dotGeneral dot_S8x2048x8x64_S8x8x2048x2048_S8x8x64x2048_1_3_3_2_02_01 none (heads v) w)
    transposes_S8x8x64x2048_S8x2048x8x64_0_3_1_2) shapeCasts_S8x2048x8x64_S8x2048x512) bitsLt_bf16_f32

theorem res_eq (m : (ℓ : Loc nD τ sig) → Buf (Elt Ideal) ℓ) (c : Dev nD) :
    Value.res_main_v37 m c = result (m ((c.tc : Thread nD τ).loc main_arg2))
      (weights (scores (m ((c.tc : Thread nD τ).loc main_arg0)) (m ((c.tc : Thread nD τ).loc main_arg1)))) := by
  unfold Value.res_main_v37
  rfl

theorem heads_apply (x : In) (b : Fin 8) (t : Fin 2048) (h : Fin 8) (d : Fin 64) :
    (heads x (ix4 b t h d) : EReal) = x (ix4 b ⟨h.val / 2, by omega⟩ t ⟨h.val % 2 * 64 + d.val, by omega⟩) := by
  unfold heads
  pointwise

theorem log_two : Ideal.log (Ideal.ofBits FTy.f32 0x40000000#32) = ((Real.log 2 : ℝ) : EReal) := by
  have h : Ideal.ofBits FTy.f32 0x40000000#32 = ((2 : ℝ) : EReal) := by
    simp [Ideal.ofBits, Ideal.ieee]
    norm_num
    rw [← EReal.coe_mul]
    norm_num
  rw [h, Ideal.log_coe, if_neg (by norm_num)]

theorem scores_apply (q k : In) (b h : Fin 8) (t s : Fin 2048) :
    (scores q k (ix4 b h t s) : EReal) = (∑ d : Fin 64, (heads q (ix4 b t h d) : EReal) * heads k (ix4 b s h d)) * ((Real.log 2 : ℝ) : EReal) := by
  unfold scores
  pointwise
  rw [log_two]

theorem zeros_apply (b h : Fin 8) (t s : Fin 2048) : (zeros (ix4 b h t s) : EReal) = 0 := by
  unfold zeros
  pointwise

theorem zeros'_apply (b h : Fin 8) (t s : Fin 2048) : (zeros' (ix4 b h t s) : EReal) = 0 := zeros_apply b h t s

theorem before_apply (b h : Fin 8) (t s : Fin 2048) : before (ix4 b h t s) = if s.val < t.val then 1#1 else 0#1 := by
  unfold before
  pointwise
  have hs := s.isLt
  have ht := t.isLt
  show BitVec.ofBool ((BitVec.ofNat 32 s.val).slt (BitVec.ofNat 32 t.val)) = _
  have e : ((BitVec.ofNat 32 s.val).slt (BitVec.ofNat 32 t.val)) = decide (s.val < t.val) := by
    rw [BitVec.slt_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp only [Nat.cast_lt]
  rw [e]
  by_cases h : s.val < t.val <;> simp [h]

/-! ## The logistic function's logarithm at a real -/

theorem real_softplus (x : ℝ) : max x 0 + Real.log (1 + Real.exp (-|x|)) = Real.log (1 + Real.exp x) := by
  rcases le_total x 0 with h | h
  · rw [max_eq_right h, abs_of_nonpos h, neg_neg, zero_add]
  · rw [max_eq_left h, abs_of_nonneg h]
    have h1 : (0 : ℝ) < 1 + Real.exp (-x) := by have := Real.exp_pos (-x); linarith
    calc x + Real.log (1 + Real.exp (-x)) = Real.log (Real.exp x) + Real.log (1 + Real.exp (-x)) := by rw [Real.log_exp]
      _ = Real.log (Real.exp x * (1 + Real.exp (-x))) := (Real.log_mul (Real.exp_pos x).ne' h1.ne').symm
      _ = Real.log (1 + Real.exp x) := by rw [mul_add, mul_one, ← Real.exp_add, add_neg_cancel, Real.exp_zero, add_comm]

theorem logistic_real (x : Sq) (b h : Fin 8) (t s : Fin 2048) (a : ℝ) (hx : (x (ix4 b h t s) : EReal) = a) :
    (logistic x (ix4 b h t s) : EReal) = ((-Real.log (1 + Real.exp (-a)) : ℝ) : EReal) := by
  have hp : (0 : ℝ) < 1 + Real.exp (-|-a|) := by have := Real.exp_pos (-|-a|); linarith
  have habs : ((|-a| : ℝ) : EReal) = max ((-a : ℝ) : EReal) (-((-a : ℝ) : EReal)) := by
    rw [← EReal.coe_neg, abs_eq_max_neg]
    exact EReal.coe_strictMono.monotone.map_max
  unfold logistic
  pointwise
  rw [zeros_apply, hx, if_neg (by simp), sub_zero, Ideal.absf_def, ← EReal.coe_neg, ← habs, ← EReal.coe_neg, Ideal.exp_coe, Ideal.log1p, ← EReal.coe_one,
    ← EReal.coe_add, Ideal.log_coe, if_neg (not_le.mpr hp), ← EReal.coe_zero, ← EReal.coe_strictMono.monotone.map_max, ← EReal.coe_add, ← EReal.coe_neg,
    real_softplus]

theorem exp_log_two (z : ℝ) : Real.exp (z * Real.log 2) = (2 : ℝ) ^ z := by rw [Real.rpow_def_of_pos two_pos, mul_comm]

/-- The logarithm that a key before the query gives up. -/
theorem logistic_neg (z : ℝ) : -Real.log (1 + Real.exp (-(-(z * Real.log 2)))) = -(Real.log 2 * σ z) := by
  unfold σ
  rw [neg_neg, exp_log_two, mul_div_cancel₀ _ log_two_pos.ne']

/-- The logarithm that it takes. -/
theorem logistic_pos (z : ℝ) : -Real.log (1 + Real.exp (-(z * Real.log 2))) = Real.log 2 * (z - σ z) := by
  have h1 : (0 : ℝ) < 1 + (2 : ℝ) ^ z := by have := Real.rpow_pos_of_pos two_pos z; linarith
  have h2 : (0 : ℝ) < (2 : ℝ) ^ z := Real.rpow_pos_of_pos two_pos z
  have h3 : 1 + Real.exp (-(z * Real.log 2)) = (1 + (2 : ℝ) ^ z) / (2 : ℝ) ^ z := by
    rw [Real.exp_neg, exp_log_two]
    field_simp
    ring
  unfold σ
  rw [h3, Real.log_div h1.ne' h2.ne', Real.log_rpow two_pos, mul_sub, mul_div_cancel₀ _ log_two_pos.ne']
  ring

/-! ## The running sum -/

theorem foldl_add {α M : Type*} [AddCommMonoid M] (g : α → M) (l : List α) (a : M) : l.foldl (fun r n => r + g n) a = a + (l.map g).sum := by
  induction l generalizing a with
  | nil => simp
  | cons n l ih => rw [List.foldl_cons, ih, List.map_cons, List.sum_cons, add_assoc]

/-- A window's sum, as a sum over its positions. -/
theorem window_sum {s t u : Shape} (window strides lo hi : Fin s.rank → ℕ) (x : FVec Ideal s .f32) (init : FVec Ideal u .f32)
    (h : s.ReduceWindows window strides lo hi t) (hu : 0 < u.numel) (hz : (init (Shape.Idx.first hu) : EReal) = 0) (j : t.Idx) :
    (Host.reduceWindowAdd window strides lo hi x init h hu j : EReal) = ∑ w : (⟨s.rank, window⟩ : Shape).Idx,
      if hin : ∀ a, lo a ≤ (j (a.cast h.1.symm)).val * strides a + (w a).val ∧ (j (a.cast h.1.symm)).val * strides a + (w a).val - lo a < s.size a then
        x (fun a => ⟨(j (a.cast h.1.symm)).val * strides a + (w a).val - lo a, (hin a).2⟩) else 0 := by
  rw [← Equiv.sum_comp (⟨s.rank, window⟩ : Shape).rowMajor.symm, Fin.sum_univ_def]
  show Host.reduceWindow (fun a b : EReal => a + b) window strides lo hi x (fun _ : (⟨0, ![]⟩ : Shape).Idx => (init (Shape.Idx.first hu) : EReal)) h (by decide) j = _
  unfold Host.reduceWindow
  rw [hz]
  refine (foldl_add _ _ _).trans ?_
  rw [zero_add]
  refine congrArg List.sum (List.map_congr_left fun n _ => ?_)
  split <;> rfl

/-- A row of the window. -/
def windowRow : (⟨4, ![1, 1, 1, 2048]⟩ : Shape).Idx ≃ Fin 2048 where
  toFun j := j 3
  invFun y := ix4 (0 : Fin 1) (0 : Fin 1) (0 : Fin 1) y
  left_inv j := by
    funext k
    apply Fin.ext
    fin_cases k
    · have h : (j 0).val < 1 := (j 0).isLt
      show 0 = (j 0).val; omega
    · have h : (j 1).val < 1 := (j 1).isLt
      show 0 = (j 1).val; omega
    · have h : (j 2).val < 1 := (j 2).isLt
      show 0 = (j 2).val; omega
    · rfl
  right_inv _ := rfl

/-- A row, nothing beyond its end. -/
def along (x : Sq) (b h : Fin 8) (t : Fin 2048) (s : ℕ) : EReal := if hs : s < 2048 then x (ix4 b h t ⟨s, hs⟩) else 0

theorem running_apply (x : Sq) (b h : Fin 8) (t s : Fin 2048) :
    (running x (ix4 b h t s) : EReal) = ∑ y ∈ Finset.range (s.val + 1), along x b h t y := by
  have hs := s.isLt
  have e : (running x (ix4 b h t s) : EReal) = ∑ j : (⟨4, ![1, 1, 1, 2048]⟩ : Shape).Idx,
      (fun n : Fin 2048 => if 2047 ≤ s.val + n.val then along x b h t (s.val + n.val - 2047) else 0) (windowRow j) := by
    unfold running
    rw [window_sum _ _ _ _ _ _ _ _ Ideal.ofBits_zero_f32]
    refine Finset.sum_congr rfl fun w _ => ?_
    have hw0 : (w 0).val < 1 := (w 0).isLt
    have hw1 : (w 1).val < 1 := (w 1).isLt
    have hw2 : (w 2).val < 1 := (w 2).isLt
    have hw3 : (w 3).val < 2048 := (w 3).isLt
    show _ = if 2047 ≤ s.val + (w 3).val then along x b h t (s.val + (w 3).val - 2047) else 0
    split
    · next hin =>
      have h3 : 2047 ≤ s.val * 1 + (w 3).val ∧ s.val * 1 + (w 3).val - 2047 < 2048 := hin 3
      rw [if_pos (by omega)]
      unfold along
      rw [dif_pos (by omega)]
      congr 1
      funext k
      apply Fin.ext
      fin_cases k
      · show b.val * 1 + (w 0).val - 0 = b.val; omega
      · show h.val * 1 + (w 1).val - 0 = h.val; omega
      · show t.val * 1 + (w 2).val - 0 = t.val; omega
      · show s.val * 1 + (w 3).val - 2047 = s.val + (w 3).val - 2047; omega
    · next hin =>
      rw [if_neg]
      intro hle
      apply hin
      intro k
      fin_cases k
      · show 0 ≤ b.val * 1 + (w 0).val ∧ b.val * 1 + (w 0).val - 0 < 8
        have := b.isLt; omega
      · show 0 ≤ h.val * 1 + (w 1).val ∧ h.val * 1 + (w 1).val - 0 < 8
        have := h.isLt; omega
      · show 0 ≤ t.val * 1 + (w 2).val ∧ t.val * 1 + (w 2).val - 0 < 2048
        have := t.isLt; omega
      · show 2047 ≤ s.val * 1 + (w 3).val ∧ s.val * 1 + (w 3).val - 2047 < 2048
        omega
  rw [e, Equiv.sum_comp windowRow (fun n : Fin 2048 => if 2047 ≤ s.val + n.val then along x b h t (s.val + n.val - 2047) else 0),
    Fin.sum_univ_eq_sum_range (fun n => if 2047 ≤ s.val + n then along x b h t (s.val + n - 2047) else 0) 2048,
    ← Finset.sum_range_add_sum_Ico _ (show 2047 - s.val ≤ 2048 by omega)]
  have h0 : ∑ n ∈ Finset.range (2047 - s.val), (if 2047 ≤ s.val + n then along x b h t (s.val + n - 2047) else 0) = 0 := Finset.sum_eq_zero fun n hn => by
    rw [Finset.mem_range] at hn
    exact if_neg (by omega)
  rw [h0, zero_add, Finset.sum_Ico_eq_sum_range, show 2048 - (2047 - s.val) = s.val + 1 by omega]
  refine Finset.sum_congr rfl fun n _ => ?_
  rw [if_pos (by omega), show s.val + (2047 - s.val + n) - 2047 = n by omega]

/-! ## The weights -/

section Row

variable (q k v : In)

/-- A head's scores of query `t` against the keys, to base 2. -/
def zrow (b h : Fin 8) (t : Fin 2048) (s : ℕ) : ℝ :=
  if hs : s < 2048 then ∑ d : Fin 64, (q (ix4 b ⟨h.val / 2, by omega⟩ t ⟨h.val % 2 * 64 + d.val, by omega⟩) : EReal).toReal
    * (k (ix4 b ⟨h.val / 2, by omega⟩ ⟨s, hs⟩ ⟨h.val % 2 * 64 + d.val, by omega⟩) : EReal).toReal
  else 0

variable (hq : ∀ j, ∃ a : ℝ, (q j : EReal) = a) (hk : ∀ j, ∃ a : ℝ, (k j : EReal) = a)

include hq hk

theorem scores_real (b h : Fin 8) (t s : Fin 2048) : (scores q k (ix4 b h t s) : EReal) = ((zrow q k b h t s.val * Real.log 2 : ℝ) : EReal) := by
  rw [scores_apply, EReal.coe_mul]
  congr 1
  unfold zrow
  rw [dif_pos s.isLt, coe_sum]
  refine Finset.sum_congr rfl fun d _ => ?_
  rw [heads_apply, heads_apply]
  obtain ⟨a, ha⟩ := hq (ix4 b ⟨h.val / 2, by omega⟩ t ⟨h.val % 2 * 64 + d.val, by omega⟩)
  obtain ⟨a', ha'⟩ := hk (ix4 b ⟨h.val / 2, by omega⟩ s ⟨h.val % 2 * 64 + d.val, by omega⟩)
  rw [EReal.coe_mul, show (⟨s.val, s.isLt⟩ : Fin 2048) = s from rfl, ha, ha', EReal.toReal_coe, EReal.toReal_coe]

theorem spent_real (b h : Fin 8) (t s : Fin 2048) :
    (spent (scores q k) (ix4 b h t s) : EReal) = ((-(Real.log 2 * ∑ y ∈ Finset.range (s.val + 1), S (zrow q k b h t) t.val y) : ℝ) : EReal) := by
  unfold spent
  rw [running_apply, Finset.mul_sum, ← Finset.sum_neg_distrib, coe_sum]
  refine Finset.sum_congr rfl fun y hy => ?_
  rw [Finset.mem_range] at hy
  have hyN : y < 2048 := by omega
  unfold along S
  rw [dif_pos hyN]
  show Scalar.select (before (ix4 b h t ⟨y, hyN⟩)) (logistic (Host.negf (scores q k)) (ix4 b h t ⟨y, hyN⟩)) (zeros' (ix4 b h t ⟨y, hyN⟩)) = _
  have hz : ((Host.negf (scores q k) : Sq) (ix4 b h t ⟨y, hyN⟩) : EReal) = ((-(zrow q k b h t y * Real.log 2) : ℝ) : EReal) := by
    have e := scores_real q k hq hk b h t ⟨y, hyN⟩
    rw [EReal.coe_neg]
    exact congrArg (fun x : EReal => -x) e
  rw [logistic_real _ b h t ⟨y, hyN⟩ _ hz, logistic_neg, zeros'_apply, before_apply]
  by_cases hyt : y < t.val
  · rw [if_pos hyt, if_pos hyt]; rfl
  · rw [if_neg hyt, if_neg hyt, mul_zero, neg_zero]; rfl

theorem weights_real (b h : Fin 8) (t s : Fin 2048) :
    (weights (scores q k) (ix4 b h t s) : EReal) = ((weight (zrow q k b h t) t.val s.val : ℝ) : EReal) := by
  unfold weights
  pointwise
  rw [zeros'_apply, before_apply, spent_real q k hq hk, spent_real q k hq hk, logistic_real _ b h t s _ (scores_real q k hq hk b h t s), logistic_pos,
    ← EReal.coe_sub, ← EReal.coe_add, Ideal.exp_coe]
  unfold weight
  by_cases hst : s.val < t.val
  · rw [if_pos hst, if_pos hst]
    show ((Real.exp _ : ℝ) : EReal) = _
    congr 1
    have hs := s.isLt
    rw [Real.rpow_def_of_pos two_pos]
    congr 1
    rw [show ((2047 : Fin 2048) : ℕ) + 1 = 2048 from rfl, ← Finset.sum_range_add_sum_Ico _ (show s.val + 1 ≤ 2048 by omega)]
    ring
  · rw [if_neg hst, if_neg hst]; rfl

theorem result_real (b : Fin 8) (t : Fin 2048) (col : Fin 512) :
    (result v (weights (scores q k)) (ix3 b t col) : EReal)
      = ∑ s : Fin 2048, ((weight (zrow q k b ⟨col.val / 64, by omega⟩ t) t.val s.val : ℝ) : EReal)
          * v (ix4 b ⟨col.val / 64 / 2, by omega⟩ s ⟨col.val / 64 % 2 * 64 + col.val % 64, by omega⟩) := by
  have e : (result v (weights (scores q k)) (ix3 b t col) : EReal) =
      ∑ s : Fin 2048, (heads v (ix4 b s ⟨col.val / 64, by omega⟩ ⟨col.val % 64, by omega⟩) : EReal)
        * weights (scores q k) (ix4 b ⟨col.val / 64, by omega⟩ t s) := by
    unfold result
    pointwise
  rw [e]
  refine Finset.sum_congr rfl fun s _ => ?_
  rw [heads_apply, weights_real q k hq hk, mul_comm]

end Row

end Cert.Proof.RI

end
-- ==== Proof.Match.lean ====
/- The two programs' results are equal: every entry is the same weighted sum of the values. -/
module

public import proofs.«01_k».proof.Proof.KI.Output
public import proofs.«01_k».proof.Proof.RI.Value

@[expose] public section

set_option maxRecDepth 16384

noncomputable section

namespace Cert.Proof.Match

open Cert.KernelIdeal Cert.KernelIdeal.Gen
open Idealize.ShloMosaic
open Idealize.ShloMosaic.TcCoe Idealize.ShloMosaic.Tactic
open Cert.Proof.Row Cert.Proof.KI

/-- A sum over 128 lanes of which a head has 64. -/
theorem sum_mine (h : Fin 8) (f g : Fin 128 → ℝ) :
    ∑ d : Fin 128, (if mine h d then f d else 0) * g d
      = ∑ d : Fin 64, f ⟨h.val % 2 * 64 + d.val, by omega⟩ * g ⟨h.val % 2 * 64 + d.val, by omega⟩ := by
  have e : ∑ d : Fin 128, (if mine h d then f d else 0) * g d
      = ∑ d : Fin 64, (if mine h ⟨d.val, by omega⟩ then f ⟨d.val, by omega⟩ else 0) * g ⟨d.val, by omega⟩
        + ∑ d : Fin 64, (if mine h ⟨64 + d.val, by omega⟩ then f ⟨64 + d.val, by omega⟩ else 0) * g ⟨64 + d.val, by omega⟩ :=
    Fin.sum_univ_add (a := 64) (b := 64) fun d : Fin (64 + 64) => (if mine h d then f d else 0) * g d
  rw [e]
  rcases Nat.mod_two_eq_zero_or_one h.val with hp | hp
  · have h1 : ∀ d : Fin 64, (if mine h ⟨d.val, by omega⟩ then f ⟨d.val, by omega⟩ else 0) = f ⟨d.val, by omega⟩ := fun d =>
      if_pos (by unfold mine; exact ⟨fun _ => hp, fun _ => d.isLt⟩)
    have h2 : ∀ d : Fin 64, (if mine h ⟨64 + d.val, by omega⟩ then f ⟨64 + d.val, by omega⟩ else 0) = 0 := fun d =>
      if_neg (by unfold mine; intro hm; have := hm.mpr hp; simp only at this; omega)
    simp only [h1, h2, zero_mul, Finset.sum_const_zero, add_zero, hp, Nat.zero_add]
  · have h1 : ∀ d : Fin 64, (if mine h ⟨d.val, by omega⟩ then f ⟨d.val, by omega⟩ else 0) = 0 := fun d =>
      if_neg (by unfold mine; intro hm; have := hm.mp d.isLt; omega)
    have h2 : ∀ d : Fin 64, (if mine h ⟨64 + d.val, by omega⟩ then f ⟨64 + d.val, by omega⟩ else 0) = f ⟨64 + d.val, by omega⟩ := fun d =>
      if_pos (by unfold mine; exact ⟨fun hm => by simp only at hm; omega, fun hm => by omega⟩)
    simp only [h1, h2, zero_mul, Finset.sum_const_zero, zero_add, hp, Nat.one_mul]

variable (m : (ℓ : Loc nD τ sig) → Buf (Elt Ideal) ℓ) (c : Dev nD)

/-- The three argument arrays. -/
abbrev Q : Vec Ideal S8x4x2048x128 .bf16 := m ((c.tc : Thread nD τ).loc main_arg0)
abbrev K : Vec Ideal S8x4x2048x128 .bf16 := m ((c.tc : Thread nD τ).loc main_arg1)
abbrev V : Vec Ideal S8x4x2048x128 .bf16 := m ((c.tc : Thread nD τ).loc main_arg2)

/-- Query `r` of a grid point's block, among all. -/
abbrev pos (t : Fin grid0.N) (r : Fin 256) : Fin 2048 := ⟨256 * (qblock t).val + r.val, by have := (qblock t).isLt; omega⟩

theorem scores_match (t : Fin grid0.N) (h : Fin 8) (r : Fin 256) :
    KI.zrow (blockAt m c 0 t) (blockAt m c 1 t) h r = RI.zrow (Q m c) (K m c) (batch t) h (pos t r) := by
  funext s
  unfold KI.zrow RI.zrow
  by_cases hs : s < 2048
  · rw [dif_pos hs, dif_pos hs, sum_mine h (fun d => (blockAt m c 0 t (ix4 0 (pairOf h) r d) : EReal).toReal)
      (fun d => (blockAt m c 1 t (ix4 0 (pairOf h) ⟨s, hs⟩ d) : EReal).toReal)]
    refine Finset.sum_congr rfl fun d _ => ?_
    rw [block_q, block_k]
    rfl
  · rw [dif_neg hs, dif_neg hs]

/-- The weights past a query's block are nothing. -/
theorem sum_to_end (z : ℕ → ℝ) (v : ℕ → EReal) (t e : ℕ) (ht : t ≤ e) (he : e ≤ 2048) :
    ∑ s ∈ Finset.Ico 0 e, ((weight z t s : ℝ) : EReal) * v s = ∑ s : Fin 2048, ((weight z t s.val : ℝ) : EReal) * v s.val := by
  rw [Fin.sum_univ_eq_sum_range (fun s => ((weight z t s : ℝ) : EReal) * v s) 2048, Finset.range_eq_Ico,
    ← Finset.sum_Ico_consecutive _ (Nat.zero_le e) he]
  have h0 : ∑ s ∈ Finset.Ico e 2048, ((weight z t s : ℝ) : EReal) * v s = 0 := Finset.sum_eq_zero fun s hs => by
    rw [Finset.mem_Ico] at hs
    unfold weight
    rw [if_neg (by omega), EReal.coe_zero, zero_mul]
  rw [h0, add_zero]

variable (hq : ∀ j, ∃ a : ℝ, (Q m c j : EReal) = a) (hk : ∀ j, ∃ a : ℝ, (K m c j : EReal) = a)

include hq hk

theorem block_match (t : Fin grid0.N) (r : Fin 256) (col : Fin 512) : (outAt m c t (ix3 (0 : Fin 1) r col) : EReal)
    = RI.result (V m c) (RI.weights (RI.scores (Q m c) (K m c))) (ix3 (batch t) (pos t r) col) := by
  have hi : (qblock t).val < 8 := (qblock t).isLt
  have hq' : ∀ j, ∃ a : ℝ, (show Vec Ideal S1x4x256x128 .bf16 from blockAt m c 0 t) j = (a : EReal) := fun j => by
    have h0 : (j 0).val < 1 := (j 0).isLt
    have ej : j = ix4 (0 : Fin 1) (j 1) (j 2) (j 3) := by
      rw [eq_ix4 j]; congr 1; apply Fin.ext; show (j 0).val = 0; omega
    rw [ej]
    obtain ⟨a, ha⟩ := hq _
    exact ⟨a, (block_q m c t (j 1) (j 2) (j 3)).trans ha⟩
  have hk' : ∀ j, ∃ a : ℝ, (show Vec Ideal S1x4x2048x128 .bf16 from blockAt m c 1 t) j = (a : EReal) := fun j => by
    have h0 : (j 0).val < 1 := (j 0).isLt
    have ej : j = ix4 (0 : Fin 1) (j 1) (j 2) (j 3) := by
      rw [eq_ix4 j]; congr 1; apply Fin.ext; show (j 0).val = 0; omega
    rw [ej]
    obtain ⟨a, ha⟩ := hk _
    exact ⟨a, (block_k m c t (j 1) (j 2) (j 3)).trans ha⟩
  unfold outAt
  refine (out_apply c (grid0.coords t) (qM t) (qW t) (kM t) (kW t) (vM t) (vW t) (oM t) (oW t) _ _ _ r col).trans ?_
  refine (accEnd_apply c (grid0.coords t) (qM t) (qW t) (kM t) (kW t) (vM t) (vW t) _ _ _ hq' hk' ⟨col.val / 64, by omega⟩ r ⟨col.val % 128, by omega⟩).trans ?_
  refine (sum_to_end _ _ _ _ (by omega) (by show 256 * (qblock t).val + 256 ≤ 2048; omega)).trans ?_
  refine Eq.trans ?_ (RI.result_real (Q m c) (K m c) (V m c) hq hk (batch t) (pos t r) col).symm
  refine Finset.sum_congr rfl fun s _ => ?_
  rw [scores_match]
  refine congrArg₂ (fun a b : EReal => a * b) rfl ?_
  unfold vrow
  rw [dif_pos s.isLt]
  refine (block_v m c t _ _ _).trans (congrArg (V m c) ?_)
  congr 1
  apply Fin.ext
  show col.val % 128 = col.val / 64 % 2 * 64 + col.val % 64
  omega

/-- The output array. -/
theorem array_match : (dats m 0 c).arrAt 3 (cfg0 (F := Ideal)).N = RI.result (V m c) (RI.weights (RI.scores (Q m c) (K m c))) :=
  array_o m c _ fun t r col => block_match m c hq hk t r col

end Cert.Proof.Match

end
-- ==== Proof.KI2.Body.lean ====
/- The experts' function at one grid point: from its fourteen windows and the table of live tiles to its return. A point
   covers two tiles of 256 rows, each of which is computed if its word in the table is one and zeroed if it is zero. -/
module

public import proofs.«01_k».proof.Proof.Gen.Kernel2Ideal.Skeleton
public import proofs.«01_k».proof.Proof.Gen.Kernel2Ideal.Launch
public import Idealize.ShloMosaic.Lib.Tactic
public import Idealize.ShloMosaic.Lib.Ring
public import Idealize.ShloMosaic.Lib.Pipeline.FrameBody
public import Idealize.ShloMosaic.Adequacy
public import Idealize.ShloMosaic.Init

@[expose] public section

set_option maxRecDepth 16384

noncomputable section

namespace Cert.Proof.KI2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's cells. -/
abbrev UR (nD : Nat) (τ : Topo) : Type := URounds (GSem nD τ sig) Unit

local notation "𝕄" => MT nD τ sig Unit (Elt F) ℕ (UR nD τ) ℕ

abbrev 𝒱₀ : Variants := Variants.nat

/-! ## What a tile's rows hold after the function -/

/-- The 256 rows of a block that begin at row `o`: their features, their first weight and their second. -/
abbrev feat (o : ℕ) (h : ∀ a, ![o, 0] a + S256x1024.size a ≤ S512x1152.size a) (x : Vec F S512x1152 .f32) : Vec F S256x1024 .f32 :=
  View.ld x (Rect.unit (s := S512x1152) ![o, 0] S256x1024.size h)
abbrev coef (o k : ℕ) (h : ∀ a, ![o, k] a + S256x1.size a ≤ S512x1152.size a) (x : Vec F S512x1152 .f32) : Vec F S256x1 .f32 :=
  View.ld x (Rect.unit (s := S512x1152) ![o, k] S256x1.size h)
abbrev up (x : Vec F S1x1x1024x512 .bf16) : Vec F S1x1x1024x512 .bf16 :=
  View.ld x (Rect.unit (s := S1x1x1024x512) ![0, 0, 0, 0] S1x1x1024x512.size inb_S1x1x1024x512_S1x1x1024x512_0_0_0_0)
abbrev down (x : Vec F S1x1x512x1024 .bf16) : Vec F S1x1x512x1024 .bf16 :=
  View.ld x (Rect.unit (s := S1x1x512x1024) ![0, 0, 0, 0] S1x1x512x1024.size inb_S1x1x512x1024_S1x1x512x1024_0_0_0_0)

/-- The first tile's rows, its word in the table being `w`: the two experts' weighted sum, or zeros. -/
def tile0 (w : BitVec 32) (x4 : Vec F S512x1152 .f32) (x5 x6 x7 x8 : Vec F S1x1x1024x512 .bf16) (x9 x10 : Vec F S1x1x512x1024 .bf16) :
    Vec F S256x1024 .f32 :=
  if w = 1#32 then
    k0_pay1 (k0_pay6 (feat 0 inb_S512x1152_S256x1024_0_0 x4) (coef 0 1024 inb_S512x1152_S256x1_0_1024 x4) (up x5) (up x7) (down x9))
      (k0_pay7 (feat 0 inb_S512x1152_S256x1024_0_0 x4) (up x6) (up x8)) (k0_pay8 (coef 0 1025 inb_S512x1152_S256x1_0_1025 x4)) (down x10)
  else k0_pay2

/-- The second tile's. -/
def tile1 (w : BitVec 32) (x4 : Vec F S512x1152 .f32) (x5 x6 x7 x8 : Vec F S1x1x1024x512 .bf16) (x9 x10 : Vec F S1x1x512x1024 .bf16) :
    Vec F S256x1024 .f32 :=
  if w = 1#32 then
    k0_pay3 (k0_pay10 (feat 256 inb_S512x1152_S256x1024_256_0 x4) (coef 256 1024 inb_S512x1152_S256x1_256_1024 x4) (up x5) (up x7) (down x9))
      (k0_pay11 (feat 256 inb_S512x1152_S256x1024_256_0 x4) (up x6) (up x8)) (k0_pay12 (coef 256 1025 inb_S512x1152_S256x1_256_1025 x4)) (down x10)
  else k0_pay4

/-- The two pieces the function stores, the last first. -/
def pieces (r0 r1 : Vec F S256x1024 .f32) : List (View.Piece (Elt F) S512x1024 .f32) :=
  [⟨Rect.unit (s := S512x1024) ![256, 0] S256x1024.size inb_S512x1024_S256x1024_256_0, r1⟩,
    ⟨Rect.unit (s := S512x1024) ![0, 0] S256x1024.size inb_S512x1024_S256x1024_0_0, r0⟩]

/-! ## The table's words -/

/-- A tile is computed or zeroed. -/
theorem cond_one (w : BitVec 32) (h : w = 0#32 ∨ w = 1#32) :
    (k0_cond1 w = 1#1 ↔ w = 1#32) ∧ (k0_cond2 w = 1#1 ↔ ¬ w = 1#32) ∧ (k0_cond3 w = 1#1 ↔ w = 1#32) ∧ (k0_cond4 w = 1#1 ↔ ¬ w = 1#32) := by
  rcases h with rfl | rfl <;> decide

/-- The table of live tiles, read-only, holding `T`. -/
abbrev liveIs (c : Dev nD) (T : Memref.view (Memref.whole main_arg3 : Memref sig .tc .smem S88 .i32) |>.ty.Contents (Elt F)) : sProp 𝕄 :=
  (Memref.whole main_arg3 : Memref sig .tc .smem S88 .i32).view.loc (c : Thread nD τ) ↦{fullShare.right} T

/-- A word of the table as the function loads it. -/
abbrev loaded (T : (Memref.whole main_arg3 : Memref sig .tc .smem S88 .i32).view.ty.Contents (Elt F)) (off : Fin 1 → ℕ) (h : ∀ a, off a + S1.size a ≤ S88.size a) : BitVec 32 :=
  (Memref.whole main_arg3 : Memref sig .tc .smem S88 .i32).view.readAt (Elt F) (Rect.unit (s := S88) off S1.size h).toLoadRect T (Shape.Idx.first (numel1_S1.symm ▸ Nat.one_pos))

set_option maxHeartbeats 0 in
theorem run (c : Dev nD) (i : grid0.Coords)
    (M4 : Memref sig .tc .vmem S512x1152 .f32) (h4 : M4.IsWhole)
    (M5 : Memref sig .tc .vmem S1x1x1024x512 .bf16) (h5 : M5.IsWhole)
    (M6 : Memref sig .tc .vmem S1x1x1024x512 .bf16) (h6 : M6.IsWhole)
    (M7 : Memref sig .tc .vmem S1x1x1024x512 .bf16) (h7 : M7.IsWhole)
    (M8 : Memref sig .tc .vmem S1x1x1024x512 .bf16) (h8 : M8.IsWhole)
    (M9 : Memref sig .tc .vmem S1x1x512x1024 .bf16) (h9 : M9.IsWhole)
    (M10 : Memref sig .tc .vmem S1x1x512x1024 .bf16) (h10 : M10.IsWhole)
    (M11 : Memref sig .tc .vmem S1x1x1024x512 .bf16) (h11 : M11.IsWhole)
    (M12 : Memref sig .tc .vmem S1x1x1024x512 .bf16) (h12 : M12.IsWhole)
    (M13 : Memref sig .tc .vmem S1x1x1024x512 .bf16) (h13 : M13.IsWhole)
    (M14 : Memref sig .tc .vmem S1x1x1024x512 .bf16) (h14 : M14.IsWhole)
    (M15 : Memref sig .tc .vmem S1x1x512x1024 .bf16) (h15 : M15.IsWhole)
    (M16 : Memref sig .tc .vmem S1x1x512x1024 .bf16) (h16 : M16.IsWhole)
    (M17 : Memref sig .tc .vmem S512x1024 .f32) (h17 : M17.IsWhole)
    (x4 : Vec F S512x1152 .f32) (x5 : Vec F S1x1x1024x512 .bf16) (x6 : Vec F S1x1x1024x512 .bf16) (x7 : Vec F S1x1x1024x512 .bf16) (x8 : Vec F S1x1x1024x512 .bf16) (x9 : Vec F S1x1x512x1024 .bf16) (x10 : Vec F S1x1x512x1024 .bf16) (x11 : Vec F S1x1x1024x512 .bf16) (x12 : Vec F S1x1x1024x512 .bf16) (x13 : Vec F S1x1x1024x512 .bf16) (x14 : Vec F S1x1x1024x512 .bf16) (x15 : Vec F S1x1x512x1024 .bf16) (x16 : Vec F S1x1x512x1024 .bf16)
    (T : (Memref.whole main_arg3 : Memref sig .tc .smem S88 .i32).view.ty.Contents (Elt F)) (w0 w1 : BitVec 32)
    (e1 : loaded T (k0_off1 i 0#32) (k0_off1_inb i 0) = w0) (e2 : loaded T (k0_off2 i) (k0_off2_inb i) = w0)
    (e3 : loaded T (k0_off3 i) (k0_off3_inb i) = w1) (e4 : loaded T (k0_off4 i) (k0_off4_inb i) = w1)
    (hw0 : w0 = 0#32 ∨ w0 = 1#32) (hw1 : w1 = 0#32 ∨ w1 = 1#32) (Q : PUnit → sProp 𝕄) :
    iprop(liveIs c T ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14 ∗ owns (c : Thread nD τ) M15 fullShare x15 ∗ owns (c : Thread nD τ) M16 fullShare x16 ∗ (∃ d, owns (c : Thread nD τ) M17 fullShare d)
        ∗ (iprop(liveIs c T ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14 ∗ owns (c : Thread nD τ) M15 fullShare x15 ∗ owns (c : Thread nD τ) M16 fullShare x16
            ∗ (∃ f, M17.view.loc (c : Thread nD τ) ↦[M17.view.set]{fullShare} M17.view.writes (Elt F) f (pieces (tile0 w0 x4 x5 x6 x7 x8 x9 x10) (tile1 w1 x4 x11 x12 x13 x14 x15 x16)))) -∗ Q ⟨⟩))
      ⊢ wp frame (wpE (defs₀ (F := F)) 𝒱₀ c none) Set.univ
          (cc0_experts i (Memref.whole main_arg1) (Memref.isWhole_whole _) (Memref.whole main_arg2) (Memref.isWhole_whole _) (Memref.whole main_arg3) (Memref.isWhole_whole _)
            M4 h4 M5 h5 M6 h6 M7 h7 M8 h8 M9 h9 M10 h10 M11 h11 M12 h12 M13 h13 M14 h14 M15 h15 M16 h16 M17 h17) Q := by
  obtain ⟨a1, a2, -, -⟩ := cond_one w0 hw0
  obtain ⟨-, -, a3, a4⟩ := cond_one w1 hw1
  unfold liveIs owns
  iintro ⟨HT, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf4 hf5 hf6 hf7 hf8 hf9 hf10 hf11 hf12 hf13 hf14 hf15 hf16
  replace a1 : k0_cond1 (loaded T (k0_off1 i 0#32) (k0_off1_inb i 0)) = 1#1 ↔ w0 = 1#32 := by rw [e1]; exact a1
  replace a2 : k0_cond2 (loaded T (k0_off2 i) (k0_off2_inb i)) = 1#1 ↔ ¬ w0 = 1#32 := by rw [e2]; exact a2
  replace a3 : k0_cond3 (loaded T (k0_off3 i) (k0_off3_inb i)) = 1#1 ↔ w1 = 1#32 := by rw [e3]; exact a3
  replace a4 : k0_cond4 (loaded T (k0_off4 i) (k0_off4_inb i)) = 1#1 ↔ ¬ w1 = 1#32 := by rw [e4]; exact a4
  by_cases c0 : w0 = 1#32 <;> by_cases c1 : w1 = 1#32 <;> simp only [c0, c1, not_true, not_false_iff, iff_true, iff_false] at a1 a2 a3 a4 <;> {
      sl_exec_parts
      sl_step
      unfold pieces tile0 tile1
      simp only [c0, c1, if_true, if_false]
      iapply Hk
      isplitl [HT]; · iexact HT
      isplitl [H4]
      · iexists _; isplitr; · ipureintro; rfl
        iexact H4
      isplitl [H5]
      · iexists _; isplitr; · ipureintro; rfl
        iexact H5
      isplitl [H6]
      · iexists _; isplitr; · ipureintro; rfl
        iexact H6
      isplitl [H7]
      · iexists _; isplitr; · ipureintro; rfl
        iexact H7
      isplitl [H8]
      · iexists _; isplitr; · ipureintro; rfl
        iexact H8
      isplitl [H9]
      · iexists _; isplitr; · ipureintro; rfl
        iexact H9
      isplitl [H10]
      · iexists _; isplitr; · ipureintro; rfl
        iexact H10
      isplitl [H11]
      · iexists _; isplitr; · ipureintro; rfl
        iexact H11
      isplitl [H12]
      · iexists _; isplitr; · ipureintro; rfl
        iexact H12
      isplitl [H13]
      · iexists _; isplitr; · ipureintro; rfl
        iexact H13
      isplitl [H14]
      · iexists _; isplitr; · ipureintro; rfl
        iexact H14
      isplitl [H15]
      · iexists _; isplitr; · ipureintro; rfl
        iexact H15
      isplitl [H16]
      · iexists _; isplitr; · ipureintro; rfl
        iexact H16
      iexists _; iexact H17 }
end Cert.Proof.KI2

end
-- ==== Proof.KI2.Tile.lean ====
/- A tile's rows over the extended reals: on a used tile, the two experts' weighted down-projections of their gated
   activations; zeros on an unused one. -/
module

public import proofs.«01_k».proof.Proof.KI2.Body
public import Idealize.ShloMosaic.Lib.Pointwise

@[expose] public section

set_option maxRecDepth 16384

noncomputable section

namespace Cert.Proof.KI2

open Cert.Kernel2Ideal Cert.Kernel2Ideal.Gen
open Idealize.ShloMosaic
open Idealize.ShloMosaic.TcCoe Idealize.ShloMosaic.Tactic

abbrev RowsBlk := Vec Ideal S512x1152 .f32
abbrev UpBlk := Vec Ideal S1x1x1024x512 .bf16
abbrev DownBlk := Vec Ideal S1x1x512x1024 .bf16

/-- An expert's gated activation of a row. -/
def actOf (x : Fin 1024 → EReal) (g u : UpBlk) (f : Fin 512) : EReal :=
  (∑ d : Fin 1024, x d * (g (ix4 (0 : Fin 1) (0 : Fin 1) d f) : EReal)) * Ideal.logistic (∑ d : Fin 1024, x d * (g (ix4 (0 : Fin 1) (0 : Fin 1) d f) : EReal))
    * ∑ d : Fin 1024, x d * (u (ix4 (0 : Fin 1) (0 : Fin 1) d f) : EReal)

/-- What an expert of weight `w` gives an entry. -/
def givenOf (x : Fin 1024 → EReal) (w : EReal) (g u : UpBlk) (dn : DownBlk) (d : Fin 1024) : EReal :=
  ∑ f : Fin 512, actOf x g u f * w * (dn (ix4 (0 : Fin 1) (0 : Fin 1) f d) : EReal)

/-- The payloads at an entry: the first expert's part, the second's activation, and their sum. -/
theorem pay6_apply (x : Vec Ideal S256x1024 .f32) (w : Vec Ideal S256x1 .f32) (g u : UpBlk) (dn : DownBlk) (r : Fin 256) (d : Fin 1024) :
    (k0_pay6 x w g u dn (ix2 r d) : EReal) = givenOf (fun d => x (ix2 r d)) (w (ix2 r (0 : Fin 1))) g u dn d := by
  unfold k0_pay6 k0_pay5 givenOf actOf
  pointwise

theorem pay7_apply (x : Vec Ideal S256x1024 .f32) (g u : UpBlk) (r : Fin 256) (f : Fin 512) :
    (k0_pay7 x g u (ix2 r f) : EReal) = actOf (fun d => x (ix2 r d)) g u f := by
  unfold k0_pay7 k0_pay5 actOf
  pointwise

theorem pay1_apply (a : FVec Ideal S256x1024 .f32) (h w : FVec Ideal S256x512 .f32) (dn : DownBlk) (r : Fin 256) (d : Fin 1024) :
    (k0_pay1 a h w dn (ix2 r d) : EReal) = (a (ix2 r d) : EReal) + ∑ f : Fin 512, (h (ix2 r f) : EReal) * w (ix2 r f) * dn (ix4 (0 : Fin 1) (0 : Fin 1) f d) := by
  unfold k0_pay1
  pointwise

theorem pay8_apply (w : Vec Ideal S256x1 .f32) (r : Fin 256) (f : Fin 512) : (k0_pay8 w (ix2 r f) : EReal) = w (ix2 r (0 : Fin 1)) := by
  unfold k0_pay8
  pointwise

theorem pay2_apply (r : Fin 256) (d : Fin 1024) : (k0_pay2 (F := Ideal) (ix2 r d) : EReal) = 0 := by
  unfold k0_pay2
  pointwise

theorem feat_apply (o : ℕ) (h : ∀ a, ![o, 0] a + S256x1024.size a ≤ S512x1152.size a) (ho : o + 256 ≤ 512) (x : RowsBlk) (r : Fin 256) (d : Fin 1024) :
    (feat o h x (ix2 r d) : EReal) = x (ix2 ⟨o + r.val, by omega⟩ ⟨d.val, by omega⟩) := by
  refine congrArg x (funext fun a => Fin.ext ?_)
  fin_cases a
  · show o + 1 * r.val = o + r.val; omega
  · show 0 + 1 * d.val = d.val; omega

theorem coef_apply (o k : ℕ) (h : ∀ a, ![o, k] a + S256x1.size a ≤ S512x1152.size a) (ho : o + 256 ≤ 512) (hk : k < 1152) (x : RowsBlk) (r : Fin 256) :
    (coef o k h x (ix2 r (0 : Fin 1)) : EReal) = x (ix2 ⟨o + r.val, by omega⟩ ⟨k, hk⟩) := by
  refine congrArg x (funext fun a => Fin.ext ?_)
  fin_cases a
  · show o + 1 * r.val = o + r.val; omega
  · show k + 1 * 0 = k; omega

theorem up_eq (x : UpBlk) : up x = x := by
  refine funext fun i => congrArg x (funext fun a => Fin.ext ?_)
  fin_cases a <;> exact (Nat.zero_add _).trans (Nat.one_mul _)

theorem down_eq (x : DownBlk) : down x = x := by
  refine funext fun i => congrArg x (funext fun a => Fin.ext ?_)
  fin_cases a <;> exact (Nat.zero_add _).trans (Nat.one_mul _)

variable (w : BitVec 32) (x4 : RowsBlk) (x5 x6 x7 x8 : UpBlk) (x9 x10 : DownBlk)

/-- A row of a tile whose rows begin at `o` in the block. -/
def tileOf (o : ℕ) (ho : o + 256 ≤ 512) (r : Fin 256) (d : Fin 1024) : EReal :=
  if w = 1#32 then
    givenOf (fun d => x4 (ix2 ⟨o + r.val, by omega⟩ ⟨d.val, by omega⟩)) (x4 (ix2 ⟨o + r.val, by omega⟩ ⟨1024, by omega⟩)) x5 x7 x9 d
      + givenOf (fun d => x4 (ix2 ⟨o + r.val, by omega⟩ ⟨d.val, by omega⟩)) (x4 (ix2 ⟨o + r.val, by omega⟩ ⟨1025, by omega⟩)) x6 x8 x10 d
  else 0

theorem given_congr {x x' : Fin 1024 → EReal} {w w' : EReal} {g g' u u' : UpBlk} {dn dn' : DownBlk} (hx : x = x') (hw : w = w') (hg : g = g') (hu : u = u')
    (hd : dn = dn') (d : Fin 1024) : givenOf x w g u dn d = givenOf x' w' g' u' dn' d := by
  subst hx hw hg hu hd
  rfl

/-- The sum of the two experts' parts. -/
theorem sum_apply (x : Vec Ideal S256x1024 .f32) (w0 w1 : Vec Ideal S256x1 .f32) (g0 g1 u0 u1 : UpBlk) (d0 d1 : DownBlk) (r : Fin 256) (d : Fin 1024) :
    (k0_pay1 (k0_pay6 x w0 g0 u0 d0) (k0_pay7 x g1 u1) (k0_pay8 w1) d1 (ix2 r d) : EReal)
      = givenOf (fun d => x (ix2 r d)) (w0 (ix2 r (0 : Fin 1))) g0 u0 d0 d + givenOf (fun d => x (ix2 r d)) (w1 (ix2 r (0 : Fin 1))) g1 u1 d1 d := by
  rw [pay1_apply, pay6_apply]
  simp only [pay7_apply, pay8_apply]
  rfl

theorem tile0_apply (r : Fin 256) (d : Fin 1024) :
    (tile0 w x4 x5 x6 x7 x8 x9 x10 (ix2 r d) : EReal) = tileOf w x4 x5 x6 x7 x8 x9 x10 0 (by omega) r d := by
  unfold tile0 tileOf
  by_cases h : w = 1#32
  · rw [if_pos h, if_pos h]
    refine (sum_apply _ _ _ _ _ _ _ _ _ r d).trans ?_
    exact congrArg₂ (· + ·)
      (given_congr (funext fun d => feat_apply 0 _ (by omega) x4 r d) (coef_apply 0 1024 _ (by omega) (by omega) x4 r) (up_eq _) (up_eq _) (down_eq _) d)
      (given_congr (funext fun d => feat_apply 0 _ (by omega) x4 r d) (coef_apply 0 1025 _ (by omega) (by omega) x4 r) (up_eq _) (up_eq _) (down_eq _) d)
  · rw [if_neg h, if_neg h]
    exact pay2_apply r d

theorem tile1_apply (r : Fin 256) (d : Fin 1024) :
    (tile1 w x4 x5 x6 x7 x8 x9 x10 (ix2 r d) : EReal) = tileOf w x4 x5 x6 x7 x8 x9 x10 256 (by omega) r d := by
  unfold tile1 tileOf
  by_cases h : w = 1#32
  · rw [if_pos h, if_pos h]
    refine (sum_apply _ _ _ _ _ _ _ _ _ r d).trans ?_
    exact congrArg₂ (· + ·)
      (given_congr (funext fun d => feat_apply 256 _ (by omega) x4 r d) (coef_apply 256 1024 _ (by omega) (by omega) x4 r) (up_eq _) (up_eq _) (down_eq _) d)
      (given_congr (funext fun d => feat_apply 256 _ (by omega) x4 r d) (coef_apply 256 1025 _ (by omega) (by omega) x4 r) (up_eq _) (up_eq _) (down_eq _) d)
  · rw [if_neg h, if_neg h]
    exact pay2_apply r d

/-- The window's two bands of rows. -/
theorem pieces_apply (r0 r1 : Vec Ideal S256x1024 .f32) (r : Fin 512) (d : Fin 1024) :
    View.canon (pieces r0 r1) (ix2 r d : S512x1024.Idx) = if h : r.val < 256 then r0 (ix2 ⟨r.val, h⟩ d) else r1 (ix2 ⟨r.val - 256, by omega⟩ d) := by
  have hr := r.isLt
  unfold pieces
  by_cases h : r.val < 256
  · rw [dif_pos h, View.canon_cons_of_not_mem]
    · have e : (ix2 r d : S512x1024.Idx) = (Rect.unit (s := S512x1024) ![0, 0] S256x1024.size inb_S512x1024_S256x1024_0_0).emb (ix2 (⟨r.val, h⟩ : Fin 256) d) := by
        funext a
        apply Fin.ext
        fin_cases a
        · show r.val = 0 + 1 * r.val; omega
        · show d.val = 0 + 1 * d.val; omega
      rw [e]
      exact View.canon_cons_emb _ _ _ _
    · intro hm
      have := ((Rect.mem_set_unit (inb := inb_S512x1024_S256x1024_256_0)).mp hm (0 : Fin 2)).1
      have : 256 ≤ r.val := this
      omega
  · rw [dif_neg h]
    have e : (ix2 r d : S512x1024.Idx) = (Rect.unit (s := S512x1024) ![256, 0] S256x1024.size inb_S512x1024_S256x1024_256_0).emb
        (ix2 (⟨r.val - 256, by omega⟩ : Fin 256) d) := by
      funext a
      apply Fin.ext
      fin_cases a
      · show r.val = 256 + 1 * (r.val - 256); omega
      · show d.val = 0 + 1 * d.val; omega
    rw [e]
    exact View.canon_cons_emb _ _ _ _

end Cert.Proof.KI2

end
-- ==== Proof.KI2.Frame.lean ====
/- The experts' launch: the tables the pipeline reads at its entry, what each grid point leaves in the output's staging
   buffer, the pipeline's proof data over it, the body's obligation, and the frame — from tables within their ranges every
   execution ends, with the seven arguments unchanged and no count pending. -/
module

public import proofs.«01_k».proof.Proof.KI2.Body
public import Idealize.ShloMosaic.Lib.Claim

@[expose] public section

set_option maxRecDepth 16384

noncomputable section

namespace Cert.Proof.KI2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR nD τ) ℕ

variable (m : (ℓ : Loc nD τ sig) → Buf (Elt F) ℓ) (ρ : Dev nD → PrngReg)

/-- Core `c`'s buffers as the region finds them: as launched, the region being all of the main program. -/
abbrev atEntry (c : Dev nD) (b : Ref sig .tc) : Buf (Elt F) ((c : Thread nD τ).loc b) := m ((c : Thread nD τ).loc b)

theorem main_is_region : Pipeline.HMainP (Ix := Unit) (Name := ℕ) (U := UR nD τ) (Lvl := ℕ) (pcfgs (F := F)) 0 defs₀ 𝒱₀ m (main (F := F)) (atEntry m) :=
  Pipeline.hmainP_region (pcfgs (F := F)) 0 defs₀ 𝒱₀ m main fun c => (main_chain c).trans rfl

/-! ## The tables -/

/-- The three tables as launched, on the one device. -/
def tbl : pre0.Contents (Elt F) := fun j => atEntry m (0 : Dev nD) (pre0.ref j)

theorem tbl_at (c : Dev nD) (j : Fin 3) : atEntry m c (pre0.ref j) = tbl m j := by
  obtain rfl : c = 0 := Subsingleton.elim _ _
  rfl

/-- The table of live tiles. -/
abbrev live : S88.Idx → BitVec 32 := fun x => tbl m 2 x

/-- What the launch asks of the tables: every window's block inside its array, and every live word zero or one. -/
structure Good : Prop where
  ok : ok0 (tbl m)
  bit : ∀ x, live m x = 0#32 ∨ live m x = 1#32

variable (hO : Good m)

/-- The pipeline at the launched tables. -/
abbrev adm : (pcfg0 (F := F)).Adm := ⟨tbl m, hO.ok⟩
abbrev adms : (p : Fin 1) → (pcfgs (F := F) p).Adm := fun _ => adm m hO
abbrev cfgM : Cfg sig Λ₀ := cfg0 (adm m hO)

/-- The two live words of a grid point, as the function loads them. -/
def word0 (i : grid0.Coords) : BitVec 32 := loaded (tbl m 2) (k0_off1 i 0#32) (k0_off1_inb i 0)
def word1 (i : grid0.Coords) : BitVec 32 := loaded (tbl m 2) (k0_off1 i 1#32) (k0_off1_inb i 1)

include hO in
theorem word0_bit (i : grid0.Coords) : word0 m i = 0#32 ∨ word0 m i = 1#32 := hO.bit _
include hO in
theorem word1_bit (i : grid0.Coords) : word1 m i = 0#32 ∨ word1 m i = 1#32 := hO.bit _

/-- The core's half of the tables, held read-only between the grid points. -/
theorem tables_eq (c : Dev nD) : (Pipeline.ΦT pre0 (tbl m) c : sProp 𝕄)
    = iprop(((c : Thread nD τ).loc main_arg1 ↦{fullShare.right} tbl m 0) ∗ ((c : Thread nD τ).loc main_arg2 ↦{fullShare.right} tbl m 1) ∗ liveIs c (tbl m 2)) := by
  unfold Pipeline.ΦT Pipeline.prefHeld
  rw [show (Finset.univ : Finset (Fin 3)) = insert 0 (insert 1 {2}) from by decide, bigSep_insert (by decide), bigSep_insert (by decide), bigSep_singleton]
  rfl

variable (t : Fin (cfgM m hO).N)

/-- Window `w`'s block at point `t`, of its array as launched. -/
def blockAt (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (atEntry m c (Pipeline.arrRef spec0 w))

/-! ## The windows' staging buffers at a point, and the output's contents -/

abbrev wM0 : Memref sig .tc .vmem S512x1152 .f32 := spec0_0.stage ((cfgM m hO).slots t 0)
abbrev wW0 : (wM0 m hO t).IsWhole := hstage0_0 (((cfgM m hO).slots t 0).cast nbuf0_0)
abbrev wM1 : Memref sig .tc .vmem S1x1x1024x512 .bf16 := spec0_1.stage ((cfgM m hO).slots t 1)
abbrev wW1 : (wM1 m hO t).IsWhole := hstage0_1 (((cfgM m hO).slots t 1).cast nbuf0_1)
abbrev wM2 : Memref sig .tc .vmem S1x1x1024x512 .bf16 := spec0_2.stage ((cfgM m hO).slots t 2)
abbrev wW2 : (wM2 m hO t).IsWhole := hstage0_2 (((cfgM m hO).slots t 2).cast nbuf0_2)
abbrev wM3 : Memref sig .tc .vmem S1x1x1024x512 .bf16 := spec0_3.stage ((cfgM m hO).slots t 3)
abbrev wW3 : (wM3 m hO t).IsWhole := hstage0_3 (((cfgM m hO).slots t 3).cast nbuf0_3)
abbrev wM4 : Memref sig .tc .vmem S1x1x1024x512 .bf16 := spec0_4.stage ((cfgM m hO).slots t 4)
abbrev wW4 : (wM4 m hO t).IsWhole := hstage0_4 (((cfgM m hO).slots t 4).cast nbuf0_4)
abbrev wM5 : Memref sig .tc .vmem S1x1x512x1024 .bf16 := spec0_5.stage ((cfgM m hO).slots t 5)
abbrev wW5 : (wM5 m hO t).IsWhole := hstage0_5 (((cfgM m hO).slots t 5).cast nbuf0_5)
abbrev wM6 : Memref sig .tc .vmem S1x1x512x1024 .bf16 := spec0_6.stage ((cfgM m hO).slots t 6)
abbrev wW6 : (wM6 m hO t).IsWhole := hstage0_6 (((cfgM m hO).slots t 6).cast nbuf0_6)
abbrev wM7 : Memref sig .tc .vmem S1x1x1024x512 .bf16 := spec0_7.stage ((cfgM m hO).slots t 7)
abbrev wW7 : (wM7 m hO t).IsWhole := hstage0_7 (((cfgM m hO).slots t 7).cast nbuf0_7)
abbrev wM8 : Memref sig .tc .vmem S1x1x1024x512 .bf16 := spec0_8.stage ((cfgM m hO).slots t 8)
abbrev wW8 : (wM8 m hO t).IsWhole := hstage0_8 (((cfgM m hO).slots t 8).cast nbuf0_8)
abbrev wM9 : Memref sig .tc .vmem S1x1x1024x512 .bf16 := spec0_9.stage ((cfgM m hO).slots t 9)
abbrev wW9 : (wM9 m hO t).IsWhole := hstage0_9 (((cfgM m hO).slots t 9).cast nbuf0_9)
abbrev wM10 : Memref sig .tc .vmem S1x1x1024x512 .bf16 := spec0_10.stage ((cfgM m hO).slots t 10)
abbrev wW10 : (wM10 m hO t).IsWhole := hstage0_10 (((cfgM m hO).slots t 10).cast nbuf0_10)
abbrev wM11 : Memref sig .tc .vmem S1x1x512x1024 .bf16 := spec0_11.stage ((cfgM m hO).slots t 11)
abbrev wW11 : (wM11 m hO t).IsWhole := hstage0_11 (((cfgM m hO).slots t 11).cast nbuf0_11)
abbrev wM12 : Memref sig .tc .vmem S1x1x512x1024 .bf16 := spec0_12.stage ((cfgM m hO).slots t 12)
abbrev wW12 : (wM12 m hO t).IsWhole := hstage0_12 (((cfgM m hO).slots t 12).cast nbuf0_12)
abbrev wM13 : Memref sig .tc .vmem S512x1024 .f32 := spec0_13.stage ((cfgM m hO).slots t 13)
abbrev wW13 : (wM13 m hO t).IsWhole := hstage0_13 (((cfgM m hO).slots t 13).cast nbuf0_13)

/-- The pieces a run of the function stores cover the output's window: two bands of rows. -/
theorem out_cover (r0 r1 : Vec F S256x1024 .f32) (y : S512x1024.Idx) : ∃ p ∈ pieces r0 r1, y ∈ p.1.set :=
  View.cover_of_tiledL (pieces r0 r1) S256x1024.size (by sl_kernel_rfl) y

/-- The two tiles' rows at point `t`. -/
def rows0 (c : Dev nD) : Vec F S256x1024 .f32 :=
  tile0 (word0 m (grid0.coords t)) (blockAt m hO c 0 t) (blockAt m hO c 1 t) (blockAt m hO c 2 t) (blockAt m hO c 3 t) (blockAt m hO c 4 t) (blockAt m hO c 5 t) (blockAt m hO c 6 t)
def rows1 (c : Dev nD) : Vec F S256x1024 .f32 :=
  tile1 (word1 m (grid0.coords t)) (blockAt m hO c 0 t) (blockAt m hO c 7 t) (blockAt m hO c 8 t) (blockAt m hO c 9 t) (blockAt m hO c 10 t) (blockAt m hO c 11 t) (blockAt m hO c 12 t)

/-- What point `t` leaves in the output's staging buffer. -/
@[irreducible] def outAt (c : Dev nD) : Vec F S512x1024 .f32 := View.canon (pieces (rows0 m hO t c) (rows1 m hO t c))

/-- The pipeline's proof data: the arrays as launched, each array's windows sharing it; after the body each input's buffer
    at its block and the output's at `outAt`; the tables held between the points. -/
def dats (_ : Fin 1) (c : Dev nD) : Dat τ (Elt F) Unit ℕ (UR nD τ) ℕ (cfgM m hO) c where
  A w := atEntry m c (Pipeline.arrRef spec0 w)
  after w t := match w with
    | ⟨0, _⟩ => blockAt m hO c 0 t
    | ⟨1, _⟩ => blockAt m hO c 1 t
    | ⟨2, _⟩ => blockAt m hO c 2 t
    | ⟨3, _⟩ => blockAt m hO c 3 t
    | ⟨4, _⟩ => blockAt m hO c 4 t
    | ⟨5, _⟩ => blockAt m hO c 5 t
    | ⟨6, _⟩ => blockAt m hO c 6 t
    | ⟨7, _⟩ => blockAt m hO c 7 t
    | ⟨8, _⟩ => blockAt m hO c 8 t
    | ⟨9, _⟩ => blockAt m hO c 9 t
    | ⟨10, _⟩ => blockAt m hO c 10 t
    | ⟨11, _⟩ => blockAt m hO c 11 t
    | ⟨12, _⟩ => blockAt m hO c 12 t
    | ⟨13, _⟩ => outAt m hO t c
  Φ _ := iprop(Pipeline.ΦA spec0 c ∗ Pipeline.ΦT pre0 (tbl m) c)
  q w := Pipeline.shareOf spec0 w
  owed _ := 0

theorem A_eq (c : Dev nD) (w : Fin (cfgM m hO).W) : (dats m hO 0 c).A w = atEntry m c (Pipeline.arrRef spec0 w) := by dsimp only [dats]

theorem after_out (c : Dev nD) : (dats m hO 0 c).after 13 t = outAt m hO t c := rfl

/-- An input window's buffer holds its block when the body begins. -/
theorem before_of_in (c : Dev nD) (w : Fin (cfgM m hO).W) (hw : ((cfgM m hO).win w).isOut = false) (hi : ∀ i, (cfgM m hO).idle w i = false)
    (hc : ∀ t t' : Fin (cfgM m hO).N, ((cfgM m hO).win w).index t = ((cfgM m hO).win w).index t' →
      ((cfgM m hO).win w).clip ((cfgM m hO).grid.coords t) = ((cfgM m hO).win w).clip ((cfgM m hO).grid.coords t'))
    (ha : ∀ t, ((cfgM m hO).win w).cut ((cfgM m hO).grid.coords t) ((dats m hO 0 c).after w t) = blockAt m hO c w t)
    {X : ((cfgM m hO).win w).block.Idx → Elt F ((cfgM m hO).win w).elt}
    (hf : ∀ d, ((cfgM m hO).win w).fill ((cfgM m hO).grid.coords t) d (blockAt m hO c w t) = X) (d) :
    (dats m hO 0 c).before w t d = X :=
  ((dats m hO 0 c).before_in_eq_fetched w hw hi hc (fun t => by rw [ha]; unfold Dat.blockOf blockAt; rw [A_eq]; try rfl) t d).trans
    (by rw [← hf d]; unfold Dat.fetched Dat.blockOf blockAt; rw [A_eq]; try rfl)

theorem before_0 (c : Dev nD) (d) : (dats m hO 0 c).before 0 t d = blockAt m hO c 0 t :=
  before_of_in m hO t c 0 rfl (fun _ => rfl) (fun _ _ _ => rfl) (fun _ => rfl) (fun _ => rfl) d
theorem before_1 (c : Dev nD) (d) : (dats m hO 0 c).before 1 t d = blockAt m hO c 1 t :=
  before_of_in m hO t c 1 rfl (fun _ => rfl) (fun _ _ _ => rfl) (fun _ => rfl) (fun _ => rfl) d
theorem before_2 (c : Dev nD) (d) : (dats m hO 0 c).before 2 t d = blockAt m hO c 2 t :=
  before_of_in m hO t c 2 rfl (fun _ => rfl) (fun _ _ _ => rfl) (fun _ => rfl) (fun _ => rfl) d
theorem before_3 (c : Dev nD) (d) : (dats m hO 0 c).before 3 t d = blockAt m hO c 3 t :=
  before_of_in m hO t c 3 rfl (fun _ => rfl) (fun _ _ _ => rfl) (fun _ => rfl) (fun _ => rfl) d
theorem before_4 (c : Dev nD) (d) : (dats m hO 0 c).before 4 t d = blockAt m hO c 4 t :=
  before_of_in m hO t c 4 rfl (fun _ => rfl) (fun _ _ _ => rfl) (fun _ => rfl) (fun _ => rfl) d
theorem before_5 (c : Dev nD) (d) : (dats m hO 0 c).before 5 t d = blockAt m hO c 5 t :=
  before_of_in m hO t c 5 rfl (fun _ => rfl) (fun _ _ _ => rfl) (fun _ => rfl) (fun _ => rfl) d
theorem before_6 (c : Dev nD) (d) : (dats m hO 0 c).before 6 t d = blockAt m hO c 6 t :=
  before_of_in m hO t c 6 rfl (fun _ => rfl) (fun _ _ _ => rfl) (fun _ => rfl) (fun _ => rfl) d
theorem before_7 (c : Dev nD) (d) : (dats m hO 0 c).before 7 t d = blockAt m hO c 7 t :=
  before_of_in m hO t c 7 rfl (fun _ => rfl) (fun _ _ _ => rfl) (fun _ => rfl) (fun _ => rfl) d
theorem before_8 (c : Dev nD) (d) : (dats m hO 0 c).before 8 t d = blockAt m hO c 8 t :=
  before_of_in m hO t c 8 rfl (fun _ => rfl) (fun _ _ _ => rfl) (fun _ => rfl) (fun _ => rfl) d
theorem before_9 (c : Dev nD) (d) : (dats m hO 0 c).before 9 t d = blockAt m hO c 9 t :=
  before_of_in m hO t c 9 rfl (fun _ => rfl) (fun _ _ _ => rfl) (fun _ => rfl) (fun _ => rfl) d
theorem before_10 (c : Dev nD) (d) : (dats m hO 0 c).before 10 t d = blockAt m hO c 10 t :=
  before_of_in m hO t c 10 rfl (fun _ => rfl) (fun _ _ _ => rfl) (fun _ => rfl) (fun _ => rfl) d
theorem before_11 (c : Dev nD) (d) : (dats m hO 0 c).before 11 t d = blockAt m hO c 11 t :=
  before_of_in m hO t c 11 rfl (fun _ => rfl) (fun _ _ _ => rfl) (fun _ => rfl) (fun _ => rfl) d
theorem before_12 (c : Dev nD) (d) : (dats m hO 0 c).before 12 t d = blockAt m hO c 12 t :=
  before_of_in m hO t c 12 rfl (fun _ => rfl) (fun _ _ _ => rfl) (fun _ => rfl) (fun _ => rfl) d

/-! ## The body at a point -/

/-- The function at point `t`. -/
def bodyAt : Prog (TpuEff nD τ sig (Elt F) Λ₀ .tc) PUnit :=
  cc0_experts (grid0.coords t) (Memref.whole main_arg1) (Memref.isWhole_whole _) (Memref.whole main_arg2) (Memref.isWhole_whole _) (Memref.whole main_arg3) (Memref.isWhole_whole _)
    (wM0 m hO t) (wW0 m hO t) (wM1 m hO t) (wW1 m hO t) (wM2 m hO t) (wW2 m hO t) (wM3 m hO t) (wW3 m hO t) (wM4 m hO t) (wW4 m hO t) (wM5 m hO t) (wW5 m hO t) (wM6 m hO t) (wW6 m hO t) (wM7 m hO t) (wW7 m hO t) (wM8 m hO t) (wW8 m hO t) (wM9 m hO t) (wW9 m hO t) (wM10 m hO t) (wW10 m hO t) (wM11 m hO t) (wW11 m hO t) (wM12 m hO t) (wW12 m hO t) (wM13 m hO t) (wW13 m hO t)

/-- What the body is called with at point `t`, -/
def bodyPre (c : Dev nD) : sProp 𝕄 :=
  iprop((dats m hO 0 c).Φ t.castSucc ∗ (dats m hO 0 c).owesAt () t.castSucc
    ∗ (∃ d, owns (c : Thread nD τ) (wM0 m hO t) fullShare ((dats m hO 0 c).before 0 t d))
    ∗ (∃ d, owns (c : Thread nD τ) (wM1 m hO t) fullShare ((dats m hO 0 c).before 1 t d))
    ∗ (∃ d, owns (c : Thread nD τ) (wM2 m hO t) fullShare ((dats m hO 0 c).before 2 t d))
    ∗ (∃ d, owns (c : Thread nD τ) (wM3 m hO t) fullShare ((dats m hO 0 c).before 3 t d))
    ∗ (∃ d, owns (c : Thread nD τ) (wM4 m hO t) fullShare ((dats m hO 0 c).before 4 t d))
    ∗ (∃ d, owns (c : Thread nD τ) (wM5 m hO t) fullShare ((dats m hO 0 c).before 5 t d))
    ∗ (∃ d, owns (c : Thread nD τ) (wM6 m hO t) fullShare ((dats m hO 0 c).before 6 t d))
    ∗ (∃ d, owns (c : Thread nD τ) (wM7 m hO t) fullShare ((dats m hO 0 c).before 7 t d))
    ∗ (∃ d, owns (c : Thread nD τ) (wM8 m hO t) fullShare ((dats m hO 0 c).before 8 t d))
    ∗ (∃ d, owns (c : Thread nD τ) (wM9 m hO t) fullShare ((dats m hO 0 c).before 9 t d))
    ∗ (∃ d, owns (c : Thread nD τ) (wM10 m hO t) fullShare ((dats m hO 0 c).before 10 t d))
    ∗ (∃ d, owns (c : Thread nD τ) (wM11 m hO t) fullShare ((dats m hO 0 c).before 11 t d))
    ∗ (∃ d, owns (c : Thread nD τ) (wM12 m hO t) fullShare ((dats m hO 0 c).before 12 t d))
    ∗ (∃ d, owns (c : Thread nD τ) (wM13 m hO t) fullShare ((dats m hO 0 c).before 13 t d)))

/-- and what it returns. -/
def bodyPost (c : Dev nD) : sProp 𝕄 :=
  iprop((dats m hO 0 c).Φ t.succ ∗ (dats m hO 0 c).owesAt () t.succ
    ∗ owns (c : Thread nD τ) (wM0 m hO t) fullShare ((dats m hO 0 c).after 0 t)
    ∗ owns (c : Thread nD τ) (wM1 m hO t) fullShare ((dats m hO 0 c).after 1 t)
    ∗ owns (c : Thread nD τ) (wM2 m hO t) fullShare ((dats m hO 0 c).after 2 t)
    ∗ owns (c : Thread nD τ) (wM3 m hO t) fullShare ((dats m hO 0 c).after 3 t)
    ∗ owns (c : Thread nD τ) (wM4 m hO t) fullShare ((dats m hO 0 c).after 4 t)
    ∗ owns (c : Thread nD τ) (wM5 m hO t) fullShare ((dats m hO 0 c).after 5 t)
    ∗ owns (c : Thread nD τ) (wM6 m hO t) fullShare ((dats m hO 0 c).after 6 t)
    ∗ owns (c : Thread nD τ) (wM7 m hO t) fullShare ((dats m hO 0 c).after 7 t)
    ∗ owns (c : Thread nD τ) (wM8 m hO t) fullShare ((dats m hO 0 c).after 8 t)
    ∗ owns (c : Thread nD τ) (wM9 m hO t) fullShare ((dats m hO 0 c).after 9 t)
    ∗ owns (c : Thread nD τ) (wM10 m hO t) fullShare ((dats m hO 0 c).after 10 t)
    ∗ owns (c : Thread nD τ) (wM11 m hO t) fullShare ((dats m hO 0 c).after 11 t)
    ∗ owns (c : Thread nD τ) (wM12 m hO t) fullShare ((dats m hO 0 c).after 12 t)
    ∗ owns (c : Thread nD τ) (wM13 m hO t) fullShare ((dats m hO 0 c).after 13 t))

set_option maxHeartbeats 800000 in
theorem body_at (c : Dev nD) :
    bodyPre m hO t c ⊢ wp frame (wpE (defs₀ (F := F)) 𝒱₀ c none) Set.univ (bodyAt m hO t) (fun _ => bodyPost m hO t c) := by
  unfold bodyPre bodyPost bodyAt
  simp only [before_0, before_1, before_2, before_3, before_4, before_5, before_6, before_7, before_8, before_9, before_10, before_11, before_12]
  rw [show (dats m hO 0 c).Φ t.succ = (dats m hO 0 c).Φ t.castSucc from rfl,
    show (dats m hO 0 c).owesAt () t.succ = (dats m hO 0 c).owesAt () t.castSucc from rfl, after_out]
  rw [show (dats m hO 0 c).Φ t.castSucc = iprop(Pipeline.ΦA spec0 c ∗ Pipeline.ΦT pre0 (tbl m) c) from rfl, tables_eq]
  unfold outAt rows0 rows1
  iintro ⟨⟨HA, HT0, HT1, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run c (grid0.coords t) (wM0 m hO t) (wW0 m hO t) (wM1 m hO t) (wW1 m hO t) (wM2 m hO t) (wW2 m hO t) (wM3 m hO t) (wW3 m hO t) (wM4 m hO t) (wW4 m hO t) (wM5 m hO t) (wW5 m hO t) (wM6 m hO t) (wW6 m hO t) (wM7 m hO t) (wW7 m hO t) (wM8 m hO t) (wW8 m hO t) (wM9 m hO t) (wW9 m hO t) (wM10 m hO t) (wW10 m hO t) (wM11 m hO t) (wW11 m hO t) (wM12 m hO t) (wW12 m hO t) (wM13 m hO t) (wW13 m hO t) (blockAt m hO c 0 t) (blockAt m hO c 1 t) (blockAt m hO c 2 t) (blockAt m hO c 3 t) (blockAt m hO c 4 t) (blockAt m hO c 5 t) (blockAt m hO c 6 t) (blockAt m hO c 7 t) (blockAt m hO c 8 t) (blockAt m hO c 9 t) (blockAt m hO c 10 t) (blockAt m hO c 11 t) (blockAt m hO c 12 t)
    (tbl m 2) (word0 m (grid0.coords t)) (word1 m (grid0.coords t)) rfl rfl rfl rfl (word0_bit m hO _) (word1_bit m hO _) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨HT, H0, H1, H2, H3, H4, H5, H6, H7, H8, H9, H10, H11, H12, ⟨%e13, H13⟩⟩
  isplitl [HA HT0 HT1 HT]
  · isplitl [HA]; · iexact HA
    isplitl [HT0]; · iexact HT0
    isplitl [HT1]; · iexact HT1
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  unfold owns; iexists _; isplitr
  swap; · iexact H13
  ipureintro; exact View.read_writes_eq_canon _ _ _ (out_cover _ _)

theorem body_row : defs₀ (F := F) .tc (cfgM m hO).body ((cfgM m hO).bodyArgs t ((cfgM m hO).slots t)) = bodyAt m hO t := by
  unfold defs₀; rw [Defs.onTc_tc]; rfl

/-- The table's word at the offsets the idle table names is the word the function loads. -/
theorem atD_eq (off : Fin 1 → ℕ) (h : ∀ a, off a + S1.size a ≤ S88.size a) : ((tbl m).atD 2 off : BitVec 32) = loaded (tbl m 2) off h := by
  have h1 : ∀ a, S1.size a = 1 := by decide
  have h' : ∀ a, off a + 1 ≤ S88.size a := fun a => h1 a ▸ h a
  refine (show (tbl m).atD 2 off = tbl m 2 (fun a => ⟨off a, h' a⟩ : S88.Idx) from dif_pos h').trans ?_
  refine congrArg (tbl m 2) (funext fun a : Fin 1 => Fin.ext ?_)
  show off a = off a + 1 * (Shape.Idx.first (numel1_S1.symm ▸ Nat.one_pos : 0 < S1.numel) a).val
  have := (Shape.Idx.first (numel1_S1.symm ▸ Nat.one_pos : 0 < S1.numel) a).isLt
  have := h1 a
  omega

/-- The function stores into the output's window at every point. -/
theorem never_idle (i : grid0.Coords) : (cfgM m hO).idle 13 i = false := by
  show (!(k0_cond1 ((tbl m).atD 2 (k0_off1 i 0#32)) == 1#1) && !(k0_cond2 ((tbl m).atD 2 (k0_off2 i)) == 1#1)
    && !(k0_cond3 ((tbl m).atD 2 (k0_off3 i)) == 1#1) && !(k0_cond4 ((tbl m).atD 2 (k0_off4 i)) == 1#1)) = false
  rw [atD_eq m (k0_off1 i 0#32) (k0_off1_inb i 0), atD_eq m (k0_off2 i) (k0_off2_inb i)]
  rcases word0_bit m hO i with h | h
  · rw [show loaded (tbl m 2) (k0_off2 i) (k0_off2_inb i) = 0#32 from h]
    simp [show k0_cond2 0#32 = 1#1 from by decide]
  · rw [show loaded (tbl m 2) (k0_off1 i 0#32) (k0_off1_inb i 0) = 1#32 from h]
    simp [show k0_cond1 1#32 = 1#1 from by decide]

theorem body_obligation (c : Dev nD) : BodyObligation (dats m hO 0 c) (defs₀ (F := F)) 𝒱₀ () Set.univ := fun t => by
  rw [bigSep_W0, bigSep_W0, body_row]
  beta_reduce
  rw [never_idle m hO]
  exact triple_restated (body_at m hO t c) rfl .rfl fun _ => .rfl

/-! ## The run -/

-- the launch theorem's implicit arguments are found by unifying its conclusion with this one, which unfolds plain
-- definitions in a metavariable's type
set_option backward.isDefEq.respectTransparency.types false in
theorem run_counted : θ_run defs (onTc (τ := τ) (main (F := F))) (s₀ m ρ)
    (fun r => (Pipeline.FramePost (Pipeline.pin (pcfgs (F := F)) (adms m hO)) (dats m hO) 0 (atEntry m)) r ∧ r.2.sem = fun _ => 0) :=
  Pipeline.θ_run_frameP_shared (Q' := _) (pcfgs (F := F)) (adms m hO) (dats m hO) (0 : Fin 1) launch₀0 defs₀ 𝒱₀ m ρ main
    (hbody := fun c => (body_obligation m hO c).loose) (hq := fun _ _ _ => rfl)
    (howed := fun _ _ => rfl) (V := atEntry m) (hmain := main_is_region m) (hA := A_eq m hO) (hpf := tbl_at m) (hΦ := fun _ _ => rfl)

/-- Every execution ends with the pipeline's arrays at what the proof data computes and every other buffer as launched. -/
theorem run_main : θ_run defs (onTc (τ := τ) (main (F := F))) (s₀ m ρ) (Pipeline.FramePost (Pipeline.pin (pcfgs (F := F)) (adms m hO)) (dats m hO) 0 (atEntry m)) :=
  (θ_run defs _ _).mono (fun _ h => h.1) (run_counted m ρ hO)

/-- A run's end leaves the arguments unchanged. -/
theorem kept {r : PUnit × MemSt nD τ sig (Elt F)} (h : Pipeline.FramePost (Pipeline.pin (pcfgs (F := F)) (adms m hO)) (dats m hO) 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m hO 0 c).arrAt_in 0 rfl _).trans (A_eq m hO c 0)),
    (h c).2 main_arg1 (show main_arg1 ∈ Pipeline.restRefs sig spec0 from by decide), (h c).2 main_arg2 (show main_arg2 ∈ Pipeline.restRefs sig spec0 from by decide), (h c).2 main_arg3 (show main_arg3 ∈ Pipeline.restRefs sig spec0 from by decide),
    ((h c).1 1).trans (((dats m hO 0 c).arrAt_in 1 rfl _).trans (A_eq m hO c 1)),
    ((h c).1 3).trans (((dats m hO 0 c).arrAt_in 3 rfl _).trans (A_eq m hO c 3)),
    ((h c).1 5).trans (((dats m hO 0 c).arrAt_in 5 rfl _).trans (A_eq m hO c 5))⟩

end Cert.Proof.KI2

end
-- ==== Proof.Ranges.lean ====
/- The precondition on the experts' tables read back: the two expert numbers of a tile are below sixteen and differ, and a
   tile is live or not. -/
module

public import proofs.«01_k».proof.Pre_tables_in_range
public import Idealize.ShloMosaic.Lib.ReduceAll
public import Idealize.ShloMosaic.Lib.Pointwise

@[expose] public section

noncomputable section

namespace Cert.Proof

open Cert.Pre_tables_in_range
open Idealize.ShloMosaic Idealize.ShloMosaic.Tactic

/-- What the precondition says of the three tables. -/
structure Ranges (lo hi live : IVec S88 32) : Prop where
  lo_lt : ∀ x, (lo x).toNat < 16
  hi_lt : ∀ x, (hi x).toNat < 16
  ne : ∀ x, lo x ≠ hi x
  bit : ∀ x, live x = 0#32 ∨ live x = 1#32

namespace Ranges

theorem facts : Cert.Pre_tables_in_range.Facts where
  bcast_S_S88 := by decide
  reducesTo_S88_S_d0 := by decide
  h_S_ := by decide

/-- A word that passes both comparisons is below sixteen. -/
theorem lt_of_tests (w : BitVec 32) (h0 : IntOp.cmpi .sge w 0#32 = 1#1) (h1 : IntOp.cmpi .slt w 16#32 = 1#1) : w.toNat < 16 := by
  have a0 : (0#32).sle w = true := by
    by_contra hn
    exact absurd (h0.symm.trans (congrArg BitVec.ofBool (Bool.eq_false_iff.mpr hn))) (by decide)
  have a1 : w.slt 16#32 = true := by
    by_contra hn
    exact absurd (h1.symm.trans (congrArg BitVec.ofBool (Bool.eq_false_iff.mpr hn))) (by decide)
  rw [BitVec.sle_iff_toInt_le] at a0
  rw [BitVec.slt_iff_toInt_lt] at a1
  rw [show (0#32).toInt = 0 from by decide] at a0
  rw [show (16#32).toInt = 16 from by decide] at a1
  rw [BitVec.toInt_eq_toNat_cond] at a0 a1
  have := w.isLt
  split at a0 <;> rename_i h <;> simp only [h, if_true, if_false] at a1 <;> omega

theorem of_pre [Facts] {F : FTy → Type} [FloatOps F] (x : FVec F S22528x1152 .f32) (lo hi live : IVec S88 32)
    (wg wu : FVec F S2x16x1024x512 .bf16) (wd : FVec F S2x16x512x1024 .bf16)
    (h : Cert.Pre_tables_in_range.fn x lo hi live wg wu wd = fun _ => 1#1) : Ranges lo hi live := by
  have h0 := congrFun h (fun a => a.elim0 : S_.Idx)
  obtain ⟨h12, h34⟩ := IntOp.andi_eq_one.mp h0
  obtain ⟨h1, h2⟩ := IntOp.andi_eq_one.mp h12
  obtain ⟨h3, h4⟩ := IntOp.andi_eq_one.mp h34
  refine ⟨fun j => ?_, fun j => ?_, fun j => ?_, fun j => ?_⟩
  · obtain ⟨a, b⟩ := IntOp.andi_eq_one.mp (Host.reduce_andi_all _ _ _ _ _ h1 j)
    exact lt_of_tests _ a b
  · obtain ⟨a, b⟩ := IntOp.andi_eq_one.mp (Host.reduce_andi_all _ _ _ _ _ h2 j)
    exact lt_of_tests _ a b
  · have a : IntOp.cmpi .ne (lo j) (hi j) = 1#1 := Host.reduce_andi_all _ _ _ _ _ h3 j
    intro he
    rw [he] at a
    exact absurd a (by simp [IntOp.cmpi])
  · have a : IntOp.ori (IntOp.cmpi .eq (live j) 0#32) (IntOp.cmpi .eq (live j) 1#32) = 1#1 := Host.reduce_andi_all _ _ _ _ _ h4 j
    by_contra hn
    obtain ⟨n0, n1⟩ := not_or.mp hn
    have e0 : IntOp.cmpi .eq (live j) 0#32 = 0#1 := by simp [IntOp.cmpi, beq_eq_false_iff_ne.mpr n0]
    have e1 : IntOp.cmpi .eq (live j) 1#32 = 0#1 := by simp [IntOp.cmpi, beq_eq_false_iff_ne.mpr n1]
    rw [e0, e1] at a
    exact absurd a (by decide)

end Ranges

end Cert.Proof

end
-- ==== Proof.KI2.Tables.lean ====
/- The launch's condition on the tables, from their ranges: every window's block lies inside its array. -/
module

public import proofs.«01_k».proof.Proof.KI2.Frame
public import proofs.«01_k».proof.Proof.Ranges

@[expose] public section

noncomputable section

namespace Cert.Proof.KI2

open Cert.Kernel2Ideal Cert.Kernel2Ideal.Gen
open Idealize.ShloMosaic
open Idealize.ShloMosaic.TcCoe Idealize.SL.Sem

variable {F : FTy → Type} [FloatOps F]
variable (m : (ℓ : Loc nD τ sig) → Buf (Elt F) ℓ) (ρ : Dev nD → PrngReg)

/-- An expert's block is inside its array and made of whole words, for the two shapes of weights. -/
theorem up_inside (n : ℕ) (h : n < 16) : ∃ h : (∀ a, (![0, n, 0, 0] a + 1) * S1x1x1024x512.size a ≤ S2x16x1024x512.size a),
    EltTy.bits .bf16 = 32 ∨ (Rect.block (s := S2x16x1024x512) S1x1x1024x512.size ![0, n, 0, 0] h).WholeWords (EltTy.packing .bf16) :=
  ⟨fun a => by fin_cases a <;> simp [Shape.size] <;> omega, .inr (.inr ⟨by decide, rfl, rfl, rfl⟩)⟩

theorem down_inside (n : ℕ) (h : n < 16) : ∃ h : (∀ a, (![0, n, 0, 0] a + 1) * S1x1x512x1024.size a ≤ S2x16x512x1024.size a),
    EltTy.bits .bf16 = 32 ∨ (Rect.block (s := S2x16x512x1024) S1x1x512x1024.size ![0, n, 0, 0] h).WholeWords (EltTy.packing .bf16) :=
  ⟨fun a => by fin_cases a <;> simp [Shape.size] <;> omega, .inr (.inr ⟨by decide, rfl, rfl, rfl⟩)⟩

/-- Tables within their ranges are admitted. -/
theorem good (h : Ranges (tbl m 0) (tbl m 1) (tbl m 2)) : Good m :=
  ⟨⟨fun _ => up_inside _ (h.lo_lt _), fun _ => up_inside _ (h.hi_lt _), fun _ => up_inside _ (h.lo_lt _), fun _ => up_inside _ (h.hi_lt _),
      fun _ => down_inside _ (h.lo_lt _), fun _ => down_inside _ (h.hi_lt _),
      fun _ => up_inside _ (h.lo_lt _), fun _ => up_inside _ (h.hi_lt _), fun _ => up_inside _ (h.lo_lt _), fun _ => up_inside _ (h.hi_lt _),
      fun _ => down_inside _ (h.lo_lt _), fun _ => down_inside _ (h.hi_lt _)⟩, h.bit⟩

/-- From tables within their ranges, every execution ends, the arguments unchanged and every count at zero. -/
theorem frame (h : Ranges (tbl m 0) (tbl m 1) (tbl m 2)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ e => ⟨kept m (good m h) e.1, e.2⟩) (run_counted m ρ (good m h))

end Cert.Proof.KI2

end
-- ==== Proof.KI2.Output.lean ====
/- The experts' blocks over the extended reals, from the argument arrays and the tables, and with them the output array. -/
module

public import proofs.«01_k».proof.Proof.KI2.Tile
public import proofs.«01_k».proof.Proof.KI2.Tables
public import Idealize.ShloMosaic.Lib.Pipeline.ValueKit.Geometry

@[expose] public section

set_option maxRecDepth 16384

noncomputable section

namespace Cert.Proof.KI2

open Cert.Kernel2Ideal Cert.Kernel2Ideal.Gen
open Idealize.ShloMosaic
open Idealize.ShloMosaic.TcCoe Idealize.ShloMosaic.Tactic
open Idealize.ShloMosaic.Pipeline (Dat Cfg Window)

variable (m : (ℓ : Loc nD τ sig) → Buf (Elt Ideal) ℓ) (hO : Good m)

/-! ## The tables' words -/

/-- Tile `k` of grid point `t`. -/
abbrev tileNo (t : Fin grid0.N) (k : Fin 2) : Fin 88 := ⟨2 * (grid0.coords t 0).val + k.val, by have : (grid0.coords t 0).val < 44 := (grid0.coords t 0).isLt; omega⟩

theorem off_val (t : Fin grid0.N) (k : Fin 2) : k0_off1 (grid0.coords t) (BitVec.ofNat 32 k.val) (0 : Fin 1) = (tileNo t k).val := by
  have key : ∀ (b : Fin 44) (k : Fin 2), (Scalar.indexCast (Scalar.addi (Scalar.muli (BitVec.ofNat 32 b.val) 2#32) (BitVec.ofNat 32 k.val))).toNat = 2 * b.val + k.val := by
    decide +kernel
  exact key (grid0.coords t 0) k

/-- The word a load of one lane of a table reads. -/
theorem lane_eq (T : IVec S88 32) (t : Fin grid0.N) (k : Fin 2) (off : Fin 1 → ℕ) (h : ∀ a, off a + S1.size a ≤ S88.size a)
    (ho : off 0 = (tileNo t k).val) (z : (Rect.unit (s := S88) off S1.size h).shape.Idx) :
    T ((Rect.unit (s := S88) off S1.size h).idx z) = T (ix1 (tileNo t k)) := by
  refine congrArg T (funext fun a : Fin 1 => Fin.ext ?_)
  obtain rfl : a = 0 := Subsingleton.elim _ _
  have hz : (z (0 : Fin 1)).val < S1.size 0 := (z (0 : Fin 1)).isLt
  have h1 : S1.size 0 = 1 := by decide
  show off 0 + 1 * (z (0 : Fin 1)).val = (tileNo t k).val
  omega

/-- The three tables: the tiles' first experts, their second, and which are used. -/
abbrev lo : IVec S88 32 := tbl m 0
abbrev hi : IVec S88 32 := tbl m 1
abbrev used : IVec S88 32 := tbl m 2

theorem word0_eq (t : Fin grid0.N) : word0 m (grid0.coords t) = used m (ix1 (tileNo t 0)) := lane_eq (tbl m 2) t 0 _ _ (off_val t 0) _
theorem word1_eq (t : Fin grid0.N) : word1 m (grid0.coords t) = used m (ix1 (tileNo t 1)) := lane_eq (tbl m 2) t 1 _ _ (off_val t 1) _

/-! ## The blocks of the argument arrays -/

theorem index_0 : ∀ t : Fin grid0.N, cc0_transform_0 (grid0.coords t) = ![(grid0.coords t 0).val, 0] := by decide +kernel
theorem index_out : ∀ t : Fin grid0.N, cc0_transform_13 (grid0.coords t) = ![t.val, 0] := by decide +kernel
theorem coord_eq : ∀ t : Fin grid0.N, (grid0.coords t 0).val = t.val := by decide +kernel

/-- The array an up-projection's window reads, and a down-projection's. -/
abbrev Ups := Vec Ideal S2x16x1024x512 .bf16
abbrev Downs := Vec Ideal S2x16x512x1024 .bf16

/-- Expert `e`'s block of the first layer's weights. -/
def upOf (X : Ups) (e : Fin 16) : UpBlk := fun i => X (ix4 (0 : Fin 2) e (i 2) (i 3))
def downOf (X : Downs) (e : Fin 16) : DownBlk := fun i => X (ix4 (0 : Fin 2) e (i 2) (i 3))

/-- The words' indices: an expert's block in a layer. -/
abbrev at4 (l : Fin 2) (w : BitVec 32) : Fin 4 → ℕ := ![l.val, w.toNat, 0, 0]

theorem up_block (l : Fin 2) (X : Ups) (w w' : BitVec 32) (hw : w = w') (h : w'.toNat < 16) (g : S1x1x1024x512.Idx → S2x16x1024x512.Idx)
    (hg : ∀ i a, (g i a).val = at4 l w a * S1x1x1024x512.size a + 1 * (i a).val) : (fun i => X (g i)) = fun i => X (ix4 l ⟨w'.toNat, h⟩ (i 2) (i 3)) := by
  subst hw
  refine funext fun i => congrArg X (funext fun a => Fin.ext ((hg i a).trans ?_))
  have h0 : (i 0).val < 1 := (i 0).isLt
  have h1 : (i 1).val < 1 := (i 1).isLt
  fin_cases a
  · show l.val * 1 + 1 * (i 0).val = l.val; omega
  · show w.toNat * 1 + 1 * (i 1).val = w.toNat; omega
  · show 0 * 1024 + 1 * (i 2).val = (i 2).val; omega
  · show 0 * 512 + 1 * (i 3).val = (i 3).val; omega

theorem down_block (l : Fin 2) (X : Downs) (w w' : BitVec 32) (hw : w = w') (h : w'.toNat < 16) (g : S1x1x512x1024.Idx → S2x16x512x1024.Idx)
    (hg : ∀ i a, (g i a).val = at4 l w a * S1x1x512x1024.size a + 1 * (i a).val) : (fun i => X (g i)) = fun i => X (ix4 l ⟨w'.toNat, h⟩ (i 2) (i 3)) := by
  subst hw
  refine funext fun i => congrArg X (funext fun a => Fin.ext ((hg i a).trans ?_))
  have h0 : (i 0).val < 1 := (i 0).isLt
  have h1 : (i 1).val < 1 := (i 1).isLt
  fin_cases a
  · show l.val * 1 + 1 * (i 0).val = l.val; omega
  · show w.toNat * 1 + 1 * (i 1).val = w.toNat; omega
  · show 0 * 512 + 1 * (i 2).val = (i 2).val; omega
  · show 0 * 1024 + 1 * (i 3).val = (i 3).val; omega

/-- The argument arrays. -/
abbrev Xs (c : Dev nD) : Vec Ideal S22528x1152 .f32 := m ((c.tc : Thread nD τ).loc main_arg0)
abbrev Wg (c : Dev nD) : Ups := m ((c.tc : Thread nD τ).loc main_arg4)
abbrev Wu (c : Dev nD) : Ups := m ((c.tc : Thread nD τ).loc main_arg5)
abbrev Wd (c : Dev nD) : Downs := m ((c.tc : Thread nD τ).loc main_arg6)

theorem block_0 (c : Dev nD) (t : Fin (cfgM m hO).N) (r : Fin 512) (d : Fin 1152) :
    blockAt m hO c 0 t (ix2 r d) = Xs m c (ix2 ⟨512 * (grid0.coords t 0).val + r.val, by have : (grid0.coords t 0).val < 44 := (grid0.coords t 0).isLt; omega⟩ d) := by
  refine congrArg (Xs m c) (funext fun a => Fin.ext ?_)
  refine (show _ = cc0_transform_0 (grid0.coords t) a * S512x1152.size a + 1 * (ix2 r d a).val from rfl).trans ?_
  rw [index_0]
  fin_cases a
  · show (grid0.coords t 0).val * 512 + 1 * r.val = 512 * (grid0.coords t 0).val + r.val; omega
  · show 0 * 1152 + 1 * d.val = d.val; omega

variable (c : Dev nD) (t : Fin (cfgM m hO).N)

theorem block_1 (h : (lo m (ix1 (tileNo t 0))).toNat < 16) : blockAt m hO c 1 t = upOf (Wg m c) ⟨_, h⟩ :=
  up_block 0 (Wg m c) _ _ (lane_eq (tbl m 0) t 0 _ _ (off_val t 0) _) h _ fun _ _ => rfl
theorem block_2 (h : (hi m (ix1 (tileNo t 0))).toNat < 16) : blockAt m hO c 2 t = upOf (Wg m c) ⟨_, h⟩ :=
  up_block 0 (Wg m c) _ _ (lane_eq (tbl m 1) t 0 _ _ (off_val t 0) _) h _ fun _ _ => rfl
theorem block_3 (h : (lo m (ix1 (tileNo t 0))).toNat < 16) : blockAt m hO c 3 t = upOf (Wu m c) ⟨_, h⟩ :=
  up_block 0 (Wu m c) _ _ (lane_eq (tbl m 0) t 0 _ _ (off_val t 0) _) h _ fun _ _ => rfl
theorem block_4 (h : (hi m (ix1 (tileNo t 0))).toNat < 16) : blockAt m hO c 4 t = upOf (Wu m c) ⟨_, h⟩ :=
  up_block 0 (Wu m c) _ _ (lane_eq (tbl m 1) t 0 _ _ (off_val t 0) _) h _ fun _ _ => rfl
theorem block_5 (h : (lo m (ix1 (tileNo t 0))).toNat < 16) : blockAt m hO c 5 t = downOf (Wd m c) ⟨_, h⟩ :=
  down_block 0 (Wd m c) _ _ (lane_eq (tbl m 0) t 0 _ _ (off_val t 0) _) h _ fun _ _ => rfl
theorem block_6 (h : (hi m (ix1 (tileNo t 0))).toNat < 16) : blockAt m hO c 6 t = downOf (Wd m c) ⟨_, h⟩ :=
  down_block 0 (Wd m c) _ _ (lane_eq (tbl m 1) t 0 _ _ (off_val t 0) _) h _ fun _ _ => rfl
theorem block_7 (h : (lo m (ix1 (tileNo t 1))).toNat < 16) : blockAt m hO c 7 t = upOf (Wg m c) ⟨_, h⟩ :=
  up_block 0 (Wg m c) _ _ (lane_eq (tbl m 0) t 1 _ _ (off_val t 1) _) h _ fun _ _ => rfl
theorem block_8 (h : (hi m (ix1 (tileNo t 1))).toNat < 16) : blockAt m hO c 8 t = upOf (Wg m c) ⟨_, h⟩ :=
  up_block 0 (Wg m c) _ _ (lane_eq (tbl m 1) t 1 _ _ (off_val t 1) _) h _ fun _ _ => rfl
theorem block_9 (h : (lo m (ix1 (tileNo t 1))).toNat < 16) : blockAt m hO c 9 t = upOf (Wu m c) ⟨_, h⟩ :=
  up_block 0 (Wu m c) _ _ (lane_eq (tbl m 0) t 1 _ _ (off_val t 1) _) h _ fun _ _ => rfl
theorem block_10 (h : (hi m (ix1 (tileNo t 1))).toNat < 16) : blockAt m hO c 10 t = upOf (Wu m c) ⟨_, h⟩ :=
  up_block 0 (Wu m c) _ _ (lane_eq (tbl m 1) t 1 _ _ (off_val t 1) _) h _ fun _ _ => rfl
theorem block_11 (h : (lo m (ix1 (tileNo t 1))).toNat < 16) : blockAt m hO c 11 t = downOf (Wd m c) ⟨_, h⟩ :=
  down_block 0 (Wd m c) _ _ (lane_eq (tbl m 0) t 1 _ _ (off_val t 1) _) h _ fun _ _ => rfl
theorem block_12 (h : (hi m (ix1 (tileNo t 1))).toNat < 16) : blockAt m hO c 12 t = downOf (Wd m c) ⟨_, h⟩ :=
  down_block 0 (Wd m c) _ _ (lane_eq (tbl m 1) t 1 _ _ (off_val t 1) _) h _ fun _ _ => rfl

/-! ## The output array -/

theorem index_13 (t : Fin (cfgM m hO).N) : ((cfgM m hO).win 13).index t = ![t.val, 0] := index_out t

/-- Every grid point's block is written back. -/
theorem flush_13 (t : Fin (cfgM m hO).N) : ((cfgM m hO).win 13).flush t = true := by
  have ht : t.val < 44 := t.isLt
  rw [Window.flush_eq_flushOf]
  unfold Window.flushOf
  rw [Bool.and_eq_true_iff, Bool.or_eq_true_iff, decide_eq_true_iff, decide_eq_true_iff]
  refine ⟨rfl, ?_⟩
  by_cases h : t.val + 1 = 44
  · exact .inl h
  · refine .inr ⟨by show t.val + 1 < 44; omega, fun e => ?_⟩
    have e0 : cc0_transform_13 (grid0.coords ⟨t.val + 1, by show t.val + 1 < 44; omega⟩) (0 : Fin 2) = cc0_transform_13 (grid0.coords t) (0 : Fin 2) := congrFun e (0 : Fin 2)
    rw [index_out, index_out] at e0
    have e' : t.val + 1 = t.val := e0
    omega

theorem covers : ((cfgM m hO).win 13).Covers := by
  refine ⟨fun a => ?_, fun β => ?_⟩
  · have key : ∀ a : Fin 2, 0 < S512x1024.size a := by decide
    exact key a
  · have n0 : ((cfgM m hO).win 13).nblk (0 : Fin 2) = 44 := of_decide_eq_true (by sl_kernel_rfl)
    have n1 : ((cfgM m hO).win 13).nblk (1 : Fin 2) = 1 := of_decide_eq_true (by sl_kernel_rfl)
    have h0 : (β (0 : Fin 2)).val < 44 := lt_of_lt_of_eq (β (0 : Fin 2)).isLt n0
    have h1 : (β (1 : Fin 2)).val < 1 := lt_of_lt_of_eq (β (1 : Fin 2)).isLt n1
    refine ⟨⟨(β (0 : Fin 2)).val, h0⟩, flush_13 m hO _, fun a => ⟨?_, .inl rfl⟩⟩
    rw [index_13]
    have key : ∀ a : Fin 2, ![(β (0 : Fin 2)).val, 0] a = (β a).val := by
      intro a
      fin_cases a
      · rfl
      · show 0 = (β (1 : Fin 2)).val; omega
    exact key a

/-- The output array, from what each grid point leaves. -/
theorem array_out (G : Vec Ideal S22528x1024 .f32)
    (hG : ∀ (t : Fin (cfgM m hO).N) (r : Fin 512) (d : Fin 1024), (outAt m hO t c (ix2 r d) : EReal)
      = G (ix2 ⟨512 * (grid0.coords t 0).val + r.val, by have : (grid0.coords t 0).val < 44 := (grid0.coords t 0).isLt; omega⟩ d)) :
    (dats m hO 0 c).arrAt 13 (cfgM m hO).N = G := by
  refine (dats m hO 0 c).arrAt_eq_of_covers 13 G (covers m hO) (fun t hf y => ?_) (Memref.isWhole_whole _)
  rw [after_out]
  have ey : (y : S512x1024.Idx) = ix2 (y (0 : Fin 2)) (y (1 : Fin 2)) := eq_ix2 y
  refine (show _ = outAt m hO t c y from rfl).trans ?_
  rw [ey]
  refine (hG t (y (0 : Fin 2)) (y (1 : Fin 2))).trans (congrArg G (funext fun a => Fin.ext ?_))
  refine Eq.trans ?_ (show cc0_transform_13 (grid0.coords t) a * S512x1024.size a + 1 * ((ix2 (y (0 : Fin 2)) (y (1 : Fin 2)) : S512x1024.Idx) a).val = _ from rfl)
  rw [index_out]
  have := coord_eq t
  fin_cases a
  · show 512 * (grid0.coords t 0).val + (y (0 : Fin 2)).val = t.val * 512 + 1 * (y (0 : Fin 2)).val; omega
  · show (y (1 : Fin 2)).val = 0 * 1024 + 1 * (y (1 : Fin 2)).val; omega

end Cert.Proof.KI2

end
-- ==== Proof.RI2.Value.lean ====
/- The experts' reference, stage by stage, over the extended reals: an entry of the result is the sum over the experts and
   their hidden lanes of the weighted gated activation times the down-projection, on the rows of a used tile. -/
module

public import proofs.«01_k».proof.Proof.Gen.Reference2Ideal.Run
public import Idealize.ShloMosaic.Lib.Pointwise

@[expose] public section

set_option maxRecDepth 16384

noncomputable section

namespace Cert.Proof.RI2

open Cert.Reference2Ideal Cert.Reference2Ideal.Gen
open Idealize.ShloMosaic
open Idealize.ShloMosaic.TcCoe Idealize.ShloMosaic.Tactic Idealize.SL.Sem

abbrev Rows := FVec Ideal S22528x1152 .f32
abbrev Table := IVec S88 32
abbrev Ups := FVec Ideal S2x16x1024x512 .bf16
abbrev Downs := FVec Ideal S2x16x512x1024 .bf16
abbrev Hid := FVec Ideal S22528x16x512 .f32

/-- Every row projected by every expert. -/
def proj (x : Rows) (w : Ups) : Hid :=
  Host.dotGeneral dot_S22528x1024_S16x1024x512_S22528x16x512_1_1_0_02_n_n none (extractStridedSlice S22528x1024 ![0, 0] x slices_S22528x1152_S22528x1024_0_0)
    (extf .f32 (shapeCast _ (extractStridedSlice S1x16x1024x512 ![0, 0, 0, 0] w slices_S2x16x1024x512_S1x16x1024x512_0_0_0_0)
      shapeCasts_S1x16x1024x512_S16x1024x512) bitsLt_bf16_f32)

def ones : Hid := broadcastInDim S22528x16x512 ![] bcast_S_S22528x16x512 (constant S_ .f32 0x3F800000#32)

def silu (h : Hid) : Hid := mulf h (Host.divf ones (addf ones (Host.exp (Host.negf h))))

def hidden (x : Rows) (wg wu : Ups) : Hid := mulf (silu (proj x wg)) (proj x wu)

/-- A table's word for each row. -/
def perRow (e : Table) : IVec S22528x1 32 :=
  broadcastInDim S22528x1 ![0] bcast_S22528_S22528x1_0 (shapeCast _ (broadcastInDim S88x256 ![0] bcast_S88_S88x256_0 e) shapeCasts_S88x256_S22528)

/-- The rows' experts, against all of them. -/
def isExpert (e : Table) : IVec S22528x16 1 :=
  cmpi .eq (broadcastInDim S22528x16 ![0, 1] bcast_S22528x1_S22528x16_0_1 (perRow e))
    (broadcastInDim S22528x16 ![0, 1] bcast_S1x16_S22528x16_0_1 (broadcastInDim S1x16 ![1] bcast_S16_S1x16_1 (iotaInDim S16 32 0)))

def none16 : FVec Ideal S22528x16 .f32 := broadcastInDim S22528x16 ![] bcast_S_S22528x16 (id (constant S_ .f32 0x00000000#32))

/-- The weight of each expert in each row. -/
def combine (x : Rows) (lo hi : Table) : FVec Ideal S22528x16 .f32 :=
  addf (select (isExpert lo) (broadcastInDim S22528x16 ![0, 1] bcast_S22528x1_S22528x16_0_1
      (extractStridedSlice S22528x1 ![0, 1024] x slices_S22528x1152_S22528x1_0_1024)) none16)
    (select (isExpert hi) (broadcastInDim S22528x16 ![0, 1] bcast_S22528x1_S22528x16_0_1
      (extractStridedSlice S22528x1 ![0, 1025] x slices_S22528x1152_S22528x1_0_1025)) none16)

def weighted (x : Rows) (lo hi : Table) (wg wu : Ups) : Hid :=
  mulf (hidden x wg wu) (broadcastInDim S22528x16x512 ![0, 1, 2] bcast_S22528x16x1_S22528x16x512_0_1_2
    (broadcastInDim S22528x16x1 ![0, 1] bcast_S22528x16_S22528x16x1_0_1 (combine x lo hi)))

def summed (x : Rows) (lo hi : Table) (wg wu : Ups) (wd : Downs) : FVec Ideal S22528x1024 .f32 :=
  Host.dotGeneral dot_S22528x16x512_S16x512x1024_S22528x1024_12_01_0_2_n_n none (weighted x lo hi wg wu)
    (extf .f32 (shapeCast _ (extractStridedSlice S1x16x512x1024 ![0, 0, 0, 0] wd slices_S2x16x512x1024_S1x16x512x1024_0_0_0_0)
      shapeCasts_S1x16x512x1024_S16x512x1024) bitsLt_bf16_f32)

def result (x : Rows) (lo hi live : Table) (wg wu : Ups) (wd : Downs) : FVec Ideal S22528x1024 .f32 :=
  select (broadcastInDim S22528x1024 ![0, 1] bcast_S22528x1_S22528x1024_0_1
      (cmpi .eq (perRow live) (broadcastInDim S22528x1 ![] bcast_S_S22528x1 (constantI S_ 32 1#32))))
    (summed x lo hi wg wu wd) (broadcastInDim S22528x1024 ![] bcast_S_S22528x1024 (id (constant S_ .f32 0x00000000#32)))

/-- The reference's run: the result, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

/-! ## The stages at an entry -/

variable (x : Rows) (lo hi live : Table) (wg wu : Ups) (wd : Downs)

theorem proj_apply (r : Fin 22528) (e : Fin 16) (f : Fin 512) :
    (proj x wg (ix3 r e f) : EReal) = ∑ d : Fin 1024, (x (ix2 r ⟨d.val, by omega⟩) : EReal) * wg (ix4 (0 : Fin 2) e d f) := by
  unfold proj
  pointwise

theorem silu_apply (h : Hid) (r : Fin 22528) (e : Fin 16) (f : Fin 512) :
    (silu h (ix3 r e f) : EReal) = (h (ix3 r e f) : EReal) * Ideal.logistic (h (ix3 r e f)) := by
  unfold silu ones Ideal.logistic
  pointwise

theorem perRow_apply (e : Table) (r : Fin 22528) : perRow e (ix2 r (0 : Fin 1)) = e (ix1 ⟨r.val / 256, by omega⟩) := by
  unfold perRow
  pointwise

/-- The comparison of two words. -/
theorem word_eq (a b : BitVec 32) : IntOp.cmpi CmpIPredicate.eq a b = if a = b then 1#1 else 0#1 := by
  by_cases h : a = b
  · subst h; simp [IntOp.cmpi]
  · rw [if_neg h]
    exact congrArg BitVec.ofBool (beq_eq_false_iff_ne.mpr h)

theorem select_word (p : Prop) [Decidable p] (a b : EReal) : Scalar.select (if p then 1#1 else 0#1) a b = if p then a else b := by
  by_cases h : p <;> simp [Scalar.select, h]

theorem zero_word : (id (constant (F := Ideal) S_ FTy.f32 0x00000000#32) ix0 : EReal) = 0 := by
  show Ideal.ofBits FTy.f32 0x00000000#32 = 0
  simp [Ideal.ofBits, Ideal.ieee]

theorem isExpert_apply (t : Table) (r : Fin 22528) (e : Fin 16) :
    isExpert t (ix2 r e) = if (t (ix1 ⟨r.val / 256, by omega⟩)) = BitVec.ofNat 32 e.val then 1#1 else 0#1 := by
  unfold isExpert
  pointwise
  rw [perRow_apply]
  exact word_eq _ _

theorem combine_apply (r : Fin 22528) (e : Fin 16) :
    (combine x lo hi (ix2 r e) : EReal) = (if (lo (ix1 ⟨r.val / 256, by omega⟩)) = BitVec.ofNat 32 e.val then (x (ix2 r ⟨1024, by omega⟩) : EReal) else 0)
      + (if (hi (ix1 ⟨r.val / 256, by omega⟩)) = BitVec.ofNat 32 e.val then (x (ix2 r ⟨1025, by omega⟩) : EReal) else 0) := by
  unfold combine none16
  pointwise
  rw [isExpert_apply, isExpert_apply]
  refine congrArg₂ (· + ·) ((select_word _ _ _).trans ?_) ((select_word _ _ _).trans ?_) <;> rw [zero_word]

theorem summed_apply (r : Fin 22528) (d : Fin 1024) :
    (summed x lo hi wg wu wd (ix2 r d) : EReal)
      = ∑ e : Fin 16, ∑ f : Fin 512, (weighted x lo hi wg wu (ix3 r e f) : EReal) * wd (ix4 (0 : Fin 2) e f d) := by
  unfold summed
  pointwise

theorem weighted_apply (r : Fin 22528) (e : Fin 16) (f : Fin 512) :
    (weighted x lo hi wg wu (ix3 r e f) : EReal) = ((proj x wg (ix3 r e f) : EReal) * Ideal.logistic (proj x wg (ix3 r e f)) * proj x wu (ix3 r e f)) * combine x lo hi (ix2 r e) := by
  unfold weighted hidden
  pointwise
  rw [silu_apply]

theorem result_apply (r : Fin 22528) (d : Fin 1024) :
    (result x lo hi live wg wu wd (ix2 r d) : EReal)
      = if live (ix1 ⟨r.val / 256, by omega⟩) = 1#32 then (summed x lo hi wg wu wd (ix2 r d) : EReal) else 0 := by
  unfold result
  pointwise
  rw [perRow_apply, word_eq]
  refine (select_word _ _ _).trans ?_
  rw [zero_word]

/-! ## The two experts of a row -/

/-- An expert's gated activation of a row. -/
def act (r : Fin 22528) (e : Fin 16) (f : Fin 512) : EReal :=
  (∑ d : Fin 1024, (x (ix2 r ⟨d.val, by omega⟩) : EReal) * wg (ix4 (0 : Fin 2) e d f))
    * Ideal.logistic (∑ d : Fin 1024, (x (ix2 r ⟨d.val, by omega⟩) : EReal) * wg (ix4 (0 : Fin 2) e d f))
    * ∑ d : Fin 1024, (x (ix2 r ⟨d.val, by omega⟩) : EReal) * wu (ix4 (0 : Fin 2) e d f)

/-- What an expert of weight `w` gives an entry. -/
def given (w : EReal) (r : Fin 22528) (e : Fin 16) (d : Fin 1024) : EReal :=
  ∑ f : Fin 512, act x wg wu r e f * w * wd (ix4 (0 : Fin 2) e f d)

theorem given_zero (r : Fin 22528) (e : Fin 16) (d : Fin 1024) : given x wg wu wd 0 r e d = 0 := by
  unfold given
  simp only [mul_zero, zero_mul, Finset.sum_const_zero]

/-- A sum over the experts of which only two have a weight. -/
theorem sum_two (T : Fin 16 → EReal → EReal) (h0 : ∀ e, T e 0 = 0) (p q : Fin 16) (hpq : p ≠ q) (a b : EReal) :
    ∑ e : Fin 16, T e ((if e = p then a else 0) + (if e = q then b else 0)) = T p a + T q b := by
  have key : ∀ e : Fin 16, T e ((if e = p then a else 0) + (if e = q then b else 0)) = (if e = p then T p a else 0) + (if e = q then T q b else 0) := by
    intro e
    by_cases hp : e = p
    · subst hp
      rw [if_pos rfl, if_pos rfl, if_neg hpq, if_neg hpq, add_zero, add_zero]
    · by_cases hq : e = q
      · subst hq
        rw [if_neg hp, if_neg hp, if_pos rfl, if_pos rfl, zero_add, zero_add]
      · rw [if_neg hp, if_neg hp, if_neg hq, if_neg hq, add_zero, h0]
  simp only [key]
  rw [Finset.sum_add_distrib, Finset.sum_ite_eq' Finset.univ p, Finset.sum_ite_eq' Finset.univ q, if_pos (Finset.mem_univ _), if_pos (Finset.mem_univ _)]

theorem word_is (w : BitVec 32) (hw : w.toNat < 16) (e : Fin 16) : w = BitVec.ofNat 32 e.val ↔ e = ⟨w.toNat, hw⟩ := by
  have he := e.isLt
  constructor
  · intro h
    apply Fin.ext
    show e.val = w.toNat
    rw [h, BitVec.toNat_ofNat, Nat.mod_eq_of_lt (by omega)]
  · intro h
    subst h
    simp

/-- The sum over all experts is that over the row's two, when they differ. -/
theorem summed_two (r : Fin 22528) (d : Fin 1024) (hl : (lo (ix1 ⟨r.val / 256, by omega⟩)).toNat < 16) (hh : (hi (ix1 ⟨r.val / 256, by omega⟩)).toNat < 16)
    (hne : lo (ix1 ⟨r.val / 256, by omega⟩) ≠ hi (ix1 ⟨r.val / 256, by omega⟩)) :
    (summed x lo hi wg wu wd (ix2 r d) : EReal) = given x wg wu wd (x (ix2 r ⟨1024, by omega⟩)) r ⟨_, hl⟩ d + given x wg wu wd (x (ix2 r ⟨1025, by omega⟩)) r ⟨_, hh⟩ d := by
  rw [summed_apply]
  simp only [weighted_apply, proj_apply, combine_apply, word_is _ hl, word_is _ hh]
  exact sum_two (fun e w => given x wg wu wd w r e d) (given_zero x wg wu wd r · d) ⟨_, hl⟩ ⟨_, hh⟩
    (fun h => hne (BitVec.eq_of_toNat_eq (Fin.mk.inj h))) _ _

end Cert.Proof.RI2

end
-- ==== Proof.Match2.lean ====
/- The experts' kernel against its reference: at every point of the grid, each row of the block it leaves is the
   reference's row. -/
module

public import proofs.«01_k».proof.Proof.KI2.Output
public import proofs.«01_k».proof.Proof.RI2.Value

@[expose] public section

set_option maxRecDepth 16384

noncomputable section

namespace Cert.Proof.Match2

open Cert.Kernel2Ideal Cert.Kernel2Ideal.Gen Cert.Proof.KI2
open Idealize.ShloMosaic
open Idealize.ShloMosaic.TcCoe Idealize.ShloMosaic.Tactic

/-- An expert's part from its blocks is the reference's, of a row read from the same array. -/
theorem given_eq (X : RI2.Rows) (G U : Cert.Proof.KI2.Ups) (D : Cert.Proof.KI2.Downs) (e : Fin 16) (R : Fin 22528) (x : Fin 1024 → EReal) (w : EReal)
    (hx : ∀ d : Fin 1024, x d = X (ix2 R ⟨d.val, by omega⟩)) (d : Fin 1024) :
    givenOf x w (upOf G e) (upOf U e) (downOf D e) d = RI2.given X G U D w R e d := by
  obtain rfl : x = fun d : Fin 1024 => (X (ix2 R ⟨d.val, by omega⟩) : EReal) := funext hx
  rfl

/-- A tile's row, from the blocks the point copies in. -/
theorem tile_eq (X : RI2.Rows) (lo hi used : IVec S88 32) (G U : Cert.Proof.KI2.Ups) (D : Cert.Proof.KI2.Downs) (h : Ranges lo hi used) (t : Fin grid0.N) (k : Fin 2) (o : ℕ) (ho : o + 256 ≤ 512) (hk : o = 256 * k.val) (r : Fin 256) (d : Fin 1024) (w : BitVec 32)
    (x4 : RowsBlk) (x5 x6 x7 x8 : UpBlk) (x9 x10 : DownBlk) (hw : w = used (ix1 (tileNo t k)))
    (h4 : ∀ (s : Fin 512) (j : Fin 1152), (x4 (ix2 s j) : EReal)
      = X (ix2 ⟨512 * (grid0.coords t 0).val + s.val, by have : (grid0.coords t 0).val < 44 := (grid0.coords t 0).isLt; omega⟩ j))
    (h5 : x5 = upOf G ⟨_, h.lo_lt (ix1 (tileNo t k))⟩) (h6 : x6 = upOf G ⟨_, h.hi_lt (ix1 (tileNo t k))⟩)
    (h7 : x7 = upOf U ⟨_, h.lo_lt (ix1 (tileNo t k))⟩) (h8 : x8 = upOf U ⟨_, h.hi_lt (ix1 (tileNo t k))⟩)
    (h9 : x9 = downOf D ⟨_, h.lo_lt (ix1 (tileNo t k))⟩) (h10 : x10 = downOf D ⟨_, h.hi_lt (ix1 (tileNo t k))⟩)
    (R : Fin 22528) (hR : R.val = 512 * (grid0.coords t 0).val + (o + r.val)) :
    tileOf w x4 x5 x6 x7 x8 x9 x10 o ho r d = (RI2.result X lo hi used G U D (ix2 R d) : EReal) := by
  have hr := r.isLt
  have hq : (⟨R.val / 256, by omega⟩ : Fin 88) = tileNo t k := Fin.ext (show R.val / 256 = 2 * (grid0.coords t 0).val + k.val by omega)
  have hx : ∀ j : Fin 1152, (x4 (ix2 ⟨o + r.val, by omega⟩ j) : EReal) = X (ix2 R j) := fun j =>
    (h4 _ j).trans (congrArg (fun q => X (ix2 q j)) (Fin.ext hR.symm))
  subst h5 h6 h7 h8 h9 h10 hw
  rw [RI2.result_apply]
  unfold tileOf
  have key : ∀ q : Fin 88, q = tileNo t k → ((used (ix1 (tileNo t k)) = 1#32) = (used (ix1 q) = 1#32)) := fun q e => by rw [e]
  by_cases hu : used (ix1 (tileNo t k)) = 1#32
  · rw [if_pos hu, if_pos ((key _ hq).mp hu)]
    have hl := h.lo_lt (ix1 ⟨R.val / 256, by omega⟩)
    have hh := h.hi_lt (ix1 ⟨R.val / 256, by omega⟩)
    rw [RI2.summed_two X lo hi G U D R d hl hh (h.ne _)]
    rw [hx ⟨1024, by omega⟩, hx ⟨1025, by omega⟩]
    refine congrArg₂ (· + ·) ((given_eq X G U D _ R _ _ (fun d => hx ⟨d.val, by omega⟩) d).trans ?_)
      ((given_eq X G U D _ R _ _ (fun d => hx ⟨d.val, by omega⟩) d).trans ?_)
    · exact congrArg (fun e => RI2.given X G U D _ R e d) (Fin.ext (congrArg (fun q => (lo (ix1 q)).toNat) hq.symm))
    · exact congrArg (fun e => RI2.given X G U D _ R e d) (Fin.ext (congrArg (fun q => (hi (ix1 q)).toNat) hq.symm))
  · rw [if_neg hu, if_neg (fun e => hu ((key _ hq).mpr e))]

variable (m : (ℓ : Loc nD τ sig) → Buf (Elt Ideal) ℓ) (hO : Good m)
variable (h : Ranges (lo m) (hi m) (used m)) (c : Dev nD)

include h in
/-- A row of the block a grid point leaves. -/
theorem out_eq (t : Fin (cfgM m hO).N) (r : Fin 512) (d : Fin 1024) : (outAt m hO t c (ix2 r d) : EReal)
    = RI2.result (Xs m c) (lo m) (hi m) (used m) (Wg m c) (Wu m c) (Wd m c)
        (ix2 ⟨512 * (grid0.coords t 0).val + r.val, by have : (grid0.coords t 0).val < 44 := (grid0.coords t 0).isLt; omega⟩ d) := by
  have hr := r.isLt
  unfold outAt
  rw [pieces_apply]
  by_cases hk : r.val < 256
  · rw [dif_pos hk]
    unfold rows0
    refine (tile0_apply _ _ _ _ _ _ _ _ _ d).trans ?_
    exact tile_eq (Xs m c) (lo m) (hi m) (used m) (Wg m c) (Wu m c) (Wd m c) h t 0 0 (by omega) rfl _ d _ _ _ _ _ _ _ _ (word0_eq m t) (fun s j => block_0 m hO c t s j)
      (block_1 m hO c t _) (block_2 m hO c t _) (block_3 m hO c t _) (block_4 m hO c t _) (block_5 m hO c t _) (block_6 m hO c t _) _ (by show 512 * (grid0.coords t 0).val + r.val = _ + (0 + r.val); omega)
  · rw [dif_neg hk]
    unfold rows1
    refine (tile1_apply _ _ _ _ _ _ _ _ _ d).trans ?_
    exact tile_eq (Xs m c) (lo m) (hi m) (used m) (Wg m c) (Wu m c) (Wd m c) h t 1 256 (by omega) rfl _ d _ _ _ _ _ _ _ _ (word1_eq m t) (fun s j => block_0 m hO c t s j)
      (block_7 m hO c t _) (block_8 m hO c t _) (block_9 m hO c t _) (block_10 m hO c t _) (block_11 m hO c t _) (block_12 m hO c t _) _
      (by show 512 * (grid0.coords t 0).val + r.val = _ + (256 + (r.val - 256)); omega)

include h in
/-- The output array is the reference's result. -/
theorem array_eq : (dats m hO 0 c).arrAt 13 (cfgM m hO).N
    = RI2.result (Xs m c) (lo m) (hi m) (used m) (Wg m c) (Wu m c) (Wd m c) :=
  array_out m hO c _ (out_eq m hO h c)

end Cert.Proof.Match2

end
-- ==== Proof.KI3.Body.lean ====
/- The second layer's experts' function at one grid point. The layer is in the launch alone: the function is the first layer's,
   and so is its specification. -/
module

public import proofs.«01_k».proof.Proof.KI2.Body
public import proofs.«01_k».proof.Proof.Gen.Kernel3Ideal.Skeleton
public import proofs.«01_k».proof.Proof.Gen.Kernel3Ideal.Launch
public import Idealize.ShloMosaic.Lib.Tactic
public import Idealize.ShloMosaic.Lib.Ring
public import Idealize.ShloMosaic.Lib.Pipeline.FrameBody
public import Idealize.ShloMosaic.Adequacy
public import Idealize.ShloMosaic.Init

@[expose] public section

set_option maxRecDepth 16384

noncomputable section

namespace Cert.Proof.KI3

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.KI2 (UR 𝒱₀ tile0 tile1 pieces)

variable {F : FTy → Type} [FloatOps F]

local notation "𝕄" => MT nD τ sig Unit (Elt F) ℕ (UR nD τ) ℕ

/-- The table of live tiles, read-only, holding `T`. -/
abbrev liveIs (c : Dev nD) (T : Memref.view (Memref.whole main_arg3 : Memref sig .tc .smem S88 .i32) |>.ty.Contents (Elt F)) : sProp 𝕄 :=
  (Memref.whole main_arg3 : Memref sig .tc .smem S88 .i32).view.loc (c : Thread nD τ) ↦{fullShare.right} T

/-- A word of the table as the function loads it. -/
abbrev loaded (T : (Memref.whole main_arg3 : Memref sig .tc .smem S88 .i32).view.ty.Contents (Elt F)) (off : Fin 1 → ℕ) (h : ∀ a, off a + S1.size a ≤ S88.size a) : BitVec 32 :=
  (Memref.whole main_arg3 : Memref sig .tc .smem S88 .i32).view.readAt (Elt F) (Rect.unit (s := S88) off S1.size h).toLoadRect T (Shape.Idx.first (numel1_S1.symm ▸ Nat.one_pos))

theorem run (c : Dev nD) (i : grid0.Coords)
    (M4 : Memref sig .tc .vmem S512x1152 .f32) (h4 : M4.IsWhole)
    (M5 : Memref sig .tc .vmem S1x1x1024x512 .bf16) (h5 : M5.IsWhole)
    (M6 : Memref sig .tc .vmem S1x1x1024x512 .bf16) (h6 : M6.IsWhole)
    (M7 : Memref sig .tc .vmem S1x1x1024x512 .bf16) (h7 : M7.IsWhole)
    (M8 : Memref sig .tc .vmem S1x1x1024x512 .bf16) (h8 : M8.IsWhole)
    (M9 : Memref sig .tc .vmem S1x1x512x1024 .bf16) (h9 : M9.IsWhole)
    (M10 : Memref sig .tc .vmem S1x1x512x1024 .bf16) (h10 : M10.IsWhole)
    (M11 : Memref sig .tc .vmem S1x1x1024x512 .bf16) (h11 : M11.IsWhole)
    (M12 : Memref sig .tc .vmem S1x1x1024x512 .bf16) (h12 : M12.IsWhole)
    (M13 : Memref sig .tc .vmem S1x1x1024x512 .bf16) (h13 : M13.IsWhole)
    (M14 : Memref sig .tc .vmem S1x1x1024x512 .bf16) (h14 : M14.IsWhole)
    (M15 : Memref sig .tc .vmem S1x1x512x1024 .bf16) (h15 : M15.IsWhole)
    (M16 : Memref sig .tc .vmem S1x1x512x1024 .bf16) (h16 : M16.IsWhole)
    (M17 : Memref sig .tc .vmem S512x1024 .f32) (h17 : M17.IsWhole)
    (x4 : Vec F S512x1152 .f32) (x5 : Vec F S1x1x1024x512 .bf16) (x6 : Vec F S1x1x1024x512 .bf16) (x7 : Vec F S1x1x1024x512 .bf16) (x8 : Vec F S1x1x1024x512 .bf16) (x9 : Vec F S1x1x512x1024 .bf16) (x10 : Vec F S1x1x512x1024 .bf16) (x11 : Vec F S1x1x1024x512 .bf16) (x12 : Vec F S1x1x1024x512 .bf16) (x13 : Vec F S1x1x1024x512 .bf16) (x14 : Vec F S1x1x1024x512 .bf16) (x15 : Vec F S1x1x512x1024 .bf16) (x16 : Vec F S1x1x512x1024 .bf16)
    (T : (Memref.whole main_arg3 : Memref sig .tc .smem S88 .i32).view.ty.Contents (Elt F)) (w0 w1 : BitVec 32)
    (e1 : loaded T (k0_off1 i 0#32) (k0_off1_inb i 0) = w0) (e2 : loaded T (k0_off2 i) (k0_off2_inb i) = w0)
    (e3 : loaded T (k0_off3 i) (k0_off3_inb i) = w1) (e4 : loaded T (k0_off4 i) (k0_off4_inb i) = w1)
    (hw0 : w0 = 0#32 ∨ w0 = 1#32) (hw1 : w1 = 0#32 ∨ w1 = 1#32) (Q : PUnit → sProp 𝕄) :
    iprop(liveIs c T ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14 ∗ owns (c : Thread nD τ) M15 fullShare x15 ∗ owns (c : Thread nD τ) M16 fullShare x16 ∗ (∃ d, owns (c : Thread nD τ) M17 fullShare d)
        ∗ (iprop(liveIs c T ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14 ∗ owns (c : Thread nD τ) M15 fullShare x15 ∗ owns (c : Thread nD τ) M16 fullShare x16
            ∗ (∃ f, M17.view.loc (c : Thread nD τ) ↦[M17.view.set]{fullShare} M17.view.writes (Elt F) f (pieces (tile0 w0 x4 x5 x6 x7 x8 x9 x10) (tile1 w1 x4 x11 x12 x13 x14 x15 x16)))) -∗ Q ⟨⟩))
      ⊢ wp frame (wpE (defs₀ (F := F)) 𝒱₀ c none) Set.univ
          (cc0_experts i (Memref.whole main_arg1) (Memref.isWhole_whole _) (Memref.whole main_arg2) (Memref.isWhole_whole _) (Memref.whole main_arg3) (Memref.isWhole_whole _)
            M4 h4 M5 h5 M6 h6 M7 h7 M8 h8 M9 h9 M10 h10 M11 h11 M12 h12 M13 h13 M14 h14 M15 h15 M16 h16 M17 h17) Q := by
  -- the two programs print the same function, so the two statements are one
  have h := KI2.run c i M4 h4 M5 h5 M6 h6 M7 h7 M8 h8 M9 h9 M10 h10 M11 h11 M12 h12 M13 h13 M14 h14 M15 h15 M16 h16 M17 h17 x4 x5 x6 x7 x8 x9 x10 x11 x12 x13 x14 x15 x16 T w0 w1 e1 e2 e3 e4 hw0 hw1 Q
  refine Eq.mp ?_ h
  sl_kernel_rfl

end Cert.Proof.KI3

end
-- ==== Proof.KI3.Frame.lean ====
/- The second layer's experts' launch: the tables the pipeline reads at its entry, what each grid point leaves in the output's staging
   buffer, the pipeline's proof data over it, the body's obligation, and the frame — from tables within their ranges every
   execution ends, with the seven arguments unchanged and no count pending. -/
module

public import proofs.«01_k».proof.Proof.KI3.Body
public import Idealize.ShloMosaic.Lib.Claim

@[expose] public section

set_option maxRecDepth 16384

noncomputable section

namespace Cert.Proof.KI3

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.KI2 (UR 𝒱₀ tile0 tile1 pieces)
open Idealize.ShloMosaic.Pipeline (Dat Cfg Window BodyObligation cellOf)

variable {F : FTy → Type} [FloatOps F]

local notation "𝕄" => MT nD τ sig Unit (Elt F) ℕ (UR nD τ) ℕ

variable (m : (ℓ : Loc nD τ sig) → Buf (Elt F) ℓ) (ρ : Dev nD → PrngReg)

/-- Core `c`'s buffers as the region finds them: as launched, the region being all of the main program. -/
abbrev atEntry (c : Dev nD) (b : Ref sig .tc) : Buf (Elt F) ((c : Thread nD τ).loc b) := m ((c : Thread nD τ).loc b)

theorem main_is_region : Pipeline.HMainP (Ix := Unit) (Name := ℕ) (U := UR nD τ) (Lvl := ℕ) (pcfgs (F := F)) 0 defs₀ 𝒱₀ m (main (F := F)) (atEntry m) :=
  Pipeline.hmainP_region (pcfgs (F := F)) 0 defs₀ 𝒱₀ m main fun c => (main_chain c).trans rfl

/-! ## The tables -/

/-- The three tables as launched, on the one device. -/
def tbl : pre0.Contents (Elt F) := fun j => atEntry m (0 : Dev nD) (pre0.ref j)

theorem tbl_at (c : Dev nD) (j : Fin 3) : atEntry m c (pre0.ref j) = tbl m j := by
  obtain rfl : c = 0 := Subsingleton.elim _ _
  rfl

/-- The table of live tiles. -/
abbrev live : S88.Idx → BitVec 32 := fun x => tbl m 2 x

/-- What the launch asks of the tables: every window's block inside its array, and every live word zero or one. -/
structure Good : Prop where
  ok : ok0 (tbl m)
  bit : ∀ x, live m x = 0#32 ∨ live m x = 1#32

variable (hO : Good m)

/-- The pipeline at the launched tables. -/
abbrev adm : (pcfg0 (F := F)).Adm := ⟨tbl m, hO.ok⟩
abbrev adms : (p : Fin 1) → (pcfgs (F := F) p).Adm := fun _ => adm m hO
abbrev cfgM : Cfg sig Λ₀ := cfg0 (adm m hO)

/-- The two live words of a grid point, as the function loads them. -/
def word0 (i : grid0.Coords) : BitVec 32 := loaded (tbl m 2) (k0_off1 i 0#32) (k0_off1_inb i 0)
def word1 (i : grid0.Coords) : BitVec 32 := loaded (tbl m 2) (k0_off1 i 1#32) (k0_off1_inb i 1)

include hO in
theorem word0_bit (i : grid0.Coords) : word0 m i = 0#32 ∨ word0 m i = 1#32 := hO.bit _
include hO in
theorem word1_bit (i : grid0.Coords) : word1 m i = 0#32 ∨ word1 m i = 1#32 := hO.bit _

/-- The core's half of the tables, held read-only between the grid points. -/
theorem tables_eq (c : Dev nD) : (Pipeline.ΦT pre0 (tbl m) c : sProp 𝕄)
    = iprop(((c : Thread nD τ).loc main_arg1 ↦{fullShare.right} tbl m 0) ∗ ((c : Thread nD τ).loc main_arg2 ↦{fullShare.right} tbl m 1) ∗ liveIs c (tbl m 2)) := by
  unfold Pipeline.ΦT Pipeline.prefHeld
  rw [show (Finset.univ : Finset (Fin 3)) = insert 0 (insert 1 {2}) from by decide, bigSep_insert (by decide), bigSep_insert (by decide), bigSep_singleton]
  rfl

variable (t : Fin (cfgM m hO).N)

/-- Window `w`'s block at point `t`, of its array as launched. -/
def blockAt (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (atEntry m c (Pipeline.arrRef spec0 w))

/-! ## The windows' staging buffers at a point, and the output's contents -/

abbrev wM0 : Memref sig .tc .vmem S512x1152 .f32 := spec0_0.stage ((cfgM m hO).slots t 0)
abbrev wW0 : (wM0 m hO t).IsWhole := hstage0_0 (((cfgM m hO).slots t 0).cast nbuf0_0)
abbrev wM1 : Memref sig .tc .vmem S1x1x1024x512 .bf16 := spec0_1.stage ((cfgM m hO).slots t 1)
abbrev wW1 : (wM1 m hO t).IsWhole := hstage0_1 (((cfgM m hO).slots t 1).cast nbuf0_1)
abbrev wM2 : Memref sig .tc .vmem S1x1x1024x512 .bf16 := spec0_2.stage ((cfgM m hO).slots t 2)
abbrev wW2 : (wM2 m hO t).IsWhole := hstage0_2 (((cfgM m hO).slots t 2).cast nbuf0_2)
abbrev wM3 : Memref sig .tc .vmem S1x1x1024x512 .bf16 := spec0_3.stage ((cfgM m hO).slots t 3)
abbrev wW3 : (wM3 m hO t).IsWhole := hstage0_3 (((cfgM m hO).slots t 3).cast nbuf0_3)
abbrev wM4 : Memref sig .tc .vmem S1x1x1024x512 .bf16 := spec0_4.stage ((cfgM m hO).slots t 4)
abbrev wW4 : (wM4 m hO t).IsWhole := hstage0_4 (((cfgM m hO).slots t 4).cast nbuf0_4)
abbrev wM5 : Memref sig .tc .vmem S1x1x512x1024 .bf16 := spec0_5.stage ((cfgM m hO).slots t 5)
abbrev wW5 : (wM5 m hO t).IsWhole := hstage0_5 (((cfgM m hO).slots t 5).cast nbuf0_5)
abbrev wM6 : Memref sig .tc .vmem S1x1x512x1024 .bf16 := spec0_6.stage ((cfgM m hO).slots t 6)
abbrev wW6 : (wM6 m hO t).IsWhole := hstage0_6 (((cfgM m hO).slots t 6).cast nbuf0_6)
abbrev wM7 : Memref sig .tc .vmem S1x1x1024x512 .bf16 := spec0_7.stage ((cfgM m hO).slots t 7)
abbrev wW7 : (wM7 m hO t).IsWhole := hstage0_7 (((cfgM m hO).slots t 7).cast nbuf0_7)
abbrev wM8 : Memref sig .tc .vmem S1x1x1024x512 .bf16 := spec0_8.stage ((cfgM m hO).slots t 8)
abbrev wW8 : (wM8 m hO t).IsWhole := hstage0_8 (((cfgM m hO).slots t 8).cast nbuf0_8)
abbrev wM9 : Memref sig .tc .vmem S1x1x1024x512 .bf16 := spec0_9.stage ((cfgM m hO).slots t 9)
abbrev wW9 : (wM9 m hO t).IsWhole := hstage0_9 (((cfgM m hO).slots t 9).cast nbuf0_9)
abbrev wM10 : Memref sig .tc .vmem S1x1x1024x512 .bf16 := spec0_10.stage ((cfgM m hO).slots t 10)
abbrev wW10 : (wM10 m hO t).IsWhole := hstage0_10 (((cfgM m hO).slots t 10).cast nbuf0_10)
abbrev wM11 : Memref sig .tc .vmem S1x1x512x1024 .bf16 := spec0_11.stage ((cfgM m hO).slots t 11)
abbrev wW11 : (wM11 m hO t).IsWhole := hstage0_11 (((cfgM m hO).slots t 11).cast nbuf0_11)
abbrev wM12 : Memref sig .tc .vmem S1x1x512x1024 .bf16 := spec0_12.stage ((cfgM m hO).slots t 12)
abbrev wW12 : (wM12 m hO t).IsWhole := hstage0_12 (((cfgM m hO).slots t 12).cast nbuf0_12)
abbrev wM13 : Memref sig .tc .vmem S512x1024 .f32 := spec0_13.stage ((cfgM m hO).slots t 13)
abbrev wW13 : (wM13 m hO t).IsWhole := hstage0_13 (((cfgM m hO).slots t 13).cast nbuf0_13)

/-- The pieces a run of the function stores cover the output's window: two bands of rows. -/
theorem out_cover (r0 r1 : Vec F S256x1024 .f32) (y : S512x1024.Idx) : ∃ p ∈ pieces r0 r1, y ∈ p.1.set :=
  View.cover_of_tiledL (pieces r0 r1) S256x1024.size (by sl_kernel_rfl) y

/-- The two tiles' rows at point `t`. -/
def rows0 (c : Dev nD) : Vec F S256x1024 .f32 :=
  tile0 (word0 m (grid0.coords t)) (blockAt m hO c 0 t) (blockAt m hO c 1 t) (blockAt m hO c 2 t) (blockAt m hO c 3 t) (blockAt m hO c 4 t) (blockAt m hO c 5 t) (blockAt m hO c 6 t)
def rows1 (c : Dev nD) : Vec F S256x1024 .f32 :=
  tile1 (word1 m (grid0.coords t)) (blockAt m hO c 0 t) (blockAt m hO c 7 t) (blockAt m hO c 8 t) (blockAt m hO c 9 t) (blockAt m hO c 10 t) (blockAt m hO c 11 t) (blockAt m hO c 12 t)

/-- What point `t` leaves in the output's staging buffer. -/
@[irreducible] def outAt (c : Dev nD) : Vec F S512x1024 .f32 := View.canon (pieces (rows0 m hO t c) (rows1 m hO t c))

/-- The pipeline's proof data: the arrays as launched, each array's windows sharing it; after the body each input's buffer
    at its block and the output's at `outAt`; the tables held between the points. -/
def dats (_ : Fin 1) (c : Dev nD) : Dat τ (Elt F) Unit ℕ (UR nD τ) ℕ (cfgM m hO) c where
  A w := atEntry m c (Pipeline.arrRef spec0 w)
  after w t := match w with
    | ⟨0, _⟩ => blockAt m hO c 0 t
    | ⟨1, _⟩ => blockAt m hO c 1 t
    | ⟨2, _⟩ => blockAt m hO c 2 t
    | ⟨3, _⟩ => blockAt m hO c 3 t
    | ⟨4, _⟩ => blockAt m hO c 4 t
    | ⟨5, _⟩ => blockAt m hO c 5 t
    | ⟨6, _⟩ => blockAt m hO c 6 t
    | ⟨7, _⟩ => blockAt m hO c 7 t
    | ⟨8, _⟩ => blockAt m hO c 8 t
    | ⟨9, _⟩ => blockAt m hO c 9 t
    | ⟨10, _⟩ => blockAt m hO c 10 t
    | ⟨11, _⟩ => blockAt m hO c 11 t
    | ⟨12, _⟩ => blockAt m hO c 12 t
    | ⟨13, _⟩ => outAt m hO t c
  Φ _ := iprop(Pipeline.ΦA spec0 c ∗ Pipeline.ΦT pre0 (tbl m) c)
  q w := Pipeline.shareOf spec0 w
  owed _ := 0

theorem A_eq (c : Dev nD) (w : Fin (cfgM m hO).W) : (dats m hO 0 c).A w = atEntry m c (Pipeline.arrRef spec0 w) := by dsimp only [dats]

theorem after_out (c : Dev nD) : (dats m hO 0 c).after 13 t = outAt m hO t c := rfl

/-- An input window's buffer holds its block when the body begins. -/
theorem before_of_in (c : Dev nD) (w : Fin (cfgM m hO).W) (hw : ((cfgM m hO).win w).isOut = false) (hi : ∀ i, (cfgM m hO).idle w i = false)
    (hc : ∀ t t' : Fin (cfgM m hO).N, ((cfgM m hO).win w).index t = ((cfgM m hO).win w).index t' →
      ((cfgM m hO).win w).clip ((cfgM m hO).grid.coords t) = ((cfgM m hO).win w).clip ((cfgM m hO).grid.coords t'))
    (ha : ∀ t, ((cfgM m hO).win w).cut ((cfgM m hO).grid.coords t) ((dats m hO 0 c).after w t) = blockAt m hO c w t)
    {X : ((cfgM m hO).win w).block.Idx → Elt F ((cfgM m hO).win w).elt}
    (hf : ∀ d, ((cfgM m hO).win w).fill ((cfgM m hO).grid.coords t) d (blockAt m hO c w t) = X) (d) :
    (dats m hO 0 c).before w t d = X :=
  ((dats m hO 0 c).before_in_eq_fetched w hw hi hc (fun t => by rw [ha]; unfold Dat.blockOf blockAt; rw [A_eq]; try rfl) t d).trans
    (by rw [← hf d]; unfold Dat.fetched Dat.blockOf blockAt; rw [A_eq]; try rfl)

theorem before_0 (c : Dev nD) (d) : (dats m hO 0 c).before 0 t d = blockAt m hO c 0 t :=
  before_of_in m hO t c 0 rfl (fun _ => rfl) (fun _ _ _ => rfl) (fun _ => rfl) (fun _ => rfl) d
theorem before_1 (c : Dev nD) (d) : (dats m hO 0 c).before 1 t d = blockAt m hO c 1 t :=
  before_of_in m hO t c 1 rfl (fun _ => rfl) (fun _ _ _ => rfl) (fun _ => rfl) (fun _ => rfl) d
theorem before_2 (c : Dev nD) (d) : (dats m hO 0 c).before 2 t d = blockAt m hO c 2 t :=
  before_of_in m hO t c 2 rfl (fun _ => rfl) (fun _ _ _ => rfl) (fun _ => rfl) (fun _ => rfl) d
theorem before_3 (c : Dev nD) (d) : (dats m hO 0 c).before 3 t d = blockAt m hO c 3 t :=
  before_of_in m hO t c 3 rfl (fun _ => rfl) (fun _ _ _ => rfl) (fun _ => rfl) (fun _ => rfl) d
theorem before_4 (c : Dev nD) (d) : (dats m hO 0 c).before 4 t d = blockAt m hO c 4 t :=
  before_of_in m hO t c 4 rfl (fun _ => rfl) (fun _ _ _ => rfl) (fun _ => rfl) (fun _ => rfl) d
theorem before_5 (c : Dev nD) (d) : (dats m hO 0 c).before 5 t d = blockAt m hO c 5 t :=
  before_of_in m hO t c 5 rfl (fun _ => rfl) (fun _ _ _ => rfl) (fun _ => rfl) (fun _ => rfl) d
theorem before_6 (c : Dev nD) (d) : (dats m hO 0 c).before 6 t d = blockAt m hO c 6 t :=
  before_of_in m hO t c 6 rfl (fun _ => rfl) (fun _ _ _ => rfl) (fun _ => rfl) (fun _ => rfl) d
theorem before_7 (c : Dev nD) (d) : (dats m hO 0 c).before 7 t d = blockAt m hO c 7 t :=
  before_of_in m hO t c 7 rfl (fun _ => rfl) (fun _ _ _ => rfl) (fun _ => rfl) (fun _ => rfl) d
theorem before_8 (c : Dev nD) (d) : (dats m hO 0 c).before 8 t d = blockAt m hO c 8 t :=
  before_of_in m hO t c 8 rfl (fun _ => rfl) (fun _ _ _ => rfl) (fun _ => rfl) (fun _ => rfl) d
theorem before_9 (c : Dev nD) (d) : (dats m hO 0 c).before 9 t d = blockAt m hO c 9 t :=
  before_of_in m hO t c 9 rfl (fun _ => rfl) (fun _ _ _ => rfl) (fun _ => rfl) (fun _ => rfl) d
theorem before_10 (c : Dev nD) (d) : (dats m hO 0 c).before 10 t d = blockAt m hO c 10 t :=
  before_of_in m hO t c 10 rfl (fun _ => rfl) (fun _ _ _ => rfl) (fun _ => rfl) (fun _ => rfl) d
theorem before_11 (c : Dev nD) (d) : (dats m hO 0 c).before 11 t d = blockAt m hO c 11 t :=
  before_of_in m hO t c 11 rfl (fun _ => rfl) (fun _ _ _ => rfl) (fun _ => rfl) (fun _ => rfl) d
theorem before_12 (c : Dev nD) (d) : (dats m hO 0 c).before 12 t d = blockAt m hO c 12 t :=
  before_of_in m hO t c 12 rfl (fun _ => rfl) (fun _ _ _ => rfl) (fun _ => rfl) (fun _ => rfl) d

/-! ## The body at a point -/

/-- The function at point `t`. -/
def bodyAt : Prog (TpuEff nD τ sig (Elt F) Λ₀ .tc) PUnit :=
  cc0_experts (grid0.coords t) (Memref.whole main_arg1) (Memref.isWhole_whole _) (Memref.whole main_arg2) (Memref.isWhole_whole _) (Memref.whole main_arg3) (Memref.isWhole_whole _)
    (wM0 m hO t) (wW0 m hO t) (wM1 m hO t) (wW1 m hO t) (wM2 m hO t) (wW2 m hO t) (wM3 m hO t) (wW3 m hO t) (wM4 m hO t) (wW4 m hO t) (wM5 m hO t) (wW5 m hO t) (wM6 m hO t) (wW6 m hO t) (wM7 m hO t) (wW7 m hO t) (wM8 m hO t) (wW8 m hO t) (wM9 m hO t) (wW9 m hO t) (wM10 m hO t) (wW10 m hO t) (wM11 m hO t) (wW11 m hO t) (wM12 m hO t) (wW12 m hO t) (wM13 m hO t) (wW13 m hO t)

/-- What the body is called with at point `t`, -/
def bodyPre (c : Dev nD) : sProp 𝕄 :=
  iprop((dats m hO 0 c).Φ t.castSucc ∗ (dats m hO 0 c).owesAt () t.castSucc
    ∗ (∃ d, owns (c : Thread nD τ) (wM0 m hO t) fullShare ((dats m hO 0 c).before 0 t d))
    ∗ (∃ d, owns (c : Thread nD τ) (wM1 m hO t) fullShare ((dats m hO 0 c).before 1 t d))
    ∗ (∃ d, owns (c : Thread nD τ) (wM2 m hO t) fullShare ((dats m hO 0 c).before 2 t d))
    ∗ (∃ d, owns (c : Thread nD τ) (wM3 m hO t) fullShare ((dats m hO 0 c).before 3 t d))
    ∗ (∃ d, owns (c : Thread nD τ) (wM4 m hO t) fullShare ((dats m hO 0 c).before 4 t d))
    ∗ (∃ d, owns (c : Thread nD τ) (wM5 m hO t) fullShare ((dats m hO 0 c).before 5 t d))
    ∗ (∃ d, owns (c : Thread nD τ) (wM6 m hO t) fullShare ((dats m hO 0 c).before 6 t d))
    ∗ (∃ d, owns (c : Thread nD τ) (wM7 m hO t) fullShare ((dats m hO 0 c).before 7 t d))
    ∗ (∃ d, owns (c : Thread nD τ) (wM8 m hO t) fullShare ((dats m hO 0 c).before 8 t d))
    ∗ (∃ d, owns (c : Thread nD τ) (wM9 m hO t) fullShare ((dats m hO 0 c).before 9 t d))
    ∗ (∃ d, owns (c : Thread nD τ) (wM10 m hO t) fullShare ((dats m hO 0 c).before 10 t d))
    ∗ (∃ d, owns (c : Thread nD τ) (wM11 m hO t) fullShare ((dats m hO 0 c).before 11 t d))
    ∗ (∃ d, owns (c : Thread nD τ) (wM12 m hO t) fullShare ((dats m hO 0 c).before 12 t d))
    ∗ (∃ d, owns (c : Thread nD τ) (wM13 m hO t) fullShare ((dats m hO 0 c).before 13 t d)))

/-- and what it returns. -/
def bodyPost (c : Dev nD) : sProp 𝕄 :=
  iprop((dats m hO 0 c).Φ t.succ ∗ (dats m hO 0 c).owesAt () t.succ
    ∗ owns (c : Thread nD τ) (wM0 m hO t) fullShare ((dats m hO 0 c).after 0 t)
    ∗ owns (c : Thread nD τ) (wM1 m hO t) fullShare ((dats m hO 0 c).after 1 t)
    ∗ owns (c : Thread nD τ) (wM2 m hO t) fullShare ((dats m hO 0 c).after 2 t)
    ∗ owns (c : Thread nD τ) (wM3 m hO t) fullShare ((dats m hO 0 c).after 3 t)
    ∗ owns (c : Thread nD τ) (wM4 m hO t) fullShare ((dats m hO 0 c).after 4 t)
    ∗ owns (c : Thread nD τ) (wM5 m hO t) fullShare ((dats m hO 0 c).after 5 t)
    ∗ owns (c : Thread nD τ) (wM6 m hO t) fullShare ((dats m hO 0 c).after 6 t)
    ∗ owns (c : Thread nD τ) (wM7 m hO t) fullShare ((dats m hO 0 c).after 7 t)
    ∗ owns (c : Thread nD τ) (wM8 m hO t) fullShare ((dats m hO 0 c).after 8 t)
    ∗ owns (c : Thread nD τ) (wM9 m hO t) fullShare ((dats m hO 0 c).after 9 t)
    ∗ owns (c : Thread nD τ) (wM10 m hO t) fullShare ((dats m hO 0 c).after 10 t)
    ∗ owns (c : Thread nD τ) (wM11 m hO t) fullShare ((dats m hO 0 c).after 11 t)
    ∗ owns (c : Thread nD τ) (wM12 m hO t) fullShare ((dats m hO 0 c).after 12 t)
    ∗ owns (c : Thread nD τ) (wM13 m hO t) fullShare ((dats m hO 0 c).after 13 t))

set_option maxHeartbeats 800000 in
theorem body_at (c : Dev nD) :
    bodyPre m hO t c ⊢ wp frame (wpE (defs₀ (F := F)) 𝒱₀ c none) Set.univ (bodyAt m hO t) (fun _ => bodyPost m hO t c) := by
  unfold bodyPre bodyPost bodyAt
  simp only [before_0, before_1, before_2, before_3, before_4, before_5, before_6, before_7, before_8, before_9, before_10, before_11, before_12]
  rw [show (dats m hO 0 c).Φ t.succ = (dats m hO 0 c).Φ t.castSucc from rfl,
    show (dats m hO 0 c).owesAt () t.succ = (dats m hO 0 c).owesAt () t.castSucc from rfl, after_out]
  rw [show (dats m hO 0 c).Φ t.castSucc = iprop(Pipeline.ΦA spec0 c ∗ Pipeline.ΦT pre0 (tbl m) c) from rfl, tables_eq]
  unfold outAt rows0 rows1
  iintro ⟨⟨HA, HT0, HT1, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run c (grid0.coords t) (wM0 m hO t) (wW0 m hO t) (wM1 m hO t) (wW1 m hO t) (wM2 m hO t) (wW2 m hO t) (wM3 m hO t) (wW3 m hO t) (wM4 m hO t) (wW4 m hO t) (wM5 m hO t) (wW5 m hO t) (wM6 m hO t) (wW6 m hO t) (wM7 m hO t) (wW7 m hO t) (wM8 m hO t) (wW8 m hO t) (wM9 m hO t) (wW9 m hO t) (wM10 m hO t) (wW10 m hO t) (wM11 m hO t) (wW11 m hO t) (wM12 m hO t) (wW12 m hO t) (wM13 m hO t) (wW13 m hO t) (blockAt m hO c 0 t) (blockAt m hO c 1 t) (blockAt m hO c 2 t) (blockAt m hO c 3 t) (blockAt m hO c 4 t) (blockAt m hO c 5 t) (blockAt m hO c 6 t) (blockAt m hO c 7 t) (blockAt m hO c 8 t) (blockAt m hO c 9 t) (blockAt m hO c 10 t) (blockAt m hO c 11 t) (blockAt m hO c 12 t)
    (tbl m 2) (word0 m (grid0.coords t)) (word1 m (grid0.coords t)) rfl rfl rfl rfl (word0_bit m hO _) (word1_bit m hO _) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨HT, H0, H1, H2, H3, H4, H5, H6, H7, H8, H9, H10, H11, H12, ⟨%e13, H13⟩⟩
  isplitl [HA HT0 HT1 HT]
  · isplitl [HA]; · iexact HA
    isplitl [HT0]; · iexact HT0
    isplitl [HT1]; · iexact HT1
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  unfold owns; iexists _; isplitr
  swap; · iexact H13
  ipureintro; exact View.read_writes_eq_canon _ _ _ (out_cover _ _)

theorem body_row : defs₀ (F := F) .tc (cfgM m hO).body ((cfgM m hO).bodyArgs t ((cfgM m hO).slots t)) = bodyAt m hO t := by
  unfold defs₀; rw [Defs.onTc_tc]; rfl

/-- The table's word at the offsets the idle table names is the word the function loads. -/
theorem atD_eq (off : Fin 1 → ℕ) (h : ∀ a, off a + S1.size a ≤ S88.size a) : ((tbl m).atD 2 off : BitVec 32) = loaded (tbl m 2) off h := by
  have h1 : ∀ a, S1.size a = 1 := by decide
  have h' : ∀ a, off a + 1 ≤ S88.size a := fun a => h1 a ▸ h a
  refine (show (tbl m).atD 2 off = tbl m 2 (fun a => ⟨off a, h' a⟩ : S88.Idx) from dif_pos h').trans ?_
  refine congrArg (tbl m 2) (funext fun a : Fin 1 => Fin.ext ?_)
  show off a = off a + 1 * (Shape.Idx.first (numel1_S1.symm ▸ Nat.one_pos : 0 < S1.numel) a).val
  have := (Shape.Idx.first (numel1_S1.symm ▸ Nat.one_pos : 0 < S1.numel) a).isLt
  have := h1 a
  omega

/-- The function stores into the output's window at every point. -/
theorem never_idle (i : grid0.Coords) : (cfgM m hO).idle 13 i = false := by
  show (!(k0_cond1 ((tbl m).atD 2 (k0_off1 i 0#32)) == 1#1) && !(k0_cond2 ((tbl m).atD 2 (k0_off2 i)) == 1#1)
    && !(k0_cond3 ((tbl m).atD 2 (k0_off3 i)) == 1#1) && !(k0_cond4 ((tbl m).atD 2 (k0_off4 i)) == 1#1)) = false
  rw [atD_eq m (k0_off1 i 0#32) (k0_off1_inb i 0), atD_eq m (k0_off2 i) (k0_off2_inb i)]
  rcases word0_bit m hO i with h | h
  · rw [show loaded (tbl m 2) (k0_off2 i) (k0_off2_inb i) = 0#32 from h]
    simp [show k0_cond2 0#32 = 1#1 from by decide]
  · rw [show loaded (tbl m 2) (k0_off1 i 0#32) (k0_off1_inb i 0) = 1#32 from h]
    simp [show k0_cond1 1#32 = 1#1 from by decide]

theorem body_obligation (c : Dev nD) : BodyObligation (dats m hO 0 c) (defs₀ (F := F)) 𝒱₀ () Set.univ := fun t => by
  rw [bigSep_W0, bigSep_W0, body_row]
  beta_reduce
  rw [never_idle m hO]
  exact triple_restated (body_at m hO t c) rfl .rfl fun _ => .rfl

/-! ## The run -/

-- the launch theorem's implicit arguments are found by unifying its conclusion with this one, which unfolds plain
-- definitions in a metavariable's type
set_option backward.isDefEq.respectTransparency.types false in
theorem run_counted : θ_run defs (onTc (τ := τ) (main (F := F))) (s₀ m ρ)
    (fun r => (Pipeline.FramePost (Pipeline.pin (pcfgs (F := F)) (adms m hO)) (dats m hO) 0 (atEntry m)) r ∧ r.2.sem = fun _ => 0) :=
  Pipeline.θ_run_frameP_shared (Q' := _) (pcfgs (F := F)) (adms m hO) (dats m hO) (0 : Fin 1) launch₀0 defs₀ 𝒱₀ m ρ main
    (hbody := fun c => (body_obligation m hO c).loose) (hq := fun _ _ _ => rfl)
    (howed := fun _ _ => rfl) (V := atEntry m) (hmain := main_is_region m) (hA := A_eq m hO) (hpf := tbl_at m) (hΦ := fun _ _ => rfl)

/-- Every execution ends with the pipeline's arrays at what the proof data computes and every other buffer as launched. -/
theorem run_main : θ_run defs (onTc (τ := τ) (main (F := F))) (s₀ m ρ) (Pipeline.FramePost (Pipeline.pin (pcfgs (F := F)) (adms m hO)) (dats m hO) 0 (atEntry m)) :=
  (θ_run defs _ _).mono (fun _ h => h.1) (run_counted m ρ hO)

/-- A run's end leaves the arguments unchanged. -/
theorem kept {r : PUnit × MemSt nD τ sig (Elt F)} (h : Pipeline.FramePost (Pipeline.pin (pcfgs (F := F)) (adms m hO)) (dats m hO) 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m hO 0 c).arrAt_in 0 rfl _).trans (A_eq m hO c 0)),
    (h c).2 main_arg1 (show main_arg1 ∈ Pipeline.restRefs sig spec0 from by decide), (h c).2 main_arg2 (show main_arg2 ∈ Pipeline.restRefs sig spec0 from by decide), (h c).2 main_arg3 (show main_arg3 ∈ Pipeline.restRefs sig spec0 from by decide),
    ((h c).1 1).trans (((dats m hO 0 c).arrAt_in 1 rfl _).trans (A_eq m hO c 1)),
    ((h c).1 3).trans (((dats m hO 0 c).arrAt_in 3 rfl _).trans (A_eq m hO c 3)),
    ((h c).1 5).trans (((dats m hO 0 c).arrAt_in 5 rfl _).trans (A_eq m hO c 5))⟩

end Cert.Proof.KI3

end
-- ==== Proof.KI3.Tables.lean ====
/- The launch's condition on the tables, from their ranges: every window's block lies inside its array. -/
module

public import proofs.«01_k».proof.Proof.KI3.Frame
public import proofs.«01_k».proof.Proof.Ranges

@[expose] public section

noncomputable section

namespace Cert.Proof.KI3

open Cert.Kernel3Ideal Cert.Kernel3Ideal.Gen
open Idealize.ShloMosaic
open Idealize.ShloMosaic.TcCoe Idealize.SL.Sem

variable {F : FTy → Type} [FloatOps F]
variable (m : (ℓ : Loc nD τ sig) → Buf (Elt F) ℓ) (ρ : Dev nD → PrngReg)

/-- An expert's block is inside its array and made of whole words, for the two shapes of weights. -/
theorem up_inside (n : ℕ) (h : n < 16) : ∃ h : (∀ a, (![1, n, 0, 0] a + 1) * S1x1x1024x512.size a ≤ S2x16x1024x512.size a),
    EltTy.bits .bf16 = 32 ∨ (Rect.block (s := S2x16x1024x512) S1x1x1024x512.size ![1, n, 0, 0] h).WholeWords (EltTy.packing .bf16) :=
  ⟨fun a => by fin_cases a <;> simp [Shape.size] <;> omega, .inr (.inr ⟨by decide, rfl, rfl, rfl⟩)⟩

theorem down_inside (n : ℕ) (h : n < 16) : ∃ h : (∀ a, (![1, n, 0, 0] a + 1) * S1x1x512x1024.size a ≤ S2x16x512x1024.size a),
    EltTy.bits .bf16 = 32 ∨ (Rect.block (s := S2x16x512x1024) S1x1x512x1024.size ![1, n, 0, 0] h).WholeWords (EltTy.packing .bf16) :=
  ⟨fun a => by fin_cases a <;> simp [Shape.size] <;> omega, .inr (.inr ⟨by decide, rfl, rfl, rfl⟩)⟩

/-- Tables within their ranges are admitted. -/
theorem good (h : Ranges (tbl m 0) (tbl m 1) (tbl m 2)) : Good m :=
  ⟨⟨fun _ => up_inside _ (h.lo_lt _), fun _ => up_inside _ (h.hi_lt _), fun _ => up_inside _ (h.lo_lt _), fun _ => up_inside _ (h.hi_lt _),
      fun _ => down_inside _ (h.lo_lt _), fun _ => down_inside _ (h.hi_lt _),
      fun _ => up_inside _ (h.lo_lt _), fun _ => up_inside _ (h.hi_lt _), fun _ => up_inside _ (h.lo_lt _), fun _ => up_inside _ (h.hi_lt _),
      fun _ => down_inside _ (h.lo_lt _), fun _ => down_inside _ (h.hi_lt _)⟩, h.bit⟩

/-- From tables within their ranges, every execution ends, the arguments unchanged and every count at zero. -/
theorem frame (h : Ranges (tbl m 0) (tbl m 1) (tbl m 2)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ e => ⟨kept m (good m h) e.1, e.2⟩) (run_counted m ρ (good m h))

end Cert.Proof.KI3

end
-- ==== Proof.RI3.Value.lean ====
/- The second layer's experts' reference: the first layer's, of the second layer's weights. -/
module

public import proofs.«01_k».proof.Proof.Gen.Reference3Ideal.Run
public import proofs.«01_k».proof.Proof.RI2.Value

@[expose] public section

set_option maxRecDepth 16384

noncomputable section

namespace Cert.Proof.RI3

open Cert.Reference3Ideal Cert.Reference3Ideal.Gen
open Idealize.ShloMosaic
open Idealize.ShloMosaic.TcCoe Idealize.ShloMosaic.Tactic Idealize.SL.Sem

/-- The second layer's weights, as every layer's. -/
def upSecond (w : RI2.Ups) : RI2.Ups := fun i => w (ix4 (1 : Fin 2) (i 1) (i 2) (i 3))
def downSecond (w : RI2.Downs) : RI2.Downs := fun i => w (ix4 (1 : Fin 2) (i 1) (i 2) (i 3))

theorem up_slice (w : RI2.Ups) : extractStridedSlice S1x16x1024x512 ![1, 0, 0, 0] w slices_S2x16x1024x512_S1x16x1024x512_1_0_0_0
    = extractStridedSlice S1x16x1024x512 ![0, 0, 0, 0] (upSecond w) Cert.Reference2Ideal.Gen.facts.slices_S2x16x1024x512_S1x16x1024x512_0_0_0_0 := by
  refine funext fun i => congrArg w (funext fun a => Fin.ext ?_)
  have h0 : (i 0).val < 1 := (i 0).isLt
  fin_cases a
  · show 1 + (i 0).val = 1; omega
  all_goals rfl

theorem down_slice (w : RI2.Downs) : extractStridedSlice S1x16x512x1024 ![1, 0, 0, 0] w slices_S2x16x512x1024_S1x16x512x1024_1_0_0_0
    = extractStridedSlice S1x16x512x1024 ![0, 0, 0, 0] (downSecond w) Cert.Reference2Ideal.Gen.facts.slices_S2x16x512x1024_S1x16x512x1024_0_0_0_0 := by
  refine funext fun i => congrArg w (funext fun a => Fin.ext ?_)
  have h0 : (i 0).val < 1 := (i 0).isLt
  fin_cases a
  · show 1 + (i 0).val = 1; omega
  all_goals rfl

/-- The reference's run: the result, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = RI2.result (m ((c.tc : Thread nD τ).loc main_arg0)) (m ((c.tc : Thread nD τ).loc main_arg1))
          (m ((c.tc : Thread nD τ).loc main_arg2)) (m ((c.tc : Thread nD τ).loc main_arg3)) (upSecond (m ((c.tc : Thread nD τ).loc main_arg4)))
          (upSecond (m ((c.tc : Thread nD τ).loc main_arg5))) (downSecond (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (by rw [up_slice, up_slice, down_slice]; rfl), (h c).2⟩) (Value.run m ρ)

end Cert.Proof.RI3

end
-- ==== Proof.KI3.Output.lean ====
/- The second layer's experts' blocks over the extended reals: the first layer's of the second layer's weights. -/
module

public import proofs.«01_k».proof.Proof.KI2.Output
public import proofs.«01_k».proof.Proof.KI3.Tables
public import proofs.«01_k».proof.Proof.RI3.Value
public import Idealize.ShloMosaic.Lib.Pipeline.ValueKit.Geometry

@[expose] public section

set_option maxRecDepth 16384

noncomputable section

namespace Cert.Proof.KI3

open Cert.Kernel3Ideal Cert.Kernel3Ideal.Gen
open Idealize.ShloMosaic
open Idealize.ShloMosaic.TcCoe Idealize.ShloMosaic.Tactic
open Cert.Proof.KI2 (tileNo off_val lane_eq Ups Downs upOf downOf up_block down_block)
open Cert.Proof.RI3 (upSecond downSecond)
open Idealize.ShloMosaic.Pipeline (Dat Cfg Window)

variable (m : (ℓ : Loc nD τ sig) → Buf (Elt Ideal) ℓ) (hO : Good m)

/-! ## The tables' words -/

/-- The three tables: the tiles' first experts, their second, and which are used. -/
abbrev lo : IVec S88 32 := tbl m 0
abbrev hi : IVec S88 32 := tbl m 1
abbrev used : IVec S88 32 := tbl m 2

theorem word0_eq (t : Fin grid0.N) : word0 m (grid0.coords t) = used m (ix1 (tileNo t 0)) := lane_eq (tbl m 2) t 0 _ _ (off_val t 0) _
theorem word1_eq (t : Fin grid0.N) : word1 m (grid0.coords t) = used m (ix1 (tileNo t 1)) := lane_eq (tbl m 2) t 1 _ _ (off_val t 1) _

/-! ## The blocks of the argument arrays -/

theorem index_0 : ∀ t : Fin grid0.N, cc0_transform_0 (grid0.coords t) = ![(grid0.coords t 0).val, 0] := by decide +kernel
theorem index_out : ∀ t : Fin grid0.N, cc0_transform_13 (grid0.coords t) = ![t.val, 0] := by decide +kernel
theorem coord_eq : ∀ t : Fin grid0.N, (grid0.coords t 0).val = t.val := by decide +kernel

/-- The argument arrays. -/
abbrev Xs (c : Dev nD) : Vec Ideal S22528x1152 .f32 := m ((c.tc : Thread nD τ).loc main_arg0)
abbrev Wg (c : Dev nD) : Ups := m ((c.tc : Thread nD τ).loc main_arg4)
abbrev Wu (c : Dev nD) : Ups := m ((c.tc : Thread nD τ).loc main_arg5)
abbrev Wd (c : Dev nD) : Downs := m ((c.tc : Thread nD τ).loc main_arg6)

theorem block_0 (c : Dev nD) (t : Fin (cfgM m hO).N) (r : Fin 512) (d : Fin 1152) :
    blockAt m hO c 0 t (ix2 r d) = Xs m c (ix2 ⟨512 * (grid0.coords t 0).val + r.val, by have : (grid0.coords t 0).val < 44 := (grid0.coords t 0).isLt; omega⟩ d) := by
  refine congrArg (Xs m c) (funext fun a => Fin.ext ?_)
  refine (show _ = cc0_transform_0 (grid0.coords t) a * S512x1152.size a + 1 * (ix2 r d a).val from rfl).trans ?_
  rw [index_0]
  fin_cases a
  · show (grid0.coords t 0).val * 512 + 1 * r.val = 512 * (grid0.coords t 0).val + r.val; omega
  · show 0 * 1152 + 1 * d.val = d.val; omega

variable (c : Dev nD) (t : Fin (cfgM m hO).N)

theorem block_1 (h : (lo m (ix1 (tileNo t 0))).toNat < 16) : blockAt m hO c 1 t = upOf (upSecond (Wg m c)) ⟨_, h⟩ :=
  up_block 1 (Wg m c) _ _ (lane_eq (tbl m 0) t 0 _ _ (off_val t 0) _) h _ fun _ _ => rfl
theorem block_2 (h : (hi m (ix1 (tileNo t 0))).toNat < 16) : blockAt m hO c 2 t = upOf (upSecond (Wg m c)) ⟨_, h⟩ :=
  up_block 1 (Wg m c) _ _ (lane_eq (tbl m 1) t 0 _ _ (off_val t 0) _) h _ fun _ _ => rfl
theorem block_3 (h : (lo m (ix1 (tileNo t 0))).toNat < 16) : blockAt m hO c 3 t = upOf (upSecond (Wu m c)) ⟨_, h⟩ :=
  up_block 1 (Wu m c) _ _ (lane_eq (tbl m 0) t 0 _ _ (off_val t 0) _) h _ fun _ _ => rfl
theorem block_4 (h : (hi m (ix1 (tileNo t 0))).toNat < 16) : blockAt m hO c 4 t = upOf (upSecond (Wu m c)) ⟨_, h⟩ :=
  up_block 1 (Wu m c) _ _ (lane_eq (tbl m 1) t 0 _ _ (off_val t 0) _) h _ fun _ _ => rfl
theorem block_5 (h : (lo m (ix1 (tileNo t 0))).toNat < 16) : blockAt m hO c 5 t = downOf (downSecond (Wd m c)) ⟨_, h⟩ :=
  down_block 1 (Wd m c) _ _ (lane_eq (tbl m 0) t 0 _ _ (off_val t 0) _) h _ fun _ _ => rfl
theorem block_6 (h : (hi m (ix1 (tileNo t 0))).toNat < 16) : blockAt m hO c 6 t = downOf (downSecond (Wd m c)) ⟨_, h⟩ :=
  down_block 1 (Wd m c) _ _ (lane_eq (tbl m 1) t 0 _ _ (off_val t 0) _) h _ fun _ _ => rfl
theorem block_7 (h : (lo m (ix1 (tileNo t 1))).toNat < 16) : blockAt m hO c 7 t = upOf (upSecond (Wg m c)) ⟨_, h⟩ :=
  up_block 1 (Wg m c) _ _ (lane_eq (tbl m 0) t 1 _ _ (off_val t 1) _) h _ fun _ _ => rfl
theorem block_8 (h : (hi m (ix1 (tileNo t 1))).toNat < 16) : blockAt m hO c 8 t = upOf (upSecond (Wg m c)) ⟨_, h⟩ :=
  up_block 1 (Wg m c) _ _ (lane_eq (tbl m 1) t 1 _ _ (off_val t 1) _) h _ fun _ _ => rfl
theorem block_9 (h : (lo m (ix1 (tileNo t 1))).toNat < 16) : blockAt m hO c 9 t = upOf (upSecond (Wu m c)) ⟨_, h⟩ :=
  up_block 1 (Wu m c) _ _ (lane_eq (tbl m 0) t 1 _ _ (off_val t 1) _) h _ fun _ _ => rfl
theorem block_10 (h : (hi m (ix1 (tileNo t 1))).toNat < 16) : blockAt m hO c 10 t = upOf (upSecond (Wu m c)) ⟨_, h⟩ :=
  up_block 1 (Wu m c) _ _ (lane_eq (tbl m 1) t 1 _ _ (off_val t 1) _) h _ fun _ _ => rfl
theorem block_11 (h : (lo m (ix1 (tileNo t 1))).toNat < 16) : blockAt m hO c 11 t = downOf (downSecond (Wd m c)) ⟨_, h⟩ :=
  down_block 1 (Wd m c) _ _ (lane_eq (tbl m 0) t 1 _ _ (off_val t 1) _) h _ fun _ _ => rfl
theorem block_12 (h : (hi m (ix1 (tileNo t 1))).toNat < 16) : blockAt m hO c 12 t = downOf (downSecond (Wd m c)) ⟨_, h⟩ :=
  down_block 1 (Wd m c) _ _ (lane_eq (tbl m 1) t 1 _ _ (off_val t 1) _) h _ fun _ _ => rfl

/-! ## The output array -/

theorem index_13 (t : Fin (cfgM m hO).N) : ((cfgM m hO).win 13).index t = ![t.val, 0] := index_out t

/-- Every grid point's block is written back. -/
theorem flush_13 (t : Fin (cfgM m hO).N) : ((cfgM m hO).win 13).flush t = true := by
  have ht : t.val < 44 := t.isLt
  rw [Window.flush_eq_flushOf]
  unfold Window.flushOf
  rw [Bool.and_eq_true_iff, Bool.or_eq_true_iff, decide_eq_true_iff, decide_eq_true_iff]
  refine ⟨rfl, ?_⟩
  by_cases h : t.val + 1 = 44
  · exact .inl h
  · refine .inr ⟨by show t.val + 1 < 44; omega, fun e => ?_⟩
    have e0 : cc0_transform_13 (grid0.coords ⟨t.val + 1, by show t.val + 1 < 44; omega⟩) (0 : Fin 2) = cc0_transform_13 (grid0.coords t) (0 : Fin 2) := congrFun e (0 : Fin 2)
    rw [index_out, index_out] at e0
    have e' : t.val + 1 = t.val := e0
    omega

theorem covers : ((cfgM m hO).win 13).Covers := by
  refine ⟨fun a => ?_, fun β => ?_⟩
  · have key : ∀ a : Fin 2, 0 < S512x1024.size a := by decide
    exact key a
  · have n0 : ((cfgM m hO).win 13).nblk (0 : Fin 2) = 44 := of_decide_eq_true (by sl_kernel_rfl)
    have n1 : ((cfgM m hO).win 13).nblk (1 : Fin 2) = 1 := of_decide_eq_true (by sl_kernel_rfl)
    have h0 : (β (0 : Fin 2)).val < 44 := lt_of_lt_of_eq (β (0 : Fin 2)).isLt n0
    have h1 : (β (1 : Fin 2)).val < 1 := lt_of_lt_of_eq (β (1 : Fin 2)).isLt n1
    refine ⟨⟨(β (0 : Fin 2)).val, h0⟩, flush_13 m hO _, fun a => ⟨?_, .inl rfl⟩⟩
    rw [index_13]
    have key : ∀ a : Fin 2, ![(β (0 : Fin 2)).val, 0] a = (β a).val := by
      intro a
      fin_cases a
      · rfl
      · show 0 = (β (1 : Fin 2)).val; omega
    exact key a

/-- The output array, from what each grid point leaves. -/
theorem array_out (G : Vec Ideal S22528x1024 .f32)
    (hG : ∀ (t : Fin (cfgM m hO).N) (r : Fin 512) (d : Fin 1024), (outAt m hO t c (ix2 r d) : EReal)
      = G (ix2 ⟨512 * (grid0.coords t 0).val + r.val, by have : (grid0.coords t 0).val < 44 := (grid0.coords t 0).isLt; omega⟩ d)) :
    (dats m hO 0 c).arrAt 13 (cfgM m hO).N = G := by
  refine (dats m hO 0 c).arrAt_eq_of_covers 13 G (covers m hO) (fun t hf y => ?_) (Memref.isWhole_whole _)
  rw [after_out]
  have ey : (y : S512x1024.Idx) = ix2 (y (0 : Fin 2)) (y (1 : Fin 2)) := eq_ix2 y
  refine (show _ = outAt m hO t c y from rfl).trans ?_
  rw [ey]
  refine (hG t (y (0 : Fin 2)) (y (1 : Fin 2))).trans (congrArg G (funext fun a => Fin.ext ?_))
  refine Eq.trans ?_ (show cc0_transform_13 (grid0.coords t) a * S512x1024.size a + 1 * ((ix2 (y (0 : Fin 2)) (y (1 : Fin 2)) : S512x1024.Idx) a).val = _ from rfl)
  rw [index_out]
  have := coord_eq t
  fin_cases a
  · show 512 * (grid0.coords t 0).val + (y (0 : Fin 2)).val = t.val * 512 + 1 * (y (0 : Fin 2)).val; omega
  · show (y (1 : Fin 2)).val = 0 * 1024 + 1 * (y (1 : Fin 2)).val; omega

end Cert.Proof.KI3

end
-- ==== Proof.Match3.lean ====
/- The second layer's experts' kernel against its reference: at every point of the grid, each row of the block it leaves is
   the reference's row. -/
module

public import proofs.«01_k».proof.Proof.KI3.Output
public import proofs.«01_k».proof.Proof.Match2

@[expose] public section

set_option maxRecDepth 16384

noncomputable section

namespace Cert.Proof.Match3

open Cert.Kernel3Ideal Cert.Kernel3Ideal.Gen Cert.Proof.KI3
open Cert.Proof.KI2 (pieces_apply tile0_apply tile1_apply)
open Cert.Proof.Match2 (tile_eq)
open Cert.Proof.RI3 (upSecond downSecond)
open Idealize.ShloMosaic
open Idealize.ShloMosaic.TcCoe Idealize.ShloMosaic.Tactic

variable (m : (ℓ : Loc nD τ sig) → Buf (Elt Ideal) ℓ) (hO : Good m)
variable (h : Ranges (lo m) (hi m) (used m)) (c : Dev nD)

include h in
/-- A row of the block a grid point leaves. -/
theorem out_eq (t : Fin (cfgM m hO).N) (r : Fin 512) (d : Fin 1024) : (outAt m hO t c (ix2 r d) : EReal)
    = RI2.result (Xs m c) (lo m) (hi m) (used m) (upSecond (Wg m c)) (upSecond (Wu m c)) (downSecond (Wd m c))
        (ix2 ⟨512 * (grid0.coords t 0).val + r.val, by have : (grid0.coords t 0).val < 44 := (grid0.coords t 0).isLt; omega⟩ d) := by
  have hr := r.isLt
  unfold outAt
  rw [pieces_apply]
  by_cases hk : r.val < 256
  · rw [dif_pos hk]
    unfold rows0
    refine (tile0_apply _ _ _ _ _ _ _ _ _ d).trans ?_
    exact tile_eq (Xs m c) (lo m) (hi m) (used m) (upSecond (Wg m c)) (upSecond (Wu m c)) (downSecond (Wd m c)) h t 0 0 (by omega) rfl _ d _ _ _ _ _ _ _ _ (word0_eq m t) (fun s j => block_0 m hO c t s j)
      (block_1 m hO c t _) (block_2 m hO c t _) (block_3 m hO c t _) (block_4 m hO c t _) (block_5 m hO c t _) (block_6 m hO c t _) _ (by show 512 * (grid0.coords t 0).val + r.val = 512 * (grid0.coords t 0).val + (0 + r.val); omega)
  · rw [dif_neg hk]
    unfold rows1
    refine (tile1_apply _ _ _ _ _ _ _ _ _ d).trans ?_
    exact tile_eq (Xs m c) (lo m) (hi m) (used m) (upSecond (Wg m c)) (upSecond (Wu m c)) (downSecond (Wd m c)) h t 1 256 (by omega) rfl _ d _ _ _ _ _ _ _ _ (word1_eq m t) (fun s j => block_0 m hO c t s j)
      (block_7 m hO c t _) (block_8 m hO c t _) (block_9 m hO c t _) (block_10 m hO c t _) (block_11 m hO c t _) (block_12 m hO c t _) _
      (by show 512 * (grid0.coords t 0).val + r.val = 512 * (grid0.coords t 0).val + (256 + (r.val - 256)); omega)

include h in
/-- The output array is the reference's result. -/
theorem array_eq : (dats m hO 0 c).arrAt 13 (cfgM m hO).N
    = RI2.result (Xs m c) (lo m) (hi m) (used m) (upSecond (Wg m c)) (upSecond (Wu m c)) (downSecond (Wd m c)) :=
  array_out m hO c _ (out_eq m hO h c)

end Cert.Proof.Match3

end
-- ==== Proof.Projection.lean ====
module

/- The packed input projection over the extended reals, entry by entry: a token normalised and modulated, its product
with a column of the weight, and a head's normalisation. Both programs' results are entries of these. -/

public import Idealize.ShloMosaic.Lib.Pointwise

@[expose] public section

noncomputable section

namespace Cert.Proof.Projection

open Idealize.ShloMosaic

/-- A token divided by the root of its mean square, times the gain, modulated by `1 + stretch` and `shift`. -/
def hidden (x g stretch shift : Fin 1024 → EReal) (k : Fin 1024) : EReal :=
  x k * Ideal.rsqrt (Ideal.div (∑ j, x j * x j) (Ideal.ofBits FTy.f32 0x44800000#32) + Ideal.ofBits FTy.f32 0x358637BD#32) * g k * (1 + stretch k) + shift k

/-- Column `j` of the packed projection of token `s` of batch entry `b`. -/
def entry (x : Fin 8 → Fin 2048 → Fin 1024 → EReal) (md : Fin 8 → Fin 6 → Fin 1024 → EReal) (g : Fin 1024 → EReal)
    (w : Fin 1024 → Fin 4864 → EReal) (b : Fin 8) (s : Fin 2048) (j : Fin 4864) : EReal :=
  ∑ k, hidden (x b s) g (md b 1) (md b 0) k * w k j

/-- A head of 64 lanes divided by the root of its mean square, times the gain. -/
def headNorm (v g : Fin 64 → EReal) (d : Fin 64) : EReal :=
  v d * Ideal.rsqrt (Ideal.div (∑ e, v e * v e) (Ideal.ofBits FTy.f32 0x42800000#32) + Ideal.ofBits FTy.f32 0x358637BD#32) * g d

/-- The scale of the queries of the first attention, with the factor of the base-two exponential in it; and of the second. -/
def scaleA : EReal := Ideal.ofBits FTy.f32 0x3E38AA3B#32
def scaleB : EReal := Ideal.ofBits FTy.f32 0x3E000000#32

end Cert.Proof.Projection

end
-- ==== Proof.KI4.Body.lean ====
/- The projections' function at one grid point: straight-line code, from its seventeen windows to its return. -/
module

public import proofs.«01_k».proof.Proof.Gen.Kernel4Ideal.Skeleton
public import proofs.«01_k».proof.Proof.Gen.Kernel4Ideal.Launch
public import proofs.«01_k».proof.Proof.Gen.Kernel4Ideal.Points
public import Idealize.ShloMosaic.Lib.Tactic
public import Idealize.ShloMosaic.Lib.Ring
public import Idealize.ShloMosaic.Lib.Pipeline.FrameBody
public import Idealize.ShloMosaic.Adequacy
public import Idealize.ShloMosaic.Init

@[expose] public section

set_option maxRecDepth 16384

noncomputable section

namespace Cert.Proof.KI4

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's cells. -/
abbrev UR (nD : Nat) (τ : Topo) : Type := URounds (GSem nD τ sig) Unit

local notation "𝕄" => MT nD τ sig Unit (Elt F) ℕ (UR nD τ) ℕ

abbrev 𝒱₀ : Variants := Variants.nat

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The windows of a grid point: the tokens, the modulation, the first norm's gain, the weights, the two head norms'
    gains, and the eleven results. -/
structure Windows where
  M0 : Memref sig .tc .vmem S1x512x1024 .f32
  h0 : M0.IsWhole
  M1 : Memref sig .tc .vmem S1x6x1024 .f32
  h1 : M1.IsWhole
  M2 : Memref sig .tc .vmem S1x1024 .f32
  h2 : M2.IsWhole
  M3 : Memref sig .tc .vmem S1x1024x4864 .bf16
  h3 : M3.IsWhole
  M4 : Memref sig .tc .vmem S64x1 .f32
  h4 : M4.IsWhole
  M5 : Memref sig .tc .vmem S1x64 .f32
  h5 : M5.IsWhole
  M6 : Memref sig .tc .vmem S1x4x512x128 .bf16
  h6 : M6.IsWhole
  M7 : Memref sig .tc .vmem S1x4x512x128 .bf16
  h7 : M7.IsWhole
  M8 : Memref sig .tc .vmem S1x4x512x128 .bf16
  h8 : M8.IsWhole
  M9 : Memref sig .tc .vmem S1x8x64x512 .bf16
  h9 : M9.IsWhole
  M10 : Memref sig .tc .vmem S1x8x64x512 .bf16
  h10 : M10.IsWhole
  M11 : Memref sig .tc .vmem S1x512x64 .bf16
  h11 : M11.IsWhole
  M12 : Memref sig .tc .vmem S1x4x128x128 .bf16
  h12 : M12.IsWhole
  M13 : Memref sig .tc .vmem S1x512x64 .bf16
  h13 : M13.IsWhole
  M14 : Memref sig .tc .vmem S1x8x512 .f32
  h14 : M14.IsWhole
  M15 : Memref sig .tc .vmem S1x512x1024 .bf16
  h15 : M15.IsWhole
  M16 : Memref sig .tc .vmem S1x512x1024 .bf16
  h16 : M16.IsWhole

/-- What the six windows read hold. -/
structure Inputs (F : FTy → Type) where
  x0 : Vec F S1x512x1024 .f32
  x1 : Vec F S1x6x1024 .f32
  x2 : Vec F S1x1024 .f32
  x3 : Vec F S1x1024x4864 .bf16
  x4 : Vec F S64x1 .f32
  x5 : Vec F S1x64 .f32

/-- The pieces stored into each of the eleven windows written, the last first. -/
structure Pieces (F : FTy → Type) where
  o6 : List (View.Piece (Elt F) S1x4x512x128 .bf16)
  o7 : List (View.Piece (Elt F) S1x4x512x128 .bf16)
  o8 : List (View.Piece (Elt F) S1x4x512x128 .bf16)
  o9 : List (View.Piece (Elt F) S1x8x64x512 .bf16)
  o10 : List (View.Piece (Elt F) S1x8x64x512 .bf16)
  o11 : List (View.Piece (Elt F) S1x512x64 .bf16)
  o12 : List (View.Piece (Elt F) S1x4x128x128 .bf16)
  o13 : List (View.Piece (Elt F) S1x512x64 .bf16)
  o14 : List (View.Piece (Elt F) S1x8x512 .f32)
  o15 : List (View.Piece (Elt F) S1x512x1024 .bf16)
  o16 : List (View.Piece (Elt F) S1x512x1024 .bf16)

/-- The six windows read, at their contents. -/
def read (c : Dev nD) (W : Windows) (X : Inputs F) : sProp 𝕄 :=
  iprop(owns (c : Thread nD τ) W.M0 fullShare X.x0 ∗ owns (c : Thread nD τ) W.M1 fullShare X.x1 ∗ owns (c : Thread nD τ) W.M2 fullShare X.x2 ∗ owns (c : Thread nD τ) W.M3 fullShare X.x3 ∗ owns (c : Thread nD τ) W.M4 fullShare X.x4 ∗ owns (c : Thread nD τ) W.M5 fullShare X.x5)

/-- The eleven windows written, at some contents. -/
def unwritten (c : Dev nD) (W : Windows) : sProp 𝕄 :=
  iprop((∃ d, owns (c : Thread nD τ) W.M6 fullShare d)
    ∗ (∃ d, owns (c : Thread nD τ) W.M7 fullShare d)
    ∗ (∃ d, owns (c : Thread nD τ) W.M8 fullShare d)
    ∗ (∃ d, owns (c : Thread nD τ) W.M9 fullShare d)
    ∗ (∃ d, owns (c : Thread nD τ) W.M10 fullShare d)
    ∗ (∃ d, owns (c : Thread nD τ) W.M11 fullShare d)
    ∗ (∃ d, owns (c : Thread nD τ) W.M12 fullShare d)
    ∗ (∃ d, owns (c : Thread nD τ) W.M13 fullShare d)
    ∗ (∃ d, owns (c : Thread nD τ) W.M14 fullShare d)
    ∗ (∃ d, owns (c : Thread nD τ) W.M15 fullShare d)
    ∗ (∃ d, owns (c : Thread nD τ) W.M16 fullShare d))

/-- The eleven windows written, each with its pieces stored over some contents. -/
def written (c : Dev nD) (W : Windows) (O : Pieces F) : sProp 𝕄 :=
  iprop((∃ f, pt c W.M6 (W.M6.view.writes (Elt F) f O.o6))
    ∗ (∃ f, pt c W.M7 (W.M7.view.writes (Elt F) f O.o7))
    ∗ (∃ f, pt c W.M8 (W.M8.view.writes (Elt F) f O.o8))
    ∗ (∃ f, pt c W.M9 (W.M9.view.writes (Elt F) f O.o9))
    ∗ (∃ f, pt c W.M10 (W.M10.view.writes (Elt F) f O.o10))
    ∗ (∃ f, pt c W.M11 (W.M11.view.writes (Elt F) f O.o11))
    ∗ (∃ f, pt c W.M12 (W.M12.view.writes (Elt F) f O.o12))
    ∗ (∃ f, pt c W.M13 (W.M13.view.writes (Elt F) f O.o13))
    ∗ (∃ f, pt c W.M14 (W.M14.view.writes (Elt F) f O.o14))
    ∗ (∃ f, pt c W.M15 (W.M15.view.writes (Elt F) f O.o15))
    ∗ (∃ f, pt c W.M16 (W.M16.view.writes (Elt F) f O.o16)))

/-- What the function's run from a grid point's windows stores, WITH the proof that it runs so. -/
structure Body (c : Dev nD) (i : grid0.Coords) (W : Windows) (X : Inputs F) where
  out : Pieces F
  run : ∀ (Q : PUnit → sProp 𝕄),
    iprop(read c W X ∗ unwritten c W ∗ (iprop(read c W X ∗ written c W out) -∗ Q ⟨⟩))
      ⊢ wp frame (wpE (defs₀ (F := F)) 𝒱₀ c none) Set.univ
          (cc0_in_proj i W.M0 W.h0 W.M1 W.h1 W.M2 W.h2 W.M3 W.h3 W.M4 W.h4 W.M5 W.h5 W.M6 W.h6 W.M7 W.h7 W.M8 W.h8 W.M9 W.h9 W.M10 W.h10 W.M11 W.h11 W.M12 W.h12 W.M13 W.h13 W.M14 W.h14 W.M15 W.h15 W.M16 W.h16) Q

set_option maxHeartbeats 0 in
/-- The function, run to its return. -/
noncomputable def bodyRun (c : Dev nD) (i : grid0.Coords) (W : Windows) (X : Inputs F) : Body c i W X := by
  refine ⟨⟨?o6, ?o7, ?o8, ?o9, ?o10, ?o11, ?o12, ?o13, ?o14, ?o15, ?o16⟩, fun Q => ?run⟩
  case run =>
    unfold read unwritten written owns
    dsimp only
    iintro ⟨⟨⟨%f0, %e0, H0⟩, ⟨%f1, %e1, H1⟩, ⟨%f2, %e2, H2⟩, ⟨%f3, %e3, H3⟩, ⟨%f4, %e4, H4⟩, ⟨%f5, %e5, H5⟩⟩,
      ⟨⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩, Hk⟩
    obtain rfl := W.h0.eq_unread e0; obtain rfl := W.h1.eq_unread e1; obtain rfl := W.h2.eq_unread e2; obtain rfl := W.h3.eq_unread e3; obtain rfl := W.h4.eq_unread e4; obtain rfl := W.h5.eq_unread e5
    sl_exec_parts
    sl_step
    iapply Hk
    isplitl [H0 H1 H2 H3 H4 H5]
    · isplitl [H0]
      · iexists _; isplitr; · ipureintro; exact W.h0.read_unread _
        iexact H0
      isplitl [H1]
      · iexists _; isplitr; · ipureintro; exact W.h1.read_unread _
        iexact H1
      isplitl [H2]
      · iexists _; isplitr; · ipureintro; exact W.h2.read_unread _
        iexact H2
      isplitl [H3]
      · iexists _; isplitr; · ipureintro; exact W.h3.read_unread _
        iexact H3
      isplitl [H4]
      · iexists _; isplitr; · ipureintro; exact W.h4.read_unread _
        iexact H4
      iexists _; isplitr; · ipureintro; exact W.h5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.Proof.KI4

end
-- ==== Proof.KI4.Stages.lean ====
module

/- What the body stores, said by families: the four planes of a block of columns, the eight heads of a transposed
block, and the pieces of the extended values. The program writes every member by itself; the families say them at
once. -/

public import proofs.«01_k».proof.Proof.KI4.Body

@[expose] public section

namespace Cert.Proof.KI4

open Cert.Kernel4Ideal Cert.Kernel4Ideal.Gen
open Idealize.ShloMosaic
open Idealize.ShloMosaic.TcCoe Idealize.ShloMosaic.Tactic

variable {F : FTy → Type} [FloatOps F]

/-! ## The loads -/

section Loads

variable (W : Windows) (X : Inputs F)

noncomputable def tokens : Vec F S1x512x1024 .f32 :=
  View.readAt (Elt F) W.M0.view (Rect.unit (s := S1x512x1024) ![0, 0, 0] S1x512x1024.size inb_S1x512x1024_S1x512x1024_0_0_0).toLoadRect (W.h0.unread X.x0)
noncomputable def gain : Vec F S1x1024 .f32 :=
  View.readAt (Elt F) W.M2.view (Rect.unit (s := S1x1024) ![0, 0] S1x1024.size inb_S1x1024_S1x1024_0_0).toLoadRect (W.h2.unread X.x2)
noncomputable def stretch : Vec F S1x1x1024 .f32 :=
  View.readAt (Elt F) W.M1.view (Rect.unit (s := S1x6x1024) ![0, 1, 0] S1x1x1024.size inb_S1x6x1024_S1x1x1024_0_1_0).toLoadRect (W.h1.unread X.x1)
noncomputable def shift : Vec F S1x1x1024 .f32 :=
  View.readAt (Elt F) W.M1.view (Rect.unit (s := S1x6x1024) ![0, 0, 0] S1x1x1024.size inb_S1x6x1024_S1x1x1024_0_0_0).toLoadRect (W.h1.unread X.x1)
noncomputable def headGain : Vec F S64x1 .f32 :=
  View.readAt (Elt F) W.M4.view (Rect.unit (s := S64x1) ![0, 0] S64x1.size inb_S64x1_S64x1_0_0).toLoadRect (W.h4.unread X.x4)
noncomputable def keyGain : Vec F S1x64 .f32 :=
  View.readAt (Elt F) W.M5.view (Rect.unit (s := S1x64) ![0, 0] S1x64.size inb_S1x64_S1x64_0_0).toLoadRect (W.h5.unread X.x5)

/-- 512 columns of the packed weight, from column `lo`; and 128, and 1024. -/
noncomputable def wide (lo : Nat) (h : ∀ a, (![0, 0, lo] : Fin 3 → Nat) a + S1x1024x512.size a ≤ S1x1024x4864.size a) : Vec F S1x1024x512 .bf16 :=
  View.readAt (Elt F) W.M3.view (Rect.unit (s := S1x1024x4864) ![0, 0, lo] S1x1024x512.size h).toLoadRect (W.h3.unread X.x3)
noncomputable def narrow (lo : Nat) (h : ∀ a, (![0, 0, lo] : Fin 3 → Nat) a + S1x1024x128.size a ≤ S1x1024x4864.size a) : Vec F S1x1024x128 .bf16 :=
  View.readAt (Elt F) W.M3.view (Rect.unit (s := S1x1024x4864) ![0, 0, lo] S1x1024x128.size h).toLoadRect (W.h3.unread X.x3)
noncomputable def full (lo : Nat) (h : ∀ a, (![0, 0, lo] : Fin 3 → Nat) a + S1x1024x1024.size a ≤ S1x1024x4864.size a) : Vec F S1x1024x1024 .bf16 :=
  View.readAt (Elt F) W.M3.view (Rect.unit (s := S1x1024x4864) ![0, 0, lo] S1x1024x1024.size h).toLoadRect (W.h3.unread X.x3)

/-- The normalised and modulated tokens of the block. -/
noncomputable def hidden : FVec F S512x1024 .bf16 := k0_pay5 (tokens W X) (gain W X) (stretch W X) (shift W X)

end Loads

/-! ## The families -/

theorem slices_plane (p : Fin 4) : S512x512.Slices ![0, 128 * p.val] S512x128 := by revert p; decide
theorem slices_head (h : Fin 8) : S512x512.Slices ![64 * h.val, 0] S64x512 := by revert h; decide
theorem slices_values (p : Fin 4) : S64x512.Slices ![0, 128 * p.val] S64x128 := by revert p; decide

/-- Plane `p` of a block of columns. -/
noncomputable def plane (v : FVec F S512x512 .f32) (p : Fin 4) : Vec F S1x1x512x128 .bf16 :=
  shapeCast S1x1x512x128 (truncf .bf16 (extractStridedSlice S512x128 ![0, 128 * p.val] v (slices_plane p)) bitsLt_bf16_f32) shapeCasts_S512x128_S1x1x512x128

/-- Head `h` of a transposed block. -/
noncomputable def head (v : FVec F S512x512 .f32) (h : Fin 8) : FVec F S64x512 .f32 := extractStridedSlice S64x512 ![64 * h.val, 0] v (slices_head h)

/-- A head as it is stored. -/
noncomputable def storedHead (v : FVec F S64x512 .f32) : Vec F S1x1x64x512 .bf16 :=
  shapeCast S1x1x64x512 (truncf .bf16 v bitsLt_bf16_f32) shapeCasts_S64x512_S1x1x64x512

/-- A head normalised along its 64 rows, with its gain and the query's scale. -/
noncomputable def normedHead (v : FVec F S64x512 .f32) (g : Vec F S64x1 .f32) : FVec F S64x512 .f32 :=
  mulf (mulf (mulf v (broadcastTo S64x512
      (rsqrt (addf (divf (shapeCast S1x512 (multiReduction .add [0] S512 (mulf v v) 0x00000000#32 reduces_S64x512_S512 (.inl rfl) rfl) shapeCasts_S512_S1x512)
        (broadcast S1x512 (Scalar.ofBits .f32 0x42800000#32))) (broadcast S1x512 (Scalar.ofBits .f32 0x358637BD#32)))) broadcasts_S1x512_S64x512))
    (broadcastTo S64x512 g broadcasts_S64x1_S64x512)) (broadcast S64x512 (Scalar.ofBits .f32 0x3E000000#32))

/-- Four pieces of the extended values: the values of 128 positions, and under them the row of ones. -/
noncomputable def values (v : FVec F S64x512 .f32) (p : Fin 4) : Vec F S1x1x64x128 .bf16 :=
  shapeCast S1x1x64x128 (truncf .bf16 (extractStridedSlice S64x128 ![0, 128 * p.val] v (slices_values p)) bitsLt_bf16_f32) shapeCasts_S64x128_S1x1x64x128

theorem plane_inb (p : Nat) (hp : p < 4) : ∀ a, (![0, p, 0, 0] : Fin 4 → Nat) a + S1x1x512x128.size a ≤ S1x4x512x128.size a := by
  intro a
  fin_cases a
  · exact le_refl _
  · show p + 1 ≤ 4; omega
  · exact le_refl _
  · exact le_refl _

theorem head_inb (h : Nat) (hh : h < 8) : ∀ a, (![0, h, 0, 0] : Fin 4 → Nat) a + S1x1x64x512.size a ≤ S1x8x64x512.size a := by
  intro a
  fin_cases a
  · exact le_refl _
  · show h + 1 ≤ 8; omega
  · exact le_refl _
  · exact le_refl _

theorem value_inb (j : Nat) (hj : j < 8) : ∀ a, (![0, j / 2, 64 * (j % 2), 0] : Fin 4 → Nat) a + S1x1x64x128.size a ≤ S1x4x128x128.size a := by
  intro a
  fin_cases a
  · exact le_refl _
  · show j / 2 + 1 ≤ 4; omega
  · show 64 * (j % 2) + 64 ≤ 128; omega
  · exact le_refl _

/-- The stores of a family, the last first. -/
noncomputable def planes (g : Fin 4 → Vec F S1x1x512x128 .bf16) : List (View.Piece (Elt F) S1x4x512x128 .bf16) :=
  List.ofFn fun k : Fin 4 => ⟨Rect.unit (s := S1x4x512x128) ![0, (Fin.rev k).val, 0, 0] S1x1x512x128.size (plane_inb _ (Fin.rev k).isLt), g (Fin.rev k)⟩
noncomputable def heads (g : Fin 8 → Vec F S1x1x64x512 .bf16) : List (View.Piece (Elt F) S1x8x64x512 .bf16) :=
  List.ofFn fun k : Fin 8 => ⟨Rect.unit (s := S1x8x64x512) ![0, (Fin.rev k).val, 0, 0] S1x1x64x512.size (head_inb _ (Fin.rev k).isLt), g (Fin.rev k)⟩
noncomputable def extended (g : Fin 4 → Vec F S1x1x64x128 .bf16) (one : Vec F S1x1x64x128 .bf16) : List (View.Piece (Elt F) S1x4x128x128 .bf16) :=
  List.ofFn fun k : Fin 8 => ⟨Rect.unit (s := S1x4x128x128) ![0, (Fin.rev k).val / 2, 64 * ((Fin.rev k).val % 2), 0] S1x1x64x128.size
    (value_inb _ (Fin.rev k).isLt), if (Fin.rev k).val % 2 = 0 then g ⟨(Fin.rev k).val / 2, by omega⟩ else one⟩

/-! ## What the body stores -/

section Stores

variable (c : Dev nD) (i : grid0.Coords) (W : Windows) (X : Inputs F)

theorem out6 : (bodyRun c i W X).out.o6 = planes (plane (mulf (k0_pay12 (hidden W X) (wide W X 0 inb_S1x1024x4864_S1x1024x512_0_0_0))
    (broadcast S512x512 (Scalar.ofBits .f32 0x3E38AA3B#32)))) := by sl_kernel_rfl
theorem out7 : (bodyRun c i W X).out.o7 = planes (plane (k0_pay12 (hidden W X) (wide W X 512 inb_S1x1024x4864_S1x1024x512_0_0_512))) := by sl_kernel_rfl
theorem out8 : (bodyRun c i W X).out.o8 = planes (plane (k0_pay12 (hidden W X) (wide W X 1024 inb_S1x1024x4864_S1x1024x512_0_0_1024))) := by sl_kernel_rfl
theorem out9 : (bodyRun c i W X).out.o9 = heads fun h => storedHead (normedHead (head (k0_pay23 (hidden W X) (wide W X 1536 inb_S1x1024x4864_S1x1024x512_0_0_1536)) h) (headGain W X)) := by
  sl_kernel_rfl
theorem out10 : (bodyRun c i W X).out.o10 = heads fun h => storedHead (head (k0_pay23 (hidden W X) (wide W X 2176 inb_S1x1024x4864_S1x1024x512_0_0_2176)) h) := by
  sl_kernel_rfl
theorem out11 : (bodyRun c i W X).out.o11 = [⟨Rect.unit ![0, 0, 0] S1x512x64.size inb_S1x512x64_S1x512x64_0_0_0,
    k0_pay41 (hidden W X) (narrow W X 2048 inb_S1x1024x4864_S1x1024x128_0_0_2048) (keyGain W X)⟩] := by sl_kernel_rfl
theorem out12 : (bodyRun c i W X).out.o12 = extended (values (k0_pay42 (hidden W X) (narrow W X 2048 inb_S1x1024x4864_S1x1024x128_0_0_2048)))
    (k0_pay45 (iota .tc S64x128 32 [0] iota_S64x128_d0_w32)) := by sl_kernel_rfl
theorem out13 : (bodyRun c i W X).out.o13 = [⟨Rect.unit ![0, 0, 0] S1x512x64.size inb_S1x512x64_S1x512x64_0_0_0,
    k0_pay1 (k0_pay63 (hidden W X) (narrow W X 2688 inb_S1x1024x4864_S1x1024x128_0_0_2688))⟩] := by sl_kernel_rfl
theorem out14 : (bodyRun c i W X).out.o14 = [⟨Rect.unit ![0, 0, 0] S1x8x512.size inb_S1x8x512_S1x8x512_0_0_0,
    k0_pay2 (k0_pay62 (hidden W X) (narrow W X 2688 inb_S1x1024x4864_S1x1024x128_0_0_2688))⟩] := by sl_kernel_rfl
theorem out15 : (bodyRun c i W X).out.o15 = [⟨Rect.unit ![0, 0, 0] S1x512x1024.size inb_S1x512x1024_S1x512x1024_0_0_0,
    k0_pay3 (hidden W X) (full W X 2816 inb_S1x1024x4864_S1x1024x1024_0_0_2816)⟩] := by sl_kernel_rfl
theorem out16 : (bodyRun c i W X).out.o16 = [⟨Rect.unit ![0, 0, 0] S1x512x1024.size inb_S1x512x1024_S1x512x1024_0_0_0,
    k0_pay4 (hidden W X) (full W X 3840 inb_S1x1024x4864_S1x1024x1024_0_0_3840)⟩] := by sl_kernel_rfl

end Stores

end Cert.Proof.KI4

end
-- ==== Proof.KI4.Tile.lean ====
module

/- What one grid point stores, entry by entry, over the extended reals. -/

public import proofs.«01_k».proof.Proof.Projection
public import proofs.«01_k».proof.Proof.KI4.Stages
public import Idealize.ShloMosaic.Lib.Pointwise
public import Idealize.ShloMosaic.Lib.WholeRead
public import Idealize.ShloMosaic.Lib.Pipeline.ValueKit.Geometry
public import Idealize.ShloMosaic.Lib.Pipeline.ValueKit.Tiles

@[expose] public section

set_option maxRecDepth 16384

noncomputable section

namespace Cert.Proof.KI4

open Cert.Kernel4Ideal Cert.Kernel4Ideal.Gen
open Idealize.ShloMosaic
open Idealize.ShloMosaic.TcCoe Idealize.ShloMosaic.Tactic
open Cert.Proof

/-! ## The loads at an entry -/

/-- A coordinate under a rectangle of unit strides. -/
theorem unit_idx {s : Shape} (off size : Fin s.rank → Nat) (h : ∀ a, off a + size a ≤ s.size a) (x : (Rect.unit (s := s) off size h).toLoadRect.shape.Idx)
    (a : Fin s.rank) : ((Rect.unit (s := s) off size h).toLoadRect.idx x a).val = off a + (x a).val := by
  show off a + 1 * (x a).val = _
  omega

section Loads

variable (W : Windows) (X : Inputs Ideal)

theorem tokens_apply (r : Fin 512) (k : Fin 1024) : tokens W X (ix3 (0 : Fin 1) r k) = X.x0 (ix3 0 r k) := by
  unfold tokens
  refine (Memref.IsWhole.readAt_unread W.h0 X.x0 _ _).trans (congrArg X.x0 ?_)
  blk_ext
  all_goals exact (unit_idx _ _ _ _ _).trans (by first | exact Nat.zero_add _ | rfl)

theorem gain_apply (k : Fin 1024) : gain W X (ix2 (0 : Fin 1) k) = X.x2 (ix2 0 k) := by
  unfold gain
  refine (Memref.IsWhole.readAt_unread W.h2 X.x2 _ _).trans (congrArg X.x2 ?_)
  blk_ext
  all_goals exact (unit_idx _ _ _ _ _).trans (by first | exact Nat.zero_add _ | rfl)

theorem stretch_apply (k : Fin 1024) : stretch W X (ix3 (0 : Fin 1) (0 : Fin 1) k) = X.x1 (ix3 0 1 k) := by
  unfold stretch
  refine (Memref.IsWhole.readAt_unread W.h1 X.x1 _ _).trans (congrArg X.x1 ?_)
  blk_ext
  all_goals exact (unit_idx _ _ _ _ _).trans (by first | exact Nat.zero_add _ | rfl)

theorem shift_apply (k : Fin 1024) : shift W X (ix3 (0 : Fin 1) (0 : Fin 1) k) = X.x1 (ix3 0 0 k) := by
  unfold shift
  refine (Memref.IsWhole.readAt_unread W.h1 X.x1 _ _).trans (congrArg X.x1 ?_)
  blk_ext
  all_goals exact (unit_idx _ _ _ _ _).trans (by first | exact Nat.zero_add _ | rfl)

theorem headGain_apply (d : Fin 64) : headGain W X (ix2 d (0 : Fin 1)) = X.x4 (ix2 d 0) := by
  unfold headGain
  refine (Memref.IsWhole.readAt_unread W.h4 X.x4 _ _).trans (congrArg X.x4 ?_)
  blk_ext
  all_goals exact (unit_idx _ _ _ _ _).trans (by first | exact Nat.zero_add _ | rfl)

theorem keyGain_apply (d : Fin 64) : keyGain W X (ix2 (0 : Fin 1) d) = X.x5 (ix2 0 d) := by
  unfold keyGain
  refine (Memref.IsWhole.readAt_unread W.h5 X.x5 _ _).trans (congrArg X.x5 ?_)
  blk_ext
  all_goals exact (unit_idx _ _ _ _ _).trans (by first | exact Nat.zero_add _ | rfl)

theorem wide_apply (lo : Nat) (h) (hlo : lo + 512 ≤ 4864) (k : Fin 1024) (j : Fin 512) :
    wide W X lo h (ix3 (0 : Fin 1) k j) = X.x3 (ix3 0 k ⟨lo + j.val, by omega⟩) := by
  unfold wide
  refine (Memref.IsWhole.readAt_unread W.h3 X.x3 _ _).trans (congrArg X.x3 ?_)
  blk_ext
  all_goals exact (unit_idx _ _ _ _ _).trans (by first | exact Nat.zero_add _ | rfl)

theorem narrow_apply (lo : Nat) (h) (hlo : lo + 128 ≤ 4864) (k : Fin 1024) (j : Fin 128) :
    narrow W X lo h (ix3 (0 : Fin 1) k j) = X.x3 (ix3 0 k ⟨lo + j.val, by omega⟩) := by
  unfold narrow
  refine (Memref.IsWhole.readAt_unread W.h3 X.x3 _ _).trans (congrArg X.x3 ?_)
  blk_ext
  all_goals exact (unit_idx _ _ _ _ _).trans (by first | exact Nat.zero_add _ | rfl)

theorem full_apply (lo : Nat) (h) (hlo : lo + 1024 ≤ 4864) (k j : Fin 1024) :
    full W X lo h (ix3 (0 : Fin 1) k j) = X.x3 (ix3 0 k ⟨lo + j.val, by omega⟩) := by
  unfold full
  refine (Memref.IsWhole.readAt_unread W.h3 X.x3 _ _).trans (congrArg X.x3 ?_)
  blk_ext
  all_goals exact (unit_idx _ _ _ _ _).trans (by first | exact Nat.zero_add _ | rfl)

/-- A token of the block, normalised and modulated. -/
def row (r : Fin 512) (k : Fin 1024) : EReal :=
  Projection.hidden (fun j => X.x0 (ix3 0 r j)) (fun j => X.x2 (ix2 0 j)) (fun j => X.x1 (ix3 0 1 j)) (fun j => X.x1 (ix3 0 0 j)) k

theorem hidden_apply (r : Fin 512) (k : Fin 1024) : (hidden W X (ix2 r k) : EReal) = row X r k := by
  unfold hidden k0_pay5 row Projection.hidden
  pointwise [tokens_apply, gain_apply, stretch_apply, shift_apply]

/-- Column `j` of the packed projection of a token of the block. -/
def column (r : Fin 512) (j : Fin 4864) : EReal := ∑ k : Fin 1024, row X r k * (X.x3 (ix3 0 k j) : EReal)

theorem pay12_apply (lo : Nat) (h) (hlo : lo + 512 ≤ 4864) (r j : Fin 512) :
    (k0_pay12 (hidden W X) (wide W X lo h) (ix2 r j) : EReal) = column X r ⟨lo + j.val, by omega⟩ := by
  unfold k0_pay12 column
  pointwise [hidden_apply, wide_apply W X lo h hlo]

theorem pay23_apply (lo : Nat) (h) (hlo : lo + 512 ≤ 4864) (r j : Fin 512) :
    (k0_pay23 (hidden W X) (wide W X lo h) (ix2 j r) : EReal) = column X r ⟨lo + j.val, by omega⟩ := by
  unfold k0_pay23 column
  pointwise [hidden_apply, wide_apply W X lo h hlo]

theorem pay40_apply (lo : Nat) (h) (hlo : lo + 128 ≤ 4864) (r : Fin 512) (j : Fin 128) :
    (k0_pay40 (hidden W X) (narrow W X lo h) (ix2 r j) : EReal) = column X r ⟨lo + j.val, by omega⟩ := by
  unfold k0_pay40 column
  pointwise [hidden_apply, narrow_apply W X lo h hlo]

theorem pay62_apply (lo : Nat) (h) (hlo : lo + 128 ≤ 4864) (r : Fin 512) (j : Fin 128) :
    (k0_pay62 (hidden W X) (narrow W X lo h) (ix2 r j) : EReal) = column X r ⟨lo + j.val, by omega⟩ := by
  unfold k0_pay62 column
  pointwise [hidden_apply, narrow_apply W X lo h hlo]

theorem pay3_apply (lo : Nat) (h) (hlo : lo + 1024 ≤ 4864) (r : Fin 512) (j : Fin 1024) :
    (k0_pay3 (hidden W X) (full W X lo h) (ix3 (0 : Fin 1) r j) : EReal) = Ideal.logistic (column X r ⟨lo + j.val, by omega⟩) := by
  unfold k0_pay3 column
  pointwise [hidden_apply, full_apply W X lo h hlo]

theorem pay4_apply (lo : Nat) (h) (hlo : lo + 1024 ≤ 4864) (r : Fin 512) (j : Fin 1024) :
    (k0_pay4 (hidden W X) (full W X lo h) (ix3 (0 : Fin 1) r j) : EReal) = Ideal.logistic (column X r ⟨lo + j.val, by omega⟩) := by
  unfold k0_pay4 column
  pointwise [hidden_apply, full_apply W X lo h hlo]

theorem pay41_apply (lo : Nat) (h) (hlo : lo + 128 ≤ 4864) (r : Fin 512) (d : Fin 64) :
    (k0_pay41 (hidden W X) (narrow W X lo h) (keyGain W X) (ix3 (0 : Fin 1) r d) : EReal)
    = Projection.headNorm (fun e => column X r ⟨lo + e.val, by omega⟩) (fun e => X.x5 (ix2 0 e)) d := by
  unfold k0_pay41 Projection.headNorm
  pointwise [pay40_apply W X lo h hlo, keyGain_apply]

theorem pay42_apply (lo : Nat) (h) (hlo : lo + 128 ≤ 4864) (r : Fin 512) (d : Fin 64) :
    (k0_pay42 (hidden W X) (narrow W X lo h) (ix2 d r) : EReal) = column X r ⟨lo + (64 + d.val), by omega⟩ := by
  unfold k0_pay42
  pointwise [pay40_apply W X lo h hlo]

theorem keys_apply (lo : Nat) (h) (hlo : lo + 128 ≤ 4864) (r : Fin 512) (d : Fin 64) :
    (k0_pay1 (k0_pay63 (hidden W X) (narrow W X lo h)) (ix3 (0 : Fin 1) r d) : EReal) = column X r ⟨lo + d.val, by omega⟩ := by
  unfold k0_pay1 k0_pay63
  pointwise [pay62_apply W X lo h hlo]

theorem pay2_apply (lo : Nat) (h) (hlo : lo + 128 ≤ 4864) (r : Fin 512) (e : Fin 8) :
    (k0_pay2 (k0_pay62 (hidden W X) (narrow W X lo h)) (ix3 (0 : Fin 1) e r) : EReal) = column X r ⟨lo + (64 + e.val), by omega⟩ := by
  unfold k0_pay2
  pointwise [pay62_apply W X lo h hlo]

end Loads

/-! ## The members of the families -/

section Families

theorem plane_apply (v : FVec Ideal S512x512 .f32) (q : Fin 4) (r : Fin 512) (l : Fin 128) :
    (plane v q (ix4 (0 : Fin 1) (0 : Fin 1) r l) : EReal) = v (ix2 r ⟨128 * q.val + l.val, by omega⟩) := by
  unfold plane
  pointwise

theorem head_apply (v : FVec Ideal S512x512 .f32) (h : Fin 8) (d : Fin 64) (r : Fin 512) :
    (head v h (ix2 d r) : EReal) = v (ix2 ⟨64 * h.val + d.val, by omega⟩ r) := by
  unfold head
  pointwise

theorem storedHead_apply (v : FVec Ideal S64x512 .f32) (d : Fin 64) (r : Fin 512) :
    (storedHead v (ix4 (0 : Fin 1) (0 : Fin 1) d r) : EReal) = v (ix2 d r) := by
  unfold storedHead
  pointwise

theorem normedHead_apply (v : FVec Ideal S64x512 .f32) (g : Vec Ideal S64x1 .f32) (d : Fin 64) (r : Fin 512) :
    (normedHead v g (ix2 d r) : EReal) = Projection.headNorm (fun e => v (ix2 e r)) (fun e => g (ix2 e 0)) d * Projection.scaleB := by
  unfold normedHead Projection.headNorm Projection.scaleB
  pointwise

theorem values_apply (v : FVec Ideal S64x512 .f32) (q : Fin 4) (d : Fin 64) (l : Fin 128) :
    (values v q (ix4 (0 : Fin 1) (0 : Fin 1) d l) : EReal) = v (ix2 d ⟨128 * q.val + l.val, by omega⟩) := by
  unfold values
  pointwise

theorem ones_apply (d : Fin 64) (l : Fin 128) :
    (k0_pay45 (F := Ideal) (iota .tc S64x128 32 [0] iota_S64x128_d0_w32) (ix4 (0 : Fin 1) (0 : Fin 1) d l) : EReal) = if d.val = 0 then 1 else 0 := by
  unfold k0_pay45 k0_pay43
  pointwise
  have hd := d.isLt
  by_cases h : d.val = 0
  · rw [if_pos h, h]
    show ((((BitVec.setWidth 32 (IntOp.cmpi CmpIPredicate.eq (BitVec.ofNat 32 0) 0#32)).toInt : ℝ)) : EReal) = 1
    have e : (BitVec.setWidth 32 (IntOp.cmpi CmpIPredicate.eq (BitVec.ofNat 32 0) 0#32)).toInt = 1 := by decide
    rw [e]
    simp
  · rw [if_neg h]
    show ((((BitVec.setWidth 32 (IntOp.cmpi CmpIPredicate.eq (BitVec.ofNat 32 d.val) 0#32)).toInt : ℝ)) : EReal) = 0
    have e : (BitVec.setWidth 32 (IntOp.cmpi CmpIPredicate.eq (BitVec.ofNat 32 d.val) 0#32)).toInt = 0 := by
      revert h
      revert d
      decide
    rw [e]
    simp

theorem canon_planes (g : Fin 4 → Vec Ideal S1x1x512x128 .bf16) (q : Fin 4) (r : Fin 512) (l : Fin 128) :
    View.canon (planes g) (ix4 (0 : Fin 1) q r l : S1x4x512x128.Idx) = g q (ix4 (0 : Fin 1) (0 : Fin 1) r l) := by
  unfold planes
  refine View.canon_ofFn_unit_eq_of_forall (S := S1x4x512x128) (fun k : Fin 4 => ![0, (Fin.rev k).val, 0, 0]) S1x1x512x128.size
    (fun k => plane_inb _ (Fin.rev k).isLt) (fun k => g (Fin.rev k)) _ _ ?_ ?_
  · refine ⟨Fin.rev q, fun a => ?_⟩
    rw [Fin.rev_rev]
    fin_cases a
    · exact ⟨le_refl _, Nat.lt_succ_self _⟩
    · exact ⟨le_refl _, Nat.lt_succ_self _⟩
    · exact ⟨Nat.zero_le _, by show r.val < 0 + 512; omega⟩
    · exact ⟨Nat.zero_le _, by show l.val < 0 + 128; omega⟩
  · intro k x hx
    have h0 : (x 0).val < 1 := (x 0).isLt
    have h1 : (x 1).val < 1 := (x 1).isLt
    have e1 : (Fin.rev k).val + (x 1).val = q.val := (hx 1).symm
    have e2 : 0 + (x 2).val = r.val := (hx 2).symm
    have e3 : 0 + (x 3).val = l.val := (hx 3).symm
    obtain rfl : Fin.rev k = q := Fin.ext (by omega)
    refine congrArg (g (Fin.rev k)) ((eq_ix4 x).trans ?_)
    congr 1
    · apply Fin.ext; show (x 0).val = 0; omega
    · apply Fin.ext; show (x 1).val = 0; omega
    · apply Fin.ext; omega
    · apply Fin.ext; omega

theorem canon_heads (g : Fin 8 → Vec Ideal S1x1x64x512 .bf16) (h : Fin 8) (d : Fin 64) (r : Fin 512) :
    View.canon (heads g) (ix4 (0 : Fin 1) h d r : S1x8x64x512.Idx) = g h (ix4 (0 : Fin 1) (0 : Fin 1) d r) := by
  unfold heads
  refine View.canon_ofFn_unit_eq_of_forall (S := S1x8x64x512) (fun k : Fin 8 => ![0, (Fin.rev k).val, 0, 0]) S1x1x64x512.size
    (fun k => head_inb _ (Fin.rev k).isLt) (fun k => g (Fin.rev k)) _ _ ?_ ?_
  · refine ⟨Fin.rev h, fun a => ?_⟩
    rw [Fin.rev_rev]
    fin_cases a
    · exact ⟨le_refl _, Nat.lt_succ_self _⟩
    · exact ⟨le_refl _, Nat.lt_succ_self _⟩
    · exact ⟨Nat.zero_le _, by show d.val < 0 + 64; omega⟩
    · exact ⟨Nat.zero_le _, by show r.val < 0 + 512; omega⟩
  · intro k x hx
    have h0 : (x 0).val < 1 := (x 0).isLt
    have h1 : (x 1).val < 1 := (x 1).isLt
    have e1 : (Fin.rev k).val + (x 1).val = h.val := (hx 1).symm
    have e2 : 0 + (x 2).val = d.val := (hx 2).symm
    have e3 : 0 + (x 3).val = r.val := (hx 3).symm
    obtain rfl : Fin.rev k = h := Fin.ext (by omega)
    refine congrArg (g (Fin.rev k)) ((eq_ix4 x).trans ?_)
    congr 1
    · apply Fin.ext; show (x 0).val = 0; omega
    · apply Fin.ext; show (x 1).val = 0; omega
    · apply Fin.ext; omega
    · apply Fin.ext; omega

/-- The extended values at an entry: the values in the first 64 rows, the piece of ones under them. -/
theorem canon_extended (g : Fin 4 → Vec Ideal S1x1x64x128 .bf16) (one : Vec Ideal S1x1x64x128 .bf16) (q : Fin 4) (d l : Fin 128) :
    View.canon (extended g one) (ix4 (0 : Fin 1) q d l : S1x4x128x128.Idx)
    = if h : d.val < 64 then g q (ix4 (0 : Fin 1) (0 : Fin 1) ⟨d.val, h⟩ l) else one (ix4 (0 : Fin 1) (0 : Fin 1) ⟨d.val - 64, by omega⟩ l) := by
  have hd := d.isLt
  have hq := q.isLt
  unfold extended
  refine View.canon_ofFn_unit_eq_of_forall (S := S1x4x128x128) (fun k : Fin 8 => ![0, (Fin.rev k).val / 2, 64 * ((Fin.rev k).val % 2), 0]) S1x1x64x128.size
    (fun k => value_inb _ (Fin.rev k).isLt) (fun k => if (Fin.rev k).val % 2 = 0 then g ⟨(Fin.rev k).val / 2, by omega⟩ else one) _ _ ?_ ?_
  · refine ⟨Fin.rev ⟨2 * q.val + d.val / 64, by omega⟩, fun a => ?_⟩
    rw [Fin.rev_rev]
    fin_cases a
    · exact ⟨le_refl _, Nat.lt_succ_self _⟩
    · exact ⟨by show (2 * q.val + d.val / 64) / 2 ≤ q.val; omega, by show q.val < (2 * q.val + d.val / 64) / 2 + 1; omega⟩
    · exact ⟨by show 64 * ((2 * q.val + d.val / 64) % 2) ≤ d.val; omega, by show d.val < 64 * ((2 * q.val + d.val / 64) % 2) + 64; omega⟩
    · exact ⟨Nat.zero_le _, by show l.val < 0 + 128; omega⟩
  · intro k x hx
    have h0 : (x 0).val < 1 := (x 0).isLt
    have h1 : (x 1).val < 1 := (x 1).isLt
    have h2 : (x 2).val < 64 := (x 2).isLt
    have e1 : (Fin.rev k).val / 2 + (x 1).val = q.val := (hx 1).symm
    have e2 : 64 * ((Fin.rev k).val % 2) + (x 2).val = d.val := (hx 2).symm
    have e3 : 0 + (x 3).val = l.val := (hx 3).symm
    have ek : (⟨(Fin.rev k).val / 2, by omega⟩ : Fin 4) = q := Fin.ext (by show (Fin.rev k).val / 2 = q.val; omega)
    by_cases hk : (Fin.rev k).val % 2 = 0
    · have hlt : d.val < 64 := by omega
      rw [dif_pos hlt]
      refine (congrFun (if_pos hk) x).trans ?_
      refine (congrArg (fun q => g q x) ek).trans (congrArg (g q) ((eq_ix4 x).trans ?_))
      congr 1
      · apply Fin.ext; show (x 0).val = 0; omega
      · apply Fin.ext; show (x 1).val = 0; omega
      · apply Fin.ext; show (x 2).val = d.val; omega
      · apply Fin.ext; omega
    · have hge : ¬ d.val < 64 := by omega
      rw [dif_neg hge]
      refine (congrFun (if_neg hk) x).trans (congrArg one ((eq_ix4 x).trans ?_))
      congr 1
      · apply Fin.ext; show (x 0).val = 0; omega
      · apply Fin.ext; show (x 1).val = 0; omega
      · apply Fin.ext; show (x 2).val = d.val - 64; omega
      · apply Fin.ext; omega

/-- One piece, of the whole block. -/
theorem canon_whole {s : Shape} {e : EltTy} (off : Fin s.rank → Nat) (h : ∀ a, off a + s.size a ≤ s.size a)
    (v : Vec Ideal s e) (y : s.Idx) : View.canon [(⟨Rect.unit (s := s) off s.size h, v⟩ : View.Piece (Elt Ideal) s e)] y = v y := by
  have ho : ∀ a, off a = 0 := fun a => by have := h a; omega
  have e1 : (Rect.unit (s := s) off s.size h).emb y = y := by
    funext a
    apply Fin.ext
    rw [Rect.emb_apply]
    show off a + 1 * (y a).val = (y a).val
    rw [ho a]; omega
  exact (congrArg (View.canon _) e1.symm).trans (View.canon_cons_emb _ _ _ _)

end Families

/-! ## The blocks left at an entry -/

section Point

variable (c : Dev nD) (i : grid0.Coords) (W : Windows) (X : Inputs Ideal)

theorem left6 (q : Fin 4) (r : Fin 512) (l : Fin 128) : (View.canon (bodyRun c i W X).out.o6 (ix4 (0 : Fin 1) q r l : S1x4x512x128.Idx) : EReal)
    = column X r ⟨0 + (128 * q.val + l.val), by omega⟩ * Projection.scaleA := by
  rw [out6]
  refine (canon_planes _ q r l).trans ((plane_apply _ q r l).trans ?_)
  unfold Projection.scaleA
  pointwise [pay12_apply W X 0 _ (by omega)]

theorem left7 (q : Fin 4) (r : Fin 512) (l : Fin 128) : (View.canon (bodyRun c i W X).out.o7 (ix4 (0 : Fin 1) q r l : S1x4x512x128.Idx) : EReal)
    = column X r ⟨512 + (128 * q.val + l.val), by omega⟩ := by
  rw [out7]
  exact (canon_planes _ q r l).trans ((plane_apply _ q r l).trans (pay12_apply W X 512 _ (by omega) r _))

theorem left8 (q : Fin 4) (r : Fin 512) (l : Fin 128) : (View.canon (bodyRun c i W X).out.o8 (ix4 (0 : Fin 1) q r l : S1x4x512x128.Idx) : EReal)
    = column X r ⟨1024 + (128 * q.val + l.val), by omega⟩ := by
  rw [out8]
  exact (canon_planes _ q r l).trans ((plane_apply _ q r l).trans (pay12_apply W X 1024 _ (by omega) r _))

theorem left9 (h : Fin 8) (d : Fin 64) (r : Fin 512) : (View.canon (bodyRun c i W X).out.o9 (ix4 (0 : Fin 1) h d r : S1x8x64x512.Idx) : EReal)
    = Projection.headNorm (fun e => column X r ⟨1536 + (64 * h.val + e.val), by omega⟩) (fun e => X.x4 (ix2 e 0)) d * Projection.scaleB := by
  rw [out9]
  refine (canon_heads _ h d r).trans ((storedHead_apply _ d r).trans ((normedHead_apply _ _ d r).trans ?_))
  refine congrArg (· * Projection.scaleB) (congrArg₂ (fun v g => Projection.headNorm v g d) (funext fun e => ?_) (funext fun e => headGain_apply W X e))
  exact (head_apply _ h e r).trans (pay23_apply W X 1536 _ (by omega) r _)

theorem left10 (h : Fin 8) (d : Fin 64) (r : Fin 512) : (View.canon (bodyRun c i W X).out.o10 (ix4 (0 : Fin 1) h d r : S1x8x64x512.Idx) : EReal)
    = column X r ⟨2176 + (64 * h.val + d.val), by omega⟩ := by
  rw [out10]
  exact (canon_heads _ h d r).trans ((storedHead_apply _ d r).trans ((head_apply _ h d r).trans (pay23_apply W X 2176 _ (by omega) r _)))

theorem left11 (r : Fin 512) (d : Fin 64) : (View.canon (bodyRun c i W X).out.o11 (ix3 (0 : Fin 1) r d : S1x512x64.Idx) : EReal)
    = Projection.headNorm (fun e => column X r ⟨2048 + e.val, by omega⟩) (fun e => X.x5 (ix2 0 e)) d := by
  rw [out11]
  exact (canon_whole _ _ _ _).trans (pay41_apply W X 2048 _ (by omega) r d)

theorem left12 (q : Fin 4) (d l : Fin 128) : (View.canon (bodyRun c i W X).out.o12 (ix4 (0 : Fin 1) q d l : S1x4x128x128.Idx) : EReal)
    = if h : d.val < 64 then column X ⟨128 * q.val + l.val, by omega⟩ ⟨2112 + d.val, by omega⟩ else if d.val = 64 then 1 else 0 := by
  rw [out12]
  refine (canon_extended _ _ q d l).trans ?_
  by_cases h : d.val < 64
  · rw [dif_pos h, dif_pos h]
    refine (values_apply _ q ⟨d.val, h⟩ l).trans ((pay42_apply W X 2048 _ (by omega) _ _).trans ?_)
    exact congrArg (column X _) (Fin.ext (by show 2048 + (64 + d.val) = 2112 + d.val; omega))
  · rw [dif_neg h, dif_neg h]
    refine (ones_apply _ l).trans ?_
    by_cases h' : d.val = 64
    · rw [if_pos h', if_pos (by show d.val - 64 = 0; omega)]
    · rw [if_neg h', if_neg (by show ¬ d.val - 64 = 0; omega)]

theorem left13 (r : Fin 512) (d : Fin 64) : (View.canon (bodyRun c i W X).out.o13 (ix3 (0 : Fin 1) r d : S1x512x64.Idx) : EReal)
    = column X r ⟨2688 + d.val, by omega⟩ := by
  rw [out13]
  exact (canon_whole _ _ _ _).trans (keys_apply W X 2688 _ (by omega) r d)

theorem left14 (e : Fin 8) (r : Fin 512) : (View.canon (bodyRun c i W X).out.o14 (ix3 (0 : Fin 1) e r : S1x8x512.Idx) : EReal)
    = column X r ⟨2752 + e.val, by omega⟩ := by
  rw [out14]
  refine (canon_whole _ _ _ _).trans ((pay2_apply W X 2688 _ (by omega) r e).trans ?_)
  exact congrArg (column X r) (Fin.ext (by show 2688 + (64 + e.val) = 2752 + e.val; omega))

theorem left15 (r : Fin 512) (j : Fin 1024) : (View.canon (bodyRun c i W X).out.o15 (ix3 (0 : Fin 1) r j : S1x512x1024.Idx) : EReal)
    = Ideal.logistic (column X r ⟨2816 + j.val, by omega⟩) := by
  rw [out15]
  exact (canon_whole _ _ _ _).trans (pay3_apply W X 2816 _ (by omega) r j)

theorem left16 (r : Fin 512) (j : Fin 1024) : (View.canon (bodyRun c i W X).out.o16 (ix3 (0 : Fin 1) r j : S1x512x1024.Idx) : EReal)
    = Ideal.logistic (column X r ⟨3840 + j.val, by omega⟩) := by
  rw [out16]
  exact (canon_whole _ _ _ _).trans (pay4_apply W X 3840 _ (by omega) r j)

end Point

end Cert.Proof.KI4

end
-- ==== Proof.KI4.Frame.lean ====
/- The projections' launch: what each grid point leaves in the results' staging buffers, the pipeline's proof data over it,
   the body's obligation, and the frame — every execution ends, with the six arguments unchanged and no count pending. -/
module

public import proofs.«01_k».proof.Proof.KI4.Body
public import Idealize.ShloMosaic.Lib.Claim

@[expose] public section

set_option maxRecDepth 16384

noncomputable section

namespace Cert.Proof.KI4

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR nD τ) ℕ

variable (m : (ℓ : Loc nD τ sig) → Buf (Elt F) ℓ) (ρ : Dev nD → PrngReg)

/-- Core `c`'s buffers as the region finds them: as launched, the region being all of the main program. -/
abbrev atEntry (c : Dev nD) (b : Ref sig .tc) : Buf (Elt F) ((c : Thread nD τ).loc b) := m ((c : Thread nD τ).loc b)

theorem main_is_region : Pipeline.HMain (Ix := Unit) (Name := ℕ) (U := UR nD τ) (Lvl := ℕ) (cfgs) 0 defs₀ 𝒱₀ m (main (F := F)) (atEntry m) :=
  Pipeline.hmain_region (cfgs) 0 defs₀ 𝒱₀ m main fun c => (main_chain c).trans rfl

/-- Window `w`'s block at point `t`, of its array as launched. -/
def blockAt (c : Dev nD) (w : Fin (cfg0).W) (t : Fin (cfg0).N) : (((cfg0).win w).xblock ((cfg0).grid.coords t)).Idx → Elt F ((cfg0).win w).elt :=
  (((cfg0).win w).blk t).view.read (Elt F) (atEntry m c (Pipeline.arrRef spec0 w))

/-! ## The windows' staging buffers at a point, and what is stored there -/

abbrev wins (t : Fin (cfg0).N) : Windows :=
  ⟨win0_0.stage ((cfg0).slots t 0), hstage0_0 (((cfg0).slots t 0).cast nbuf0_0),
    win0_1.stage ((cfg0).slots t 1), hstage0_1 (((cfg0).slots t 1).cast nbuf0_1),
    win0_2.stage ((cfg0).slots t 2), hstage0_2 (((cfg0).slots t 2).cast nbuf0_2),
    win0_3.stage ((cfg0).slots t 3), hstage0_3 (((cfg0).slots t 3).cast nbuf0_3),
    win0_4.stage ((cfg0).slots t 4), hstage0_4 (((cfg0).slots t 4).cast nbuf0_4),
    win0_5.stage ((cfg0).slots t 5), hstage0_5 (((cfg0).slots t 5).cast nbuf0_5),
    win0_6.stage ((cfg0).slots t 6), hstage0_6 (((cfg0).slots t 6).cast nbuf0_6),
    win0_7.stage ((cfg0).slots t 7), hstage0_7 (((cfg0).slots t 7).cast nbuf0_7),
    win0_8.stage ((cfg0).slots t 8), hstage0_8 (((cfg0).slots t 8).cast nbuf0_8),
    win0_9.stage ((cfg0).slots t 9), hstage0_9 (((cfg0).slots t 9).cast nbuf0_9),
    win0_10.stage ((cfg0).slots t 10), hstage0_10 (((cfg0).slots t 10).cast nbuf0_10),
    win0_11.stage ((cfg0).slots t 11), hstage0_11 (((cfg0).slots t 11).cast nbuf0_11),
    win0_12.stage ((cfg0).slots t 12), hstage0_12 (((cfg0).slots t 12).cast nbuf0_12),
    win0_13.stage ((cfg0).slots t 13), hstage0_13 (((cfg0).slots t 13).cast nbuf0_13),
    win0_14.stage ((cfg0).slots t 14), hstage0_14 (((cfg0).slots t 14).cast nbuf0_14),
    win0_15.stage ((cfg0).slots t 15), hstage0_15 (((cfg0).slots t 15).cast nbuf0_15),
    win0_16.stage ((cfg0).slots t 16), hstage0_16 (((cfg0).slots t 16).cast nbuf0_16)⟩

/-- The blocks copied in for point `t`. -/
abbrev ins (c : Dev nD) (t : Fin (cfg0).N) : Inputs F :=
  ⟨blockAt m c 0 t, blockAt m c 1 t, blockAt m c 2 t, blockAt m c 3 t, blockAt m c 4 t, blockAt m c 5 t⟩

/-- The pieces point `t` stores. -/
@[irreducible] def pieces (c : Dev nD) (t : Fin (cfg0).N) : Pieces F := (bodyRun c (grid0.coords t) (wins t) (ins m c t)).out

/-! The pieces cover the windows. -/

theorem cover6 (c : Dev nD) (t : Fin (cfg0).N) (y : S1x4x512x128.Idx) : ∃ p ∈ (pieces m c t).o6, y ∈ p.1.set := by
  unfold pieces
  exact View.cover_of_tiledL (bodyRun c (grid0.coords t) (wins t) (ins m c t)).out.o6 S1x1x512x128.size (by sl_kernel_rfl) y

theorem cover7 (c : Dev nD) (t : Fin (cfg0).N) (y : S1x4x512x128.Idx) : ∃ p ∈ (pieces m c t).o7, y ∈ p.1.set := by
  unfold pieces
  exact View.cover_of_tiledL (bodyRun c (grid0.coords t) (wins t) (ins m c t)).out.o7 S1x1x512x128.size (by sl_kernel_rfl) y

theorem cover8 (c : Dev nD) (t : Fin (cfg0).N) (y : S1x4x512x128.Idx) : ∃ p ∈ (pieces m c t).o8, y ∈ p.1.set := by
  unfold pieces
  exact View.cover_of_tiledL (bodyRun c (grid0.coords t) (wins t) (ins m c t)).out.o8 S1x1x512x128.size (by sl_kernel_rfl) y

theorem cover9 (c : Dev nD) (t : Fin (cfg0).N) (y : S1x8x64x512.Idx) : ∃ p ∈ (pieces m c t).o9, y ∈ p.1.set := by
  unfold pieces
  exact View.cover_of_tiledL (bodyRun c (grid0.coords t) (wins t) (ins m c t)).out.o9 S1x1x64x512.size (by sl_kernel_rfl) y

theorem cover10 (c : Dev nD) (t : Fin (cfg0).N) (y : S1x8x64x512.Idx) : ∃ p ∈ (pieces m c t).o10, y ∈ p.1.set := by
  unfold pieces
  exact View.cover_of_tiledL (bodyRun c (grid0.coords t) (wins t) (ins m c t)).out.o10 S1x1x64x512.size (by sl_kernel_rfl) y

theorem cover11 (c : Dev nD) (t : Fin (cfg0).N) (y : S1x512x64.Idx) : ∃ p ∈ (pieces m c t).o11, y ∈ p.1.set := by
  unfold pieces
  exact View.cover_of_tiledL (bodyRun c (grid0.coords t) (wins t) (ins m c t)).out.o11 S1x512x64.size (by sl_kernel_rfl) y

theorem cover12 (c : Dev nD) (t : Fin (cfg0).N) (y : S1x4x128x128.Idx) : ∃ p ∈ (pieces m c t).o12, y ∈ p.1.set := by
  unfold pieces
  exact View.cover_of_tiledL (bodyRun c (grid0.coords t) (wins t) (ins m c t)).out.o12 S1x1x64x128.size (by sl_kernel_rfl) y

theorem cover13 (c : Dev nD) (t : Fin (cfg0).N) (y : S1x512x64.Idx) : ∃ p ∈ (pieces m c t).o13, y ∈ p.1.set := by
  unfold pieces
  exact View.cover_of_tiledL (bodyRun c (grid0.coords t) (wins t) (ins m c t)).out.o13 S1x512x64.size (by sl_kernel_rfl) y

theorem cover14 (c : Dev nD) (t : Fin (cfg0).N) (y : S1x8x512.Idx) : ∃ p ∈ (pieces m c t).o14, y ∈ p.1.set := by
  unfold pieces
  exact View.cover_of_tiledL (bodyRun c (grid0.coords t) (wins t) (ins m c t)).out.o14 S1x8x512.size (by sl_kernel_rfl) y

theorem cover15 (c : Dev nD) (t : Fin (cfg0).N) (y : S1x512x1024.Idx) : ∃ p ∈ (pieces m c t).o15, y ∈ p.1.set := by
  unfold pieces
  exact View.cover_of_tiledL (bodyRun c (grid0.coords t) (wins t) (ins m c t)).out.o15 S1x512x1024.size (by sl_kernel_rfl) y

theorem cover16 (c : Dev nD) (t : Fin (cfg0).N) (y : S1x512x1024.Idx) : ∃ p ∈ (pieces m c t).o16, y ∈ p.1.set := by
  unfold pieces
  exact View.cover_of_tiledL (bodyRun c (grid0.coords t) (wins t) (ins m c t)).out.o16 S1x512x1024.size (by sl_kernel_rfl) y

/-- The pipeline's proof data: the arrays as launched; after the body each input's buffer at its block and each result's at
    what its pieces leave; the generator's register at some contents between the points. -/
def dats (_ : Fin 1) (c : Dev nD) : Dat τ (Elt F) Unit ℕ (UR nD τ) ℕ (cfg0) c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => View.canon (pieces m c t).o6
    | ⟨7, _⟩ => View.canon (pieces m c t).o7
    | ⟨8, _⟩ => View.canon (pieces m c t).o8
    | ⟨9, _⟩ => View.canon (pieces m c t).o9
    | ⟨10, _⟩ => View.canon (pieces m c t).o10
    | ⟨11, _⟩ => View.canon (pieces m c t).o11
    | ⟨12, _⟩ => View.canon (pieces m c t).o12
    | ⟨13, _⟩ => View.canon (pieces m c t).o13
    | ⟨14, _⟩ => View.canon (pieces m c t).o14
    | ⟨15, _⟩ => View.canon (pieces m c t).o15
    | ⟨16, _⟩ => View.canon (pieces m c t).o16
    | ⟨_ + 17, h⟩ => absurd h (Nat.not_lt.2 (Nat.le_add_left _ _))
  Φ _ := Pipeline.ΦA spec0 c
  q _ := fullShare
  owed _ := 0

theorem A_eq (c : Dev nD) (w : Fin (cfg0).W) : (dats m 0 c).A w = atEntry m c (Pipeline.arrRef spec0 w) := by dsimp only [dats]

theorem after0 (c : Dev nD) (t : Fin (cfg0).N) : (dats m 0 c).after 0 t = blockAt m c 0 t := rfl
theorem after1 (c : Dev nD) (t : Fin (cfg0).N) : (dats m 0 c).after 1 t = blockAt m c 1 t := rfl
theorem after2 (c : Dev nD) (t : Fin (cfg0).N) : (dats m 0 c).after 2 t = blockAt m c 2 t := rfl
theorem after3 (c : Dev nD) (t : Fin (cfg0).N) : (dats m 0 c).after 3 t = blockAt m c 3 t := rfl
theorem after4 (c : Dev nD) (t : Fin (cfg0).N) : (dats m 0 c).after 4 t = blockAt m c 4 t := rfl
theorem after5 (c : Dev nD) (t : Fin (cfg0).N) : (dats m 0 c).after 5 t = blockAt m c 5 t := rfl
theorem after6 (c : Dev nD) (t : Fin (cfg0).N) : (dats m 0 c).after 6 t = View.canon (pieces m c t).o6 := rfl
theorem after7 (c : Dev nD) (t : Fin (cfg0).N) : (dats m 0 c).after 7 t = View.canon (pieces m c t).o7 := rfl
theorem after8 (c : Dev nD) (t : Fin (cfg0).N) : (dats m 0 c).after 8 t = View.canon (pieces m c t).o8 := rfl
theorem after9 (c : Dev nD) (t : Fin (cfg0).N) : (dats m 0 c).after 9 t = View.canon (pieces m c t).o9 := rfl
theorem after10 (c : Dev nD) (t : Fin (cfg0).N) : (dats m 0 c).after 10 t = View.canon (pieces m c t).o10 := rfl
theorem after11 (c : Dev nD) (t : Fin (cfg0).N) : (dats m 0 c).after 11 t = View.canon (pieces m c t).o11 := rfl
theorem after12 (c : Dev nD) (t : Fin (cfg0).N) : (dats m 0 c).after 12 t = View.canon (pieces m c t).o12 := rfl
theorem after13 (c : Dev nD) (t : Fin (cfg0).N) : (dats m 0 c).after 13 t = View.canon (pieces m c t).o13 := rfl
theorem after14 (c : Dev nD) (t : Fin (cfg0).N) : (dats m 0 c).after 14 t = View.canon (pieces m c t).o14 := rfl
theorem after15 (c : Dev nD) (t : Fin (cfg0).N) : (dats m 0 c).after 15 t = View.canon (pieces m c t).o15 := rfl
theorem after16 (c : Dev nD) (t : Fin (cfg0).N) : (dats m 0 c).after 16 t = View.canon (pieces m c t).o16 := rfl

theorem before0 (c : Dev nD) (t : Fin (cfg0).N) (d) : (dats m 0 c).before 0 t d = blockAt m c 0 t :=
  ((dats m 0 c).before_in_eq_fetched 0 rfl (fun _ => rfl) (fun _ _ _ => rfl) (fun t => by rw [after0]; unfold Dat.blockOf blockAt; rw [A_eq]; try rfl) t d).trans
    (by unfold Dat.fetched Dat.blockOf blockAt; rw [A_eq]; try rfl)
theorem before1 (c : Dev nD) (t : Fin (cfg0).N) (d) : (dats m 0 c).before 1 t d = blockAt m c 1 t :=
  ((dats m 0 c).before_in_eq_fetched 1 rfl (fun _ => rfl) (fun _ _ _ => rfl) (fun t => by rw [after1]; unfold Dat.blockOf blockAt; rw [A_eq]; try rfl) t d).trans
    (by unfold Dat.fetched Dat.blockOf blockAt; rw [A_eq]; try rfl)
theorem before2 (c : Dev nD) (t : Fin (cfg0).N) (d) : (dats m 0 c).before 2 t d = blockAt m c 2 t :=
  ((dats m 0 c).before_in_eq_fetched 2 rfl (fun _ => rfl) (fun _ _ _ => rfl) (fun t => by rw [after2]; unfold Dat.blockOf blockAt; rw [A_eq]; try rfl) t d).trans
    (by unfold Dat.fetched Dat.blockOf blockAt; rw [A_eq]; try rfl)
theorem before3 (c : Dev nD) (t : Fin (cfg0).N) (d) : (dats m 0 c).before 3 t d = blockAt m c 3 t :=
  ((dats m 0 c).before_in_eq_fetched 3 rfl (fun _ => rfl) (fun _ _ _ => rfl) (fun t => by rw [after3]; unfold Dat.blockOf blockAt; rw [A_eq]; try rfl) t d).trans
    (by unfold Dat.fetched Dat.blockOf blockAt; rw [A_eq]; try rfl)
theorem before4 (c : Dev nD) (t : Fin (cfg0).N) (d) : (dats m 0 c).before 4 t d = blockAt m c 4 t :=
  ((dats m 0 c).before_in_eq_fetched 4 rfl (fun _ => rfl) (fun _ _ _ => rfl) (fun t => by rw [after4]; unfold Dat.blockOf blockAt; rw [A_eq]; try rfl) t d).trans
    (by unfold Dat.fetched Dat.blockOf blockAt; rw [A_eq]; try rfl)
theorem before5 (c : Dev nD) (t : Fin (cfg0).N) (d) : (dats m 0 c).before 5 t d = blockAt m c 5 t :=
  ((dats m 0 c).before_in_eq_fetched 5 rfl (fun _ => rfl) (fun _ _ _ => rfl) (fun t => by rw [after5]; unfold Dat.blockOf blockAt; rw [A_eq]; try rfl) t d).trans
    (by unfold Dat.fetched Dat.blockOf blockAt; rw [A_eq]; try rfl)

/-! ## The body at a point -/

/-- What the body is called with at point `t`, -/
def bodyPre (c : Dev nD) (t : Fin (cfg0).N) : sProp 𝕄 :=
  iprop((dats m 0 c).Φ t.castSucc ∗ (dats m 0 c).owesAt () t.castSucc
    ∗ (∃ d, owns (c : Thread nD τ) (wins t).M0 fullShare ((dats m 0 c).before 0 t d))
    ∗ (∃ d, owns (c : Thread nD τ) (wins t).M1 fullShare ((dats m 0 c).before 1 t d))
    ∗ (∃ d, owns (c : Thread nD τ) (wins t).M2 fullShare ((dats m 0 c).before 2 t d))
    ∗ (∃ d, owns (c : Thread nD τ) (wins t).M3 fullShare ((dats m 0 c).before 3 t d))
    ∗ (∃ d, owns (c : Thread nD τ) (wins t).M4 fullShare ((dats m 0 c).before 4 t d))
    ∗ (∃ d, owns (c : Thread nD τ) (wins t).M5 fullShare ((dats m 0 c).before 5 t d))
    ∗ (∃ d, owns (c : Thread nD τ) (wins t).M6 fullShare ((dats m 0 c).before 6 t d))
    ∗ (∃ d, owns (c : Thread nD τ) (wins t).M7 fullShare ((dats m 0 c).before 7 t d))
    ∗ (∃ d, owns (c : Thread nD τ) (wins t).M8 fullShare ((dats m 0 c).before 8 t d))
    ∗ (∃ d, owns (c : Thread nD τ) (wins t).M9 fullShare ((dats m 0 c).before 9 t d))
    ∗ (∃ d, owns (c : Thread nD τ) (wins t).M10 fullShare ((dats m 0 c).before 10 t d))
    ∗ (∃ d, owns (c : Thread nD τ) (wins t).M11 fullShare ((dats m 0 c).before 11 t d))
    ∗ (∃ d, owns (c : Thread nD τ) (wins t).M12 fullShare ((dats m 0 c).before 12 t d))
    ∗ (∃ d, owns (c : Thread nD τ) (wins t).M13 fullShare ((dats m 0 c).before 13 t d))
    ∗ (∃ d, owns (c : Thread nD τ) (wins t).M14 fullShare ((dats m 0 c).before 14 t d))
    ∗ (∃ d, owns (c : Thread nD τ) (wins t).M15 fullShare ((dats m 0 c).before 15 t d))
    ∗ (∃ d, owns (c : Thread nD τ) (wins t).M16 fullShare ((dats m 0 c).before 16 t d)))

/-- and what it returns. -/
def bodyPost (c : Dev nD) (t : Fin (cfg0).N) : sProp 𝕄 :=
  iprop((dats m 0 c).Φ t.succ ∗ (dats m 0 c).owesAt () t.succ
    ∗ owns (c : Thread nD τ) (wins t).M0 fullShare ((dats m 0 c).after 0 t)
    ∗ owns (c : Thread nD τ) (wins t).M1 fullShare ((dats m 0 c).after 1 t)
    ∗ owns (c : Thread nD τ) (wins t).M2 fullShare ((dats m 0 c).after 2 t)
    ∗ owns (c : Thread nD τ) (wins t).M3 fullShare ((dats m 0 c).after 3 t)
    ∗ owns (c : Thread nD τ) (wins t).M4 fullShare ((dats m 0 c).after 4 t)
    ∗ owns (c : Thread nD τ) (wins t).M5 fullShare ((dats m 0 c).after 5 t)
    ∗ owns (c : Thread nD τ) (wins t).M6 fullShare ((dats m 0 c).after 6 t)
    ∗ owns (c : Thread nD τ) (wins t).M7 fullShare ((dats m 0 c).after 7 t)
    ∗ owns (c : Thread nD τ) (wins t).M8 fullShare ((dats m 0 c).after 8 t)
    ∗ owns (c : Thread nD τ) (wins t).M9 fullShare ((dats m 0 c).after 9 t)
    ∗ owns (c : Thread nD τ) (wins t).M10 fullShare ((dats m 0 c).after 10 t)
    ∗ owns (c : Thread nD τ) (wins t).M11 fullShare ((dats m 0 c).after 11 t)
    ∗ owns (c : Thread nD τ) (wins t).M12 fullShare ((dats m 0 c).after 12 t)
    ∗ owns (c : Thread nD τ) (wins t).M13 fullShare ((dats m 0 c).after 13 t)
    ∗ owns (c : Thread nD τ) (wins t).M14 fullShare ((dats m 0 c).after 14 t)
    ∗ owns (c : Thread nD τ) (wins t).M15 fullShare ((dats m 0 c).after 15 t)
    ∗ owns (c : Thread nD τ) (wins t).M16 fullShare ((dats m 0 c).after 16 t))

/-- The stored pieces, as the windows' contents. -/
theorem written_owns (c : Dev nD) (t : Fin (cfg0).N) : written c (wins t) (pieces m c t)
    ⊢ iprop(owns (c : Thread nD τ) (wins t).M6 fullShare (View.canon (pieces m c t).o6) ∗ owns (c : Thread nD τ) (wins t).M7 fullShare (View.canon (pieces m c t).o7) ∗ owns (c : Thread nD τ) (wins t).M8 fullShare (View.canon (pieces m c t).o8) ∗ owns (c : Thread nD τ) (wins t).M9 fullShare (View.canon (pieces m c t).o9) ∗ owns (c : Thread nD τ) (wins t).M10 fullShare (View.canon (pieces m c t).o10) ∗ owns (c : Thread nD τ) (wins t).M11 fullShare (View.canon (pieces m c t).o11) ∗ owns (c : Thread nD τ) (wins t).M12 fullShare (View.canon (pieces m c t).o12) ∗ owns (c : Thread nD τ) (wins t).M13 fullShare (View.canon (pieces m c t).o13) ∗ owns (c : Thread nD τ) (wins t).M14 fullShare (View.canon (pieces m c t).o14) ∗ owns (c : Thread nD τ) (wins t).M15 fullShare (View.canon (pieces m c t).o15) ∗ owns (c : Thread nD τ) (wins t).M16 fullShare (View.canon (pieces m c t).o16)) := by
  unfold written owns
  iintro ⟨⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  isplitl [H6]
  · iexists _; isplitr; swap; · iexact H6
    ipureintro; exact View.read_writes_eq_canon _ _ _ (cover6 m c t)
  isplitl [H7]
  · iexists _; isplitr; swap; · iexact H7
    ipureintro; exact View.read_writes_eq_canon _ _ _ (cover7 m c t)
  isplitl [H8]
  · iexists _; isplitr; swap; · iexact H8
    ipureintro; exact View.read_writes_eq_canon _ _ _ (cover8 m c t)
  isplitl [H9]
  · iexists _; isplitr; swap; · iexact H9
    ipureintro; exact View.read_writes_eq_canon _ _ _ (cover9 m c t)
  isplitl [H10]
  · iexists _; isplitr; swap; · iexact H10
    ipureintro; exact View.read_writes_eq_canon _ _ _ (cover10 m c t)
  isplitl [H11]
  · iexists _; isplitr; swap; · iexact H11
    ipureintro; exact View.read_writes_eq_canon _ _ _ (cover11 m c t)
  isplitl [H12]
  · iexists _; isplitr; swap; · iexact H12
    ipureintro; exact View.read_writes_eq_canon _ _ _ (cover12 m c t)
  isplitl [H13]
  · iexists _; isplitr; swap; · iexact H13
    ipureintro; exact View.read_writes_eq_canon _ _ _ (cover13 m c t)
  isplitl [H14]
  · iexists _; isplitr; swap; · iexact H14
    ipureintro; exact View.read_writes_eq_canon _ _ _ (cover14 m c t)
  isplitl [H15]
  · iexists _; isplitr; swap; · iexact H15
    ipureintro; exact View.read_writes_eq_canon _ _ _ (cover15 m c t)
  iexists _; isplitr; swap; · iexact H16
  ipureintro; exact View.read_writes_eq_canon _ _ _ (cover16 m c t)

set_option maxHeartbeats 1600000 in
theorem body_at (c : Dev nD) (t : Fin (cfg0).N) :
    bodyPre m c t ⊢ wp frame (wpE (defs₀ (F := F)) 𝒱₀ c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((bodyRun c (grid0.coords t) (wins t) (ins m c t)).run _)
  isplitl [H0 H1 H2 H3 H4 H5]
  · unfold read
    isplitl [H0]; · iexact H0
    isplitl [H1]; · iexact H1
    isplitl [H2]; · iexact H2
    isplitl [H3]; · iexact H3
    isplitl [H4]; · iexact H4
    iexact H5
  isplitl [H6 H7 H8 H9 H10 H11 H12 H13 H14 H15 H16]
  · unfold unwritten
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16
  iintro ⟨HR, HW⟩
  ihave HW := (show written c (wins t) (bodyRun c (grid0.coords t) (wins t) (ins m c t)).out ⊢ _ from by
    have h := written_owns m c t; unfold pieces at h; exact h) $$ HW
  unfold read
  icases HR with ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold pieces
  iexact HW

theorem body_row (t : Fin (cfg0).N) :
    defs₀ (F := F) .tc (cfg0).body ((cfg0).bodyArgs t ((cfg0).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, body_row]
  exact triple_restated (body_at m c t) rfl .rfl fun _ => .rfl

/-! ## The run -/

-- the launch theorem's implicit arguments are found by unifying its conclusion with this one, which unfolds plain
-- definitions in a metavariable's type
set_option backward.isDefEq.respectTransparency.types false in
theorem run_counted : θ_run defs (onTc (τ := τ) (main (F := F))) (s₀ m ρ) (fun r => (Pipeline.FramePost (cfgs) (dats m) 0 (atEntry m)) r ∧ r.2.sem = fun _ => 0) :=
  Pipeline.θ_run_frame (Q' := _) (cfgs) (dats m) (0 : Fin 1) launch0 defs₀ 𝒱₀ m ρ main
    (hbody := fun c => (body_obligation m c).loose) (hshare := fun c => (dats m 0 c).share_full fun _ => rfl)
    (howed := fun _ _ => rfl) (V := atEntry m) (hmain := main_is_region m) (hA := A_eq m) (hΦ := fun _ _ => rfl)

/-- Every execution ends with the pipeline's arrays at what the proof data computes and every other buffer as launched. -/
theorem run_main : θ_run defs (onTc (τ := τ) (main (F := F))) (s₀ m ρ) (Pipeline.FramePost (cfgs) (dats m) 0 (atEntry m)) :=
  (θ_run defs _ _).mono (fun _ h => h.1) (run_counted m ρ)

/-- Every execution ends, the arguments unchanged and every count at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨((h.1 c).1 0).trans (((dats m 0 c).arrAt_in 0 rfl _).trans (A_eq m c 0)),
        ((h.1 c).1 1).trans (((dats m 0 c).arrAt_in 1 rfl _).trans (A_eq m c 1)),
        ((h.1 c).1 2).trans (((dats m 0 c).arrAt_in 2 rfl _).trans (A_eq m c 2)),
        ((h.1 c).1 3).trans (((dats m 0 c).arrAt_in 3 rfl _).trans (A_eq m c 3)),
        ((h.1 c).1 4).trans (((dats m 0 c).arrAt_in 4 rfl _).trans (A_eq m c 4)),
        ((h.1 c).1 5).trans (((dats m 0 c).arrAt_in 5 rfl _).trans (A_eq m c 5))⟩, h.2⟩) (run_counted m ρ)

end Cert.Proof.KI4

end
-- ==== Proof.KI4.Output.lean ====
module

/- The blocks of the argument arrays, and the eleven output arrays from the blocks the grid points leave. -/

public import proofs.«01_k».proof.Proof.KI4.Tile
public import proofs.«01_k».proof.Proof.KI4.Frame

@[expose] public section

set_option maxRecDepth 16384

noncomputable section

namespace Cert.Proof.KI4

open Cert.Kernel4Ideal Cert.Kernel4Ideal.Gen
open Idealize.ShloMosaic
open Idealize.ShloMosaic.TcCoe Idealize.ShloMosaic.Tactic
open Cert.Proof

/-! ## The windows' block indices -/

theorem index_0 : ∀ t : Fin grid0.N, win0_0.index t = ![(grid0.coords t 0).val, (grid0.coords t 1).val, 0] := by decide +kernel
theorem index_1 : ∀ t : Fin grid0.N, win0_1.index t = ![(grid0.coords t 0).val, 0, 0] := by decide +kernel
theorem index_2 : ∀ t : Fin grid0.N, win0_2.index t = ![0, 0] := by decide +kernel
theorem index_3 : ∀ t : Fin grid0.N, win0_3.index t = ![0, 0, 0] := by decide +kernel
theorem index_4 : ∀ t : Fin grid0.N, win0_4.index t = ![0, 0] := by decide +kernel
theorem index_5 : ∀ t : Fin grid0.N, win0_5.index t = ![0, 0] := by decide +kernel
theorem index_6 : ∀ t : Fin grid0.N, win0_6.index t = ![(grid0.coords t 0).val, 0, (grid0.coords t 1).val, 0] := by decide +kernel
theorem index_7 : ∀ t : Fin grid0.N, win0_7.index t = ![(grid0.coords t 0).val, 0, (grid0.coords t 1).val, 0] := by decide +kernel
theorem index_8 : ∀ t : Fin grid0.N, win0_8.index t = ![(grid0.coords t 0).val, 0, (grid0.coords t 1).val, 0] := by decide +kernel
theorem index_9 : ∀ t : Fin grid0.N, win0_9.index t = ![(grid0.coords t 0).val, 0, 0, (grid0.coords t 1).val] := by decide +kernel
theorem index_10 : ∀ t : Fin grid0.N, win0_10.index t = ![(grid0.coords t 0).val, 0, 0, (grid0.coords t 1).val] := by decide +kernel
theorem index_11 : ∀ t : Fin grid0.N, win0_11.index t = ![(grid0.coords t 0).val, (grid0.coords t 1).val, 0] := by decide +kernel
theorem index_12 : ∀ t : Fin grid0.N, win0_12.index t = ![(grid0.coords t 0).val, (grid0.coords t 1).val, 0, 0] := by decide +kernel
theorem index_13 : ∀ t : Fin grid0.N, win0_13.index t = ![(grid0.coords t 0).val, (grid0.coords t 1).val, 0] := by decide +kernel
theorem index_14 : ∀ t : Fin grid0.N, win0_14.index t = ![(grid0.coords t 0).val, 0, (grid0.coords t 1).val] := by decide +kernel
theorem index_15 : ∀ t : Fin grid0.N, win0_15.index t = ![(grid0.coords t 0).val, (grid0.coords t 1).val, 0] := by decide +kernel
theorem index_16 : ∀ t : Fin grid0.N, win0_16.index t = ![(grid0.coords t 0).val, (grid0.coords t 1).val, 0] := by decide +kernel

/-- The batch entry of a grid point, and its chunk of 512 tokens. -/
abbrev batch (t : Fin grid0.N) : Fin 8 := grid0.coords t 0
abbrev chunk (t : Fin grid0.N) : Fin 4 := grid0.coords t 1

/-- A token of the chunk, among all. -/
abbrev token (t : Fin grid0.N) (r : Fin 512) : Fin 2048 := ⟨512 * (chunk t).val + r.val, by have := (chunk t).isLt; omega⟩

variable (m : (ℓ : Loc nD τ sig) → Buf (Elt Ideal) ℓ) (c : Dev nD)

abbrev Xs : Vec Ideal S8x2048x1024 .f32 := m ((c.tc : Thread nD τ).loc main_arg0)
abbrev Ms : Vec Ideal S8x6x1024 .f32 := m ((c.tc : Thread nD τ).loc main_arg1)
abbrev Gs : Vec Ideal S1x1024 .f32 := m ((c.tc : Thread nD τ).loc main_arg2)
abbrev Ws : Vec Ideal S2x1024x4864 .bf16 := m ((c.tc : Thread nD τ).loc main_arg3)
abbrev Qs : Vec Ideal S64x1 .f32 := m ((c.tc : Thread nD τ).loc main_arg4)
abbrev Ks : Vec Ideal S1x64 .f32 := m ((c.tc : Thread nD τ).loc main_arg5)

/-! ## The blocks copied in -/

theorem block_0 (t : Fin grid0.N) (r : Fin 512) (k : Fin 1024) : blockAt m c 0 t (ix3 (0 : Fin 1) r k) = Xs m c (ix3 (batch t) (token t r) k) := by
  unfold blockAt
  blk_simp
  refine congrArg (Xs m c) ?_
  blk_ext [index_0]
  · exact Nat.add_zero _
  · show (grid0.coords t 1).val * 512 + r.val = 512 * (grid0.coords t 1).val + r.val
    omega

theorem block_1 (t : Fin grid0.N) (q : Fin 6) (k : Fin 1024) : blockAt m c 1 t (ix3 (0 : Fin 1) q k) = Ms m c (ix3 (batch t) q k) := by
  unfold blockAt
  blk_simp
  refine congrArg (Ms m c) ?_
  blk_ext [index_1]
  exact Nat.add_zero _

theorem block_2 (t : Fin grid0.N) (k : Fin 1024) : blockAt m c 2 t (ix2 (0 : Fin 1) k) = Gs m c (ix2 0 k) := by
  unfold blockAt
  blk_simp
  refine congrArg (Gs m c) ?_
  blk_ext [index_2]

theorem block_3 (t : Fin grid0.N) (k : Fin 1024) (j : Fin 4864) : blockAt m c 3 t (ix3 (0 : Fin 1) k j) = Ws m c (ix3 0 k j) := by
  unfold blockAt
  blk_simp
  refine congrArg (Ws m c) ?_
  blk_ext [index_3]

theorem block_4 (t : Fin grid0.N) (d : Fin 64) : blockAt m c 4 t (ix2 d (0 : Fin 1)) = Qs m c (ix2 d 0) := by
  unfold blockAt
  blk_simp
  refine congrArg (Qs m c) ?_
  blk_ext [index_4]

theorem block_5 (t : Fin grid0.N) (d : Fin 64) : blockAt m c 5 t (ix2 (0 : Fin 1) d) = Ks m c (ix2 0 d) := by
  unfold blockAt
  blk_simp
  refine congrArg (Ks m c) ?_
  blk_ext [index_5]

/-- A column of the packed projection of the argument arrays. -/
def packed (b : Fin 8) (s : Fin 2048) (j : Fin 4864) : EReal :=
  Projection.entry (fun b s k => Xs m c (ix3 b s k)) (fun b q k => Ms m c (ix3 b q k)) (fun k => Gs m c (ix2 0 k)) (fun k j => Ws m c (ix3 0 k j)) b s j

theorem column_ins (t : Fin grid0.N) (r : Fin 512) (j : Fin 4864) : column (ins m c t) r j = packed m c (batch t) (token t r) j := by
  unfold column packed Projection.entry row
  refine Finset.sum_congr rfl fun k _ => congrArg₂ (· * ·) ?_ (block_3 m c t k j)
  have e0 : (fun j => blockAt m c 0 t (ix3 (0 : Fin 1) r j)) = fun j => Xs m c (ix3 (batch t) (token t r) j) := funext fun j => block_0 m c t r j
  have e1 : ∀ q : Fin 6, (fun j => blockAt m c 1 t (ix3 (0 : Fin 1) q j)) = fun j => Ms m c (ix3 (batch t) q j) := fun q => funext fun j => block_1 m c t q j
  have e2 : (fun j => blockAt m c 2 t (ix2 (0 : Fin 1) j)) = fun j => Gs m c (ix2 0 j) := funext fun j => block_2 m c t j
  show Projection.hidden (fun j => blockAt m c 0 t (ix3 (0 : Fin 1) r j)) (fun j => blockAt m c 2 t (ix2 (0 : Fin 1) j))
    (fun j => blockAt m c 1 t (ix3 (0 : Fin 1) (1 : Fin 6) j)) (fun j => blockAt m c 1 t (ix3 (0 : Fin 1) (0 : Fin 6) j)) k = _
  rw [e0, e2, e1 1, e1 0]

/-! ## The output arrays -/

/-- A group of 128 positions of the chunk, among all; and a position of a group. -/
abbrev group (t : Fin grid0.N) (q : Fin 4) : Fin 16 := ⟨4 * (chunk t).val + q.val, by have := (chunk t).isLt; omega⟩
abbrev position (q : Fin 16) (l : Fin 128) : Fin 2048 := ⟨128 * q.val + l.val, by omega⟩

theorem leaves_6 (t : Fin grid0.N) (q : Fin 4) (r : Fin 512) (l : Fin 128) : (View.canon (pieces m c t).o6 (ix4 (0 : Fin 1) q r l : S1x4x512x128.Idx) : EReal)
    = packed m c (batch t) (token t r) ⟨0 + (128 * q.val + l.val), by omega⟩ * Projection.scaleA := by
  unfold pieces
  refine (left6 c _ _ _ q r l).trans ?_
  rw [column_ins m c t]

theorem array_6 (G : Vec Ideal S8x4x2048x128 .bf16) (hG : ∀ (b : Fin 8) (q : Fin 4) (s : Fin 2048) (l : Fin 128), (G (ix4 b q s l) : EReal)
      = packed m c b s ⟨0 + (128 * q.val + l.val), by omega⟩ * Projection.scaleA) : (dats m 0 c).arrAt 6 (cfg0).N = G := by
  refine (dats m 0 c).arrAt_eq_of_covers 6 G (by decide +kernel) fun t hf y => ?_
  blk_simp
  rw [after6]
  have h0 : (y 0).val < 1 := (y 0).isLt
  have ey : y = ix4 (0 : Fin 1) (y 1) (y 2) (y 3) := by
    rw [eq_ix4 y]
    congr 1
    apply Fin.ext
    show (y 0).val = 0
    omega
  rw [ey]
  refine ((leaves_6 m c t (y 1) (y 2) (y 3)).trans (hG (batch t) (y 1) (token t (y 2)) (y 3)).symm).trans (congrArg G ?_)
  blk_ext [index_6]
  · exact (Nat.add_zero _).symm
  · show 512 * (grid0.coords t 1).val + (y 2).val = (grid0.coords t 1).val * 512 + (y 2).val
    omega

theorem leaves_7 (t : Fin grid0.N) (q : Fin 4) (r : Fin 512) (l : Fin 128) : (View.canon (pieces m c t).o7 (ix4 (0 : Fin 1) q r l : S1x4x512x128.Idx) : EReal)
    = packed m c (batch t) (token t r) ⟨512 + (128 * q.val + l.val), by omega⟩ := by
  unfold pieces
  refine (left7 c _ _ _ q r l).trans ?_
  rw [column_ins m c t]

theorem array_7 (G : Vec Ideal S8x4x2048x128 .bf16) (hG : ∀ (b : Fin 8) (q : Fin 4) (s : Fin 2048) (l : Fin 128), (G (ix4 b q s l) : EReal)
      = packed m c b s ⟨512 + (128 * q.val + l.val), by omega⟩) : (dats m 0 c).arrAt 7 (cfg0).N = G := by
  refine (dats m 0 c).arrAt_eq_of_covers 7 G (by decide +kernel) fun t hf y => ?_
  blk_simp
  rw [after7]
  have h0 : (y 0).val < 1 := (y 0).isLt
  have ey : y = ix4 (0 : Fin 1) (y 1) (y 2) (y 3) := by
    rw [eq_ix4 y]
    congr 1
    apply Fin.ext
    show (y 0).val = 0
    omega
  rw [ey]
  refine ((leaves_7 m c t (y 1) (y 2) (y 3)).trans (hG (batch t) (y 1) (token t (y 2)) (y 3)).symm).trans (congrArg G ?_)
  blk_ext [index_7]
  · exact (Nat.add_zero _).symm
  · show 512 * (grid0.coords t 1).val + (y 2).val = (grid0.coords t 1).val * 512 + (y 2).val
    omega

theorem leaves_8 (t : Fin grid0.N) (q : Fin 4) (r : Fin 512) (l : Fin 128) : (View.canon (pieces m c t).o8 (ix4 (0 : Fin 1) q r l : S1x4x512x128.Idx) : EReal)
    = packed m c (batch t) (token t r) ⟨1024 + (128 * q.val + l.val), by omega⟩ := by
  unfold pieces
  refine (left8 c _ _ _ q r l).trans ?_
  rw [column_ins m c t]

theorem array_8 (G : Vec Ideal S8x4x2048x128 .bf16) (hG : ∀ (b : Fin 8) (q : Fin 4) (s : Fin 2048) (l : Fin 128), (G (ix4 b q s l) : EReal)
      = packed m c b s ⟨1024 + (128 * q.val + l.val), by omega⟩) : (dats m 0 c).arrAt 8 (cfg0).N = G := by
  refine (dats m 0 c).arrAt_eq_of_covers 8 G (by decide +kernel) fun t hf y => ?_
  blk_simp
  rw [after8]
  have h0 : (y 0).val < 1 := (y 0).isLt
  have ey : y = ix4 (0 : Fin 1) (y 1) (y 2) (y 3) := by
    rw [eq_ix4 y]
    congr 1
    apply Fin.ext
    show (y 0).val = 0
    omega
  rw [ey]
  refine ((leaves_8 m c t (y 1) (y 2) (y 3)).trans (hG (batch t) (y 1) (token t (y 2)) (y 3)).symm).trans (congrArg G ?_)
  blk_ext [index_8]
  · exact (Nat.add_zero _).symm
  · show 512 * (grid0.coords t 1).val + (y 2).val = (grid0.coords t 1).val * 512 + (y 2).val
    omega

theorem leaves_9 (t : Fin grid0.N) (h : Fin 8) (d : Fin 64) (r : Fin 512) : (View.canon (pieces m c t).o9 (ix4 (0 : Fin 1) h d r : S1x8x64x512.Idx) : EReal)
    = Projection.headNorm (fun e => packed m c (batch t) (token t r) ⟨1536 + (64 * h.val + e.val), by omega⟩) (fun e => Qs m c (ix2 e 0)) d * Projection.scaleB := by
  unfold pieces
  refine (left9 c _ _ _ h d r).trans ?_
  exact congrArg (· * Projection.scaleB) (congrArg₂ (fun v g => Projection.headNorm v g d) (funext fun e => column_ins m c t _ _) (funext fun e => block_4 m c t e))

theorem array_9 (G : Vec Ideal S8x8x64x2048 .bf16) (hG : ∀ (b h : Fin 8) (d : Fin 64) (s : Fin 2048), (G (ix4 b h d s) : EReal)
      = Projection.headNorm (fun e => packed m c b s ⟨1536 + (64 * h.val + e.val), by omega⟩) (fun e => Qs m c (ix2 e 0)) d * Projection.scaleB) : (dats m 0 c).arrAt 9 (cfg0).N = G := by
  refine (dats m 0 c).arrAt_eq_of_covers 9 G (by decide +kernel) fun t hf y => ?_
  blk_simp
  rw [after9]
  have h0 : (y 0).val < 1 := (y 0).isLt
  have ey : y = ix4 (0 : Fin 1) (y 1) (y 2) (y 3) := by
    rw [eq_ix4 y]
    congr 1
    apply Fin.ext
    show (y 0).val = 0
    omega
  rw [ey]
  refine ((leaves_9 m c t (y 1) (y 2) (y 3)).trans (hG (batch t) (y 1) (y 2) (token t (y 3))).symm).trans (congrArg G ?_)
  blk_ext [index_9]
  · exact (Nat.add_zero _).symm
  · show 512 * (grid0.coords t 1).val + (y 3).val = (grid0.coords t 1).val * 512 + (y 3).val
    omega

theorem leaves_10 (t : Fin grid0.N) (h : Fin 8) (d : Fin 64) (r : Fin 512) : (View.canon (pieces m c t).o10 (ix4 (0 : Fin 1) h d r : S1x8x64x512.Idx) : EReal)
    = packed m c (batch t) (token t r) ⟨2176 + (64 * h.val + d.val), by omega⟩ := by
  unfold pieces
  refine (left10 c _ _ _ h d r).trans ?_
  rw [column_ins m c t]

theorem array_10 (G : Vec Ideal S8x8x64x2048 .bf16) (hG : ∀ (b h : Fin 8) (d : Fin 64) (s : Fin 2048), (G (ix4 b h d s) : EReal)
      = packed m c b s ⟨2176 + (64 * h.val + d.val), by omega⟩) : (dats m 0 c).arrAt 10 (cfg0).N = G := by
  refine (dats m 0 c).arrAt_eq_of_covers 10 G (by decide +kernel) fun t hf y => ?_
  blk_simp
  rw [after10]
  have h0 : (y 0).val < 1 := (y 0).isLt
  have ey : y = ix4 (0 : Fin 1) (y 1) (y 2) (y 3) := by
    rw [eq_ix4 y]
    congr 1
    apply Fin.ext
    show (y 0).val = 0
    omega
  rw [ey]
  refine ((leaves_10 m c t (y 1) (y 2) (y 3)).trans (hG (batch t) (y 1) (y 2) (token t (y 3))).symm).trans (congrArg G ?_)
  blk_ext [index_10]
  · exact (Nat.add_zero _).symm
  · show 512 * (grid0.coords t 1).val + (y 3).val = (grid0.coords t 1).val * 512 + (y 3).val
    omega

theorem leaves_11 (t : Fin grid0.N) (r : Fin 512) (d : Fin 64) : (View.canon (pieces m c t).o11 (ix3 (0 : Fin 1) r d : S1x512x64.Idx) : EReal)
    = Projection.headNorm (fun e => packed m c (batch t) (token t r) ⟨2048 + e.val, by omega⟩) (fun e => Ks m c (ix2 0 e)) d := by
  unfold pieces
  refine (left11 c _ _ _ r d).trans ?_
  exact congrArg₂ (fun v g => Projection.headNorm v g d) (funext fun e => column_ins m c t _ _) (funext fun e => block_5 m c t e)

theorem array_11 (G : Vec Ideal S8x2048x64 .bf16) (hG : ∀ (b : Fin 8) (s : Fin 2048) (d : Fin 64), (G (ix3 b s d) : EReal)
      = Projection.headNorm (fun e => packed m c b s ⟨2048 + e.val, by omega⟩) (fun e => Ks m c (ix2 0 e)) d) : (dats m 0 c).arrAt 11 (cfg0).N = G := by
  refine (dats m 0 c).arrAt_eq_of_covers 11 G (by decide +kernel) fun t hf y => ?_
  blk_simp
  rw [after11]
  have h0 : (y 0).val < 1 := (y 0).isLt
  have ey : y = ix3 (0 : Fin 1) (y 1) (y 2) := by
    rw [eq_ix3 y]
    congr 1
    apply Fin.ext
    show (y 0).val = 0
    omega
  rw [ey]
  refine ((leaves_11 m c t (y 1) (y 2)).trans (hG (batch t) (token t (y 1)) (y 2)).symm).trans (congrArg G ?_)
  blk_ext [index_11]
  · exact (Nat.add_zero _).symm
  · show 512 * (grid0.coords t 1).val + (y 1).val = (grid0.coords t 1).val * 512 + (y 1).val
    omega

theorem leaves_12 (t : Fin grid0.N) (q : Fin 4) (d l : Fin 128) : (View.canon (pieces m c t).o12 (ix4 (0 : Fin 1) q d l : S1x4x128x128.Idx) : EReal)
    = if h : d.val < 64 then packed m c (batch t) (position (group t q) l) ⟨2112 + d.val, by omega⟩ else if d.val = 64 then 1 else 0 := by
  unfold pieces
  refine (left12 c _ _ _ q d l).trans ?_
  have hc := (chunk t).isLt
  have e : ∀ j, column (ins m c t) ⟨128 * q.val + l.val, by omega⟩ j = packed m c (batch t) (position (group t q) l) j :=
    fun j => (column_ins m c t _ j).trans (congrArg (fun s => packed m c (batch t) s j)
      (Fin.ext (by show 512 * (chunk t).val + (128 * q.val + l.val) = 128 * (4 * (chunk t).val + q.val) + l.val; omega)))
  simp only [e]

theorem array_12 (G : Vec Ideal S8x16x128x128 .bf16) (hG : ∀ (b : Fin 8) (q : Fin 16) (d l : Fin 128), (G (ix4 b q d l) : EReal)
      = if h : d.val < 64 then packed m c b (position q l) ⟨2112 + d.val, by omega⟩ else if d.val = 64 then 1 else 0) : (dats m 0 c).arrAt 12 (cfg0).N = G := by
  refine (dats m 0 c).arrAt_eq_of_covers 12 G (by decide +kernel) fun t hf y => ?_
  blk_simp
  rw [after12]
  have h0 : (y 0).val < 1 := (y 0).isLt
  have ey : y = ix4 (0 : Fin 1) (y 1) (y 2) (y 3) := by
    rw [eq_ix4 y]
    congr 1
    apply Fin.ext
    show (y 0).val = 0
    omega
  rw [ey]
  refine ((leaves_12 m c t (y 1) (y 2) (y 3)).trans (hG (batch t) (group t (y 1)) (y 2) (y 3)).symm).trans (congrArg G ?_)
  blk_ext [index_12]
  · exact (Nat.add_zero _).symm
  · show 4 * (grid0.coords t 1).val + (y 1).val = (grid0.coords t 1).val * 4 + (y 1).val
    omega

theorem leaves_13 (t : Fin grid0.N) (r : Fin 512) (d : Fin 64) : (View.canon (pieces m c t).o13 (ix3 (0 : Fin 1) r d : S1x512x64.Idx) : EReal)
    = packed m c (batch t) (token t r) ⟨2688 + d.val, by omega⟩ := by
  unfold pieces
  refine (left13 c _ _ _ r d).trans ?_
  rw [column_ins m c t]

theorem array_13 (G : Vec Ideal S8x2048x64 .bf16) (hG : ∀ (b : Fin 8) (s : Fin 2048) (d : Fin 64), (G (ix3 b s d) : EReal)
      = packed m c b s ⟨2688 + d.val, by omega⟩) : (dats m 0 c).arrAt 13 (cfg0).N = G := by
  refine (dats m 0 c).arrAt_eq_of_covers 13 G (by decide +kernel) fun t hf y => ?_
  blk_simp
  rw [after13]
  have h0 : (y 0).val < 1 := (y 0).isLt
  have ey : y = ix3 (0 : Fin 1) (y 1) (y 2) := by
    rw [eq_ix3 y]
    congr 1
    apply Fin.ext
    show (y 0).val = 0
    omega
  rw [ey]
  refine ((leaves_13 m c t (y 1) (y 2)).trans (hG (batch t) (token t (y 1)) (y 2)).symm).trans (congrArg G ?_)
  blk_ext [index_13]
  · exact (Nat.add_zero _).symm
  · show 512 * (grid0.coords t 1).val + (y 1).val = (grid0.coords t 1).val * 512 + (y 1).val
    omega

theorem leaves_14 (t : Fin grid0.N) (h : Fin 8) (r : Fin 512) : (View.canon (pieces m c t).o14 (ix3 (0 : Fin 1) h r : S1x8x512.Idx) : EReal)
    = packed m c (batch t) (token t r) ⟨2752 + h.val, by omega⟩ := by
  unfold pieces
  refine (left14 c _ _ _ h r).trans ?_
  rw [column_ins m c t]

theorem array_14 (G : Vec Ideal S8x8x2048 .f32) (hG : ∀ (b h : Fin 8) (s : Fin 2048), (G (ix3 b h s) : EReal)
      = packed m c b s ⟨2752 + h.val, by omega⟩) : (dats m 0 c).arrAt 14 (cfg0).N = G := by
  refine (dats m 0 c).arrAt_eq_of_covers 14 G (by decide +kernel) fun t hf y => ?_
  blk_simp
  rw [after14]
  have h0 : (y 0).val < 1 := (y 0).isLt
  have ey : y = ix3 (0 : Fin 1) (y 1) (y 2) := by
    rw [eq_ix3 y]
    congr 1
    apply Fin.ext
    show (y 0).val = 0
    omega
  rw [ey]
  refine ((leaves_14 m c t (y 1) (y 2)).trans (hG (batch t) (y 1) (token t (y 2))).symm).trans (congrArg G ?_)
  blk_ext [index_14]
  · exact (Nat.add_zero _).symm
  · show 512 * (grid0.coords t 1).val + (y 2).val = (grid0.coords t 1).val * 512 + (y 2).val
    omega

theorem leaves_15 (t : Fin grid0.N) (r : Fin 512) (j : Fin 1024) : (View.canon (pieces m c t).o15 (ix3 (0 : Fin 1) r j : S1x512x1024.Idx) : EReal)
    = Ideal.logistic (packed m c (batch t) (token t r) ⟨2816 + j.val, by omega⟩) := by
  unfold pieces
  refine (left15 c _ _ _ r j).trans ?_
  rw [column_ins m c t]

theorem array_15 (G : Vec Ideal S8x2048x1024 .bf16) (hG : ∀ (b : Fin 8) (s : Fin 2048) (j : Fin 1024), (G (ix3 b s j) : EReal)
      = Ideal.logistic (packed m c b s ⟨2816 + j.val, by omega⟩)) : (dats m 0 c).arrAt 15 (cfg0).N = G := by
  refine (dats m 0 c).arrAt_eq_of_covers 15 G (by decide +kernel) fun t hf y => ?_
  blk_simp
  rw [after15]
  have h0 : (y 0).val < 1 := (y 0).isLt
  have ey : y = ix3 (0 : Fin 1) (y 1) (y 2) := by
    rw [eq_ix3 y]
    congr 1
    apply Fin.ext
    show (y 0).val = 0
    omega
  rw [ey]
  refine ((leaves_15 m c t (y 1) (y 2)).trans (hG (batch t) (token t (y 1)) (y 2)).symm).trans (congrArg G ?_)
  blk_ext [index_15]
  · exact (Nat.add_zero _).symm
  · show 512 * (grid0.coords t 1).val + (y 1).val = (grid0.coords t 1).val * 512 + (y 1).val
    omega

theorem leaves_16 (t : Fin grid0.N) (r : Fin 512) (j : Fin 1024) : (View.canon (pieces m c t).o16 (ix3 (0 : Fin 1) r j : S1x512x1024.Idx) : EReal)
    = Ideal.logistic (packed m c (batch t) (token t r) ⟨3840 + j.val, by omega⟩) := by
  unfold pieces
  refine (left16 c _ _ _ r j).trans ?_
  rw [column_ins m c t]

theorem array_16 (G : Vec Ideal S8x2048x1024 .bf16) (hG : ∀ (b : Fin 8) (s : Fin 2048) (j : Fin 1024), (G (ix3 b s j) : EReal)
      = Ideal.logistic (packed m c b s ⟨3840 + j.val, by omega⟩)) : (dats m 0 c).arrAt 16 (cfg0).N = G := by
  refine (dats m 0 c).arrAt_eq_of_covers 16 G (by decide +kernel) fun t hf y => ?_
  blk_simp
  rw [after16]
  have h0 : (y 0).val < 1 := (y 0).isLt
  have ey : y = ix3 (0 : Fin 1) (y 1) (y 2) := by
    rw [eq_ix3 y]
    congr 1
    apply Fin.ext
    show (y 0).val = 0
    omega
  rw [ey]
  refine ((leaves_16 m c t (y 1) (y 2)).trans (hG (batch t) (token t (y 1)) (y 2)).symm).trans (congrArg G ?_)
  blk_ext [index_16]
  · exact (Nat.add_zero _).symm
  · show 512 * (grid0.coords t 1).val + (y 1).val = (grid0.coords t 1).val * 512 + (y 1).val
    omega

end Cert.Proof.KI4

end
-- ==== Proof.RI4.Value.lean ====
module

/- The reference of the packed projection, stage by stage, over the extended reals, and its eleven results at an entry. -/

public import proofs.«01_k».proof.Proof.Projection
public import proofs.«01_k».proof.Proof.Gen.Reference4Ideal.Run
public import Idealize.ShloMosaic.Lib.Pointwise

@[expose] public section

set_option maxRecDepth 16384

noncomputable section

namespace Cert.Proof.RI4

open Cert.Reference4Ideal Cert.Reference4Ideal.Gen
open Idealize.ShloMosaic
open Idealize.ShloMosaic.TcCoe Idealize.ShloMosaic.Tactic Idealize.SL.Sem
open Cert.Proof

abbrev Tokens := FVec Ideal S8x2048x1024 .f32
abbrev Mods := FVec Ideal S8x6x1024 .f32
abbrev Gain := FVec Ideal S1x1024 .f32
abbrev Weight := FVec Ideal S2x1024x4864 .bf16
abbrev Packed := FVec Ideal S8x2048x4864 .f32

/-! ## The stages -/

def normed (x : Tokens) : Tokens :=
  mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))

def modulated (x : Tokens) (md : Mods) (g : Gain) : Tokens :=
  addf (mulf (mulf (normed x) (broadcastInDim S8x2048x1024 ![0, 1, 2] bcast_S1x1x1024_S8x2048x1024_0_1_2 (broadcastInDim S1x1x1024 ![1, 2] bcast_S1x1024_S1x1x1024_1_2 g))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 1, 0] md slices_S8x6x1024_S8x1x1024_0_1_0)))) (broadcastInDim S8x2048x1024 ![0, 1, 2] bcast_S8x1x1024_S8x2048x1024_0_1_2 (extractStridedSlice S8x1x1024 ![0, 0, 0] md slices_S8x6x1024_S8x1x1024_0_0_0))

/-- The packed projection. -/
def packed (x : Tokens) (md : Mods) (g : Gain) (w : Weight) : Packed :=
  Host.dotGeneral dot_S8x2048x1024_S1024x4864_S8x2048x4864_2_0_01_1_n_n none (modulated x md g) (extf .f32 (shapeCast _ (extractStridedSlice S1x1024x4864 ![0, 0, 0] w slices_S2x1024x4864_S1x1024x4864_0_0_0) shapeCasts_S1x1024x4864_S1024x4864) bitsLt_bf16_f32)

def queriesA (p : Packed) : FVec Ideal S8x4x2048x128 .bf16 :=
  truncf .bf16 (transpose S8x4x2048x128 [0, 2, 1, 3] (shapeCast _ (mulf (extractStridedSlice S8x2048x512 ![0, 0, 0] p slices_S8x2048x4864_S8x2048x512_0_0_0) (broadcastInDim S8x2048x512 ![] bcast_S_S8x2048x512 (constant S_ .f32 0x3E38AA3B#32))) shapeCasts_S8x2048x512_S8x2048x4x128) transposes_S8x2048x4x128_S8x4x2048x128_0_2_1_3) bitsLt_bf16_f32
def keysA (p : Packed) : FVec Ideal S8x4x2048x128 .bf16 :=
  truncf .bf16 (transpose S8x4x2048x128 [0, 2, 1, 3] (shapeCast _ (extractStridedSlice S8x2048x512 ![0, 0, 512] p slices_S8x2048x4864_S8x2048x512_0_0_512) shapeCasts_S8x2048x512_S8x2048x4x128) transposes_S8x2048x4x128_S8x4x2048x128_0_2_1_3) bitsLt_bf16_f32
def valuesA (p : Packed) : FVec Ideal S8x4x2048x128 .bf16 :=
  truncf .bf16 (transpose S8x4x2048x128 [0, 2, 1, 3] (shapeCast _ (extractStridedSlice S8x2048x512 ![0, 0, 1024] p slices_S8x2048x4864_S8x2048x512_0_0_1024) shapeCasts_S8x2048x512_S8x2048x4x128) transposes_S8x2048x4x128_S8x4x2048x128_0_2_1_3) bitsLt_bf16_f32
def queriesB (p : Packed) (qg : FVec Ideal S64x1 .f32) : FVec Ideal S8x8x64x2048 .bf16 :=
  truncf .bf16 (transpose S8x8x64x2048 [0, 2, 3, 1] (mulf (mulf (mulf (shapeCast _ (extractStridedSlice S8x2048x512 ![0, 0, 1536] p slices_S8x2048x4864_S8x2048x512_0_0_1536) shapeCasts_S8x2048x512_S8x2048x8x64) (broadcastInDim S8x2048x8x64 ![0, 1, 2, 3] bcast_S8x2048x8x1_S8x2048x8x64_0_1_2_3 (Host.rsqrt (addf (Host.divf (broadcastInDim S8x2048x8x1 ![0, 1, 2] bcast_S8x2048x8_S8x2048x8x1_0_1_2 (Host.reduceAdd (mulf (shapeCast _ (extractStridedSlice S8x2048x512 ![0, 0, 1536] p slices_S8x2048x4864_S8x2048x512_0_0_1536) shapeCasts_S8x2048x512_S8x2048x8x64) (shapeCast _ (extractStridedSlice S8x2048x512 ![0, 0, 1536] p slices_S8x2048x4864_S8x2048x512_0_0_1536) shapeCasts_S8x2048x512_S8x2048x8x64)) (constant S_ .f32 0x00000000#32) reducesTo_S8x2048x8x64_S8x2048x8_d3 h_S_)) (broadcastInDim S8x2048x8x1 ![] bcast_S_S8x2048x8x1 (constant S_ .f32 0x42800000#32))) (broadcastInDim S8x2048x8x1 ![] bcast_S_S8x2048x8x1 (constant S_ .f32 0x358637BD#32)))))) (broadcastInDim S8x2048x8x64 ![0, 1, 2, 3] bcast_S1x1x1x64_S8x2048x8x64_0_1_2_3 (broadcastInDim S1x1x1x64 ![3] bcast_S64_S1x1x1x64_3 (shapeCast _ qg shapeCasts_S64x1_S64)))) (broadcastInDim S8x2048x8x64 ![] bcast_S_S8x2048x8x64 (constant S_ .f32 0x3E000000#32))) transposes_S8x2048x8x64_S8x8x64x2048_0_2_3_1) bitsLt_bf16_f32
def indexQueries (p : Packed) : FVec Ideal S8x8x64x2048 .bf16 :=
  truncf .bf16 (transpose S8x8x64x2048 [0, 2, 3, 1] (shapeCast _ (extractStridedSlice S8x2048x512 ![0, 0, 2176] p slices_S8x2048x4864_S8x2048x512_0_0_2176) shapeCasts_S8x2048x512_S8x2048x8x64) transposes_S8x2048x8x64_S8x8x64x2048_0_2_3_1) bitsLt_bf16_f32
def keysB (p : Packed) (kg : FVec Ideal S1x64 .f32) : FVec Ideal S8x2048x64 .bf16 :=
  truncf .bf16 (mulf (mulf (extractStridedSlice S8x2048x64 ![0, 0, 2048] p slices_S8x2048x4864_S8x2048x64_0_0_2048) (broadcastInDim S8x2048x64 ![0, 1, 2] bcast_S8x2048x1_S8x2048x64_0_1_2 (Host.rsqrt (addf (Host.divf (broadcastInDim S8x2048x1 ![0, 1] bcast_S8x2048_S8x2048x1_0_1 (Host.reduceAdd (mulf (extractStridedSlice S8x2048x64 ![0, 0, 2048] p slices_S8x2048x4864_S8x2048x64_0_0_2048) (extractStridedSlice S8x2048x64 ![0, 0, 2048] p slices_S8x2048x4864_S8x2048x64_0_0_2048)) (constant S_ .f32 0x00000000#32) reducesTo_S8x2048x64_S8x2048_d2 h_S_)) (broadcastInDim S8x2048x1 ![] bcast_S_S8x2048x1 (constant S_ .f32 0x42800000#32))) (broadcastInDim S8x2048x1 ![] bcast_S_S8x2048x1 (constant S_ .f32 0x358637BD#32)))))) (broadcastInDim S8x2048x64 ![0, 1, 2] bcast_S1x1x64_S8x2048x64_0_1_2 (broadcastInDim S1x1x64 ![1, 2] bcast_S1x64_S1x1x64_1_2 kg))) bitsLt_bf16_f32
/-- The values, a one and zeros, along the lanes. -/
def extended (p : Packed) : FVec Ideal S8x2048x128 .f32 :=
  concatenate S8x2048x128 2 [⟨S8x2048x64, ((extractStridedSlice S8x2048x64 ![0, 0, 2112] p slices_S8x2048x4864_S8x2048x64_0_0_2112) : (⟨S8x2048x64, .f32⟩ : BufTy).Contents (Elt Ideal))⟩, ⟨S8x2048x1, ((broadcastInDim S8x2048x1 ![] bcast_S_S8x2048x1 (constant (F := Ideal) S_ .f32 0x3F800000#32)) : (⟨S8x2048x1, .f32⟩ : BufTy).Contents (Elt Ideal))⟩, ⟨S8x2048x63, ((broadcastInDim S8x2048x63 ![] bcast_S_S8x2048x63 (constant (F := Ideal) S_ .f32 0x00000000#32)) : (⟨S8x2048x63, .f32⟩ : BufTy).Contents (Elt Ideal))⟩] concatenates_S8x2048x64_S8x2048x1_S8x2048x63_S8x2048x128_d2
def valuesB (p : Packed) : FVec Ideal S8x16x128x128 .bf16 :=
  truncf .bf16 (transpose S8x16x128x128 [0, 1, 3, 2] (shapeCast _ (extended p) shapeCasts_S8x2048x128_S8x16x128x128) transposes_S8x16x128x128_S8x16x128x128_0_1_3_2) bitsLt_bf16_f32
def indexKeys (p : Packed) : FVec Ideal S8x2048x64 .bf16 :=
  truncf .bf16 (extractStridedSlice S8x2048x64 ![0, 0, 2688] p slices_S8x2048x4864_S8x2048x64_0_0_2688) bitsLt_bf16_f32
def indexWeights (p : Packed) : FVec Ideal S8x8x2048 .f32 :=
  transpose S8x8x2048 [0, 2, 1] (extractStridedSlice S8x2048x8 ![0, 0, 2752] p slices_S8x2048x4864_S8x2048x8_0_0_2752) transposes_S8x2048x8_S8x8x2048_0_2_1
def gateA (p : Packed) : FVec Ideal S8x2048x1024 .bf16 :=
  truncf .bf16 (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 2816] p slices_S8x2048x4864_S8x2048x1024_0_0_2816))))) bitsLt_bf16_f32
def gateB (p : Packed) : FVec Ideal S8x2048x1024 .bf16 :=
  truncf .bf16 (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 3840] p slices_S8x2048x4864_S8x2048x1024_0_0_3840))))) bitsLt_bf16_f32

/-- The packed projection of the argument arrays. -/
abbrev packedOf (m : (ℓ : Loc nD τ sig) → Buf (Elt Ideal) ℓ) (c : Dev nD) : Packed :=
  packed (m ((c.tc : Thread nD τ).loc main_arg0)) (m ((c.tc : Thread nD τ).loc main_arg1)) (m ((c.tc : Thread nD τ).loc main_arg2)) (m ((c.tc : Thread nD τ).loc main_arg3))

/-- The reference's run: the results, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = queriesA (packedOf m c)
      ∧ r.2.mem ((c.tc : Thread nD τ).loc main_v67) = keysA (packedOf m c)
      ∧ r.2.mem ((c.tc : Thread nD τ).loc main_v70) = valuesA (packedOf m c)
      ∧ r.2.mem ((c.tc : Thread nD τ).loc main_v72) = queriesB (packedOf m c) (m ((c.tc : Thread nD τ).loc main_arg4))
      ∧ r.2.mem ((c.tc : Thread nD τ).loc main_v75) = indexQueries (packedOf m c)
      ∧ r.2.mem ((c.tc : Thread nD τ).loc main_v89) = keysB (packedOf m c) (m ((c.tc : Thread nD τ).loc main_arg5))
      ∧ r.2.mem ((c.tc : Thread nD τ).loc main_v59) = valuesB (packedOf m c)
      ∧ r.2.mem ((c.tc : Thread nD τ).loc main_v90) = indexKeys (packedOf m c)
      ∧ r.2.mem ((c.tc : Thread nD τ).loc main_v91) = indexWeights (packedOf m c)
      ∧ r.2.mem ((c.tc : Thread nD τ).loc main_v98) = gateA (packedOf m c)
      ∧ r.2.mem ((c.tc : Thread nD τ).loc main_v105) = gateB (packedOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

/-! ## The stages at an entry -/

section Entries

variable (x : Tokens) (md : Mods) (g : Gain) (w : Weight) (p : Packed) (qg : FVec Ideal S64x1 .f32) (kg : FVec Ideal S1x64 .f32)

theorem normed_apply (b : Fin 8) (s : Fin 2048) (k : Fin 1024) : (normed x (ix3 b s k) : EReal) = x (ix3 b s k) * Ideal.rsqrt
    (Ideal.div (∑ j : Fin 1024, (x (ix3 b s j) : EReal) * x (ix3 b s j)) (Ideal.ofBits FTy.f32 0x44800000#32) + Ideal.ofBits FTy.f32 0x358637BD#32) := by
  unfold normed
  pointwise

theorem modulated_apply (b : Fin 8) (s : Fin 2048) (k : Fin 1024) : (modulated x md g (ix3 b s k) : EReal)
    = Projection.hidden (fun j => x (ix3 b s j)) (fun j => g (ix2 0 j)) (fun j => md (ix3 b 1 j)) (fun j => md (ix3 b 0 j)) k := by
  unfold modulated Projection.hidden
  pointwise [normed_apply]

theorem packed_apply (b : Fin 8) (s : Fin 2048) (j : Fin 4864) : (packed x md g w (ix3 b s j) : EReal)
    = Projection.entry (fun b s k => x (ix3 b s k)) (fun b q k => md (ix3 b q k)) (fun k => g (ix2 0 k)) (fun k j => w (ix3 0 k j)) b s j := by
  unfold packed Projection.entry
  pointwise [modulated_apply]

theorem queriesA_apply (b : Fin 8) (q : Fin 4) (s : Fin 2048) (l : Fin 128) :
    (queriesA p (ix4 b q s l) : EReal) = (p (ix3 b s ⟨q.val * 128 + l.val, by omega⟩) : EReal) * Projection.scaleA := by
  unfold queriesA Projection.scaleA
  pointwise

theorem keysA_apply (b : Fin 8) (q : Fin 4) (s : Fin 2048) (l : Fin 128) :
    (keysA p (ix4 b q s l) : EReal) = p (ix3 b s ⟨512 + (q.val * 128 + l.val), by omega⟩) := by
  unfold keysA
  pointwise

theorem valuesA_apply (b : Fin 8) (q : Fin 4) (s : Fin 2048) (l : Fin 128) :
    (valuesA p (ix4 b q s l) : EReal) = p (ix3 b s ⟨1024 + (q.val * 128 + l.val), by omega⟩) := by
  unfold valuesA
  pointwise

theorem queriesB_apply (b h : Fin 8) (d : Fin 64) (s : Fin 2048) : (queriesB p qg (ix4 b h d s) : EReal)
    = Projection.headNorm (fun e => p (ix3 b s ⟨1536 + (h.val * 64 + e.val), by omega⟩)) (fun e => qg (ix2 e 0)) d * Projection.scaleB := by
  unfold queriesB Projection.headNorm Projection.scaleB
  pointwise

theorem indexQueries_apply (b h : Fin 8) (d : Fin 64) (s : Fin 2048) :
    (indexQueries p (ix4 b h d s) : EReal) = p (ix3 b s ⟨2176 + (h.val * 64 + d.val), by omega⟩) := by
  unfold indexQueries
  pointwise

theorem keysB_apply (b : Fin 8) (s : Fin 2048) (d : Fin 64) : (keysB p kg (ix3 b s d) : EReal)
    = Projection.headNorm (fun e => p (ix3 b s ⟨2048 + e.val, by omega⟩)) (fun e => kg (ix2 0 e)) d := by
  unfold keysB Projection.headNorm
  pointwise

theorem extended_apply (b : Fin 8) (s : Fin 2048) (d : Fin 128) : (extended p (ix3 b s d) : EReal)
    = if h : d.val < 64 then (p (ix3 b s ⟨2112 + d.val, by omega⟩) : EReal) else if d.val = 64 then 1 else 0 := by
  unfold extended
  pointwise
  by_cases h : d.val < 64
  · rw [dif_pos h, dif_pos h]
  · rw [dif_neg h, dif_neg h]
    by_cases h' : d.val = 64
    · rw [if_pos h', dif_pos (by omega)]
    · rw [if_neg h', dif_neg (by omega)]

theorem valuesB_apply (b : Fin 8) (q : Fin 16) (d l : Fin 128) :
    (valuesB p (ix4 b q d l) : EReal) = extended p (ix3 b ⟨q.val * 128 + l.val, by omega⟩ d) := by
  unfold valuesB
  pointwise

theorem indexKeys_apply (b : Fin 8) (s : Fin 2048) (d : Fin 64) : (indexKeys p (ix3 b s d) : EReal) = p (ix3 b s ⟨2688 + d.val, by omega⟩) := by
  unfold indexKeys
  pointwise

theorem indexWeights_apply (b h : Fin 8) (s : Fin 2048) : (indexWeights p (ix3 b h s) : EReal) = p (ix3 b s ⟨2752 + h.val, by omega⟩) := by
  unfold indexWeights
  pointwise

theorem gateA_apply (b : Fin 8) (s : Fin 2048) (j : Fin 1024) : (gateA p (ix3 b s j) : EReal) = Ideal.logistic (p (ix3 b s ⟨2816 + j.val, by omega⟩)) := by
  unfold gateA Ideal.logistic
  pointwise

theorem gateB_apply (b : Fin 8) (s : Fin 2048) (j : Fin 1024) : (gateB p (ix3 b s j) : EReal) = Ideal.logistic (p (ix3 b s ⟨3840 + j.val, by omega⟩)) := by
  unfold gateB Ideal.logistic
  pointwise

end Entries

end Cert.Proof.RI4

end
-- ==== Proof.Match4.lean ====
/- The projection's kernel against its reference: every output array is the reference's result. -/
module

public import proofs.«01_k».proof.Proof.KI4.Output
public import proofs.«01_k».proof.Proof.RI4.Value

@[expose] public section

set_option maxRecDepth 16384

noncomputable section

namespace Cert.Proof.Match4

open Cert.Kernel4Ideal Cert.Kernel4Ideal.Gen Cert.Proof.KI4
open Idealize.ShloMosaic
open Idealize.ShloMosaic.TcCoe Idealize.ShloMosaic.Tactic

variable (m : (ℓ : Loc nD τ sig) → Buf (Elt Ideal) ℓ) (c : Dev nD)

/-- The reference's packed projection of the kernel's arguments. -/
abbrev whole : RI4.Packed := RI4.packed (Xs m c) (Ms m c) (Gs m c) (Ws m c)

/-- A column of the reference's packed projection is the kernel's. -/
theorem packed_eq (b : Fin 8) (s : Fin 2048) (j : Fin 4864) : (whole m c (ix3 b s j) : EReal) = packed m c b s j :=
  RI4.packed_apply (Xs m c) (Ms m c) (Gs m c) (Ws m c) b s j

theorem at_eq (b : Fin 8) (s : Fin 2048) (i j : Fin 4864) (h : i.val = j.val) : (whole m c (ix3 b s i) : EReal) = packed m c b s j :=
  (packed_eq m c b s i).trans (congrArg (packed m c b s) (Fin.ext h))

theorem array_eq_6 : (dats m 0 c).arrAt 6 (cfg0).N = RI4.queriesA (whole m c) :=
  array_6 m c _ fun b q s l => (RI4.queriesA_apply _ b q s l).trans
    (congrArg (· * Projection.scaleA) (at_eq m c b s _ _ (show q.val * 128 + l.val = 0 + (128 * q.val + l.val) by omega)))

theorem array_eq_7 : (dats m 0 c).arrAt 7 (cfg0).N = RI4.keysA (whole m c) :=
  array_7 m c _ fun b q s l => (RI4.keysA_apply _ b q s l).trans
    (at_eq m c b s _ _ (show 512 + (q.val * 128 + l.val) = 512 + (128 * q.val + l.val) by omega))

theorem array_eq_8 : (dats m 0 c).arrAt 8 (cfg0).N = RI4.valuesA (whole m c) :=
  array_8 m c _ fun b q s l => (RI4.valuesA_apply _ b q s l).trans
    (at_eq m c b s _ _ (show 1024 + (q.val * 128 + l.val) = 1024 + (128 * q.val + l.val) by omega))

theorem array_eq_9 : (dats m 0 c).arrAt 9 (cfg0).N = RI4.queriesB (whole m c) (Qs m c) :=
  array_9 m c _ fun b h d s => (RI4.queriesB_apply _ (Qs m c) b h d s).trans
    (congrArg (· * Projection.scaleB) (congrArg (fun v => Projection.headNorm v (fun e => Qs m c (ix2 e 0)) d)
      (funext fun e => at_eq m c b s _ _ (show 1536 + (h.val * 64 + e.val) = 1536 + (64 * h.val + e.val) by omega))))

theorem array_eq_10 : (dats m 0 c).arrAt 10 (cfg0).N = RI4.indexQueries (whole m c) :=
  array_10 m c _ fun b h d s => (RI4.indexQueries_apply _ b h d s).trans
    (at_eq m c b s _ _ (show 2176 + (h.val * 64 + d.val) = 2176 + (64 * h.val + d.val) by omega))

theorem array_eq_11 : (dats m 0 c).arrAt 11 (cfg0).N = RI4.keysB (whole m c) (Ks m c) :=
  array_11 m c _ fun b s d => (RI4.keysB_apply _ (Ks m c) b s d).trans
    (congrArg (fun v => Projection.headNorm v (fun e => Ks m c (ix2 0 e)) d) (funext fun e => at_eq m c b s _ _ rfl))

theorem array_eq_12 : (dats m 0 c).arrAt 12 (cfg0).N = RI4.valuesB (whole m c) := by
  refine array_12 m c _ fun b q d l => ?_
  refine (RI4.valuesB_apply _ b q d l).trans ((RI4.extended_apply _ b _ d).trans ?_)
  have e : (⟨q.val * 128 + l.val, by omega⟩ : Fin 2048) = position q l := Fin.ext (by show q.val * 128 + l.val = 128 * q.val + l.val; omega)
  by_cases h : d.val < 64
  · rw [dif_pos h, dif_pos h, e]
    exact packed_eq m c b _ _
  · rw [dif_neg h, dif_neg h]

theorem array_eq_13 : (dats m 0 c).arrAt 13 (cfg0).N = RI4.indexKeys (whole m c) :=
  array_13 m c _ fun b s d => (RI4.indexKeys_apply _ b s d).trans (at_eq m c b s _ _ rfl)

theorem array_eq_14 : (dats m 0 c).arrAt 14 (cfg0).N = RI4.indexWeights (whole m c) :=
  array_14 m c _ fun b h s => (RI4.indexWeights_apply _ b h s).trans (at_eq m c b s _ _ rfl)

theorem array_eq_15 : (dats m 0 c).arrAt 15 (cfg0).N = RI4.gateA (whole m c) :=
  array_15 m c _ fun b s j => (RI4.gateA_apply _ b s j).trans (congrArg Ideal.logistic (at_eq m c b s _ _ rfl))

theorem array_eq_16 : (dats m 0 c).arrAt 16 (cfg0).N = RI4.gateB (whole m c) :=
  array_16 m c _ fun b s j => (RI4.gateB_apply _ b s j).trans (congrArg Ideal.logistic (at_eq m c b s _ _ rfl))

end Cert.Proof.Match4

end
-- ==== Proof.KI5.Body.lean ====
/- The second layer's projection at one grid point. The layer is in the launch alone: the function is the first layer's,
   and so is what it stores. -/
module

public import proofs.«01_k».proof.Proof.KI4.Body
public import proofs.«01_k».proof.Proof.Gen.Kernel5Ideal.Skeleton
public import proofs.«01_k».proof.Proof.Gen.Kernel5Ideal.Launch
public import proofs.«01_k».proof.Proof.Gen.Kernel5Ideal.Points
public import Idealize.ShloMosaic.Lib.Tactic
public import Idealize.ShloMosaic.Lib.Ring
public import Idealize.ShloMosaic.Lib.Pipeline.FrameBody
public import Idealize.ShloMosaic.Adequacy
public import Idealize.ShloMosaic.Init

@[expose] public section

set_option maxRecDepth 16384

noncomputable section

namespace Cert.Proof.KI5

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.KI4 (UR 𝒱₀ Inputs Pieces)

variable {F : FTy → Type} [FloatOps F]

local notation "𝕄" => MT nD τ sig Unit (Elt F) ℕ (UR nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The windows of a grid point: the tokens, the modulation, the first norm's gain, the weights, the two head norms'
    gains, and the eleven results. -/
structure Windows where
  M0 : Memref sig .tc .vmem S1x512x1024 .f32
  h0 : M0.IsWhole
  M1 : Memref sig .tc .vmem S1x6x1024 .f32
  h1 : M1.IsWhole
  M2 : Memref sig .tc .vmem S1x1024 .f32
  h2 : M2.IsWhole
  M3 : Memref sig .tc .vmem S1x1024x4864 .bf16
  h3 : M3.IsWhole
  M4 : Memref sig .tc .vmem S64x1 .f32
  h4 : M4.IsWhole
  M5 : Memref sig .tc .vmem S1x64 .f32
  h5 : M5.IsWhole
  M6 : Memref sig .tc .vmem S1x4x512x128 .bf16
  h6 : M6.IsWhole
  M7 : Memref sig .tc .vmem S1x4x512x128 .bf16
  h7 : M7.IsWhole
  M8 : Memref sig .tc .vmem S1x4x512x128 .bf16
  h8 : M8.IsWhole
  M9 : Memref sig .tc .vmem S1x8x64x512 .bf16
  h9 : M9.IsWhole
  M10 : Memref sig .tc .vmem S1x8x64x512 .bf16
  h10 : M10.IsWhole
  M11 : Memref sig .tc .vmem S1x512x64 .bf16
  h11 : M11.IsWhole
  M12 : Memref sig .tc .vmem S1x4x128x128 .bf16
  h12 : M12.IsWhole
  M13 : Memref sig .tc .vmem S1x512x64 .bf16
  h13 : M13.IsWhole
  M14 : Memref sig .tc .vmem S1x8x512 .f32
  h14 : M14.IsWhole
  M15 : Memref sig .tc .vmem S1x512x1024 .bf16
  h15 : M15.IsWhole
  M16 : Memref sig .tc .vmem S1x512x1024 .bf16
  h16 : M16.IsWhole

/-- The same windows, of the first layer's program. -/
abbrev Windows.first (W : Windows) : KI4.Windows :=
  ⟨W.M0, W.h0, W.M1, W.h1, W.M2, W.h2, W.M3, W.h3, W.M4, W.h4, W.M5, W.h5, W.M6, W.h6, W.M7, W.h7, W.M8, W.h8, W.M9, W.h9, W.M10, W.h10, W.M11, W.h11, W.M12, W.h12, W.M13, W.h13, W.M14, W.h14, W.M15, W.h15, W.M16, W.h16⟩

/-- The six windows read, at their contents. -/
def read (c : Dev nD) (W : Windows) (X : Inputs F) : sProp 𝕄 :=
  iprop(owns (c : Thread nD τ) W.M0 fullShare X.x0 ∗ owns (c : Thread nD τ) W.M1 fullShare X.x1 ∗ owns (c : Thread nD τ) W.M2 fullShare X.x2 ∗ owns (c : Thread nD τ) W.M3 fullShare X.x3 ∗ owns (c : Thread nD τ) W.M4 fullShare X.x4 ∗ owns (c : Thread nD τ) W.M5 fullShare X.x5)

/-- The eleven windows written, at some contents. -/
def unwritten (c : Dev nD) (W : Windows) : sProp 𝕄 :=
  iprop((∃ d, owns (c : Thread nD τ) W.M6 fullShare d)
    ∗ (∃ d, owns (c : Thread nD τ) W.M7 fullShare d)
    ∗ (∃ d, owns (c : Thread nD τ) W.M8 fullShare d)
    ∗ (∃ d, owns (c : Thread nD τ) W.M9 fullShare d)
    ∗ (∃ d, owns (c : Thread nD τ) W.M10 fullShare d)
    ∗ (∃ d, owns (c : Thread nD τ) W.M11 fullShare d)
    ∗ (∃ d, owns (c : Thread nD τ) W.M12 fullShare d)
    ∗ (∃ d, owns (c : Thread nD τ) W.M13 fullShare d)
    ∗ (∃ d, owns (c : Thread nD τ) W.M14 fullShare d)
    ∗ (∃ d, owns (c : Thread nD τ) W.M15 fullShare d)
    ∗ (∃ d, owns (c : Thread nD τ) W.M16 fullShare d))

/-- The eleven windows written, each with its pieces stored over some contents. -/
def written (c : Dev nD) (W : Windows) (O : Pieces F) : sProp 𝕄 :=
  iprop((∃ f, pt c W.M6 (W.M6.view.writes (Elt F) f O.o6))
    ∗ (∃ f, pt c W.M7 (W.M7.view.writes (Elt F) f O.o7))
    ∗ (∃ f, pt c W.M8 (W.M8.view.writes (Elt F) f O.o8))
    ∗ (∃ f, pt c W.M9 (W.M9.view.writes (Elt F) f O.o9))
    ∗ (∃ f, pt c W.M10 (W.M10.view.writes (Elt F) f O.o10))
    ∗ (∃ f, pt c W.M11 (W.M11.view.writes (Elt F) f O.o11))
    ∗ (∃ f, pt c W.M12 (W.M12.view.writes (Elt F) f O.o12))
    ∗ (∃ f, pt c W.M13 (W.M13.view.writes (Elt F) f O.o13))
    ∗ (∃ f, pt c W.M14 (W.M14.view.writes (Elt F) f O.o14))
    ∗ (∃ f, pt c W.M15 (W.M15.view.writes (Elt F) f O.o15))
    ∗ (∃ f, pt c W.M16 (W.M16.view.writes (Elt F) f O.o16)))

/-- What the function's run from a grid point's windows stores, WITH the proof that it runs so. -/
structure Body (c : Dev nD) (i : grid0.Coords) (W : Windows) (X : Inputs F) where
  out : Pieces F
  run : ∀ (Q : PUnit → sProp 𝕄),
    iprop(read c W X ∗ unwritten c W ∗ (iprop(read c W X ∗ written c W out) -∗ Q ⟨⟩))
      ⊢ wp frame (wpE (defs₀ (F := F)) 𝒱₀ c none) Set.univ
          (cc0_in_proj i W.M0 W.h0 W.M1 W.h1 W.M2 W.h2 W.M3 W.h3 W.M4 W.h4 W.M5 W.h5 W.M6 W.h6 W.M7 W.h7 W.M8 W.h8 W.M9 W.h9 W.M10 W.h10 W.M11 W.h11 W.M12 W.h12 W.M13 W.h13 W.M14 W.h14 W.M15 W.h15 W.M16 W.h16) Q

/-- The function's run: the two programs print the same function, so the two statements are one. -/
def bodyRun (c : Dev nD) (i : grid0.Coords) (W : Windows) (X : Inputs F) : Body c i W X where
  out := (KI4.bodyRun c i W.first X).out
  run Q := by
    have h := (KI4.bodyRun c i W.first X).run Q
    refine Eq.mp ?_ h
    sl_kernel_rfl

end Cert.Proof.KI5

end
-- ==== Proof.KI5.Frame.lean ====
/- The projections' launch: what each grid point leaves in the results' staging buffers, the pipeline's proof data over it,
   the body's obligation, and the frame — every execution ends, with the six arguments unchanged and no count pending. -/
module

public import proofs.«01_k».proof.Proof.KI5.Body
public import Idealize.ShloMosaic.Lib.Claim

@[expose] public section

set_option maxRecDepth 16384

noncomputable section

namespace Cert.Proof.KI5

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.KI4 (UR 𝒱₀ Inputs Pieces)
open Idealize.ShloMosaic.Pipeline (Dat Cfg Window BodyObligation cellOf)

variable {F : FTy → Type} [FloatOps F]

local notation "𝕄" => MT nD τ sig Unit (Elt F) ℕ (UR nD τ) ℕ

variable (m : (ℓ : Loc nD τ sig) → Buf (Elt F) ℓ) (ρ : Dev nD → PrngReg)

/-- Core `c`'s buffers as the region finds them: as launched, the region being all of the main program. -/
abbrev atEntry (c : Dev nD) (b : Ref sig .tc) : Buf (Elt F) ((c : Thread nD τ).loc b) := m ((c : Thread nD τ).loc b)

theorem main_is_region : Pipeline.HMain (Ix := Unit) (Name := ℕ) (U := UR nD τ) (Lvl := ℕ) (cfgs) 0 defs₀ 𝒱₀ m (main (F := F)) (atEntry m) :=
  Pipeline.hmain_region (cfgs) 0 defs₀ 𝒱₀ m main fun c => (main_chain c).trans rfl

/-- Window `w`'s block at point `t`, of its array as launched. -/
def blockAt (c : Dev nD) (w : Fin (cfg0).W) (t : Fin (cfg0).N) : (((cfg0).win w).xblock ((cfg0).grid.coords t)).Idx → Elt F ((cfg0).win w).elt :=
  (((cfg0).win w).blk t).view.read (Elt F) (atEntry m c (Pipeline.arrRef spec0 w))

/-! ## The windows' staging buffers at a point, and what is stored there -/

abbrev wins (t : Fin (cfg0).N) : Windows :=
  ⟨win0_0.stage ((cfg0).slots t 0), hstage0_0 (((cfg0).slots t 0).cast nbuf0_0),
    win0_1.stage ((cfg0).slots t 1), hstage0_1 (((cfg0).slots t 1).cast nbuf0_1),
    win0_2.stage ((cfg0).slots t 2), hstage0_2 (((cfg0).slots t 2).cast nbuf0_2),
    win0_3.stage ((cfg0).slots t 3), hstage0_3 (((cfg0).slots t 3).cast nbuf0_3),
    win0_4.stage ((cfg0).slots t 4), hstage0_4 (((cfg0).slots t 4).cast nbuf0_4),
    win0_5.stage ((cfg0).slots t 5), hstage0_5 (((cfg0).slots t 5).cast nbuf0_5),
    win0_6.stage ((cfg0).slots t 6), hstage0_6 (((cfg0).slots t 6).cast nbuf0_6),
    win0_7.stage ((cfg0).slots t 7), hstage0_7 (((cfg0).slots t 7).cast nbuf0_7),
    win0_8.stage ((cfg0).slots t 8), hstage0_8 (((cfg0).slots t 8).cast nbuf0_8),
    win0_9.stage ((cfg0).slots t 9), hstage0_9 (((cfg0).slots t 9).cast nbuf0_9),
    win0_10.stage ((cfg0).slots t 10), hstage0_10 (((cfg0).slots t 10).cast nbuf0_10),
    win0_11.stage ((cfg0).slots t 11), hstage0_11 (((cfg0).slots t 11).cast nbuf0_11),
    win0_12.stage ((cfg0).slots t 12), hstage0_12 (((cfg0).slots t 12).cast nbuf0_12),
    win0_13.stage ((cfg0).slots t 13), hstage0_13 (((cfg0).slots t 13).cast nbuf0_13),
    win0_14.stage ((cfg0).slots t 14), hstage0_14 (((cfg0).slots t 14).cast nbuf0_14),
    win0_15.stage ((cfg0).slots t 15), hstage0_15 (((cfg0).slots t 15).cast nbuf0_15),
    win0_16.stage ((cfg0).slots t 16), hstage0_16 (((cfg0).slots t 16).cast nbuf0_16)⟩

/-- The blocks copied in for point `t`. -/
abbrev ins (c : Dev nD) (t : Fin (cfg0).N) : Inputs F :=
  ⟨blockAt m c 0 t, blockAt m c 1 t, blockAt m c 2 t, blockAt m c 3 t, blockAt m c 4 t, blockAt m c 5 t⟩

/-- The pieces point `t` stores. -/
@[irreducible] def pieces (c : Dev nD) (t : Fin (cfg0).N) : Pieces F := (bodyRun c (grid0.coords t) (wins t) (ins m c t)).out

/-! The pieces cover the windows. -/

theorem cover6 (c : Dev nD) (t : Fin (cfg0).N) (y : S1x4x512x128.Idx) : ∃ p ∈ (pieces m c t).o6, y ∈ p.1.set := by
  unfold pieces
  exact View.cover_of_tiledL (bodyRun c (grid0.coords t) (wins t) (ins m c t)).out.o6 S1x1x512x128.size (by sl_kernel_rfl) y

theorem cover7 (c : Dev nD) (t : Fin (cfg0).N) (y : S1x4x512x128.Idx) : ∃ p ∈ (pieces m c t).o7, y ∈ p.1.set := by
  unfold pieces
  exact View.cover_of_tiledL (bodyRun c (grid0.coords t) (wins t) (ins m c t)).out.o7 S1x1x512x128.size (by sl_kernel_rfl) y

theorem cover8 (c : Dev nD) (t : Fin (cfg0).N) (y : S1x4x512x128.Idx) : ∃ p ∈ (pieces m c t).o8, y ∈ p.1.set := by
  unfold pieces
  exact View.cover_of_tiledL (bodyRun c (grid0.coords t) (wins t) (ins m c t)).out.o8 S1x1x512x128.size (by sl_kernel_rfl) y

theorem cover9 (c : Dev nD) (t : Fin (cfg0).N) (y : S1x8x64x512.Idx) : ∃ p ∈ (pieces m c t).o9, y ∈ p.1.set := by
  unfold pieces
  exact View.cover_of_tiledL (bodyRun c (grid0.coords t) (wins t) (ins m c t)).out.o9 S1x1x64x512.size (by sl_kernel_rfl) y

theorem cover10 (c : Dev nD) (t : Fin (cfg0).N) (y : S1x8x64x512.Idx) : ∃ p ∈ (pieces m c t).o10, y ∈ p.1.set := by
  unfold pieces
  exact View.cover_of_tiledL (bodyRun c (grid0.coords t) (wins t) (ins m c t)).out.o10 S1x1x64x512.size (by sl_kernel_rfl) y

theorem cover11 (c : Dev nD) (t : Fin (cfg0).N) (y : S1x512x64.Idx) : ∃ p ∈ (pieces m c t).o11, y ∈ p.1.set := by
  unfold pieces
  exact View.cover_of_tiledL (bodyRun c (grid0.coords t) (wins t) (ins m c t)).out.o11 S1x512x64.size (by sl_kernel_rfl) y

theorem cover12 (c : Dev nD) (t : Fin (cfg0).N) (y : S1x4x128x128.Idx) : ∃ p ∈ (pieces m c t).o12, y ∈ p.1.set := by
  unfold pieces
  exact View.cover_of_tiledL (bodyRun c (grid0.coords t) (wins t) (ins m c t)).out.o12 S1x1x64x128.size (by sl_kernel_rfl) y

theorem cover13 (c : Dev nD) (t : Fin (cfg0).N) (y : S1x512x64.Idx) : ∃ p ∈ (pieces m c t).o13, y ∈ p.1.set := by
  unfold pieces
  exact View.cover_of_tiledL (bodyRun c (grid0.coords t) (wins t) (ins m c t)).out.o13 S1x512x64.size (by sl_kernel_rfl) y

theorem cover14 (c : Dev nD) (t : Fin (cfg0).N) (y : S1x8x512.Idx) : ∃ p ∈ (pieces m c t).o14, y ∈ p.1.set := by
  unfold pieces
  exact View.cover_of_tiledL (bodyRun c (grid0.coords t) (wins t) (ins m c t)).out.o14 S1x8x512.size (by sl_kernel_rfl) y

theorem cover15 (c : Dev nD) (t : Fin (cfg0).N) (y : S1x512x1024.Idx) : ∃ p ∈ (pieces m c t).o15, y ∈ p.1.set := by
  unfold pieces
  exact View.cover_of_tiledL (bodyRun c (grid0.coords t) (wins t) (ins m c t)).out.o15 S1x512x1024.size (by sl_kernel_rfl) y

theorem cover16 (c : Dev nD) (t : Fin (cfg0).N) (y : S1x512x1024.Idx) : ∃ p ∈ (pieces m c t).o16, y ∈ p.1.set := by
  unfold pieces
  exact View.cover_of_tiledL (bodyRun c (grid0.coords t) (wins t) (ins m c t)).out.o16 S1x512x1024.size (by sl_kernel_rfl) y

/-- The pipeline's proof data: the arrays as launched; after the body each input's buffer at its block and each result's at
    what its pieces leave; the generator's register at some contents between the points. -/
def dats (_ : Fin 1) (c : Dev nD) : Dat τ (Elt F) Unit ℕ (UR nD τ) ℕ (cfg0) c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => View.canon (pieces m c t).o6
    | ⟨7, _⟩ => View.canon (pieces m c t).o7
    | ⟨8, _⟩ => View.canon (pieces m c t).o8
    | ⟨9, _⟩ => View.canon (pieces m c t).o9
    | ⟨10, _⟩ => View.canon (pieces m c t).o10
    | ⟨11, _⟩ => View.canon (pieces m c t).o11
    | ⟨12, _⟩ => View.canon (pieces m c t).o12
    | ⟨13, _⟩ => View.canon (pieces m c t).o13
    | ⟨14, _⟩ => View.canon (pieces m c t).o14
    | ⟨15, _⟩ => View.canon (pieces m c t).o15
    | ⟨16, _⟩ => View.canon (pieces m c t).o16
    | ⟨_ + 17, h⟩ => absurd h (Nat.not_lt.2 (Nat.le_add_left _ _))
  Φ _ := Pipeline.ΦA spec0 c
  q _ := fullShare
  owed _ := 0

theorem A_eq (c : Dev nD) (w : Fin (cfg0).W) : (dats m 0 c).A w = atEntry m c (Pipeline.arrRef spec0 w) := by dsimp only [dats]

theorem after0 (c : Dev nD) (t : Fin (cfg0).N) : (dats m 0 c).after 0 t = blockAt m c 0 t := rfl
theorem after1 (c : Dev nD) (t : Fin (cfg0).N) : (dats m 0 c).after 1 t = blockAt m c 1 t := rfl
theorem after2 (c : Dev nD) (t : Fin (cfg0).N) : (dats m 0 c).after 2 t = blockAt m c 2 t := rfl
theorem after3 (c : Dev nD) (t : Fin (cfg0).N) : (dats m 0 c).after 3 t = blockAt m c 3 t := rfl
theorem after4 (c : Dev nD) (t : Fin (cfg0).N) : (dats m 0 c).after 4 t = blockAt m c 4 t := rfl
theorem after5 (c : Dev nD) (t : Fin (cfg0).N) : (dats m 0 c).after 5 t = blockAt m c 5 t := rfl
theorem after6 (c : Dev nD) (t : Fin (cfg0).N) : (dats m 0 c).after 6 t = View.canon (pieces m c t).o6 := rfl
theorem after7 (c : Dev nD) (t : Fin (cfg0).N) : (dats m 0 c).after 7 t = View.canon (pieces m c t).o7 := rfl
theorem after8 (c : Dev nD) (t : Fin (cfg0).N) : (dats m 0 c).after 8 t = View.canon (pieces m c t).o8 := rfl
theorem after9 (c : Dev nD) (t : Fin (cfg0).N) : (dats m 0 c).after 9 t = View.canon (pieces m c t).o9 := rfl
theorem after10 (c : Dev nD) (t : Fin (cfg0).N) : (dats m 0 c).after 10 t = View.canon (pieces m c t).o10 := rfl
theorem after11 (c : Dev nD) (t : Fin (cfg0).N) : (dats m 0 c).after 11 t = View.canon (pieces m c t).o11 := rfl
theorem after12 (c : Dev nD) (t : Fin (cfg0).N) : (dats m 0 c).after 12 t = View.canon (pieces m c t).o12 := rfl
theorem after13 (c : Dev nD) (t : Fin (cfg0).N) : (dats m 0 c).after 13 t = View.canon (pieces m c t).o13 := rfl
theorem after14 (c : Dev nD) (t : Fin (cfg0).N) : (dats m 0 c).after 14 t = View.canon (pieces m c t).o14 := rfl
theorem after15 (c : Dev nD) (t : Fin (cfg0).N) : (dats m 0 c).after 15 t = View.canon (pieces m c t).o15 := rfl
theorem after16 (c : Dev nD) (t : Fin (cfg0).N) : (dats m 0 c).after 16 t = View.canon (pieces m c t).o16 := rfl

theorem before0 (c : Dev nD) (t : Fin (cfg0).N) (d) : (dats m 0 c).before 0 t d = blockAt m c 0 t :=
  ((dats m 0 c).before_in_eq_fetched 0 rfl (fun _ => rfl) (fun _ _ _ => rfl) (fun t => by rw [after0]; unfold Dat.blockOf blockAt; rw [A_eq]; try rfl) t d).trans
    (by unfold Dat.fetched Dat.blockOf blockAt; rw [A_eq]; try rfl)
theorem before1 (c : Dev nD) (t : Fin (cfg0).N) (d) : (dats m 0 c).before 1 t d = blockAt m c 1 t :=
  ((dats m 0 c).before_in_eq_fetched 1 rfl (fun _ => rfl) (fun _ _ _ => rfl) (fun t => by rw [after1]; unfold Dat.blockOf blockAt; rw [A_eq]; try rfl) t d).trans
    (by unfold Dat.fetched Dat.blockOf blockAt; rw [A_eq]; try rfl)
theorem before2 (c : Dev nD) (t : Fin (cfg0).N) (d) : (dats m 0 c).before 2 t d = blockAt m c 2 t :=
  ((dats m 0 c).before_in_eq_fetched 2 rfl (fun _ => rfl) (fun _ _ _ => rfl) (fun t => by rw [after2]; unfold Dat.blockOf blockAt; rw [A_eq]; try rfl) t d).trans
    (by unfold Dat.fetched Dat.blockOf blockAt; rw [A_eq]; try rfl)
theorem before3 (c : Dev nD) (t : Fin (cfg0).N) (d) : (dats m 0 c).before 3 t d = blockAt m c 3 t :=
  ((dats m 0 c).before_in_eq_fetched 3 rfl (fun _ => rfl) (fun _ _ _ => rfl) (fun t => by rw [after3]; unfold Dat.blockOf blockAt; rw [A_eq]; try rfl) t d).trans
    (by unfold Dat.fetched Dat.blockOf blockAt; rw [A_eq]; try rfl)
theorem before4 (c : Dev nD) (t : Fin (cfg0).N) (d) : (dats m 0 c).before 4 t d = blockAt m c 4 t :=
  ((dats m 0 c).before_in_eq_fetched 4 rfl (fun _ => rfl) (fun _ _ _ => rfl) (fun t => by rw [after4]; unfold Dat.blockOf blockAt; rw [A_eq]; try rfl) t d).trans
    (by unfold Dat.fetched Dat.blockOf blockAt; rw [A_eq]; try rfl)
theorem before5 (c : Dev nD) (t : Fin (cfg0).N) (d) : (dats m 0 c).before 5 t d = blockAt m c 5 t :=
  ((dats m 0 c).before_in_eq_fetched 5 rfl (fun _ => rfl) (fun _ _ _ => rfl) (fun t => by rw [after5]; unfold Dat.blockOf blockAt; rw [A_eq]; try rfl) t d).trans
    (by unfold Dat.fetched Dat.blockOf blockAt; rw [A_eq]; try rfl)

/-! ## The body at a point -/

/-- What the body is called with at point `t`, -/
def bodyPre (c : Dev nD) (t : Fin (cfg0).N) : sProp 𝕄 :=
  iprop((dats m 0 c).Φ t.castSucc ∗ (dats m 0 c).owesAt () t.castSucc
    ∗ (∃ d, owns (c : Thread nD τ) (wins t).M0 fullShare ((dats m 0 c).before 0 t d))
    ∗ (∃ d, owns (c : Thread nD τ) (wins t).M1 fullShare ((dats m 0 c).before 1 t d))
    ∗ (∃ d, owns (c : Thread nD τ) (wins t).M2 fullShare ((dats m 0 c).before 2 t d))
    ∗ (∃ d, owns (c : Thread nD τ) (wins t).M3 fullShare ((dats m 0 c).before 3 t d))
    ∗ (∃ d, owns (c : Thread nD τ) (wins t).M4 fullShare ((dats m 0 c).before 4 t d))
    ∗ (∃ d, owns (c : Thread nD τ) (wins t).M5 fullShare ((dats m 0 c).before 5 t d))
    ∗ (∃ d, owns (c : Thread nD τ) (wins t).M6 fullShare ((dats m 0 c).before 6 t d))
    ∗ (∃ d, owns (c : Thread nD τ) (wins t).M7 fullShare ((dats m 0 c).before 7 t d))
    ∗ (∃ d, owns (c : Thread nD τ) (wins t).M8 fullShare ((dats m 0 c).before 8 t d))
    ∗ (∃ d, owns (c : Thread nD τ) (wins t).M9 fullShare ((dats m 0 c).before 9 t d))
    ∗ (∃ d, owns (c : Thread nD τ) (wins t).M10 fullShare ((dats m 0 c).before 10 t d))
    ∗ (∃ d, owns (c : Thread nD τ) (wins t).M11 fullShare ((dats m 0 c).before 11 t d))
    ∗ (∃ d, owns (c : Thread nD τ) (wins t).M12 fullShare ((dats m 0 c).before 12 t d))
    ∗ (∃ d, owns (c : Thread nD τ) (wins t).M13 fullShare ((dats m 0 c).before 13 t d))
    ∗ (∃ d, owns (c : Thread nD τ) (wins t).M14 fullShare ((dats m 0 c).before 14 t d))
    ∗ (∃ d, owns (c : Thread nD τ) (wins t).M15 fullShare ((dats m 0 c).before 15 t d))
    ∗ (∃ d, owns (c : Thread nD τ) (wins t).M16 fullShare ((dats m 0 c).before 16 t d)))

/-- and what it returns. -/
def bodyPost (c : Dev nD) (t : Fin (cfg0).N) : sProp 𝕄 :=
  iprop((dats m 0 c).Φ t.succ ∗ (dats m 0 c).owesAt () t.succ
    ∗ owns (c : Thread nD τ) (wins t).M0 fullShare ((dats m 0 c).after 0 t)
    ∗ owns (c : Thread nD τ) (wins t).M1 fullShare ((dats m 0 c).after 1 t)
    ∗ owns (c : Thread nD τ) (wins t).M2 fullShare ((dats m 0 c).after 2 t)
    ∗ owns (c : Thread nD τ) (wins t).M3 fullShare ((dats m 0 c).after 3 t)
    ∗ owns (c : Thread nD τ) (wins t).M4 fullShare ((dats m 0 c).after 4 t)
    ∗ owns (c : Thread nD τ) (wins t).M5 fullShare ((dats m 0 c).after 5 t)
    ∗ owns (c : Thread nD τ) (wins t).M6 fullShare ((dats m 0 c).after 6 t)
    ∗ owns (c : Thread nD τ) (wins t).M7 fullShare ((dats m 0 c).after 7 t)
    ∗ owns (c : Thread nD τ) (wins t).M8 fullShare ((dats m 0 c).after 8 t)
    ∗ owns (c : Thread nD τ) (wins t).M9 fullShare ((dats m 0 c).after 9 t)
    ∗ owns (c : Thread nD τ) (wins t).M10 fullShare ((dats m 0 c).after 10 t)
    ∗ owns (c : Thread nD τ) (wins t).M11 fullShare ((dats m 0 c).after 11 t)
    ∗ owns (c : Thread nD τ) (wins t).M12 fullShare ((dats m 0 c).after 12 t)
    ∗ owns (c : Thread nD τ) (wins t).M13 fullShare ((dats m 0 c).after 13 t)
    ∗ owns (c : Thread nD τ) (wins t).M14 fullShare ((dats m 0 c).after 14 t)
    ∗ owns (c : Thread nD τ) (wins t).M15 fullShare ((dats m 0 c).after 15 t)
    ∗ owns (c : Thread nD τ) (wins t).M16 fullShare ((dats m 0 c).after 16 t))

/-- The stored pieces, as the windows' contents. -/
theorem written_owns (c : Dev nD) (t : Fin (cfg0).N) : written c (wins t) (pieces m c t)
    ⊢ iprop(owns (c : Thread nD τ) (wins t).M6 fullShare (View.canon (pieces m c t).o6) ∗ owns (c : Thread nD τ) (wins t).M7 fullShare (View.canon (pieces m c t).o7) ∗ owns (c : Thread nD τ) (wins t).M8 fullShare (View.canon (pieces m c t).o8) ∗ owns (c : Thread nD τ) (wins t).M9 fullShare (View.canon (pieces m c t).o9) ∗ owns (c : Thread nD τ) (wins t).M10 fullShare (View.canon (pieces m c t).o10) ∗ owns (c : Thread nD τ) (wins t).M11 fullShare (View.canon (pieces m c t).o11) ∗ owns (c : Thread nD τ) (wins t).M12 fullShare (View.canon (pieces m c t).o12) ∗ owns (c : Thread nD τ) (wins t).M13 fullShare (View.canon (pieces m c t).o13) ∗ owns (c : Thread nD τ) (wins t).M14 fullShare (View.canon (pieces m c t).o14) ∗ owns (c : Thread nD τ) (wins t).M15 fullShare (View.canon (pieces m c t).o15) ∗ owns (c : Thread nD τ) (wins t).M16 fullShare (View.canon (pieces m c t).o16)) := by
  unfold written owns
  iintro ⟨⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  isplitl [H6]
  · iexists _; isplitr; swap; · iexact H6
    ipureintro; exact View.read_writes_eq_canon _ _ _ (cover6 m c t)
  isplitl [H7]
  · iexists _; isplitr; swap; · iexact H7
    ipureintro; exact View.read_writes_eq_canon _ _ _ (cover7 m c t)
  isplitl [H8]
  · iexists _; isplitr; swap; · iexact H8
    ipureintro; exact View.read_writes_eq_canon _ _ _ (cover8 m c t)
  isplitl [H9]
  · iexists _; isplitr; swap; · iexact H9
    ipureintro; exact View.read_writes_eq_canon _ _ _ (cover9 m c t)
  isplitl [H10]
  · iexists _; isplitr; swap; · iexact H10
    ipureintro; exact View.read_writes_eq_canon _ _ _ (cover10 m c t)
  isplitl [H11]
  · iexists _; isplitr; swap; · iexact H11
    ipureintro; exact View.read_writes_eq_canon _ _ _ (cover11 m c t)
  isplitl [H12]
  · iexists _; isplitr; swap; · iexact H12
    ipureintro; exact View.read_writes_eq_canon _ _ _ (cover12 m c t)
  isplitl [H13]
  · iexists _; isplitr; swap; · iexact H13
    ipureintro; exact View.read_writes_eq_canon _ _ _ (cover13 m c t)
  isplitl [H14]
  · iexists _; isplitr; swap; · iexact H14
    ipureintro; exact View.read_writes_eq_canon _ _ _ (cover14 m c t)
  isplitl [H15]
  · iexists _; isplitr; swap; · iexact H15
    ipureintro; exact View.read_writes_eq_canon _ _ _ (cover15 m c t)
  iexists _; isplitr; swap; · iexact H16
  ipureintro; exact View.read_writes_eq_canon _ _ _ (cover16 m c t)

set_option maxHeartbeats 1600000 in
theorem body_at (c : Dev nD) (t : Fin (cfg0).N) :
    bodyPre m c t ⊢ wp frame (wpE (defs₀ (F := F)) 𝒱₀ c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((bodyRun c (grid0.coords t) (wins t) (ins m c t)).run _)
  isplitl [H0 H1 H2 H3 H4 H5]
  · unfold read
    isplitl [H0]; · iexact H0
    isplitl [H1]; · iexact H1
    isplitl [H2]; · iexact H2
    isplitl [H3]; · iexact H3
    isplitl [H4]; · iexact H4
    iexact H5
  isplitl [H6 H7 H8 H9 H10 H11 H12 H13 H14 H15 H16]
  · unfold unwritten
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16
  iintro ⟨HR, HW⟩
  ihave HW := (show written c (wins t) (bodyRun c (grid0.coords t) (wins t) (ins m c t)).out ⊢ _ from by
    have h := written_owns m c t; unfold pieces at h; exact h) $$ HW
  unfold read
  icases HR with ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold pieces
  iexact HW

theorem body_row (t : Fin (cfg0).N) :
    defs₀ (F := F) .tc (cfg0).body ((cfg0).bodyArgs t ((cfg0).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, body_row]
  exact triple_restated (body_at m c t) rfl .rfl fun _ => .rfl

/-! ## The run -/

-- the launch theorem's implicit arguments are found by unifying its conclusion with this one, which unfolds plain
-- definitions in a metavariable's type
set_option backward.isDefEq.respectTransparency.types false in
theorem run_counted : θ_run defs (onTc (τ := τ) (main (F := F))) (s₀ m ρ) (fun r => (Pipeline.FramePost (cfgs) (dats m) 0 (atEntry m)) r ∧ r.2.sem = fun _ => 0) :=
  Pipeline.θ_run_frame (Q' := _) (cfgs) (dats m) (0 : Fin 1) launch0 defs₀ 𝒱₀ m ρ main
    (hbody := fun c => (body_obligation m c).loose) (hshare := fun c => (dats m 0 c).share_full fun _ => rfl)
    (howed := fun _ _ => rfl) (V := atEntry m) (hmain := main_is_region m) (hA := A_eq m) (hΦ := fun _ _ => rfl)

/-- Every execution ends with the pipeline's arrays at what the proof data computes and every other buffer as launched. -/
theorem run_main : θ_run defs (onTc (τ := τ) (main (F := F))) (s₀ m ρ) (Pipeline.FramePost (cfgs) (dats m) 0 (atEntry m)) :=
  (θ_run defs _ _).mono (fun _ h => h.1) (run_counted m ρ)

/-- Every execution ends, the arguments unchanged and every count at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨((h.1 c).1 0).trans (((dats m 0 c).arrAt_in 0 rfl _).trans (A_eq m c 0)),
        ((h.1 c).1 1).trans (((dats m 0 c).arrAt_in 1 rfl _).trans (A_eq m c 1)),
        ((h.1 c).1 2).trans (((dats m 0 c).arrAt_in 2 rfl _).trans (A_eq m c 2)),
        ((h.1 c).1 3).trans (((dats m 0 c).arrAt_in 3 rfl _).trans (A_eq m c 3)),
        ((h.1 c).1 4).trans (((dats m 0 c).arrAt_in 4 rfl _).trans (A_eq m c 4)),
        ((h.1 c).1 5).trans (((dats m 0 c).arrAt_in 5 rfl _).trans (A_eq m c 5))⟩, h.2⟩) (run_counted m ρ)

end Cert.Proof.KI5

end
-- ==== Proof.KI5.Output.lean ====
module

/- The blocks of the argument arrays, and the eleven output arrays from the blocks the grid points leave:
   the first layer's, of the second layer's weight. -/

public import proofs.«01_k».proof.Proof.KI4.Output
public import proofs.«01_k».proof.Proof.KI5.Frame

@[expose] public section

set_option maxRecDepth 16384

noncomputable section

namespace Cert.Proof.KI5

open Cert.Kernel5Ideal Cert.Kernel5Ideal.Gen
open Idealize.ShloMosaic
open Idealize.ShloMosaic.TcCoe Idealize.ShloMosaic.Tactic
open Cert.Proof
open Cert.Proof.KI4 (column row)

/-! ## The windows' block indices -/

theorem index_0 : ∀ t : Fin grid0.N, win0_0.index t = ![(grid0.coords t 0).val, (grid0.coords t 1).val, 0] := by decide +kernel
theorem index_1 : ∀ t : Fin grid0.N, win0_1.index t = ![(grid0.coords t 0).val, 0, 0] := by decide +kernel
theorem index_2 : ∀ t : Fin grid0.N, win0_2.index t = ![0, 0] := by decide +kernel
theorem index_3 : ∀ t : Fin grid0.N, win0_3.index t = ![1, 0, 0] := by decide +kernel
theorem index_4 : ∀ t : Fin grid0.N, win0_4.index t = ![0, 0] := by decide +kernel
theorem index_5 : ∀ t : Fin grid0.N, win0_5.index t = ![0, 0] := by decide +kernel
theorem index_6 : ∀ t : Fin grid0.N, win0_6.index t = ![(grid0.coords t 0).val, 0, (grid0.coords t 1).val, 0] := by decide +kernel
theorem index_7 : ∀ t : Fin grid0.N, win0_7.index t = ![(grid0.coords t 0).val, 0, (grid0.coords t 1).val, 0] := by decide +kernel
theorem index_8 : ∀ t : Fin grid0.N, win0_8.index t = ![(grid0.coords t 0).val, 0, (grid0.coords t 1).val, 0] := by decide +kernel
theorem index_9 : ∀ t : Fin grid0.N, win0_9.index t = ![(grid0.coords t 0).val, 0, 0, (grid0.coords t 1).val] := by decide +kernel
theorem index_10 : ∀ t : Fin grid0.N, win0_10.index t = ![(grid0.coords t 0).val, 0, 0, (grid0.coords t 1).val] := by decide +kernel
theorem index_11 : ∀ t : Fin grid0.N, win0_11.index t = ![(grid0.coords t 0).val, (grid0.coords t 1).val, 0] := by decide +kernel
theorem index_12 : ∀ t : Fin grid0.N, win0_12.index t = ![(grid0.coords t 0).val, (grid0.coords t 1).val, 0, 0] := by decide +kernel
theorem index_13 : ∀ t : Fin grid0.N, win0_13.index t = ![(grid0.coords t 0).val, (grid0.coords t 1).val, 0] := by decide +kernel
theorem index_14 : ∀ t : Fin grid0.N, win0_14.index t = ![(grid0.coords t 0).val, 0, (grid0.coords t 1).val] := by decide +kernel
theorem index_15 : ∀ t : Fin grid0.N, win0_15.index t = ![(grid0.coords t 0).val, (grid0.coords t 1).val, 0] := by decide +kernel
theorem index_16 : ∀ t : Fin grid0.N, win0_16.index t = ![(grid0.coords t 0).val, (grid0.coords t 1).val, 0] := by decide +kernel

/-- The batch entry of a grid point, and its chunk of 512 tokens. -/
abbrev batch (t : Fin grid0.N) : Fin 8 := grid0.coords t 0
abbrev chunk (t : Fin grid0.N) : Fin 4 := grid0.coords t 1

/-- A token of the chunk, among all. -/
abbrev token (t : Fin grid0.N) (r : Fin 512) : Fin 2048 := ⟨512 * (chunk t).val + r.val, by have := (chunk t).isLt; omega⟩

variable (m : (ℓ : Loc nD τ sig) → Buf (Elt Ideal) ℓ) (c : Dev nD)

abbrev Xs : Vec Ideal S8x2048x1024 .f32 := m ((c.tc : Thread nD τ).loc main_arg0)
abbrev Ms : Vec Ideal S8x6x1024 .f32 := m ((c.tc : Thread nD τ).loc main_arg1)
abbrev Gs : Vec Ideal S1x1024 .f32 := m ((c.tc : Thread nD τ).loc main_arg2)
abbrev Ws : Vec Ideal S2x1024x4864 .bf16 := m ((c.tc : Thread nD τ).loc main_arg3)
abbrev Qs : Vec Ideal S64x1 .f32 := m ((c.tc : Thread nD τ).loc main_arg4)
abbrev Ks : Vec Ideal S1x64 .f32 := m ((c.tc : Thread nD τ).loc main_arg5)

/-! ## The blocks copied in -/

theorem block_0 (t : Fin grid0.N) (r : Fin 512) (k : Fin 1024) : blockAt m c 0 t (ix3 (0 : Fin 1) r k) = Xs m c (ix3 (batch t) (token t r) k) := by
  unfold blockAt
  blk_simp
  refine congrArg (Xs m c) ?_
  blk_ext [index_0]
  · exact Nat.add_zero _
  · show (grid0.coords t 1).val * 512 + r.val = 512 * (grid0.coords t 1).val + r.val
    omega

theorem block_1 (t : Fin grid0.N) (q : Fin 6) (k : Fin 1024) : blockAt m c 1 t (ix3 (0 : Fin 1) q k) = Ms m c (ix3 (batch t) q k) := by
  unfold blockAt
  blk_simp
  refine congrArg (Ms m c) ?_
  blk_ext [index_1]
  exact Nat.add_zero _

theorem block_2 (t : Fin grid0.N) (k : Fin 1024) : blockAt m c 2 t (ix2 (0 : Fin 1) k) = Gs m c (ix2 0 k) := by
  unfold blockAt
  blk_simp
  refine congrArg (Gs m c) ?_
  blk_ext [index_2]

theorem block_3 (t : Fin grid0.N) (k : Fin 1024) (j : Fin 4864) : blockAt m c 3 t (ix3 (0 : Fin 1) k j) = Ws m c (ix3 1 k j) := by
  unfold blockAt
  blk_simp
  refine congrArg (Ws m c) ?_
  blk_ext [index_3]

theorem block_4 (t : Fin grid0.N) (d : Fin 64) : blockAt m c 4 t (ix2 d (0 : Fin 1)) = Qs m c (ix2 d 0) := by
  unfold blockAt
  blk_simp
  refine congrArg (Qs m c) ?_
  blk_ext [index_4]

theorem block_5 (t : Fin grid0.N) (d : Fin 64) : blockAt m c 5 t (ix2 (0 : Fin 1) d) = Ks m c (ix2 0 d) := by
  unfold blockAt
  blk_simp
  refine congrArg (Ks m c) ?_
  blk_ext [index_5]

/-- A column of the packed projection of the argument arrays. -/
def packed (b : Fin 8) (s : Fin 2048) (j : Fin 4864) : EReal :=
  Projection.entry (fun b s k => Xs m c (ix3 b s k)) (fun b q k => Ms m c (ix3 b q k)) (fun k => Gs m c (ix2 0 k)) (fun k j => Ws m c (ix3 1 k j)) b s j

theorem column_ins (t : Fin grid0.N) (r : Fin 512) (j : Fin 4864) : column (ins m c t) r j = packed m c (batch t) (token t r) j := by
  unfold column packed Projection.entry row
  refine Finset.sum_congr rfl fun k _ => congrArg₂ (· * ·) ?_ (block_3 m c t k j)
  have e0 : (fun j => blockAt m c 0 t (ix3 (0 : Fin 1) r j)) = fun j => Xs m c (ix3 (batch t) (token t r) j) := funext fun j => block_0 m c t r j
  have e1 : ∀ q : Fin 6, (fun j => blockAt m c 1 t (ix3 (0 : Fin 1) q j)) = fun j => Ms m c (ix3 (batch t) q j) := fun q => funext fun j => block_1 m c t q j
  have e2 : (fun j => blockAt m c 2 t (ix2 (0 : Fin 1) j)) = fun j => Gs m c (ix2 0 j) := funext fun j => block_2 m c t j
  show Projection.hidden (fun j => blockAt m c 0 t (ix3 (0 : Fin 1) r j)) (fun j => blockAt m c 2 t (ix2 (0 : Fin 1) j))
    (fun j => blockAt m c 1 t (ix3 (0 : Fin 1) (1 : Fin 6) j)) (fun j => blockAt m c 1 t (ix3 (0 : Fin 1) (0 : Fin 6) j)) k = _
  rw [e0, e2, e1 1, e1 0]

/-! ## The output arrays -/

/-- A group of 128 positions of the chunk, among all; and a position of a group. -/
abbrev group (t : Fin grid0.N) (q : Fin 4) : Fin 16 := ⟨4 * (chunk t).val + q.val, by have := (chunk t).isLt; omega⟩
abbrev position (q : Fin 16) (l : Fin 128) : Fin 2048 := ⟨128 * q.val + l.val, by omega⟩

theorem leaves_6 (t : Fin grid0.N) (q : Fin 4) (r : Fin 512) (l : Fin 128) : (View.canon (pieces m c t).o6 (ix4 (0 : Fin 1) q r l : S1x4x512x128.Idx) : EReal)
    = packed m c (batch t) (token t r) ⟨0 + (128 * q.val + l.val), by omega⟩ * Projection.scaleA := by
  unfold pieces
  refine (KI4.left6 c (grid0.coords t) (wins t).first (ins m c t) q r l).trans ?_
  rw [column_ins m c t]

theorem array_6 (G : Vec Ideal S8x4x2048x128 .bf16) (hG : ∀ (b : Fin 8) (q : Fin 4) (s : Fin 2048) (l : Fin 128), (G (ix4 b q s l) : EReal)
      = packed m c b s ⟨0 + (128 * q.val + l.val), by omega⟩ * Projection.scaleA) : (dats m 0 c).arrAt 6 (cfg0).N = G := by
  refine (dats m 0 c).arrAt_eq_of_covers 6 G (by decide +kernel) fun t hf y => ?_
  blk_simp
  rw [after6]
  have h0 : (y 0).val < 1 := (y 0).isLt
  have ey : y = ix4 (0 : Fin 1) (y 1) (y 2) (y 3) := by
    rw [eq_ix4 y]
    congr 1
    apply Fin.ext
    show (y 0).val = 0
    omega
  rw [ey]
  refine ((leaves_6 m c t (y 1) (y 2) (y 3)).trans (hG (batch t) (y 1) (token t (y 2)) (y 3)).symm).trans (congrArg G ?_)
  blk_ext [index_6]
  · exact (Nat.add_zero _).symm
  · show 512 * (grid0.coords t 1).val + (y 2).val = (grid0.coords t 1).val * 512 + (y 2).val
    omega

theorem leaves_7 (t : Fin grid0.N) (q : Fin 4) (r : Fin 512) (l : Fin 128) : (View.canon (pieces m c t).o7 (ix4 (0 : Fin 1) q r l : S1x4x512x128.Idx) : EReal)
    = packed m c (batch t) (token t r) ⟨512 + (128 * q.val + l.val), by omega⟩ := by
  unfold pieces
  refine (KI4.left7 c (grid0.coords t) (wins t).first (ins m c t) q r l).trans ?_
  rw [column_ins m c t]

theorem array_7 (G : Vec Ideal S8x4x2048x128 .bf16) (hG : ∀ (b : Fin 8) (q : Fin 4) (s : Fin 2048) (l : Fin 128), (G (ix4 b q s l) : EReal)
      = packed m c b s ⟨512 + (128 * q.val + l.val), by omega⟩) : (dats m 0 c).arrAt 7 (cfg0).N = G := by
  refine (dats m 0 c).arrAt_eq_of_covers 7 G (by decide +kernel) fun t hf y => ?_
  blk_simp
  rw [after7]
  have h0 : (y 0).val < 1 := (y 0).isLt
  have ey : y = ix4 (0 : Fin 1) (y 1) (y 2) (y 3) := by
    rw [eq_ix4 y]
    congr 1
    apply Fin.ext
    show (y 0).val = 0
    omega
  rw [ey]
  refine ((leaves_7 m c t (y 1) (y 2) (y 3)).trans (hG (batch t) (y 1) (token t (y 2)) (y 3)).symm).trans (congrArg G ?_)
  blk_ext [index_7]
  · exact (Nat.add_zero _).symm
  · show 512 * (grid0.coords t 1).val + (y 2).val = (grid0.coords t 1).val * 512 + (y 2).val
    omega

theorem leaves_8 (t : Fin grid0.N) (q : Fin 4) (r : Fin 512) (l : Fin 128) : (View.canon (pieces m c t).o8 (ix4 (0 : Fin 1) q r l : S1x4x512x128.Idx) : EReal)
    = packed m c (batch t) (token t r) ⟨1024 + (128 * q.val + l.val), by omega⟩ := by
  unfold pieces
  refine (KI4.left8 c (grid0.coords t) (wins t).first (ins m c t) q r l).trans ?_
  rw [column_ins m c t]

theorem array_8 (G : Vec Ideal S8x4x2048x128 .bf16) (hG : ∀ (b : Fin 8) (q : Fin 4) (s : Fin 2048) (l : Fin 128), (G (ix4 b q s l) : EReal)
      = packed m c b s ⟨1024 + (128 * q.val + l.val), by omega⟩) : (dats m 0 c).arrAt 8 (cfg0).N = G := by
  refine (dats m 0 c).arrAt_eq_of_covers 8 G (by decide +kernel) fun t hf y => ?_
  blk_simp
  rw [after8]
  have h0 : (y 0).val < 1 := (y 0).isLt
  have ey : y = ix4 (0 : Fin 1) (y 1) (y 2) (y 3) := by
    rw [eq_ix4 y]
    congr 1
    apply Fin.ext
    show (y 0).val = 0
    omega
  rw [ey]
  refine ((leaves_8 m c t (y 1) (y 2) (y 3)).trans (hG (batch t) (y 1) (token t (y 2)) (y 3)).symm).trans (congrArg G ?_)
  blk_ext [index_8]
  · exact (Nat.add_zero _).symm
  · show 512 * (grid0.coords t 1).val + (y 2).val = (grid0.coords t 1).val * 512 + (y 2).val
    omega

theorem leaves_9 (t : Fin grid0.N) (h : Fin 8) (d : Fin 64) (r : Fin 512) : (View.canon (pieces m c t).o9 (ix4 (0 : Fin 1) h d r : S1x8x64x512.Idx) : EReal)
    = Projection.headNorm (fun e => packed m c (batch t) (token t r) ⟨1536 + (64 * h.val + e.val), by omega⟩) (fun e => Qs m c (ix2 e 0)) d * Projection.scaleB := by
  unfold pieces
  refine (KI4.left9 c (grid0.coords t) (wins t).first (ins m c t) h d r).trans ?_
  exact congrArg (· * Projection.scaleB) (congrArg₂ (fun v g => Projection.headNorm v g d) (funext fun e => column_ins m c t _ _) (funext fun e => block_4 m c t e))

theorem array_9 (G : Vec Ideal S8x8x64x2048 .bf16) (hG : ∀ (b h : Fin 8) (d : Fin 64) (s : Fin 2048), (G (ix4 b h d s) : EReal)
      = Projection.headNorm (fun e => packed m c b s ⟨1536 + (64 * h.val + e.val), by omega⟩) (fun e => Qs m c (ix2 e 0)) d * Projection.scaleB) : (dats m 0 c).arrAt 9 (cfg0).N = G := by
  refine (dats m 0 c).arrAt_eq_of_covers 9 G (by decide +kernel) fun t hf y => ?_
  blk_simp
  rw [after9]
  have h0 : (y 0).val < 1 := (y 0).isLt
  have ey : y = ix4 (0 : Fin 1) (y 1) (y 2) (y 3) := by
    rw [eq_ix4 y]
    congr 1
    apply Fin.ext
    show (y 0).val = 0
    omega
  rw [ey]
  refine ((leaves_9 m c t (y 1) (y 2) (y 3)).trans (hG (batch t) (y 1) (y 2) (token t (y 3))).symm).trans (congrArg G ?_)
  blk_ext [index_9]
  · exact (Nat.add_zero _).symm
  · show 512 * (grid0.coords t 1).val + (y 3).val = (grid0.coords t 1).val * 512 + (y 3).val
    omega

theorem leaves_10 (t : Fin grid0.N) (h : Fin 8) (d : Fin 64) (r : Fin 512) : (View.canon (pieces m c t).o10 (ix4 (0 : Fin 1) h d r : S1x8x64x512.Idx) : EReal)
    = packed m c (batch t) (token t r) ⟨2176 + (64 * h.val + d.val), by omega⟩ := by
  unfold pieces
  refine (KI4.left10 c (grid0.coords t) (wins t).first (ins m c t) h d r).trans ?_
  rw [column_ins m c t]

theorem array_10 (G : Vec Ideal S8x8x64x2048 .bf16) (hG : ∀ (b h : Fin 8) (d : Fin 64) (s : Fin 2048), (G (ix4 b h d s) : EReal)
      = packed m c b s ⟨2176 + (64 * h.val + d.val), by omega⟩) : (dats m 0 c).arrAt 10 (cfg0).N = G := by
  refine (dats m 0 c).arrAt_eq_of_covers 10 G (by decide +kernel) fun t hf y => ?_
  blk_simp
  rw [after10]
  have h0 : (y 0).val < 1 := (y 0).isLt
  have ey : y = ix4 (0 : Fin 1) (y 1) (y 2) (y 3) := by
    rw [eq_ix4 y]
    congr 1
    apply Fin.ext
    show (y 0).val = 0
    omega
  rw [ey]
  refine ((leaves_10 m c t (y 1) (y 2) (y 3)).trans (hG (batch t) (y 1) (y 2) (token t (y 3))).symm).trans (congrArg G ?_)
  blk_ext [index_10]
  · exact (Nat.add_zero _).symm
  · show 512 * (grid0.coords t 1).val + (y 3).val = (grid0.coords t 1).val * 512 + (y 3).val
    omega

theorem leaves_11 (t : Fin grid0.N) (r : Fin 512) (d : Fin 64) : (View.canon (pieces m c t).o11 (ix3 (0 : Fin 1) r d : S1x512x64.Idx) : EReal)
    = Projection.headNorm (fun e => packed m c (batch t) (token t r) ⟨2048 + e.val, by omega⟩) (fun e => Ks m c (ix2 0 e)) d := by
  unfold pieces
  refine (KI4.left11 c (grid0.coords t) (wins t).first (ins m c t) r d).trans ?_
  exact congrArg₂ (fun v g => Projection.headNorm v g d) (funext fun e => column_ins m c t _ _) (funext fun e => block_5 m c t e)

theorem array_11 (G : Vec Ideal S8x2048x64 .bf16) (hG : ∀ (b : Fin 8) (s : Fin 2048) (d : Fin 64), (G (ix3 b s d) : EReal)
      = Projection.headNorm (fun e => packed m c b s ⟨2048 + e.val, by omega⟩) (fun e => Ks m c (ix2 0 e)) d) : (dats m 0 c).arrAt 11 (cfg0).N = G := by
  refine (dats m 0 c).arrAt_eq_of_covers 11 G (by decide +kernel) fun t hf y => ?_
  blk_simp
  rw [after11]
  have h0 : (y 0).val < 1 := (y 0).isLt
  have ey : y = ix3 (0 : Fin 1) (y 1) (y 2) := by
    rw [eq_ix3 y]
    congr 1
    apply Fin.ext
    show (y 0).val = 0
    omega
  rw [ey]
  refine ((leaves_11 m c t (y 1) (y 2)).trans (hG (batch t) (token t (y 1)) (y 2)).symm).trans (congrArg G ?_)
  blk_ext [index_11]
  · exact (Nat.add_zero _).symm
  · show 512 * (grid0.coords t 1).val + (y 1).val = (grid0.coords t 1).val * 512 + (y 1).val
    omega

theorem leaves_12 (t : Fin grid0.N) (q : Fin 4) (d l : Fin 128) : (View.canon (pieces m c t).o12 (ix4 (0 : Fin 1) q d l : S1x4x128x128.Idx) : EReal)
    = if h : d.val < 64 then packed m c (batch t) (position (group t q) l) ⟨2112 + d.val, by omega⟩ else if d.val = 64 then 1 else 0 := by
  unfold pieces
  refine (KI4.left12 c (grid0.coords t) (wins t).first (ins m c t) q d l).trans ?_
  have hc := (chunk t).isLt
  have e : ∀ j, column (ins m c t) ⟨128 * q.val + l.val, by omega⟩ j = packed m c (batch t) (position (group t q) l) j :=
    fun j => (column_ins m c t _ j).trans (congrArg (fun s => packed m c (batch t) s j)
      (Fin.ext (by show 512 * (chunk t).val + (128 * q.val + l.val) = 128 * (4 * (chunk t).val + q.val) + l.val; omega)))
  simp only [e]

theorem array_12 (G : Vec Ideal S8x16x128x128 .bf16) (hG : ∀ (b : Fin 8) (q : Fin 16) (d l : Fin 128), (G (ix4 b q d l) : EReal)
      = if h : d.val < 64 then packed m c b (position q l) ⟨2112 + d.val, by omega⟩ else if d.val = 64 then 1 else 0) : (dats m 0 c).arrAt 12 (cfg0).N = G := by
  refine (dats m 0 c).arrAt_eq_of_covers 12 G (by decide +kernel) fun t hf y => ?_
  blk_simp
  rw [after12]
  have h0 : (y 0).val < 1 := (y 0).isLt
  have ey : y = ix4 (0 : Fin 1) (y 1) (y 2) (y 3) := by
    rw [eq_ix4 y]
    congr 1
    apply Fin.ext
    show (y 0).val = 0
    omega
  rw [ey]
  refine ((leaves_12 m c t (y 1) (y 2) (y 3)).trans (hG (batch t) (group t (y 1)) (y 2) (y 3)).symm).trans (congrArg G ?_)
  blk_ext [index_12]
  · exact (Nat.add_zero _).symm
  · show 4 * (grid0.coords t 1).val + (y 1).val = (grid0.coords t 1).val * 4 + (y 1).val
    omega

theorem leaves_13 (t : Fin grid0.N) (r : Fin 512) (d : Fin 64) : (View.canon (pieces m c t).o13 (ix3 (0 : Fin 1) r d : S1x512x64.Idx) : EReal)
    = packed m c (batch t) (token t r) ⟨2688 + d.val, by omega⟩ := by
  unfold pieces
  refine (KI4.left13 c (grid0.coords t) (wins t).first (ins m c t) r d).trans ?_
  rw [column_ins m c t]

theorem array_13 (G : Vec Ideal S8x2048x64 .bf16) (hG : ∀ (b : Fin 8) (s : Fin 2048) (d : Fin 64), (G (ix3 b s d) : EReal)
      = packed m c b s ⟨2688 + d.val, by omega⟩) : (dats m 0 c).arrAt 13 (cfg0).N = G := by
  refine (dats m 0 c).arrAt_eq_of_covers 13 G (by decide +kernel) fun t hf y => ?_
  blk_simp
  rw [after13]
  have h0 : (y 0).val < 1 := (y 0).isLt
  have ey : y = ix3 (0 : Fin 1) (y 1) (y 2) := by
    rw [eq_ix3 y]
    congr 1
    apply Fin.ext
    show (y 0).val = 0
    omega
  rw [ey]
  refine ((leaves_13 m c t (y 1) (y 2)).trans (hG (batch t) (token t (y 1)) (y 2)).symm).trans (congrArg G ?_)
  blk_ext [index_13]
  · exact (Nat.add_zero _).symm
  · show 512 * (grid0.coords t 1).val + (y 1).val = (grid0.coords t 1).val * 512 + (y 1).val
    omega

theorem leaves_14 (t : Fin grid0.N) (h : Fin 8) (r : Fin 512) : (View.canon (pieces m c t).o14 (ix3 (0 : Fin 1) h r : S1x8x512.Idx) : EReal)
    = packed m c (batch t) (token t r) ⟨2752 + h.val, by omega⟩ := by
  unfold pieces
  refine (KI4.left14 c (grid0.coords t) (wins t).first (ins m c t) h r).trans ?_
  rw [column_ins m c t]

theorem array_14 (G : Vec Ideal S8x8x2048 .f32) (hG : ∀ (b h : Fin 8) (s : Fin 2048), (G (ix3 b h s) : EReal)
      = packed m c b s ⟨2752 + h.val, by omega⟩) : (dats m 0 c).arrAt 14 (cfg0).N = G := by
  refine (dats m 0 c).arrAt_eq_of_covers 14 G (by decide +kernel) fun t hf y => ?_
  blk_simp
  rw [after14]
  have h0 : (y 0).val < 1 := (y 0).isLt
  have ey : y = ix3 (0 : Fin 1) (y 1) (y 2) := by
    rw [eq_ix3 y]
    congr 1
    apply Fin.ext
    show (y 0).val = 0
    omega
  rw [ey]
  refine ((leaves_14 m c t (y 1) (y 2)).trans (hG (batch t) (y 1) (token t (y 2))).symm).trans (congrArg G ?_)
  blk_ext [index_14]
  · exact (Nat.add_zero _).symm
  · show 512 * (grid0.coords t 1).val + (y 2).val = (grid0.coords t 1).val * 512 + (y 2).val
    omega

theorem leaves_15 (t : Fin grid0.N) (r : Fin 512) (j : Fin 1024) : (View.canon (pieces m c t).o15 (ix3 (0 : Fin 1) r j : S1x512x1024.Idx) : EReal)
    = Ideal.logistic (packed m c (batch t) (token t r) ⟨2816 + j.val, by omega⟩) := by
  unfold pieces
  refine (KI4.left15 c (grid0.coords t) (wins t).first (ins m c t) r j).trans ?_
  rw [column_ins m c t]

theorem array_15 (G : Vec Ideal S8x2048x1024 .bf16) (hG : ∀ (b : Fin 8) (s : Fin 2048) (j : Fin 1024), (G (ix3 b s j) : EReal)
      = Ideal.logistic (packed m c b s ⟨2816 + j.val, by omega⟩)) : (dats m 0 c).arrAt 15 (cfg0).N = G := by
  refine (dats m 0 c).arrAt_eq_of_covers 15 G (by decide +kernel) fun t hf y => ?_
  blk_simp
  rw [after15]
  have h0 : (y 0).val < 1 := (y 0).isLt
  have ey : y = ix3 (0 : Fin 1) (y 1) (y 2) := by
    rw [eq_ix3 y]
    congr 1
    apply Fin.ext
    show (y 0).val = 0
    omega
  rw [ey]
  refine ((leaves_15 m c t (y 1) (y 2)).trans (hG (batch t) (token t (y 1)) (y 2)).symm).trans (congrArg G ?_)
  blk_ext [index_15]
  · exact (Nat.add_zero _).symm
  · show 512 * (grid0.coords t 1).val + (y 1).val = (grid0.coords t 1).val * 512 + (y 1).val
    omega

theorem leaves_16 (t : Fin grid0.N) (r : Fin 512) (j : Fin 1024) : (View.canon (pieces m c t).o16 (ix3 (0 : Fin 1) r j : S1x512x1024.Idx) : EReal)
    = Ideal.logistic (packed m c (batch t) (token t r) ⟨3840 + j.val, by omega⟩) := by
  unfold pieces
  refine (KI4.left16 c (grid0.coords t) (wins t).first (ins m c t) r j).trans ?_
  rw [column_ins m c t]

theorem array_16 (G : Vec Ideal S8x2048x1024 .bf16) (hG : ∀ (b : Fin 8) (s : Fin 2048) (j : Fin 1024), (G (ix3 b s j) : EReal)
      = Ideal.logistic (packed m c b s ⟨3840 + j.val, by omega⟩)) : (dats m 0 c).arrAt 16 (cfg0).N = G := by
  refine (dats m 0 c).arrAt_eq_of_covers 16 G (by decide +kernel) fun t hf y => ?_
  blk_simp
  rw [after16]
  have h0 : (y 0).val < 1 := (y 0).isLt
  have ey : y = ix3 (0 : Fin 1) (y 1) (y 2) := by
    rw [eq_ix3 y]
    congr 1
    apply Fin.ext
    show (y 0).val = 0
    omega
  rw [ey]
  refine ((leaves_16 m c t (y 1) (y 2)).trans (hG (batch t) (token t (y 1)) (y 2)).symm).trans (congrArg G ?_)
  blk_ext [index_16]
  · exact (Nat.add_zero _).symm
  · show 512 * (grid0.coords t 1).val + (y 1).val = (grid0.coords t 1).val * 512 + (y 1).val
    omega

end Cert.Proof.KI5

end
-- ==== Proof.RI5.Value.lean ====
/- The second layer's projection's reference: the first layer's, of the second layer's weight. -/
module

public import proofs.«01_k».proof.Proof.Gen.Reference5Ideal.Run
public import proofs.«01_k».proof.Proof.RI4.Value

@[expose] public section

set_option maxRecDepth 16384

noncomputable section

namespace Cert.Proof.RI5

open Cert.Reference5Ideal Cert.Reference5Ideal.Gen
open Idealize.ShloMosaic
open Idealize.ShloMosaic.TcCoe Idealize.ShloMosaic.Tactic Idealize.SL.Sem

/-- The second layer's weight, as every layer's. -/
def weightSecond (w : RI4.Weight) : RI4.Weight := fun i => w (ix3 (1 : Fin 2) (i 1) (i 2))

theorem weight_slice (w : RI4.Weight) : extractStridedSlice S1x1024x4864 ![1, 0, 0] w slices_S2x1024x4864_S1x1024x4864_1_0_0
    = extractStridedSlice S1x1024x4864 ![0, 0, 0] (weightSecond w) Cert.Reference4Ideal.Gen.facts.slices_S2x1024x4864_S1x1024x4864_0_0_0 := by
  refine funext fun i => congrArg w (funext fun a => Fin.ext ?_)
  have h0 : (i 0).val < 1 := (i 0).isLt
  fin_cases a
  · show 1 + (i 0).val = 1; omega
  all_goals rfl

/-- The packed projection of the argument arrays. -/
abbrev packedOf (m : (ℓ : Loc nD τ sig) → Buf (Elt Ideal) ℓ) (c : Dev nD) : RI4.Packed :=
  RI4.packed (m ((c.tc : Thread nD τ).loc main_arg0)) (m ((c.tc : Thread nD τ).loc main_arg1)) (m ((c.tc : Thread nD τ).loc main_arg2)) (weightSecond (m ((c.tc : Thread nD τ).loc main_arg3)))

/-- The reference's run: the results, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = RI4.queriesA (packedOf m c)
      ∧ r.2.mem ((c.tc : Thread nD τ).loc main_v67) = RI4.keysA (packedOf m c)
      ∧ r.2.mem ((c.tc : Thread nD τ).loc main_v70) = RI4.valuesA (packedOf m c)
      ∧ r.2.mem ((c.tc : Thread nD τ).loc main_v72) = RI4.queriesB (packedOf m c) (m ((c.tc : Thread nD τ).loc main_arg4))
      ∧ r.2.mem ((c.tc : Thread nD τ).loc main_v75) = RI4.indexQueries (packedOf m c)
      ∧ r.2.mem ((c.tc : Thread nD τ).loc main_v89) = RI4.keysB (packedOf m c) (m ((c.tc : Thread nD τ).loc main_arg5))
      ∧ r.2.mem ((c.tc : Thread nD τ).loc main_v59) = RI4.valuesB (packedOf m c)
      ∧ r.2.mem ((c.tc : Thread nD τ).loc main_v90) = RI4.indexKeys (packedOf m c)
      ∧ r.2.mem ((c.tc : Thread nD τ).loc main_v91) = RI4.indexWeights (packedOf m c)
      ∧ r.2.mem ((c.tc : Thread nD τ).loc main_v98) = RI4.gateA (packedOf m c)
      ∧ r.2.mem ((c.tc : Thread nD τ).loc main_v105) = RI4.gateB (packedOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (by rw [weight_slice]; rfl),
      (h c).2.1.trans (by rw [weight_slice]; rfl),
      (h c).2.2.1.trans (by rw [weight_slice]; rfl),
      (h c).2.2.2.1.trans (by unfold Value.res_main_v72; rw [weight_slice]; rfl),
      (h c).2.2.2.2.1.trans (by rw [weight_slice]; rfl),
      (h c).2.2.2.2.2.1.trans (by unfold Value.res_main_v89; rw [weight_slice]; rfl),
      (h c).2.2.2.2.2.2.1.trans (by rw [weight_slice]; rfl),
      (h c).2.2.2.2.2.2.2.1.trans (by rw [weight_slice]; rfl),
      (h c).2.2.2.2.2.2.2.2.1.trans (by rw [weight_slice]; rfl),
      (h c).2.2.2.2.2.2.2.2.2.1.trans (by rw [weight_slice]; rfl),
      (h c).2.2.2.2.2.2.2.2.2.2.1.trans (by rw [weight_slice]; rfl),
      (h c).2.2.2.2.2.2.2.2.2.2.2⟩) (Value.run m ρ)

end Cert.Proof.RI5

end
-- ==== Proof.Match5.lean ====
/- The second layer's projection against its reference: every output array is the reference's result. -/
module

public import proofs.«01_k».proof.Proof.KI5.Output
public import proofs.«01_k».proof.Proof.RI5.Value

@[expose] public section

set_option maxRecDepth 16384

noncomputable section

namespace Cert.Proof.Match5

open Cert.Kernel5Ideal Cert.Kernel5Ideal.Gen Cert.Proof.KI5
open Idealize.ShloMosaic
open Idealize.ShloMosaic.TcCoe Idealize.ShloMosaic.Tactic

variable (m : (ℓ : Loc nD τ sig) → Buf (Elt Ideal) ℓ) (c : Dev nD)

/-- The reference's packed projection of the kernel's arguments. -/
abbrev whole : RI4.Packed := RI4.packed (Xs m c) (Ms m c) (Gs m c) (RI5.weightSecond (Ws m c))

/-- A column of the reference's packed projection is the kernel's. -/
theorem packed_eq (b : Fin 8) (s : Fin 2048) (j : Fin 4864) : (whole m c (ix3 b s j) : EReal) = packed m c b s j :=
  RI4.packed_apply (Xs m c) (Ms m c) (Gs m c) (RI5.weightSecond (Ws m c)) b s j

theorem at_eq (b : Fin 8) (s : Fin 2048) (i j : Fin 4864) (h : i.val = j.val) : (whole m c (ix3 b s i) : EReal) = packed m c b s j :=
  (packed_eq m c b s i).trans (congrArg (packed m c b s) (Fin.ext h))

theorem array_eq_6 : (dats m 0 c).arrAt 6 (cfg0).N = RI4.queriesA (whole m c) :=
  array_6 m c _ fun b q s l => (RI4.queriesA_apply _ b q s l).trans
    (congrArg (· * Projection.scaleA) (at_eq m c b s _ _ (show q.val * 128 + l.val = 0 + (128 * q.val + l.val) by omega)))

theorem array_eq_7 : (dats m 0 c).arrAt 7 (cfg0).N = RI4.keysA (whole m c) :=
  array_7 m c _ fun b q s l => (RI4.keysA_apply _ b q s l).trans
    (at_eq m c b s _ _ (show 512 + (q.val * 128 + l.val) = 512 + (128 * q.val + l.val) by omega))

theorem array_eq_8 : (dats m 0 c).arrAt 8 (cfg0).N = RI4.valuesA (whole m c) :=
  array_8 m c _ fun b q s l => (RI4.valuesA_apply _ b q s l).trans
    (at_eq m c b s _ _ (show 1024 + (q.val * 128 + l.val) = 1024 + (128 * q.val + l.val) by omega))

theorem array_eq_9 : (dats m 0 c).arrAt 9 (cfg0).N = RI4.queriesB (whole m c) (Qs m c) :=
  array_9 m c _ fun b h d s => (RI4.queriesB_apply _ (Qs m c) b h d s).trans
    (congrArg (· * Projection.scaleB) (congrArg (fun v => Projection.headNorm v (fun e => Qs m c (ix2 e 0)) d)
      (funext fun e => at_eq m c b s _ _ (show 1536 + (h.val * 64 + e.val) = 1536 + (64 * h.val + e.val) by omega))))

theorem array_eq_10 : (dats m 0 c).arrAt 10 (cfg0).N = RI4.indexQueries (whole m c) :=
  array_10 m c _ fun b h d s => (RI4.indexQueries_apply _ b h d s).trans
    (at_eq m c b s _ _ (show 2176 + (h.val * 64 + d.val) = 2176 + (64 * h.val + d.val) by omega))

theorem array_eq_11 : (dats m 0 c).arrAt 11 (cfg0).N = RI4.keysB (whole m c) (Ks m c) :=
  array_11 m c _ fun b s d => (RI4.keysB_apply _ (Ks m c) b s d).trans
    (congrArg (fun v => Projection.headNorm v (fun e => Ks m c (ix2 0 e)) d) (funext fun e => at_eq m c b s _ _ rfl))

theorem array_eq_12 : (dats m 0 c).arrAt 12 (cfg0).N = RI4.valuesB (whole m c) := by
  refine array_12 m c _ fun b q d l => ?_
  refine (RI4.valuesB_apply _ b q d l).trans ((RI4.extended_apply _ b _ d).trans ?_)
  have e : (⟨q.val * 128 + l.val, by omega⟩ : Fin 2048) = position q l := Fin.ext (by show q.val * 128 + l.val = 128 * q.val + l.val; omega)
  by_cases h : d.val < 64
  · rw [dif_pos h, dif_pos h, e]
    exact packed_eq m c b _ _
  · rw [dif_neg h, dif_neg h]

theorem array_eq_13 : (dats m 0 c).arrAt 13 (cfg0).N = RI4.indexKeys (whole m c) :=
  array_13 m c _ fun b s d => (RI4.indexKeys_apply _ b s d).trans (at_eq m c b s _ _ rfl)

theorem array_eq_14 : (dats m 0 c).arrAt 14 (cfg0).N = RI4.indexWeights (whole m c) :=
  array_14 m c _ fun b h s => (RI4.indexWeights_apply _ b h s).trans (at_eq m c b s _ _ rfl)

theorem array_eq_15 : (dats m 0 c).arrAt 15 (cfg0).N = RI4.gateA (whole m c) :=
  array_15 m c _ fun b s j => (RI4.gateA_apply _ b s j).trans (congrArg Ideal.logistic (at_eq m c b s _ _ rfl))

theorem array_eq_16 : (dats m 0 c).arrAt 16 (cfg0).N = RI4.gateB (whole m c) :=
  array_16 m c _ fun b s j => (RI4.gateB_apply _ b s j).trans (congrArg Ideal.logistic (at_eq m c b s _ _ rfl))

end Cert.Proof.Match5

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Frame
public import proofs.«01_k».proof.Proof.KI.Frame
public import proofs.«01_k».proof.Proof.Finite
public import proofs.«01_k».proof.Proof.Match
public import proofs.«01_k».proof.Proof.Match2
public import proofs.«01_k».proof.Proof.Match3
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Match4
public import proofs.«01_k».proof.Proof.Gen.Kernel4
public import proofs.«01_k».proof.Proof.Gen.Kernel4Ideal
public import proofs.«01_k».proof.Proof.Gen.Reference4Ideal
public import proofs.«01_k».proof.Proof.Match5
public import proofs.«01_k».proof.Proof.Gen.Kernel5
public import proofs.«01_k».proof.Proof.Gen.Kernel5Ideal
public import proofs.«01_k».proof.Proof.Gen.Reference5Ideal
public import Idealize.ShloMosaic.Lib.Quiescent
public import Idealize.ShloMosaic.Adequacy
public import Idealize.ShloMosaic.Init

@[expose] public section

noncomputable section

namespace Cert.Proof

open Idealize.ShloMosaic Idealize.ShloMosaic.Tactic Idealize.SL.Sem

theorem preserves : Cert.preserves_Kernel_KernelIdeal := ⟨IdealRules.named_const.statement _ _ _ _ _ rfl, IdealRules.named_const.statement _ _ _ _ _ rfl,
    IdealRules.named_const.statement _ _ _ _ _ rfl⟩

theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem algebraic : Cert.algebraic_KernelIdeal_ReferenceIdeal_pre_finite_qk (hPre_finite_qk := Finite.facts) := fun m g m' g' hpre hargs => by
  have hfin := fun c => @Finite.real_of_pre Finite.facts _ _ _ (hpre c)
  refine ⟨fun c => RI.result (Match.V m c) (RI.weights (RI.scores (Match.Q m c) (Match.K m c))), ?_, ?_⟩
  · exact (θ_run Cert.KernelIdeal.defs _ _).mono (fun r h c => ⟨((h.1 c).1 3).trans (Match.array_match m c (hfin c).1 (hfin c).2),
      ((h.1 c).1 0).trans (((KI.dats m 0 c).arrAt_in 0 rfl _).trans (KI.A_eq m c 0)),
      ((h.1 c).1 1).trans (((KI.dats m 0 c).arrAt_in 1 rfl _).trans (KI.A_eq m c 1)),
      ((h.1 c).1 2).trans (((KI.dats m 0 c).arrAt_in 2 rfl _).trans (KI.A_eq m c 2))⟩) (KI.run_counted m g)
  · refine (θ_run Cert.ReferenceIdeal.defs _ _).mono (fun r h c => ⟨(h c).1.trans ?_, (h c).2⟩) (Cert.ReferenceIdeal.Value.run (F := Ideal) m' g')
    rw [RI.res_eq, (hargs c).1, (hargs c).2.1, (hargs c).2.2]

/-- The experts' kernel as compiled and at the extended reals is one text, and its run is proved at every reading of the floats. -/
theorem frame2 : Cert.quiescent_Kernel2 (hKernel2 := Cert.Kernel2.Gen.facts) (hPre_tables_in_range := Ranges.facts) := fun m g hpre => by
  have h := KI2.frame (F := Bits) m g (@Ranges.of_pre Ranges.facts _ _ _ _ _ _ _ _ _ (hpre 0))
  refine Eq.mp ?_ h
  sl_kernel_rfl

theorem reference2_frame : Cert.quiescent_Reference2Ideal := fun m g _ =>
  (θ_run Cert.Reference2Ideal.defs _ _).mono (fun r h => ⟨fun c => (h c).2, sem_eq_zero_of_no_sems (by decide) r.2⟩) (RI2.run m g)

theorem algebraic2 : Cert.algebraic_Kernel2Ideal_Reference2Ideal (hPre_tables_in_range := Ranges.facts) := fun m g m' g' hpre hargs => by
  have hr := @Ranges.of_pre Ranges.facts _ _ _ _ _ _ _ _ _ (hpre 0)
  refine ⟨fun c => RI2.result (KI2.Xs m c) (KI2.lo m) (KI2.hi m) (KI2.used m) (KI2.Wg m c) (KI2.Wu m c) (KI2.Wd m c), ?_, ?_⟩
  · exact (θ_run Cert.Kernel2Ideal.defs _ _).mono (fun r e c => ⟨((e.1 c).1 13).trans (Match2.array_eq m (KI2.good m hr) hr c),
      KI2.kept m (KI2.good m hr) e.1 c⟩) (KI2.run_counted m g (KI2.good m hr))
  · refine (θ_run Cert.Reference2Ideal.defs _ _).mono (fun r e c => ⟨(e c).1.trans ?_, (e c).2⟩) (RI2.run m' g')
    obtain rfl : c = 0 := Subsingleton.elim _ _
    obtain ⟨h0, h1, h2, h3, h4, h5, h6⟩ := hargs 0
    rw [h0, h1, h2, h3, h4, h5, h6]
    rfl

theorem frame3 : Cert.quiescent_Kernel3 (hKernel3 := Cert.Kernel3.Gen.facts) (hPre_tables_in_range := Ranges.facts) := fun m g hpre => by
  have h := KI3.frame (F := Bits) m g (@Ranges.of_pre Ranges.facts _ _ _ _ _ _ _ _ _ (hpre 0))
  refine Eq.mp ?_ h
  sl_kernel_rfl

theorem reference3_frame : Cert.quiescent_Reference3Ideal := fun m g _ =>
  (θ_run Cert.Reference3Ideal.defs _ _).mono (fun r h => ⟨fun c => (h c).2, sem_eq_zero_of_no_sems (by decide) r.2⟩) (RI3.run m g)

theorem algebraic3 : Cert.algebraic_Kernel3Ideal_Reference3Ideal (hPre_tables_in_range := Ranges.facts) := fun m g m' g' hpre hargs => by
  have hr := @Ranges.of_pre Ranges.facts _ _ _ _ _ _ _ _ _ (hpre 0)
  refine ⟨fun c => RI2.result (KI3.Xs m c) (KI3.lo m) (KI3.hi m) (KI3.used m) (RI3.upSecond (KI3.Wg m c)) (RI3.upSecond (KI3.Wu m c)) (RI3.downSecond (KI3.Wd m c)), ?_, ?_⟩
  · exact (θ_run Cert.Kernel3Ideal.defs _ _).mono (fun r e c => ⟨((e.1 c).1 13).trans (Match3.array_eq m (KI3.good m hr) hr c),
      KI3.kept m (KI3.good m hr) e.1 c⟩) (KI3.run_counted m g (KI3.good m hr))
  · refine (θ_run Cert.Reference3Ideal.defs _ _).mono (fun r e c => ⟨(e c).1.trans ?_, (e c).2⟩) (RI3.run m' g')
    obtain rfl : c = 0 := Subsingleton.elim _ _
    obtain ⟨h0, h1, h2, h3, h4, h5, h6⟩ := hargs 0
    rw [h0, h1, h2, h3, h4, h5, h6]
    rfl

theorem frame4 : Cert.quiescent_Kernel4 (hKernel4 := Cert.Kernel4.Gen.facts) := fun m g _ => by
  have h := KI4.frame (F := Bits) m g
  refine Eq.mp ?_ h
  sl_kernel_rfl

theorem reference4_frame : Cert.quiescent_Reference4Ideal := fun m g _ =>
  (θ_run Cert.Reference4Ideal.defs _ _).mono (fun r h => ⟨fun c => (h c).2.2.2.2.2.2.2.2.2.2.2, sem_eq_zero_of_no_sems (by decide) r.2⟩) (RI4.run m g)

theorem algebraic4 : Cert.algebraic_Kernel4Ideal_Reference4Ideal := fun m g m' g' _ hargs => by
  have hP : ∀ c, RI4.packedOf m' c = Match4.whole m c := fun c => by
    obtain ⟨h0, h1, h2, h3, _, _⟩ := hargs c
    show RI4.packed (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) = _
    rw [h0, h1, h2, h3]
  have h4 := fun c => (hargs c).2.2.2.2.1
  have h5 := fun c => (hargs c).2.2.2.2.2
  refine ⟨fun c => RI4.queriesA (Match4.whole m c), fun c => RI4.keysA (Match4.whole m c), fun c => RI4.valuesA (Match4.whole m c), fun c => RI4.queriesB (Match4.whole m c) (KI4.Qs m c), fun c => RI4.indexQueries (Match4.whole m c), fun c => RI4.keysB (Match4.whole m c) (KI4.Ks m c), fun c => RI4.valuesB (Match4.whole m c), fun c => RI4.indexKeys (Match4.whole m c), fun c => RI4.indexWeights (Match4.whole m c), fun c => RI4.gateA (Match4.whole m c), fun c => RI4.gateB (Match4.whole m c), ?_, ?_⟩
  · exact (θ_run Cert.Kernel4Ideal.defs _ _).mono (fun r e c => ⟨((e.1 c).1 6).trans (Match4.array_eq_6 m c),
      ((e.1 c).1 7).trans (Match4.array_eq_7 m c),
      ((e.1 c).1 8).trans (Match4.array_eq_8 m c),
      ((e.1 c).1 9).trans (Match4.array_eq_9 m c),
      ((e.1 c).1 10).trans (Match4.array_eq_10 m c),
      ((e.1 c).1 11).trans (Match4.array_eq_11 m c),
      ((e.1 c).1 12).trans (Match4.array_eq_12 m c),
      ((e.1 c).1 13).trans (Match4.array_eq_13 m c),
      ((e.1 c).1 14).trans (Match4.array_eq_14 m c),
      ((e.1 c).1 15).trans (Match4.array_eq_15 m c),
      ((e.1 c).1 16).trans (Match4.array_eq_16 m c),
      ((e.1 c).1 0).trans (((KI4.dats m 0 c).arrAt_in 0 rfl _).trans (KI4.A_eq m c 0)),
      ((e.1 c).1 1).trans (((KI4.dats m 0 c).arrAt_in 1 rfl _).trans (KI4.A_eq m c 1)),
      ((e.1 c).1 2).trans (((KI4.dats m 0 c).arrAt_in 2 rfl _).trans (KI4.A_eq m c 2)),
      ((e.1 c).1 3).trans (((KI4.dats m 0 c).arrAt_in 3 rfl _).trans (KI4.A_eq m c 3)),
      ((e.1 c).1 4).trans (((KI4.dats m 0 c).arrAt_in 4 rfl _).trans (KI4.A_eq m c 4)),
      ((e.1 c).1 5).trans (((KI4.dats m 0 c).arrAt_in 5 rfl _).trans (KI4.A_eq m c 5))⟩) (KI4.run_counted m g)
  · exact (θ_run Cert.Reference4Ideal.defs _ _).mono (fun r e c => ⟨(e c).1.trans (by rw [hP c]), (e c).2.1.trans (by rw [hP c]), (e c).2.2.1.trans (by rw [hP c]), (e c).2.2.2.1.trans (by rw [hP c, h4 c]), (e c).2.2.2.2.1.trans (by rw [hP c]), (e c).2.2.2.2.2.1.trans (by rw [hP c, h5 c]), (e c).2.2.2.2.2.2.1.trans (by rw [hP c]), (e c).2.2.2.2.2.2.2.1.trans (by rw [hP c]), (e c).2.2.2.2.2.2.2.2.1.trans (by rw [hP c]), (e c).2.2.2.2.2.2.2.2.2.1.trans (by rw [hP c]), (e c).2.2.2.2.2.2.2.2.2.2.1.trans (by rw [hP c]),
      (e c).2.2.2.2.2.2.2.2.2.2.2⟩) (RI4.run m' g')

theorem frame5 : Cert.quiescent_Kernel5 (hKernel5 := Cert.Kernel5.Gen.facts) := fun m g _ => by
  have h := KI5.frame (F := Bits) m g
  refine Eq.mp ?_ h
  sl_kernel_rfl

theorem reference5_frame : Cert.quiescent_Reference5Ideal := fun m g _ =>
  (θ_run Cert.Reference5Ideal.defs _ _).mono (fun r h => ⟨fun c => (h c).2.2.2.2.2.2.2.2.2.2.2, sem_eq_zero_of_no_sems (by decide) r.2⟩) (RI5.run m g)

theorem algebraic5 : Cert.algebraic_Kernel5Ideal_Reference5Ideal := fun m g m' g' _ hargs => by
  have hP : ∀ c, RI5.packedOf m' c = Match5.whole m c := fun c => by
    obtain ⟨h0, h1, h2, h3, _, _⟩ := hargs c
    show RI4.packed (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (RI5.weightSecond (m' ((c.tc : Thread Cert.Reference5Ideal.nD Cert.Reference5Ideal.τ).loc Cert.Reference5Ideal.main_arg3))) = _
    rw [h0, h1, h2, h3]
  have h4 := fun c => (hargs c).2.2.2.2.1
  have h5 := fun c => (hargs c).2.2.2.2.2
  refine ⟨fun c => RI4.queriesA (Match5.whole m c), fun c => RI4.keysA (Match5.whole m c), fun c => RI4.valuesA (Match5.whole m c), fun c => RI4.queriesB (Match5.whole m c) (KI5.Qs m c), fun c => RI4.indexQueries (Match5.whole m c), fun c => RI4.keysB (Match5.whole m c) (KI5.Ks m c), fun c => RI4.valuesB (Match5.whole m c), fun c => RI4.indexKeys (Match5.whole m c), fun c => RI4.indexWeights (Match5.whole m c), fun c => RI4.gateA (Match5.whole m c), fun c => RI4.gateB (Match5.whole m c), ?_, ?_⟩
  · exact (θ_run Cert.Kernel5Ideal.defs _ _).mono (fun r e c => ⟨((e.1 c).1 6).trans (Match5.array_eq_6 m c),
      ((e.1 c).1 7).trans (Match5.array_eq_7 m c),
      ((e.1 c).1 8).trans (Match5.array_eq_8 m c),
      ((e.1 c).1 9).trans (Match5.array_eq_9 m c),
      ((e.1 c).1 10).trans (Match5.array_eq_10 m c),
      ((e.1 c).1 11).trans (Match5.array_eq_11 m c),
      ((e.1 c).1 12).trans (Match5.array_eq_12 m c),
      ((e.1 c).1 13).trans (Match5.array_eq_13 m c),
      ((e.1 c).1 14).trans (Match5.array_eq_14 m c),
      ((e.1 c).1 15).trans (Match5.array_eq_15 m c),
      ((e.1 c).1 16).trans (Match5.array_eq_16 m c),
      ((e.1 c).1 0).trans (((KI5.dats m 0 c).arrAt_in 0 rfl _).trans (KI5.A_eq m c 0)),
      ((e.1 c).1 1).trans (((KI5.dats m 0 c).arrAt_in 1 rfl _).trans (KI5.A_eq m c 1)),
      ((e.1 c).1 2).trans (((KI5.dats m 0 c).arrAt_in 2 rfl _).trans (KI5.A_eq m c 2)),
      ((e.1 c).1 3).trans (((KI5.dats m 0 c).arrAt_in 3 rfl _).trans (KI5.A_eq m c 3)),
      ((e.1 c).1 4).trans (((KI5.dats m 0 c).arrAt_in 4 rfl _).trans (KI5.A_eq m c 4)),
      ((e.1 c).1 5).trans (((KI5.dats m 0 c).arrAt_in 5 rfl _).trans (KI5.A_eq m c 5))⟩) (KI5.run_counted m g)
  · exact (θ_run Cert.Reference5Ideal.defs _ _).mono (fun r e c => ⟨(e c).1.trans (by rw [hP c]), (e c).2.1.trans (by rw [hP c]), (e c).2.2.1.trans (by rw [hP c]), (e c).2.2.2.1.trans (by rw [hP c, h4 c]), (e c).2.2.2.2.1.trans (by rw [hP c]), (e c).2.2.2.2.2.1.trans (by rw [hP c, h5 c]), (e c).2.2.2.2.2.2.1.trans (by rw [hP c]), (e c).2.2.2.2.2.2.2.1.trans (by rw [hP c]), (e c).2.2.2.2.2.2.2.2.1.trans (by rw [hP c]), (e c).2.2.2.2.2.2.2.2.2.1.trans (by rw [hP c]), (e c).2.2.2.2.2.2.2.2.2.2.1.trans (by rw [hP c]),
      (e c).2.2.2.2.2.2.2.2.2.2.2⟩) (RI5.run m' g')

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Finite.facts, Ranges.facts,
    fun m g _ => K.frame m g, fun m g _ => KI.frame m g, fun m g _ => KI.frame m g, reference_frame, fun m g _ => reference_frame m g trivial,
    frame2, fun m g hpre => KI2.frame m g (@Ranges.of_pre Ranges.facts _ _ _ _ _ _ _ _ _ (hpre 0)),
    reference2_frame, fun m g _ => reference2_frame m g trivial,
    frame3, fun m g hpre => KI3.frame m g (@Ranges.of_pre Ranges.facts _ _ _ _ _ _ _ _ _ (hpre 0)),
    reference3_frame, fun m g _ => reference3_frame m g trivial,
    frame4, fun m g _ => KI4.frame m g, reference4_frame,
    frame5, fun m g _ => KI5.frame m g, reference5_frame,
    preserves, algebraic, trivial, algebraic2, trivial, algebraic3, trivial, algebraic4, trivial, algebraic5⟩

end Cert.Proof

end
